-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite1 [hPre_finite1 : Cert.Pre_finite1.Facts] (m : (ℓ : Loc Cert.KernelIdeal.nD Cert.KernelIdeal.τ Cert.KernelIdeal.sig) → Buf (Elt Ideal) ℓ) : Prop :=
  ∀ c : Dev Cert.KernelIdeal.nD,
    (Cert.Pre_finite1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite1 [hPre_finite1 : Cert.Pre_finite1.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite1 [hKernelIdeal : Cert.KernelIdeal.Facts] [hPre_finite1 : Cert.Pre_finite1.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite1 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite1 [hReferenceIdeal : Cert.ReferenceIdeal.Facts] [hPre_finite1 : Cert.Pre_finite1.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite1 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  True

def algebraic_KernelIdeal_ReferenceIdeal_pre_finite1 [hKernelIdeal : Cert.KernelIdeal.Facts] [hReferenceIdeal : Cert.ReferenceIdeal.Facts] [hPre_finite1 : Cert.Pre_finite1.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite1 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_v19) = v3 c
          ∧ r.2.mem ((c.tc : Thread Cert.ReferenceIdeal.nD Cert.ReferenceIdeal.τ).loc Cert.ReferenceIdeal.main_v20) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "mask" .f32 0xF149F2CA#32 ⊥

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v50_0)) (v1 : (c : Dev Cert.Kernel2Ideal.nD) → Buf (Elt Ideal) ((c.tc : Thread Cert.Kernel2Ideal.nD Cert.Kernel2Ideal.τ).loc Cert.Kernel2Ideal.main_v50_1)) (v2 : (c : Dev Cert.Kernel2Ideal.nD) → Buf (Elt Ideal) ((c.tc : Thread Cert.Kernel2Ideal.nD Cert.Kernel2Ideal.τ).loc Cert.Kernel2Ideal.main_v50_2)) (v3 : (c : Dev Cert.Kernel2Ideal.nD) → Buf (Elt Ideal) ((c.tc : Thread Cert.Kernel2Ideal.nD Cert.Kernel2Ideal.τ).loc Cert.Kernel2Ideal.main_v50_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v50_0) = v0 c
          ∧ r.2.mem ((c.tc : Thread Cert.Kernel2Ideal.nD Cert.Kernel2Ideal.τ).loc Cert.Kernel2Ideal.main_v50_1) = v1 c
          ∧ r.2.mem ((c.tc : Thread Cert.Kernel2Ideal.nD Cert.Kernel2Ideal.τ).loc Cert.Kernel2Ideal.main_v50_2) = v2 c
          ∧ r.2.mem ((c.tc : Thread Cert.Kernel2Ideal.nD Cert.Kernel2Ideal.τ).loc Cert.Kernel2Ideal.main_v50_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v97) = v0 c
          ∧ r.2.mem ((c.tc : Thread Cert.Reference2Ideal.nD Cert.Reference2Ideal.τ).loc Cert.Reference2Ideal.main_v99) = v1 c
          ∧ r.2.mem ((c.tc : Thread Cert.Reference2Ideal.nD Cert.Reference2Ideal.τ).loc Cert.Reference2Ideal.main_v101) = v2 c
          ∧ r.2.mem ((c.tc : Thread Cert.Reference2Ideal.nD Cert.Reference2Ideal.τ).loc Cert.Reference2Ideal.main_v103) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.named_const.Statement Cert.Kernel3Ideal.κ "mask" .f32 0xF149F2CA#32 ⊥

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_v49) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)) (v3 : (c : Dev Cert.Kernel4Ideal.nD) → Buf (Elt Ideal) ((c.tc : Thread Cert.Kernel4Ideal.nD Cert.Kernel4Ideal.τ).loc Cert.Kernel4Ideal.main_v7_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_v7_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_v57) = v1 c
          ∧ r.2.mem ((c.tc : Thread Cert.Reference4Ideal.nD Cert.Reference4Ideal.τ).loc Cert.Reference4Ideal.main_v58) = v2 c
          ∧ r.2.mem ((c.tc : Thread Cert.Reference4Ideal.nD Cert.Reference4Ideal.τ).loc Cert.Reference4Ideal.main_v59) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v12) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)) (v3 : (c : Dev Cert.Kernel6Ideal.nD) → Buf (Elt Ideal) ((c.tc : Thread Cert.Kernel6Ideal.nD Cert.Kernel6Ideal.τ).loc Cert.Kernel6Ideal.main_v4_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_v4_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v59) = v0 c
          ∧ r.2.mem ((c.tc : Thread Cert.Reference6Ideal.nD Cert.Reference6Ideal.τ).loc Cert.Reference6Ideal.main_v60) = v1 c
          ∧ r.2.mem ((c.tc : Thread Cert.Reference6Ideal.nD Cert.Reference6Ideal.τ).loc Cert.Reference6Ideal.main_v58) = v2 c
          ∧ r.2.mem ((c.tc : Thread Cert.Reference6Ideal.nD Cert.Reference6Ideal.τ).loc Cert.Reference6Ideal.main_v61) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_v18) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v11_0)) (v1 : (c : Dev Cert.Kernel8Ideal.nD) → Buf (Elt Ideal) ((c.tc : Thread Cert.Kernel8Ideal.nD Cert.Kernel8Ideal.τ).loc Cert.Kernel8Ideal.main_v11_1)) (v2 : (c : Dev Cert.Kernel8Ideal.nD) → Buf (Elt Ideal) ((c.tc : Thread Cert.Kernel8Ideal.nD Cert.Kernel8Ideal.τ).loc Cert.Kernel8Ideal.main_v11_2)) (v3 : (c : Dev Cert.Kernel8Ideal.nD) → Buf (Elt Ideal) ((c.tc : Thread Cert.Kernel8Ideal.nD Cert.Kernel8Ideal.τ).loc Cert.Kernel8Ideal.main_v11_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v11_0) = v0 c
          ∧ r.2.mem ((c.tc : Thread Cert.Kernel8Ideal.nD Cert.Kernel8Ideal.τ).loc Cert.Kernel8Ideal.main_v11_1) = v1 c
          ∧ r.2.mem ((c.tc : Thread Cert.Kernel8Ideal.nD Cert.Kernel8Ideal.τ).loc Cert.Kernel8Ideal.main_v11_2) = v2 c
          ∧ r.2.mem ((c.tc : Thread Cert.Kernel8Ideal.nD Cert.Kernel8Ideal.τ).loc Cert.Kernel8Ideal.main_v11_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_v29) = v1 c
          ∧ r.2.mem ((c.tc : Thread Cert.Reference8Ideal.nD Cert.Reference8Ideal.τ).loc Cert.Reference8Ideal.main_v31) = v2 c
          ∧ r.2.mem ((c.tc : Thread Cert.Reference8Ideal.nD Cert.Reference8Ideal.τ).loc Cert.Reference8Ideal.main_v32) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v8_0)) (v1 : (c : Dev Cert.Kernel9Ideal.nD) → Buf (Elt Ideal) ((c.tc : Thread Cert.Kernel9Ideal.nD Cert.Kernel9Ideal.τ).loc Cert.Kernel9Ideal.main_v8_1)) (v2 : (c : Dev Cert.Kernel9Ideal.nD) → Buf (Elt Ideal) ((c.tc : Thread Cert.Kernel9Ideal.nD Cert.Kernel9Ideal.τ).loc Cert.Kernel9Ideal.main_v8_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8_0) = v0 c
          ∧ r.2.mem ((c.tc : Thread Cert.Kernel9Ideal.nD Cert.Kernel9Ideal.τ).loc Cert.Kernel9Ideal.main_v8_1) = v1 c
          ∧ r.2.mem ((c.tc : Thread Cert.Kernel9Ideal.nD Cert.Kernel9Ideal.τ).loc Cert.Kernel9Ideal.main_v8_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v26) = v0 c
          ∧ r.2.mem ((c.tc : Thread Cert.Reference9Ideal.nD Cert.Reference9Ideal.τ).loc Cert.Reference9Ideal.main_v27) = v1 c
          ∧ r.2.mem ((c.tc : Thread Cert.Reference9Ideal.nD Cert.Reference9Ideal.τ).loc Cert.Reference9Ideal.main_v29) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite1 : Cert.Pre_finite1.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite1 (hKernelIdeal := hKernelIdeal) (hPre_finite1 := hPre_finite1)
    ∧ quiescent_ReferenceIdeal (hReferenceIdeal := hReferenceIdeal)
    ∧ quiescent_ReferenceIdeal_pre_finite1 (hReferenceIdeal := hReferenceIdeal) (hPre_finite1 := hPre_finite1)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite1 (hKernelIdeal := hKernelIdeal) (hReferenceIdeal := hReferenceIdeal) (hPre_finite1 := hPre_finite1)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite1.lean ====
abbrev S4x2048x1024 : Shape := ⟨3, ![4, 2048, 1024]⟩
abbrev S4x1024 : Shape := ⟨2, ![4, 1024]⟩
abbrev S4x2048x2048 : Shape := ⟨3, ![4, 2048, 2048]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  bcast_S_S4x1024 : S_.BroadcastsInDim S4x1024 (![] : Fin 0 → Fin S4x1024.rank)
  bcast_S_S1024x1024 : S_.BroadcastsInDim S1024x1024 (![] : Fin 0 → Fin S1024x1024.rank)

variable [Facts]

def fn {F : FTy → Type} [FloatOps F] (main_arg0 : FVec F S4x2048x1024 .f32) (main_arg1 : FVec F S4x1024 .f32) (main_arg2 : FVec F S4x2048x1024 .f32) (main_arg3 : FVec F S4x2048x2048 .f32) (main_arg4 : FVec F S1024x1024 .f32) : IVec S4x2048x1024 1 × IVec S4x1024 1 × IVec S4x2048x1024 1 × IVec S1024x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S4x1024 .f32 := Host.absf main_arg1
  let main_cst_0 : FVec F S_ .f32 := constant S_ .f32 0x7F800000#32
  let main_v4 : FVec F S4x1024 .f32 := broadcastInDim S4x1024 ![] bcast_S_S4x1024 main_cst_0
  let main_v5 : IVec S4x1024 1 := cmpf .olt main_v3 main_v4
  let main_v6 : FVec F S4x2048x1024 .f32 := Host.absf main_arg2
  let main_cst_1 : FVec F S_ .f32 := constant S_ .f32 0x7F800000#32
  let main_v7 : FVec F S4x2048x1024 .f32 := broadcastInDim S4x2048x1024 ![] bcast_S_S4x2048x1024 main_cst_1
  let main_v8 : IVec S4x2048x1024 1 := cmpf .olt main_v6 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  (main_v2, main_v5, main_v8, main_v11)
-- ==== Pre_finite2.lean ====
abbrev S4x2048x3336 : Shape := ⟨3, ![4, 2048, 3336]⟩
abbrev S4x2048x8 : Shape := ⟨3, ![4, 2048, 8]⟩
abbrev S4x2048x1024 : Shape := ⟨3, ![4, 2048, 1024]⟩
abbrev S4x2048x1536 : Shape := ⟨3, ![4, 2048, 1536]⟩
abbrev S4x2048x512 : Shape := ⟨3, ![4, 2048, 512]⟩
abbrev S_ : Shape := ⟨0, ![]⟩

class Facts : Prop where
  slices_S4x2048x3336_S4x2048x1536_0_0_768 : S4x2048x3336.Slices ![0, 0, 768] S4x2048x1536
  slices_S4x2048x1024_S4x2048x512_0_0_512 : S4x2048x1024.Slices ![0, 0, 512] S4x2048x512
  bcast_S_S4x2048x1536 : S_.BroadcastsInDim S4x2048x1536 (![] : Fin 0 → Fin S4x2048x1536.rank)
  bcast_S_S4x2048x8 : S_.BroadcastsInDim S4x2048x8 (![] : Fin 0 → Fin S4x2048x8.rank)
  bcast_S_S4x2048x512 : S_.BroadcastsInDim S4x2048x512 (![] : Fin 0 → Fin S4x2048x512.rank)

variable [Facts]

def fn {F : FTy → Type} [FloatOps F] (main_arg0 : FVec F S4x2048x3336 .f32) (main_arg1 : FVec F S4x2048x8 .f32) (main_arg2 : FVec F S4x2048x1024 .f32) : IVec S4x2048x1536 1 × IVec S4x2048x8 1 × IVec S4x2048x512 1 :=
  let main_v0 : FVec F S4x2048x1536 .f32 := (extractStridedSlice S4x2048x1536 ![0, 0, 768] · slices_S4x2048x3336_S4x2048x1536_0_0_768) main_arg0
  let main_v1 : FVec F S4x2048x512 .f32 := (extractStridedSlice S4x2048x512 ![0, 0, 512] · slices_S4x2048x1024_S4x2048x512_0_0_512) main_arg2
  let main_v2 : FVec F S4x2048x1536 .f32 := Host.absf main_v0
  let main_cst : FVec F S_ .f32 := constant S_ .f32 0x7F800000#32
  let main_v3 : FVec F S4x2048x1536 .f32 := broadcastInDim S4x2048x1536 ![] bcast_S_S4x2048x1536 main_cst
  let main_v4 : IVec S4x2048x1536 1 := cmpf .olt main_v2 main_v3
  let main_v5 : FVec F S4x2048x8 .f32 := Host.absf main_arg1
  let main_cst_0 : FVec F S_ .f32 := constant S_ .f32 0x7F800000#32
  let main_v6 : FVec F S4x2048x8 .f32 := broadcastInDim S4x2048x8 ![] bcast_S_S4x2048x8 main_cst_0
  let main_v7 : IVec S4x2048x8 1 := cmpf .olt main_v5 main_v6
  let main_v8 : FVec F S4x2048x512 .f32 := Host.absf main_v1
  let main_cst_1 : FVec F S_ .f32 := constant S_ .f32 0x7F800000#32
  let main_v9 : FVec F S4x2048x512 .f32 := broadcastInDim S4x2048x512 ![] bcast_S_S4x2048x512 main_cst_1
  let main_v10 : IVec S4x2048x512 1 := cmpf .olt main_v8 main_v9
  (main_v4, main_v7, main_v10)
-- ==== Pre_finite3.lean ====
abbrev S4x2048x3336 : Shape := ⟨3, ![4, 2048, 3336]⟩
abbrev S4x2048x8 : Shape := ⟨3, ![4, 2048, 8]⟩
abbrev S4x2048x1024 : Shape := ⟨3, ![4, 2048, 1024]⟩
abbrev S_ : Shape := ⟨0, ![]⟩

class Facts : Prop where
  slices_S4x2048x3336_S4x2048x1024_0_0_768 : S4x2048x3336.Slices ![0, 0, 768] S4x2048x1024
  bcast_S_S4x2048x1024 : S_.BroadcastsInDim S4x2048x1024 (![] : Fin 0 → Fin S4x2048x1024.rank)
  bcast_S_S4x2048x8 : S_.BroadcastsInDim S4x2048x8 (![] : Fin 0 → Fin S4x2048x8.rank)

variable [Facts]

def fn {F : FTy → Type} [FloatOps F] (main_arg0 : FVec F S4x2048x3336 .f32) (main_arg1 : FVec F S4x2048x8 .f32) : IVec S4x2048x1024 1 × IVec S4x2048x8 1 :=
  let main_v0 : FVec F S4x2048x1024 .f32 := (extractStridedSlice S4x2048x1024 ![0, 0, 768] · slices_S4x2048x3336_S4x2048x1024_0_0_768) main_arg0
  let main_v1 : FVec F S4x2048x1024 .f32 := Host.absf main_v0
  let main_cst : FVec F S_ .f32 := constant S_ .f32 0x7F800000#32
  let main_v2 : FVec F S4x2048x1024 .f32 := broadcastInDim S4x2048x1024 ![] bcast_S_S4x2048x1024 main_cst
  let main_v3 : IVec S4x2048x1024 1 := cmpf .olt main_v1 main_v2
  let main_v4 : FVec F S4x2048x8 .f32 := Host.absf main_arg1
  let main_cst_0 : FVec F S_ .f32 := constant S_ .f32 0x7F800000#32
  let main_v5 : FVec F S4x2048x8 .f32 := broadcastInDim S4x2048x8 ![] bcast_S_S4x2048x8 main_cst_0
  let main_v6 : IVec S4x2048x8 1 := cmpf .olt main_v4 main_v5
  (main_v3, main_v6)
-- ==== Kernel.lean ====
abbrev S4x2048x1024 : Shape := ⟨3, ![4, 2048, 1024]⟩
abbrev S4x1024 : Shape := ⟨2, ![4, 1024]⟩
abbrev S4x2048x2048 : Shape := ⟨3, ![4, 2048, 2048]⟩
abbrev S1024x1024 : Shape := ⟨2, ![1024, 1024]⟩
abbrev S_ : Shape := ⟨0, ![]⟩
abbrev S4x1x1024 : Shape := ⟨3, ![4, 1, 1024]⟩
abbrev S1x1024x1024 : Shape := ⟨3, ![1, 1024, 1024]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 28
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x2048x1024, .f32⟩
  | .hbm, ⟨3, _⟩ => ⟨S4x2048x2048, .f32⟩
  | .hbm, ⟨4, _⟩ => ⟨S1024x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S_, .f32⟩
  | .hbm, ⟨9, _⟩ => ⟨S4x2048x1024, .f32⟩
  | .hbm, ⟨10, _⟩ => ⟨S4x2048x1024, .f32⟩
  | .hbm, ⟨11, _⟩ => ⟨S_, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S4x2048x1024, .bf16⟩
  | .hbm, ⟨17, _⟩ => ⟨S1024x1024, .bf16⟩
  | .hbm, ⟨18, _⟩ => ⟨S4x2048x1024, .f32⟩
  | .hbm, ⟨19, _⟩ => ⟨S4x1x1024, .f32⟩
  | .hbm, ⟨20, _⟩ => ⟨S4x2048x1024, .bf16⟩
  | .hbm, ⟨21, _⟩ => ⟨S4x2048x2048, .bf16⟩
  | .hbm, ⟨22, _⟩ => ⟨S1024x1024, .bf16⟩
  | .hbm, ⟨23, _⟩ => ⟨S4x2048x1024, .f32⟩
  | .hbm, ⟨24, _⟩ => ⟨S4x2048x1024, .bf16⟩
  | .hbm, ⟨25, _⟩ => ⟨S4x2048x1024, .bf16⟩
  | .hbm, ⟨26, _⟩ => ⟨S4x2048x1024, .bf16⟩
  | .hbm, ⟨27, _⟩ => ⟨S4x1x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .bf16⟩
  | .local _ .vmem, ⟨11, _⟩ => ⟨S1x1024x1024, .f32⟩
  | .local _ .vmem, ⟨12, _⟩ => ⟨S1x1024x1024, .f32⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1x1024, .f32⟩
  | .local _ .vmem, ⟨20, _⟩ => ⟨S1x1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_v10_3 : Ref sig .tc := ⟨.hbm, 26, rfl⟩
abbrev main_v10_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S4x2048x1024 : Shape := ⟨3, ![4, 2048, 1024]⟩
abbrev S4x1024 : Shape := ⟨2, ![4, 1024]⟩
abbrev S4x2048x2048 : Shape := ⟨3, ![4, 2048, 2048]⟩
abbrev S1024x1024 : Shape := ⟨2, ![1024, 1024]⟩
abbrev S_ : Shape := ⟨0, ![]⟩
abbrev S4x1x1024 : Shape := ⟨3, ![4, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x2048x1024, .f32⟩
  | .hbm, ⟨3, _⟩ => ⟨S4x2048x2048, .f32⟩
  | .hbm, ⟨4, _⟩ => ⟨S1024x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S_, .f32⟩
  | .hbm, ⟨9, _⟩ => ⟨S4x2048x1024, .f32⟩
  | .hbm, ⟨10, _⟩ => ⟨S4x2048x1024, .f32⟩
  | .hbm, ⟨11, _⟩ => ⟨S_, .f32⟩
  | .hbm, ⟨12, _⟩ => ⟨S4x2048x1024, .f32⟩
  | .hbm, ⟨13, _⟩ => ⟨S4x2048x1024, .f32⟩
  | .hbm, ⟨14, _⟩ => ⟨S_, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S4x1x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S_, .f32⟩
  | .hbm, ⟨28, _⟩ => ⟨S4x1024, .f32⟩
  | .hbm, ⟨29, _⟩ => ⟨S4x1x1024, .f32⟩
  | .hbm, ⟨30, _⟩ => ⟨S_, .f32⟩
  | .hbm, ⟨31, _⟩ => ⟨S4x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x1024, .bf16⟩
  | .hbm, ⟨40, _⟩ => ⟨S4x2048x1024, .bf16⟩
  | .hbm, ⟨41, _⟩ => ⟨S4x2048x1024, .bf16⟩
  | .hbm, ⟨42, _⟩ => ⟨S4x1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩

abbrev nD : Nat := 1
abbrev τ : Topo := Topo.v7x

variable {F : FTy → Type} [FloatOps F]
-- ==== Kernel2.lean ====
abbrev S4x2048x3336 : Shape := ⟨3, ![4, 2048, 3336]⟩
abbrev S4x2048x8 : Shape := ⟨3, ![4, 2048, 8]⟩
abbrev S4x2048x1024 : Shape := ⟨3, ![4, 2048, 1024]⟩
abbrev S4x2048x2312 : Shape := ⟨3, ![4, 2048, 2312]⟩
abbrev S_ : Shape := ⟨0, ![]⟩
abbrev S4x2048x120 : Shape := ⟨3, ![4, 2048, 120]⟩
abbrev S4x2048x3456 : Shape := ⟨3, ![4, 2048, 3456]⟩
abbrev S4x8x2048 : Shape := ⟨3, ![4, 8, 2048]⟩
abbrev S4x8x2048x1 : Shape := ⟨4, ![4, 8, 2048, 1]⟩
abbrev S4x8x1x2048 : Shape := ⟨4, ![4, 8, 1, 2048]⟩
abbrev S4x8x4x1x512 : Shape := ⟨5, ![4, 8, 4, 1, 512]⟩
abbrev S4x2048x512 : Shape := ⟨3, ![4, 2048, 512]⟩
abbrev S4x2048x128 : Shape := ⟨3, ![4, 2048, 128]⟩
abbrev S4x2048x8x64 : Shape := ⟨4, ![4, 2048, 8, 64]⟩
abbrev S4x8x2048x2048 : Shape := ⟨4, ![4, 8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x128 : Shape := ⟨3, ![1, 2048, 128]⟩
abbrev S1x2x2048x1 : Shape := ⟨4, ![1, 2, 2048, 1]⟩
abbrev S1x2x1x2048 : Shape := ⟨4, ![1, 2, 1, 2048]⟩
abbrev S1x2x4x1x512 : Shape := ⟨5, ![1, 2, 4, 1, 512]⟩
abbrev S2x2048x128 : Shape := ⟨3, ![2, 2048, 128]⟩
abbrev S2048x128 : Shape := ⟨2, ![2048, 128]⟩
abbrev S128x2048 : Shape := ⟨2, ![128, 2048]⟩
abbrev S2x4x128x512 : Shape := ⟨4, ![2, 4, 128, 512]⟩
abbrev S128x512 : Shape := ⟨2, ![128, 512]⟩
abbrev S1x512x128 : Shape := ⟨3, ![1, 512, 128]⟩
abbrev S512x128 : Shape := ⟨2, ![512, 128]⟩
abbrev S1x1x128x512 : Shape := ⟨4, ![1, 1, 128, 512]⟩
abbrev S2x1x2048 : Shape := ⟨3, ![2, 1, 2048]⟩
abbrev S512x512 : Shape := ⟨2, ![512, 512]⟩
abbrev S1x1x512x1 : Shape := ⟨4, ![1, 1, 512, 1]⟩
abbrev S512x1 : Shape := ⟨2, ![512, 1]⟩
abbrev S1x1x1x512 : Shape := ⟨4, ![1, 1, 1, 512]⟩
abbrev S1x512 : Shape := ⟨2, ![1, 512]⟩
abbrev S512 : Shape := ⟨1, ![512]⟩
abbrev S1x1x1x1x512 : Shape := ⟨5, ![1, 1, 1, 1, 512]⟩
abbrev S128x1024 : Shape := ⟨2, ![128, 1024]⟩
abbrev S512x1024 : Shape := ⟨2, ![512, 1024]⟩
abbrev S1x1x1x1024 : Shape := ⟨4, ![1, 1, 1, 1024]⟩
abbrev S1x1024 : Shape := ⟨2, ![1, 1024]⟩
abbrev S1024x128 : Shape := ⟨2, ![1024, 128]⟩
abbrev S1024 : Shape := ⟨1, ![1024]⟩
abbrev S1024x512 : Shape := ⟨2, ![1024, 512]⟩
abbrev S1x1x1024x1 : Shape := ⟨4, ![1, 1, 1024, 1]⟩
abbrev S1024x1 : Shape := ⟨2, ![1024, 1]⟩
abbrev S128x1536 : Shape := ⟨2, ![128, 1536]⟩
abbrev S512x1536 : Shape := ⟨2, ![512, 1536]⟩
abbrev S1x1x1x1536 : Shape := ⟨4, ![1, 1, 1, 1536]⟩
abbrev S1x1536 : Shape := ⟨2, ![1, 1536]⟩
abbrev S1536x128 : Shape := ⟨2, ![1536, 128]⟩
abbrev S1536 : Shape := ⟨1, ![1536]⟩
abbrev S1536x512 : Shape := ⟨2, ![1536, 512]⟩
abbrev S1x1x1536x1 : Shape := ⟨4, ![1, 1, 1536, 1]⟩
abbrev S1536x1 : Shape := ⟨2, ![1536, 1]⟩
abbrev S512x2048 : Shape := ⟨2, ![512, 2048]⟩
abbrev S1x1x1x2048 : Shape := ⟨4, ![1, 1, 1, 2048]⟩
abbrev S2048x512 : Shape := ⟨2, ![2048, 512]⟩
abbrev S1x1x2048x1 : Shape := ⟨4, ![1, 1, 2048, 1]⟩

abbrev nBuf : Space → Nat
  | .hbm => 65
  | .vmem => 36
  | .smem => 0
  | _ => 0

abbrev bufTy : (tb : Table) → Fin (tcTables nBuf tb) → BufTy
  | .hbm, ⟨0, _⟩ => ⟨S4x2048x3336, .f32⟩
  | .hbm, ⟨1, _⟩ => ⟨S4x2048x8, .f32⟩
  | .hbm, ⟨2, _⟩ => ⟨S4x2048x1024, .f32⟩
  | .hbm, ⟨3, _⟩ => ⟨S4x2048x1024, .f32⟩
  | .hbm, ⟨4, _⟩ => ⟨S4x2048x2312, .f32⟩
  | .hbm, ⟨5, _⟩ => ⟨S_, .f32⟩
  | .hbm, ⟨6, _⟩ => ⟨S4x2048x120, .f32⟩
  | .hbm, ⟨7, _⟩ => ⟨S4x2048x3456, .f32⟩
  | .hbm, ⟨8, _⟩ => ⟨S4x2048x3456, .bf16⟩
  | .hbm, ⟨9, _⟩ => ⟨S4x8x2048, .f32⟩
  | .hbm, ⟨10, _⟩ => ⟨S4x8x2048x1, .f32⟩
  | .hbm, ⟨11, _⟩ => ⟨S4x8x1x2048, .f32⟩
  | .hbm, ⟨12, _⟩ => ⟨S4x8x4x1x512, .f32⟩
  | .hbm, ⟨13, _⟩ => ⟨S4x2048x512, .f32⟩
  | .hbm, ⟨14, _⟩ => ⟨S4x2048x128, .f32⟩
  | .hbm, ⟨15, _⟩ => ⟨S4x2048x128, .f32⟩
  | .hbm, ⟨16, _⟩ => ⟨S4x2048x512, .f32⟩
  | .hbm, ⟨17, _⟩ => ⟨S4x2048x512, .f32⟩
  | .hbm, ⟨18, _⟩ => ⟨S4x2048x512, .f32⟩
  | .hbm, ⟨19, _⟩ => ⟨S4x2048x8, .f32⟩
  | .hbm, ⟨20, _⟩ => ⟨S4x2048x1024, .f32⟩
  | .hbm, ⟨21, _⟩ => ⟨S4x2048x8x64, .f32⟩
  | .hbm, ⟨22, _⟩ => ⟨S4x2048x8x64, .f32⟩
  | .hbm, ⟨23, _⟩ => ⟨S4x2048x8x64, .f32⟩
  | .hbm, ⟨24, _⟩ => ⟨S4x8x2048x2048, .f32⟩
  | .hbm, ⟨25, _⟩ => ⟨S_, .f32⟩
  | .hbm, ⟨26, _⟩ => ⟨S4x8x2048x2048, .f32⟩
  | .hbm, ⟨27, _⟩ => ⟨S4x8x2048x2048, .f32⟩
  | .hbm, ⟨28, _⟩ => ⟨S4x8x2048, .f32⟩
  | .hbm, ⟨29, _⟩ => ⟨S4x8x2048x1, .f32⟩
  | .hbm, ⟨30, _⟩ => ⟨S4x8x2048, .f32⟩
  | .hbm, ⟨31, _⟩ => ⟨S4x8x1x2048, .f32⟩
  | .hbm, ⟨32, _⟩ => ⟨S4x8x2048x2048, .f32⟩
  | .hbm, ⟨33, _⟩ => ⟨S4x8x2048x2048, .f32⟩
  | .hbm, ⟨34, _⟩ => ⟨S4x8x2048x2048, .f32⟩
  | .hbm, ⟨35, _⟩ => ⟨S2048, .i32⟩
  | .hbm, ⟨36, _⟩ => ⟨S2048x1, .i32⟩
  | .hbm, ⟨37, _⟩ => ⟨S2048, .i32⟩
  | .hbm, ⟨38, _⟩ => ⟨S1x2048, .i32⟩
  | .hbm, ⟨39, _⟩ => ⟨S2048x2048, .i32⟩
  | .hbm, ⟨40, _⟩ => ⟨S2048x2048, .i32⟩
  | .hbm, ⟨41, _⟩ => ⟨S2048x2048, .i1⟩
  | .hbm, ⟨42, _⟩ => ⟨S4x8x2048x2048, .f32⟩
  | .hbm, ⟨43, _⟩ => ⟨S_, .f32⟩
  | .hbm, ⟨44, _⟩ => ⟨S_, .f32⟩
  | .hbm, ⟨45, _⟩ => ⟨S4x8x2048x2048, .i1⟩
  | .hbm, ⟨46, _⟩ => ⟨S4x8x2048x2048, .f32⟩
  | .hbm, ⟨47, _⟩ => ⟨S4x8x2048x2048, .f32⟩
  | .hbm, ⟨48, _⟩ => ⟨S_, .f32⟩
  | .hbm, ⟨49, _⟩ => ⟨S4x8x2048, .f32⟩
  | .hbm, ⟨50, _⟩ => ⟨S4x8x2048x1, .f32⟩
  | .hbm, ⟨51, _⟩ => ⟨S4x8x2048x2048, .f32⟩
  | .hbm, ⟨52, _⟩ => ⟨S4x8x2048x2048, .f32⟩
  | .hbm, ⟨53, _⟩ => ⟨S4x8x2048x2048, .f32⟩
  | .hbm, ⟨54, _⟩ => ⟨S_, .f32⟩
  | .hbm, ⟨55, _⟩ => ⟨S4x8x2048, .f32⟩
  | .hbm, ⟨56, _⟩ => ⟨S4x8x2048x1, .f32⟩
  | .hbm, ⟨57, _⟩ => ⟨S4x8x2048x1, .f32⟩
  | .hbm, ⟨58, _⟩ => ⟨S4x8x2048x1, .f32⟩
  | .hbm, ⟨59, _⟩ => ⟨S4x8x4x1x512, .f32⟩
  | .hbm, ⟨60, _⟩ => ⟨S4x2048x1024, .bf16⟩
  | .hbm, ⟨61, _⟩ => ⟨S4x2048x512, .bf16⟩
  | .hbm, ⟨62, _⟩ => ⟨S4x2048x512, .bf16⟩
  | .hbm, ⟨63, _⟩ => ⟨S4x2048x512, .bf16⟩
  | .hbm, ⟨64, _⟩ => ⟨S4x8x1x2048, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2x2048x1, .f32⟩
  | .local _ .vmem, ⟨9, _⟩ => ⟨S1x2x2048x1, .f32⟩
  | .local _ .vmem, ⟨10, _⟩ => ⟨S1x2x1x2048, .f32⟩
  | .local _ .vmem, ⟨11, _⟩ => ⟨S1x2x1x2048, .f32⟩
  | .local _ .vmem, ⟨12, _⟩ => ⟨S1x2x4x1x512, .f32⟩
  | .local _ .vmem, ⟨13, _⟩ => ⟨S1x2x4x1x512, .f32⟩
  | .local _ .vmem, ⟨14, _⟩ => ⟨S1x2x2048x1, .f32⟩
  | .local _ .vmem, ⟨15, _⟩ => ⟨S1x2x2048x1, .f32⟩
  | .local _ .vmem, ⟨16, _⟩ => ⟨S1x2x4x1x512, .f32⟩
  | .local _ .vmem, ⟨17, _⟩ => ⟨S1x2x4x1x512, .f32⟩
  | .local _ .vmem, ⟨18, _⟩ => ⟨S1x2048x128, .bf16⟩
  | .local _ .vmem, ⟨19, _⟩ => ⟨S1x2048x128, .bf16⟩
  | .local _ .vmem, ⟨20, _⟩ => ⟨S1x2048x128, .bf16⟩
  | .local _ .vmem, ⟨21, _⟩ => ⟨S1x2048x128, .bf16⟩
  | .local _ .vmem, ⟨22, _⟩ => ⟨S1x2048x128, .bf16⟩
  | .local _ .vmem, ⟨23, _⟩ => ⟨S1x2048x128, .bf16⟩
  | .local _ .vmem, ⟨24, _⟩ => ⟨S1x2x1x2048, .f32⟩
  | .local _ .vmem, ⟨25, _⟩ => ⟨S1x2x1x2048, .f32⟩
  | .local _ .vmem, ⟨26, _⟩ => ⟨S2x2048x128, .bf16⟩
  | .local _ .vmem, ⟨27, _⟩ => ⟨S2x2048x128, .bf16⟩
  | .local _ .vmem, ⟨28, _⟩ => ⟨S2048x128, .bf16⟩
  | .local _ .vmem, ⟨29, _⟩ => ⟨S2048x128, .bf16⟩
  | .local _ .vmem, ⟨30, _⟩ => ⟨S128x2048, .bf16⟩
  | .local _ .vmem, ⟨31, _⟩ => ⟨S128x2048, .bf16⟩
  | .local _ .vmem, ⟨32, _⟩ => ⟨S2x4x128x512, .bf16⟩
  | .local _ .vmem, ⟨33, _⟩ => ⟨S2x4x128x512, .bf16⟩
  | .local _ .vmem, ⟨34, _⟩ => ⟨S2048x128, .f32⟩
  | .local _ .vmem, ⟨35, _⟩ => ⟨S2048x128, .f32⟩
  | _, _ => ⟨S4x2048x3336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_1 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v38 : Ref sig .tc := ⟨.hbm, 47, rfl⟩
abbrev main_cst_2 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_3 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50_0 : Ref sig .tc := ⟨.hbm, 61, rfl⟩
abbrev main_v50_1 : Ref sig .tc := ⟨.hbm, 62, rfl⟩
abbrev main_v50_2 : Ref sig .tc := ⟨.hbm, 63, rfl⟩
abbrev main_v50_3 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_scratch8 : Ref sig .tc := ⟨.vmem, 34, rfl⟩
abbrev cc0_scratch9 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c4_i32 : BitVec 32 := 4#32
  let v65 : BitVec 32 := Scalar.addi c0_i32 c4_i32
  let c1_i32 : BitVec 32 := 1#32
  ⟨c0_i32, v65, c1_i32⟩
def k0_mult1 (k0_t1 : Fin k0_t1_loop.trips) : BitVec 32 :=
  let c0_i32 : BitVec 32 := 0#32
  let c1_i32 : BitVec 32 := 1#32
  let arg25 : BitVec 32 := Scf.iv c0_i32 c1_i32 k0_t1
  let c512_i32_649 : BitVec 32 := 512#32
  let v925 : BitVec 32 := Scalar.muli arg25 c512_i32_649
  v925
def k0_off1 (k0_t1 : Fin k0_t1_loop.trips) : Fin 3 → Nat :=
  let c0_650 : Index := 0#32
  let c0_i32 : BitVec 32 := 0#32
  let c1_i32 : BitVec 32 := 1#32
  let arg25 : BitVec 32 := Scf.iv c0_i32 c1_i32 k0_t1
  let c512_i32_649 : BitVec 32 := 512#32
  let v925 : BitVec 32 := Scalar.muli arg25 c512_i32_649
  let v926 : BitVec 32 := v925
  let v927 : Index := Scalar.indexCast v926
  let c0_651 : Index := 0#32
  ![0, v927.toNat, 0]
def k0_off2 (k0_t1 : Fin k0_t1_loop.trips) : Fin 4 → Nat :=
  let c0_656 : Index := 0#32
  let c0_i32 : BitVec 32 := 0#32
  let c1_i32 : BitVec 32 := 1#32
  let arg25 : BitVec 32 := Scf.iv c0_i32 c1_i32 k0_t1
  let v942 : Index := Scalar.indexCast arg25
  let c0_657 : Index := 0#32
  let c0_658 : Index := 0#32
  ![0, v942.toNat, 0, 0]
def k0_off3 (k0_t1 : Fin k0_t1_loop.trips) : Fin 4 → Nat :=
  let c1_664 : Index := 1#32
  let c0_i32 : BitVec 32 := 0#32
  let c1_i32 : BitVec 32 := 1#32
  let arg25 : BitVec 32 := Scf.iv c0_i32 c1_i32 k0_t1
  let v956 : Index := Scalar.indexCast arg25
  let c0_665 : Index := 0#32
  let c0_666 : Index := 0#32
  ![1, v956.toNat, 0, 0]
def k0_mult2 : BitVec 32 :=
  let c0_i32_50 : BitVec 32 := 0#32
  let c512_i32 : BitVec 32 := 512#32
  let v87 : BitVec 32 := Scalar.muli c0_i32_50 c512_i32
  v87
def k0_off4 (c0_i32_50 : BitVec 32) : Fin 3 → Nat :=
  let c0_53 : Index := 0#32
  let c512_i32 : BitVec 32 := 512#32
  let v87 : BitVec 32 := Scalar.muli c0_i32_50 c512_i32
  let v88 : BitVec 32 := v87
  let v91 : Index := Scalar.indexCast v88
  let c0_54 : Index := 0#32
  ![0, v91.toNat, 0]
def k0_off5 (c0_i32_50 : BitVec 32) : Fin 4 → Nat :=
  let c0_60 : Index := 0#32
  let c0_61 : Index := 0#32
  let c512_i32 : BitVec 32 := 512#32
  let v87 : BitVec 32 := Scalar.muli c0_i32_50 c512_i32
  let v88 : BitVec 32 := v87
  let v99 : Index := Scalar.indexCast v88
  let c0_62 : Index := 0#32
  ![0, 0, v99.toNat, 0]
def k0_off6 (c0_i32_50 : BitVec 32) : Fin 3 → Nat :=
  let c1_123 : Index := 1#32
  let c512_i32 : BitVec 32 := 512#32
  let v87 : BitVec 32 := Scalar.muli c0_i32_50 c512_i32
  let v88 : BitVec 32 := v87
  let v184 : Index := Scalar.indexCast v88
  let c0_124 : Index := 0#32
  ![1, v184.toNat, 0]
def k0_off7 (c0_i32_50 : BitVec 32) : Fin 4 → Nat :=
  let c0_130 : Index := 0#32
  let c1_131 : Index := 1#32
  let c512_i32 : BitVec 32 := 512#32
  let v87 : BitVec 32 := Scalar.muli c0_i32_50 c512_i32
  let v88 : BitVec 32 := v87
  let v192 : Index := Scalar.indexCast v88
  let c0_132 : Index := 0#32
  ![0, 1, v192.toNat, 0]
def k0_off8 (c0_i32_50 : BitVec 32) : Fin 3 → Nat :=
  let c0_194 : Index := 0#32
  let c512_i32 : BitVec 32 := 512#32
  let v87 : BitVec 32 := Scalar.muli c0_i32_50 c512_i32
  let v88 : BitVec 32 := v87
  let v281 : Index := Scalar.indexCast v88
  let c0_195 : Index := 0#32
  ![0, v281.toNat, 0]
def k0_mult3 : BitVec 32 :=
  let c1_i32_197 : BitVec 32 := 1#32
  let c512_i32_198 : BitVec 32 := 512#32
  let v285 : BitVec 32 := Scalar.muli c1_i32_197 c512_i32_198
  v285
def k0_mult4 : BitVec 32 :=
  let c2_i32 : BitVec 32 := 2#32
  let c512_i32_345 : BitVec 32 := 512#32
  let v495 : BitVec 32 := Scalar.muli c2_i32 c512_i32_345
  v495
def k0_mult5 : BitVec 32 :=
  let c3_i32 : BitVec 32 := 3#32
  let c512_i32_492 : BitVec 32 := 512#32
  let v705 : BitVec 32 := Scalar.muli c3_i32 c512_i32_492
  v705
def cc0_transform_0 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x4x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x4x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel2Ideal.lean ====
variable {F : FTy → Type} [FloatOps F] [Named F]
def κ : String → Option EReal := fun
  | "mask" => some ⊥
  | _ => none
-- ==== Reference2Ideal.lean ====
abbrev S4x2048x3336 : Shape := ⟨3, ![4, 2048, 3336]⟩
abbrev S4x2048x8 : Shape := ⟨3, ![4, 2048, 8]⟩
abbrev S4x2048x1024 : Shape := ⟨3, ![4, 2048, 1024]⟩
abbrev S4x2048x512 : Shape := ⟨3, ![4, 2048, 512]⟩
abbrev S4x2048x128 : Shape := ⟨3, ![4, 2048, 128]⟩
abbrev S4x2048x8x64 : Shape := ⟨4, ![4, 2048, 8, 64]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩
abbrev S4x8x1x2048 : Shape := ⟨4, ![4, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x8x64x2048 : Shape := ⟨4, ![4, 8, 64, 2048]⟩
abbrev S4x8x2048x64 : Shape := ⟨4, ![4, 8, 2048, 64]⟩

abbrev nBuf : Space → Nat
  | .hbm => 133
  | .vmem => 0
  | .smem => 0
  | _ => 0

abbrev hbmTy0_0 (i : Nat) : BufTy := match i % 128 with
  | 0 => ⟨S4x2048x3336, .f32⟩
  | 1 => ⟨S4x2048x8, .f32⟩
  | 2 => ⟨S4x2048x1024, .f32⟩
  | 3 => ⟨S4x2048x512, .f32⟩
  | 4 => ⟨S4x2048x128, .f32⟩
  | 5 => ⟨S4x2048x128, .f32⟩
  | 6 => ⟨S4x2048x512, .f32⟩
  | 7 => ⟨S4x2048x512, .f32⟩
  | 8 => ⟨S4x2048x512, .f32⟩
  | 9 => ⟨S4x2048x8, .f32⟩
  | 10 => ⟨S4x2048x1024, .f32⟩
  | 11 => ⟨S4x2048x8x64, .f32⟩
  | 12 => ⟨S4x2048x8x64, .f32⟩
  | 13 => ⟨S4x2048x8x64, .f32⟩
  | 14 => ⟨S4x8x2048x2048, .f32⟩
  | 15 => ⟨S_, .f32⟩
  | 16 => ⟨S4x8x2048x2048, .f32⟩
  | 17 => ⟨S4x8x2048x2048, .f32⟩
  | 18 => ⟨S4x8x2048, .f32⟩
  | 19 => ⟨S4x8x2048x1, .f32⟩
  | 20 => ⟨S4x8x2048, .f32⟩
  | 21 => ⟨S4x8x1x2048, .f32⟩
  | 22 => ⟨S4x8x2048x2048, .f32⟩
  | 23 => ⟨S4x8x2048x2048, .f32⟩
  | 24 => ⟨S4x8x2048x2048, .f32⟩
  | 25 => ⟨S2048, .i32⟩
  | 26 => ⟨S2048x1, .i32⟩
  | 27 => ⟨S2048, .i32⟩
  | 28 => ⟨S1x2048, .i32⟩
  | 29 => ⟨S2048x2048, .i32⟩
  | 30 => ⟨S2048x2048, .i32⟩
  | 31 => ⟨S2048x2048, .i1⟩
  | 32 => ⟨S4x8x2048x2048, .f32⟩
  | 33 => ⟨S_, .f32⟩
  | 34 => ⟨S_, .f32⟩
  | 35 => ⟨S4x8x2048x2048, .i1⟩
  | 36 => ⟨S4x8x2048x2048, .f32⟩
  | 37 => ⟨S4x8x2048x2048, .f32⟩
  | 38 => ⟨S_, .f32⟩
  | 39 => ⟨S4x8x2048x2048, .f32⟩
  | 40 => ⟨S_, .f32⟩
  | 41 => ⟨S4x8x2048, .f32⟩
  | 42 => ⟨S4x8x2048x1, .f32⟩
  | 43 => ⟨S4x8x2048x2048, .f32⟩
  | 44 => ⟨S4x8x2048x2048, .i1⟩
  | 45 => ⟨S4x8x2048x2048, .f32⟩
  | 46 => ⟨S_, .f32⟩
  | 47 => ⟨S4x8x2048, .f32⟩
  | 48 => ⟨S_, .f32⟩
  | 49 => ⟨S4x8x2048, .f32⟩
  | 50 => ⟨S4x8x2048, .f32⟩
  | 51 => ⟨S_, .f32⟩
  | 52 => ⟨S4x8x2048, .f32⟩
  | 53 => ⟨S4x8x2048, .i1⟩
  | 54 => ⟨S_, .f32⟩
  | 55 => ⟨S4x8x2048, .f32⟩
  | 56 => ⟨S4x8x2048, .i1⟩
  | 57 => ⟨S_, .f32⟩
  | 58 => ⟨S4x8x2048, .f32⟩
  | 59 => ⟨S_, .f32⟩
  | 60 => ⟨S4x8x2048, .f32⟩
  | 61 => ⟨S_, .f32⟩
  | 62 => ⟨S4x8x2048, .f32⟩
  | 63 => ⟨S4x8x2048, .f32⟩
  | 64 => ⟨S4x8x2048, .f32⟩
  | 65 => ⟨S4x8x2048x1, .f32⟩
  | 66 => ⟨S4x8x2048x2048, .f32⟩
  | 67 => ⟨S4x8x2048x2048, .f32⟩
  | 68 => ⟨S4x8x2048x2048, .f32⟩
  | 69 => ⟨S_, .f32⟩
  | 70 => ⟨S4x8x2048, .f32⟩
  | 71 => ⟨S4x8x2048x1, .f32⟩
  | 72 => ⟨S4x8x2048x2048, .f32⟩
  | 73 => ⟨S4x8x2048x2048, .f32⟩
  | 74 => ⟨S4x8x2048x1, .f32⟩
  | 75 => ⟨S_, .f32⟩
  | 76 => ⟨S4x8x2048x1, .f32⟩
  | 77 => ⟨S4x8x2048x1, .f32⟩
  | 78 => ⟨S4x8x64x2048, .f32⟩
  | 79 => ⟨S4x2048x8x64, .f32⟩
  | 80 => ⟨S4x2048x512, .f32⟩
  | 81 => ⟨S4x2048x512, .f32⟩
  | 82 => ⟨S4x2048x8x64, .f32⟩
  | 83 => ⟨S4x8x64x2048, .f32⟩
  | 84 => ⟨S4x8x2048x2048, .f32⟩
  | 85 => ⟨S4x8x64x2048, .f32⟩
  | 86 => ⟨S4x2048x8x64, .f32⟩
  | 87 => ⟨S4x8x2048x2048, .f32⟩
  | 88 => ⟨S4x8x2048x2048, .f32⟩
  | 89 => ⟨S4x8x2048x2048, .f32⟩
  | 90 => ⟨S_, .f32⟩
  | 91 => ⟨S4x8x2048, .f32⟩
  | 92 => ⟨S4x8x2048x1, .f32⟩
  | 93 => ⟨S4x8x2048x1, .f32⟩
  | 94 => ⟨S4x8x2048x2048, .f32⟩
  | 95 => ⟨S4x8x2048x2048, .f32⟩
  | 96 => ⟨S_, .f32⟩
  | 97 => ⟨S4x8x2048, .f32⟩
  | 98 => ⟨S4x8x2048x2048, .f32⟩
  | 99 => ⟨S4x8x2048x2048, .f32⟩
  | 100 => ⟨S4x8x2048x2048, .f32⟩
  | 101 => ⟨S_, .f32⟩
  | 102 => ⟨S4x8x2048x2048, .f32⟩
  | 103 => ⟨S4x8x2048x2048, .f32⟩
  | 104 => ⟨S_, .f32⟩
  | 105 => ⟨S4x8x2048, .f32⟩
  | 106 => ⟨S4x8x2048x1, .f32⟩
  | 107 => ⟨S4x8x2048x2048, .f32⟩
  | 108 => ⟨S_, .f32⟩
  | 109 => ⟨S4x8x2048, .f32⟩
  | 110 => ⟨S4x8x1x2048, .f32⟩
  | 111 => ⟨S_, .f32⟩
  | 112 => ⟨S4x8x2048, .f32⟩
  | 113 => ⟨S4x2048x8, .f32⟩
  | 114 => ⟨S_, .f32⟩
  | 115 => ⟨S4x8x2048, .f32⟩
  | 116 => ⟨S4x2048x8, .f32⟩
  | 117 => ⟨S4x2048x8, .f32⟩
  | 118 => ⟨S_, .f32⟩
  | 119 => ⟨S4x8x2048x2048, .f32⟩
  | 120 => ⟨S4x8x2048x2048, .f32⟩
  | 121 => ⟨S4x8x2048x64, .f32⟩
  | 122 => ⟨S4x2048x8x64, .f32⟩
  | 123 => ⟨S4x8x2048x64, .f32⟩
  | 124 => ⟨S4x2048x8x64, .f32⟩
  | 125 => ⟨S4x2048x512, .f32⟩
  | 126 => ⟨S4x2048x512, .bf16⟩
  | 127 => ⟨S4x2048x512, .f32⟩
  | _ => ⟨S4x2048x3336, .f32⟩

abbrev hbmTy0_1 (i : Nat) : BufTy := match i % 128 with
  | 0 => ⟨S4x2048x512, .bf16⟩
  | 1 => ⟨S4x2048x512, .f32⟩
  | 2 => ⟨S4x2048x512, .bf16⟩
  | 3 => ⟨S4x8x2048, .f32⟩
  | 4 => ⟨S4x8x1x2048, .f32⟩
  | _ => ⟨S4x2048x3336, .f32⟩

abbrev hbmTy (i : Nat) : BufTy := match i / 128 with
  | 0 => hbmTy0_0 i
  | 1 => hbmTy0_1 i
  | _ => ⟨S4x2048x3336, .f32⟩

abbrev bufTy : (tb : Table) → Fin (tcTables nBuf tb) → BufTy
  | .hbm, ⟨i, _⟩ => hbmTy i
  | _, _ => ⟨S4x2048x3336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_call0_v0 : Ref sig .tc := ⟨.hbm, 34, rfl⟩
abbrev main_v29_1 : Ref sig .tc := ⟨.hbm, 35, rfl⟩
abbrev main_call0_v2 : Ref sig .tc := ⟨.hbm, 36, rfl⟩
abbrev main_v29_0 : Ref sig .tc := ⟨.hbm, 37, rfl⟩
abbrev main_call0_cst : Ref sig .tc := ⟨.hbm, 38, rfl⟩
abbrev main_v29_2 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_11 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_12 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_call1_cst : Ref sig .tc := ⟨.hbm, 101, rfl⟩
abbrev main_call1_v0 : Ref sig .tc := ⟨.hbm, 102, rfl⟩
abbrev main_v79 : Ref sig .tc := ⟨.hbm, 103, rfl⟩
abbrev main_cst_13 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_14 : Ref sig .tc := ⟨.hbm, 108, rfl⟩
abbrev main_v83 : Ref sig .tc := ⟨.hbm, 109, rfl⟩
abbrev main_v84 : Ref sig .tc := ⟨.hbm, 110, rfl⟩
abbrev main_cst_15 : Ref sig .tc := ⟨.hbm, 111, rfl⟩
abbrev main_v85 : Ref sig .tc := ⟨.hbm, 112, rfl⟩
abbrev main_v86 : Ref sig .tc := ⟨.hbm, 113, rfl⟩
abbrev main_cst_16 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_17 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩

abbrev nD : Nat := 1
abbrev τ : Topo := Topo.v7x

variable {F : FTy → Type} [FloatOps F]
-- ==== Kernel3.lean ====
abbrev S4x2048x3336 : Shape := ⟨3, ![4, 2048, 3336]⟩
abbrev S4x2048x8 : Shape := ⟨3, ![4, 2048, 8]⟩
abbrev S4x2048x1024 : Shape := ⟨3, ![4, 2048, 1024]⟩
abbrev S4x2048x2312 : Shape := ⟨3, ![4, 2048, 2312]⟩
abbrev S_ : Shape := ⟨0, ![]⟩
abbrev S4x2048x120 : Shape := ⟨3, ![4, 2048, 120]⟩
abbrev S4x2048x3456 : Shape := ⟨3, ![4, 2048, 3456]⟩
abbrev S4x8x2048 : Shape := ⟨3, ![4, 8, 2048]⟩
abbrev S4x8x2048x1 : Shape := ⟨4, ![4, 8, 2048, 1]⟩
abbrev S4x8x1x2048 : Shape := ⟨4, ![4, 8, 1, 2048]⟩
abbrev S4x2048x512 : Shape := ⟨3, ![4, 2048, 512]⟩
abbrev S1x2048x128 : Shape := ⟨3, ![1, 2048, 128]⟩
abbrev S1x2x2048x1 : Shape := ⟨4, ![1, 2, 2048, 1]⟩
abbrev S1x2x1x2048 : Shape := ⟨4, ![1, 2, 1, 2048]⟩
abbrev S2x2048x128 : Shape := ⟨3, ![2, 2048, 128]⟩
abbrev S128x2048 : Shape := ⟨2, ![128, 2048]⟩
abbrev S2048x128 : Shape := ⟨2, ![2048, 128]⟩
abbrev S512x128 : Shape := ⟨2, ![512, 128]⟩
abbrev S512x512 : Shape := ⟨2, ![512, 512]⟩
abbrev S1x512x128 : Shape := ⟨3, ![1, 512, 128]⟩
abbrev S128x512 : Shape := ⟨2, ![128, 512]⟩
abbrev S1x1x512x1 : Shape := ⟨4, ![1, 1, 512, 1]⟩
abbrev S512x1 : Shape := ⟨2, ![512, 1]⟩
abbrev S1x1x1x512 : Shape := ⟨4, ![1, 1, 1, 512]⟩
abbrev S1x512 : Shape := ⟨2, ![1, 512]⟩
abbrev S512 : Shape := ⟨1, ![512]⟩
abbrev S128x1024 : Shape := ⟨2, ![128, 1024]⟩
abbrev S512x1024 : Shape := ⟨2, ![512, 1024]⟩
abbrev S1x1x1x1024 : Shape := ⟨4, ![1, 1, 1, 1024]⟩
abbrev S1x1024 : Shape := ⟨2, ![1, 1024]⟩
abbrev S1024x128 : Shape := ⟨2, ![1024, 128]⟩
abbrev S128x1536 : Shape := ⟨2, ![128, 1536]⟩
abbrev S512x1536 : Shape := ⟨2, ![512, 1536]⟩
abbrev S1x1x1x1536 : Shape := ⟨4, ![1, 1, 1, 1536]⟩
abbrev S1x1536 : Shape := ⟨2, ![1, 1536]⟩
abbrev S1536x128 : Shape := ⟨2, ![1536, 128]⟩
abbrev S512x2048 : Shape := ⟨2, ![512, 2048]⟩
abbrev S1x1x1x2048 : Shape := ⟨4, ![1, 1, 1, 2048]⟩
abbrev S1x2048 : Shape := ⟨2, ![1, 2048]⟩

abbrev nBuf : Space → Nat
  | .hbm => 13
  | .vmem => 17
  | .smem => 0
  | _ => 0

abbrev bufTy : (tb : Table) → Fin (tcTables nBuf tb) → BufTy
  | .hbm, ⟨0, _⟩ => ⟨S4x2048x3336, .f32⟩
  | .hbm, ⟨1, _⟩ => ⟨S4x2048x8, .f32⟩
  | .hbm, ⟨2, _⟩ => ⟨S4x2048x1024, .f32⟩
  | .hbm, ⟨3, _⟩ => ⟨S4x2048x2312, .f32⟩
  | .hbm, ⟨4, _⟩ => ⟨S_, .f32⟩
  | .hbm, ⟨5, _⟩ => ⟨S4x2048x120, .f32⟩
  | .hbm, ⟨6, _⟩ => ⟨S4x2048x3456, .f32⟩
  | .hbm, ⟨7, _⟩ => ⟨S4x2048x3456, .bf16⟩
  | .hbm, ⟨8, _⟩ => ⟨S4x8x2048, .f32⟩
  | .hbm, ⟨9, _⟩ => ⟨S4x8x2048x1, .f32⟩
  | .hbm, ⟨10, _⟩ => ⟨S4x8x1x2048, .f32⟩
  | .hbm, ⟨11, _⟩ => ⟨S4x2048x512, .bf16⟩
  | .hbm, ⟨12, _⟩ => ⟨S4x8x2048x1, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2x2048x1, .f32⟩
  | .local _ .vmem, ⟨7, _⟩ => ⟨S1x2x2048x1, .f32⟩
  | .local _ .vmem, ⟨8, _⟩ => ⟨S1x2x1x2048, .f32⟩
  | .local _ .vmem, ⟨9, _⟩ => ⟨S1x2x1x2048, .f32⟩
  | .local _ .vmem, ⟨10, _⟩ => ⟨S1x2048x128, .bf16⟩
  | .local _ .vmem, ⟨11, _⟩ => ⟨S1x2048x128, .bf16⟩
  | .local _ .vmem, ⟨12, _⟩ => ⟨S1x2x2048x1, .f32⟩
  | .local _ .vmem, ⟨13, _⟩ => ⟨S1x2x2048x1, .f32⟩
  | .local _ .vmem, ⟨14, _⟩ => ⟨S2x2048x128, .bf16⟩
  | .local _ .vmem, ⟨15, _⟩ => ⟨S128x2048, .bf16⟩
  | .local _ .vmem, ⟨16, _⟩ => ⟨S2048x128, .bf16⟩
  | _, _ => ⟨S4x2048x3336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  let c512_i32 : BitVec 32 := 512#32
  let v41 : BitVec 32 := Scalar.muli c0_i32 c512_i32
  v41
def k0_off1 (c0_i32 : BitVec 32) : Fin 3 → Nat :=
  let c0_21 : Index := 0#32
  let c512_i32 : BitVec 32 := 512#32
  let v41 : BitVec 32 := Scalar.muli c0_i32 c512_i32
  let v42 : BitVec 32 := v41
  let v43 : Index := Scalar.indexCast v42
  let c0_22 : Index := 0#32
  ![0, v43.toNat, 0]
def k0_off2 (c0_i32 : BitVec 32) : Fin 4 → Nat :=
  let c0_26 : Index := 0#32
  let c0_27 : Index := 0#32
  let c512_i32 : BitVec 32 := 512#32
  let v41 : BitVec 32 := Scalar.muli c0_i32 c512_i32
  let v42 : BitVec 32 := v41
  let v48 : Index := Scalar.indexCast v42
  let c0_28 : Index := 0#32
  ![0, 0, v48.toNat, 0]
def k0_off3 (c0_i32 : BitVec 32) : Fin 3 → Nat :=
  let c1_45 : Index := 1#32
  let c512_i32 : BitVec 32 := 512#32
  let v41 : BitVec 32 := Scalar.muli c0_i32 c512_i32
  let v42 : BitVec 32 := v41
  let v83 : Index := Scalar.indexCast v42
  let c0_46 : Index := 0#32
  ![1, v83.toNat, 0]
def k0_off4 (c0_i32 : BitVec 32) : Fin 4 → Nat :=
  let c0_50 : Index := 0#32
  let c1_51 : Index := 1#32
  let c512_i32 : BitVec 32 := 512#32
  let v41 : BitVec 32 := Scalar.muli c0_i32 c512_i32
  let v42 : BitVec 32 := v41
  let v88 : Index := Scalar.indexCast v42
  let c0_52 : Index := 0#32
  ![0, 1, v88.toNat, 0]
def k0_off5 (c0_i32 : BitVec 32) : Fin 3 → Nat :=
  let c0_69 : Index := 0#32
  let c512_i32 : BitVec 32 := 512#32
  let v41 : BitVec 32 := Scalar.muli c0_i32 c512_i32
  let v42 : BitVec 32 := v41
  let v125 : Index := Scalar.indexCast v42
  let c0_70 : Index := 0#32
  ![0, v125.toNat, 0]
def k0_mult2 : BitVec 32 :=
  let c1_i32_71 : BitVec 32 := 1#32
  let c512_i32_72 : BitVec 32 := 512#32
  let v129 : BitVec 32 := Scalar.muli c1_i32_71 c512_i32_72
  v129
def k0_mult3 : BitVec 32 :=
  let c2_i32 : BitVec 32 := 2#32
  let c512_i32_124 : BitVec 32 := 512#32
  let v223 : BitVec 32 := Scalar.muli c2_i32 c512_i32_124
  v223
def k0_mult4 : BitVec 32 :=
  let c3_i32 : BitVec 32 := 3#32
  let c512_i32_176 : BitVec 32 := 512#32
  let v317 : BitVec 32 := Scalar.muli c3_i32 c512_i32_176
  v317
def cc0_transform_0 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel3Ideal.lean ====
variable {F : FTy → Type} [FloatOps F] [Named F]
def κ : String → Option EReal := fun
  | "mask" => some ⊥
  | _ => none
-- ==== Reference3Ideal.lean ====
abbrev S4x2048x3336 : Shape := ⟨3, ![4, 2048, 3336]⟩
abbrev S4x2048x8 : Shape := ⟨3, ![4, 2048, 8]⟩
abbrev S4x2048x512 : Shape := ⟨3, ![4, 2048, 512]⟩
abbrev S4x2048x128 : Shape := ⟨3, ![4, 2048, 128]⟩
abbrev S4x2048x1024 : Shape := ⟨3, ![4, 2048, 1024]⟩
abbrev S4x2048x8x64 : Shape := ⟨4, ![4, 2048, 8, 64]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩
abbrev S4x8x1x2048 : Shape := ⟨4, ![4, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x8x64x2048 : Shape := ⟨4, ![4, 8, 64, 2048]⟩

abbrev nBuf : Space → Nat
  | .hbm => 66
  | .vmem => 0
  | .smem => 0
  | _ => 0

abbrev bufTy : (tb : Table) → Fin (tcTables nBuf tb) → BufTy
  | .hbm, ⟨0, _⟩ => ⟨S4x2048x3336, .f32⟩
  | .hbm, ⟨1, _⟩ => ⟨S4x2048x8, .f32⟩
  | .hbm, ⟨2, _⟩ => ⟨S4x2048x512, .f32⟩
  | .hbm, ⟨3, _⟩ => ⟨S4x2048x128, .f32⟩
  | .hbm, ⟨4, _⟩ => ⟨S4x2048x128, .f32⟩
  | .hbm, ⟨5, _⟩ => ⟨S4x2048x512, .f32⟩
  | .hbm, ⟨6, _⟩ => ⟨S4x2048x512, .f32⟩
  | .hbm, ⟨7, _⟩ => ⟨S4x2048x512, .f32⟩
  | .hbm, ⟨8, _⟩ => ⟨S4x2048x8, .f32⟩
  | .hbm, ⟨9, _⟩ => ⟨S4x2048x1024, .f32⟩
  | .hbm, ⟨10, _⟩ => ⟨S4x2048x8x64, .f32⟩
  | .hbm, ⟨11, _⟩ => ⟨S4x2048x8x64, .f32⟩
  | .hbm, ⟨12, _⟩ => ⟨S4x2048x8x64, .f32⟩
  | .hbm, ⟨13, _⟩ => ⟨S4x8x2048x2048, .f32⟩
  | .hbm, ⟨14, _⟩ => ⟨S_, .f32⟩
  | .hbm, ⟨15, _⟩ => ⟨S4x8x2048x2048, .f32⟩
  | .hbm, ⟨16, _⟩ => ⟨S4x8x2048x2048, .f32⟩
  | .hbm, ⟨17, _⟩ => ⟨S4x8x2048, .f32⟩
  | .hbm, ⟨18, _⟩ => ⟨S4x8x2048x1, .f32⟩
  | .hbm, ⟨19, _⟩ => ⟨S4x8x2048, .f32⟩
  | .hbm, ⟨20, _⟩ => ⟨S4x8x1x2048, .f32⟩
  | .hbm, ⟨21, _⟩ => ⟨S4x8x2048x2048, .f32⟩
  | .hbm, ⟨22, _⟩ => ⟨S4x8x2048x2048, .f32⟩
  | .hbm, ⟨23, _⟩ => ⟨S4x8x2048x2048, .f32⟩
  | .hbm, ⟨24, _⟩ => ⟨S2048, .i32⟩
  | .hbm, ⟨25, _⟩ => ⟨S2048x1, .i32⟩
  | .hbm, ⟨26, _⟩ => ⟨S2048, .i32⟩
  | .hbm, ⟨27, _⟩ => ⟨S1x2048, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S4x8x2048x2048, .f32⟩
  | .hbm, ⟨32, _⟩ => ⟨S_, .f32⟩
  | .hbm, ⟨33, _⟩ => ⟨S_, .f32⟩
  | .hbm, ⟨34, _⟩ => ⟨S4x8x2048x2048, .i1⟩
  | .hbm, ⟨35, _⟩ => ⟨S4x8x2048x2048, .f32⟩
  | .hbm, ⟨36, _⟩ => ⟨S4x8x2048x2048, .f32⟩
  | .hbm, ⟨37, _⟩ => ⟨S_, .f32⟩
  | .hbm, ⟨38, _⟩ => ⟨S4x8x2048, .f32⟩
  | .hbm, ⟨39, _⟩ => ⟨S_, .f32⟩
  | .hbm, ⟨40, _⟩ => ⟨S4x8x2048, .f32⟩
  | .hbm, ⟨41, _⟩ => ⟨S4x8x2048, .f32⟩
  | .hbm, ⟨42, _⟩ => ⟨S4x8x2048x1, .f32⟩
  | .hbm, ⟨43, _⟩ => ⟨S4x8x2048x2048, .f32⟩
  | .hbm, ⟨44, _⟩ => ⟨S4x8x2048x2048, .f32⟩
  | .hbm, ⟨45, _⟩ => ⟨S4x8x2048x2048, .f32⟩
  | .hbm, ⟨46, _⟩ => ⟨S_, .f32⟩
  | .hbm, ⟨47, _⟩ => ⟨S4x8x2048, .f32⟩
  | .hbm, ⟨48, _⟩ => ⟨S4x8x2048x1, .f32⟩
  | .hbm, ⟨49, _⟩ => ⟨S4x8x2048x2048, .f32⟩
  | .hbm, ⟨50, _⟩ => ⟨S4x8x2048x2048, .f32⟩
  | .hbm, ⟨51, _⟩ => ⟨S_, .f32⟩
  | .hbm, ⟨52, _⟩ => ⟨S4x8x2048, .f32⟩
  | .hbm, ⟨53, _⟩ => ⟨S4x8x2048x1, .f32⟩
  | .hbm, ⟨54, _⟩ => ⟨S4x8x2048x2048, .f32⟩
  | .hbm, ⟨55, _⟩ => ⟨S4x8x2048x2048, .f32⟩
  | .hbm, ⟨56, _⟩ => ⟨S4x8x2048x2048, .f32⟩
  | .hbm, ⟨57, _⟩ => ⟨S_, .f32⟩
  | .hbm, ⟨58, _⟩ => ⟨S4x8x2048, .f32⟩
  | .hbm, ⟨59, _⟩ => ⟨S4x8x2048x1, .f32⟩
  | .hbm, ⟨60, _⟩ => ⟨S4x8x2048x1, .f32⟩
  | .hbm, ⟨61, _⟩ => ⟨S4x8x2048x1, .f32⟩
  | .hbm, ⟨62, _⟩ => ⟨S4x8x64x2048, .f32⟩
  | .hbm, ⟨63, _⟩ => ⟨S4x2048x8x64, .f32⟩
  | .hbm, ⟨64, _⟩ => ⟨S4x2048x512, .f32⟩
  | .hbm, ⟨65, _⟩ => ⟨S4x2048x512, .bf16⟩
  | _, _ => ⟨S4x2048x3336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== Kernel4.lean ====
abbrev S4x2048x2048 : Shape := ⟨3, ![4, 2048, 2048]⟩
abbrev S1024x2048 : Shape := ⟨2, ![1024, 2048]⟩
abbrev S4x2048x1024 : Shape := ⟨3, ![4, 2048, 1024]⟩
abbrev S1024 : Shape := ⟨1, ![1024]⟩
abbrev S4x1024 : Shape := ⟨2, ![4, 1024]⟩
abbrev S1x1024 : Shape := ⟨2, ![1, 1024]⟩
abbrev S4x1x1024 : Shape := ⟨3, ![4, 1, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024x1 : Shape := ⟨2, ![1024, 1]⟩

abbrev nBuf : Space → Nat
  | .hbm => 17
  | .vmem => 19
  | .smem => 0
  | _ => 0

abbrev bufTy : (tb : Table) → Fin (tcTables nBuf tb) → BufTy
  | .hbm, ⟨0, _⟩ => ⟨S4x2048x2048, .f32⟩
  | .hbm, ⟨1, _⟩ => ⟨S1024x2048, .f32⟩
  | .hbm, ⟨2, _⟩ => ⟨S4x2048x1024, .f32⟩
  | .hbm, ⟨3, _⟩ => ⟨S1024, .f32⟩
  | .hbm, ⟨4, _⟩ => ⟨S4x1024, .f32⟩
  | .hbm, ⟨5, _⟩ => ⟨S4x2048x1024, .f32⟩
  | .hbm, ⟨6, _⟩ => ⟨S4x2048x1024, .f32⟩
  | .hbm, ⟨7, _⟩ => ⟨S4x2048x1024, .bf16⟩
  | .hbm, ⟨8, _⟩ => ⟨S4x2048x1024, .f32⟩
  | .hbm, ⟨9, _⟩ => ⟨S4x2048x1024, .bf16⟩
  | .hbm, ⟨10, _⟩ => ⟨S1024x2048, .bf16⟩
  | .hbm, ⟨11, _⟩ => ⟨S1x1024, .f32⟩
  | .hbm, ⟨12, _⟩ => ⟨S4x1x1024, .f32⟩
  | .hbm, ⟨13, _⟩ => ⟨S4x2048x1024, .f32⟩
  | .hbm, ⟨14, _⟩ => ⟨S4x1x1024, .f32⟩
  | .hbm, ⟨15, _⟩ => ⟨S4x1x1024, .f32⟩
  | .hbm, ⟨16, _⟩ => ⟨S1x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x2048, .bf16⟩
  | .local _ .vmem, ⟨5, _⟩ => ⟨S1x1024x1024, .f32⟩
  | .local _ .vmem, ⟨6, _⟩ => ⟨S1x1024x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference4Ideal.lean ====
abbrev S4x2048x2048 : Shape := ⟨3, ![4, 2048, 2048]⟩
abbrev S1024x2048 : Shape := ⟨2, ![1024, 2048]⟩
abbrev S4x2048x1024 : Shape := ⟨3, ![4, 2048, 1024]⟩
abbrev S1024 : Shape := ⟨1, ![1024]⟩
abbrev S4x1024 : Shape := ⟨2, ![4, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S1x1024 : Shape := ⟨2, ![1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1024x2048, .f32⟩
  | .hbm, ⟨2, _⟩ => ⟨S4x2048x1024, .f32⟩
  | .hbm, ⟨3, _⟩ => ⟨S1024, .f32⟩
  | .hbm, ⟨4, _⟩ => ⟨S4x1024, .f32⟩
  | .hbm, ⟨5, _⟩ => ⟨S4x2048x1024, .f32⟩
  | .hbm, ⟨6, _⟩ => ⟨S_, .f32⟩
  | .hbm, ⟨7, _⟩ => ⟨S4x1024, .f32⟩
  | .hbm, ⟨8, _⟩ => ⟨S4x2048x1024, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1024, .f32⟩
  | .hbm, ⟨24, _⟩ => ⟨S4x2048x1024, .f32⟩
  | .hbm, ⟨25, _⟩ => ⟨S1x1x1024, .f32⟩
  | .hbm, ⟨26, _⟩ => ⟨S4x2048x1024, .f32⟩
  | .hbm, ⟨27, _⟩ => ⟨S4x2048x1024, .f32⟩
  | .hbm, ⟨28, _⟩ => ⟨S4x1x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x2048x1024, .f32⟩
  | .hbm, ⟨33, _⟩ => ⟨S4x2048x1024, .f32⟩
  | .hbm, ⟨34, _⟩ => ⟨S4x1x1024, .f32⟩
  | .hbm, ⟨35, _⟩ => ⟨S4x2048x1024, .f32⟩
  | .hbm, ⟨36, _⟩ => ⟨S4x2048x1024, .f32⟩
  | .hbm, ⟨37, _⟩ => ⟨S4x2048x2048, .f32⟩
  | .hbm, ⟨38, _⟩ => ⟨S4x2048x1024, .f32⟩
  | .hbm, ⟨39, _⟩ => ⟨S_, .f32⟩
  | .hbm, ⟨40, _⟩ => ⟨S4x1024, .f32⟩
  | .hbm, ⟨41, _⟩ => ⟨S4x1x1024, .f32⟩
  | .hbm, ⟨42, _⟩ => ⟨S_, .f32⟩
  | .hbm, ⟨43, _⟩ => ⟨S4x1024, .f32⟩
  | .hbm, ⟨44, _⟩ => ⟨S4x2048x1024, .f32⟩
  | .hbm, ⟨45, _⟩ => ⟨S_, .f32⟩
  | .hbm, ⟨46, _⟩ => ⟨S4x1024, .f32⟩
  | .hbm, ⟨47, _⟩ => ⟨S4x1x1024, .f32⟩
  | .hbm, ⟨48, _⟩ => ⟨S4x2048x1024, .f32⟩
  | .hbm, ⟨49, _⟩ => ⟨S4x2048x1024, .f32⟩
  | .hbm, ⟨50, _⟩ => ⟨S_, .f32⟩
  | .hbm, ⟨51, _⟩ => ⟨S4x1024, .f32⟩
  | .hbm, ⟨52, _⟩ => ⟨S4x2048x1024, .f32⟩
  | .hbm, ⟨53, _⟩ => ⟨S_, .f32⟩
  | .hbm, ⟨54, _⟩ => ⟨S1024, .f32⟩
  | .hbm, ⟨55, _⟩ => ⟨S1x1x1024, .f32⟩
  | .hbm, ⟨56, _⟩ => ⟨S4x2048x1024, .f32⟩
  | .hbm, ⟨57, _⟩ => ⟨S4x2048x1024, .f32⟩
  | .hbm, ⟨58, _⟩ => ⟨S_, .f32⟩
  | .hbm, ⟨59, _⟩ => ⟨S1024, .f32⟩
  | .hbm, ⟨60, _⟩ => ⟨S4x2048x1024, .f32⟩
  | .hbm, ⟨61, _⟩ => ⟨S_, .f32⟩
  | .hbm, ⟨62, _⟩ => ⟨S4x2048, .f32⟩
  | .hbm, ⟨63, _⟩ => ⟨S4x2048x1, .f32⟩
  | .hbm, ⟨64, _⟩ => ⟨S4x2048x1024, .f32⟩
  | .hbm, ⟨65, _⟩ => ⟨S4x2048x1024, .f32⟩
  | .hbm, ⟨66, _⟩ => ⟨S4x2048x1024, .f32⟩
  | .hbm, ⟨67, _⟩ => ⟨S4x2048x1, .f32⟩
  | .hbm, ⟨68, _⟩ => ⟨S_, .f32⟩
  | .hbm, ⟨69, _⟩ => ⟨S4x2048x1, .f32⟩
  | .hbm, ⟨70, _⟩ => ⟨S4x2048x1, .f32⟩
  | .hbm, ⟨71, _⟩ => ⟨S_, .f32⟩
  | .hbm, ⟨72, _⟩ => ⟨S4x2048, .f32⟩
  | .hbm, ⟨73, _⟩ => ⟨S4x2048x1024, .f32⟩
  | .hbm, ⟨74, _⟩ => ⟨S4x2048x1024, .f32⟩
  | .hbm, ⟨75, _⟩ => ⟨S4x2048x1024, .f32⟩
  | .hbm, ⟨76, _⟩ => ⟨S4x2048x1024, .f32⟩
  | .hbm, ⟨77, _⟩ => ⟨S4x2048x1024, .f32⟩
  | .hbm, ⟨78, _⟩ => ⟨S4x1x1024, .f32⟩
  | .hbm, ⟨79, _⟩ => ⟨S4x1x1024, .f32⟩
  | .hbm, ⟨80, _⟩ => ⟨S1x1024, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Kernel5.lean ====
abbrev S32x1024 : Shape := ⟨2, ![32, 1024]⟩
abbrev S2x32x768 : Shape := ⟨3, ![2, 32, 768]⟩
abbrev S32x6144 : Shape := ⟨2, ![32, 6144]⟩
abbrev S2x1024x768 : Shape := ⟨3, ![2, 1024, 768]⟩
abbrev S1x6144 : Shape := ⟨2, ![1, 6144]⟩
abbrev S1x32x768 : Shape := ⟨3, ![1, 32, 768]⟩
abbrev S32x768 : Shape := ⟨2, ![32, 768]⟩
abbrev S1024x768 : Shape := ⟨2, ![1024, 768]⟩
abbrev S1x1024x768 : Shape := ⟨3, ![1, 1024, 768]⟩
abbrev S6144 : Shape := ⟨1, ![6144]⟩

abbrev nBuf : Space → Nat
  | .hbm => 5
  | .vmem => 5
  | .smem => 0
  | _ => 0

abbrev bufTy : (tb : Table) → Fin (tcTables nBuf tb) → BufTy
  | .hbm, ⟨0, _⟩ => ⟨S32x1024, .f32⟩
  | .hbm, ⟨1, _⟩ => ⟨S2x32x768, .f32⟩
  | .hbm, ⟨2, _⟩ => ⟨S32x6144, .f32⟩
  | .hbm, ⟨3, _⟩ => ⟨S2x1024x768, .f32⟩
  | .hbm, ⟨4, _⟩ => ⟨S1x6144, .f32⟩
  | .local _ .vmem, ⟨0, _⟩ => ⟨S32x1024, .f32⟩
  | .local _ .vmem, ⟨1, _⟩ => ⟨S2x32x768, .f32⟩
  | .local _ .vmem, ⟨2, _⟩ => ⟨S32x6144, .f32⟩
  | .local _ .vmem, ⟨3, _⟩ => ⟨S2x1024x768, .f32⟩
  | .local _ .vmem, ⟨4, _⟩ => ⟨S1x6144, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference5Ideal.lean ====
abbrev S32x1024 : Shape := ⟨2, ![32, 1024]⟩
abbrev S2x32x768 : Shape := ⟨3, ![2, 32, 768]⟩
abbrev S32x6144 : Shape := ⟨2, ![32, 6144]⟩
abbrev S_ : Shape := ⟨0, ![]⟩
abbrev S2x1024x768 : Shape := ⟨3, ![2, 1024, 768]⟩
abbrev S2x768x32 : Shape := ⟨3, ![2, 768, 32]⟩
abbrev S2x768x1024 : Shape := ⟨3, ![2, 768, 1024]⟩
abbrev S2x3072 : Shape := ⟨2, ![2, 3072]⟩
abbrev S32x2x3072 : Shape := ⟨3, ![32, 2, 3072]⟩
abbrev S1x6144 : Shape := ⟨2, ![1, 6144]⟩

abbrev nBuf : Space → Nat
  | .hbm => 27
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S2x32x768, .f32⟩
  | .hbm, ⟨2, _⟩ => ⟨S32x6144, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S_, .f32⟩
  | .hbm, ⟨13, _⟩ => ⟨S2x1024x768, .f32⟩
  | .hbm, ⟨14, _⟩ => ⟨S2x768x32, .f32⟩
  | .hbm, ⟨15, _⟩ => ⟨S2x32x768, .f32⟩
  | .hbm, ⟨16, _⟩ => ⟨S2x768x32, .f32⟩
  | .hbm, ⟨17, _⟩ => ⟨S2x768x1024, .f32⟩
  | .hbm, ⟨18, _⟩ => ⟨S2x1024x768, .f32⟩
  | .hbm, ⟨19, _⟩ => ⟨S_, .f32⟩
  | .hbm, ⟨20, _⟩ => ⟨S2x3072, .f32⟩
  | .hbm, ⟨21, _⟩ => ⟨S32x2x3072, .f32⟩
  | .hbm, ⟨22, _⟩ => ⟨S32x6144, .f32⟩
  | .hbm, ⟨23, _⟩ => ⟨S32x2x3072, .f32⟩
  | .hbm, ⟨24, _⟩ => ⟨S_, .f32⟩
  | .hbm, ⟨25, _⟩ => ⟨S2x3072, .f32⟩
  | .hbm, ⟨26, _⟩ => ⟨S1x6144, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩

abbrev nD : Nat := 1
abbrev τ : Topo := Topo.v7x

variable {F : FTy → Type} [FloatOps F]
-- ==== Kernel6.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S4x1024 : Shape := ⟨2, ![4, 1024]⟩
abbrev S1024 : Shape := ⟨1, ![1024]⟩
abbrev S4x1x1024 : Shape := ⟨3, ![4, 1, 1024]⟩
abbrev S1x1024 : Shape := ⟨2, ![1, 1024]⟩
abbrev S1x128 : Shape := ⟨2, ![1, 128]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 15
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2048, .f32⟩
  | .hbm, ⟨2, _⟩ => ⟨S1024x1024, .f32⟩
  | .hbm, ⟨3, _⟩ => ⟨S4x2048x1024, .f32⟩
  | .hbm, ⟨4, _⟩ => ⟨S4x1024, .f32⟩
  | .hbm, ⟨5, _⟩ => ⟨S1024, .f32⟩
  | .hbm, ⟨6, _⟩ => ⟨S4x2048x1024, .f32⟩
  | .hbm, ⟨7, _⟩ => ⟨S4x2048x2048, .bf16⟩
  | .hbm, ⟨8, _⟩ => ⟨S1024x1024, .bf16⟩
  | .hbm, ⟨9, _⟩ => ⟨S4x1x1024, .f32⟩
  | .hbm, ⟨10, _⟩ => ⟨S1x1024, .f32⟩
  | .hbm, ⟨11, _⟩ => ⟨S4x2048x1024, .bf16⟩
  | .hbm, ⟨12, _⟩ => ⟨S1x128, .f32⟩
  | .hbm, ⟨13, _⟩ => ⟨S4x2048x1024, .f32⟩
  | .hbm, ⟨14, _⟩ => ⟨S1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .bf16⟩
  | .local _ .vmem, ⟨13, _⟩ => ⟨S1x512x1024, .bf16⟩
  | .local _ .vmem, ⟨14, _⟩ => ⟨S1x128, .f32⟩
  | .local _ .vmem, ⟨15, _⟩ => ⟨S1x512x1024, .f32⟩
  | .local _ .vmem, ⟨16, _⟩ => ⟨S1x512x1024, .f32⟩
  | .local _ .vmem, ⟨17, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference6Ideal.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S4x1024 : Shape := ⟨2, ![4, 1024]⟩
abbrev S1024 : Shape := ⟨1, ![1024]⟩
abbrev S_ : Shape := ⟨0, ![]⟩
abbrev S4x1x1024 : Shape := ⟨3, ![4, 1, 1024]⟩
abbrev S4x2048 : Shape := ⟨2, ![4, 2048]⟩
abbrev S4x2048x1 : Shape := ⟨3, ![4, 2048, 1]⟩
abbrev S1x1x1024 : Shape := ⟨3, ![1, 1, 1024]⟩
abbrev S1x128 : Shape := ⟨2, ![1, 128]⟩
abbrev S1x1024 : Shape := ⟨2, ![1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2048, .f32⟩
  | .hbm, ⟨2, _⟩ => ⟨S1024x1024, .f32⟩
  | .hbm, ⟨3, _⟩ => ⟨S4x2048x1024, .f32⟩
  | .hbm, ⟨4, _⟩ => ⟨S4x1024, .f32⟩
  | .hbm, ⟨5, _⟩ => ⟨S1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S_, .f32⟩
  | .hbm, ⟨11, _⟩ => ⟨S4x2048x1024, .f32⟩
  | .hbm, ⟨12, _⟩ => ⟨S4x2048x1024, .f32⟩
  | .hbm, ⟨13, _⟩ => ⟨S_, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S4x1x1024, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S_, .f32⟩
  | .hbm, ⟨25, _⟩ => ⟨S4x2048, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S4x2048x1, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x1024, .f32⟩
  | .hbm, ⟨39, _⟩ => ⟨S4x2048x1024, .f32⟩
  | .hbm, ⟨40, _⟩ => ⟨S1x1x1024, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S_, .f32⟩
  | .hbm, ⟨46, _⟩ => ⟨S4x2048x1024, .f32⟩
  | .hbm, ⟨47, _⟩ => ⟨S4x2048x1024, .f32⟩
  | .hbm, ⟨48, _⟩ => ⟨S_, .f32⟩
  | .hbm, ⟨49, _⟩ => ⟨S4x2048, .f32⟩
  | .hbm, ⟨50, _⟩ => ⟨S_, .f32⟩
  | .hbm, ⟨51, _⟩ => ⟨S4x2048, .f32⟩
  | .hbm, ⟨52, _⟩ => ⟨S4x2048, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4x2048, .f32⟩
  | .hbm, ⟨61, _⟩ => ⟨S_, .f32⟩
  | .hbm, ⟨62, _⟩ => ⟨S4x2048, .f32⟩
  | .hbm, ⟨63, _⟩ => ⟨S4x2048, .f32⟩
  | .hbm, ⟨64, _⟩ => ⟨S4x2048x1024, .f32⟩
  | .hbm, ⟨65, _⟩ => ⟨S4x2048x1024, .f32⟩
  | .hbm, ⟨66, _⟩ => ⟨S4x2048x1024, .f32⟩
  | .hbm, ⟨67, _⟩ => ⟨S_, .f32⟩
  | .hbm, ⟨68, _⟩ => ⟨S1024, .f32⟩
  | .hbm, ⟨69, _⟩ => ⟨S1x1x1024, .f32⟩
  | .hbm, ⟨70, _⟩ => ⟨S4x2048x1024, .f32⟩
  | .hbm, ⟨71, _⟩ => ⟨S4x2048x1024, .f32⟩
  | .hbm, ⟨72, _⟩ => ⟨S_, .f32⟩
  | .hbm, ⟨73, _⟩ => ⟨S1024, .f32⟩
  | .hbm, ⟨74, _⟩ => ⟨S4x2048x1024, .f32⟩
  | .hbm, ⟨75, _⟩ => ⟨S_, .f32⟩
  | .hbm, ⟨76, _⟩ => ⟨S4x2048, .f32⟩
  | .hbm, ⟨77, _⟩ => ⟨S4x2048x1, .f32⟩
  | .hbm, ⟨78, _⟩ => ⟨S4x2048x1024, .f32⟩
  | .hbm, ⟨79, _⟩ => ⟨S4x2048x1024, .f32⟩
  | .hbm, ⟨80, _⟩ => ⟨S4x2048x1, .f32⟩
  | .hbm, ⟨81, _⟩ => ⟨S_, .f32⟩
  | .hbm, ⟨82, _⟩ => ⟨S4x2048x1, .f32⟩
  | .hbm, ⟨83, _⟩ => ⟨S4x2048x1, .f32⟩
  | .hbm, ⟨84, _⟩ => ⟨S_, .f32⟩
  | .hbm, ⟨85, _⟩ => ⟨S4x2048, .f32⟩
  | .hbm, ⟨86, _⟩ => ⟨S4x2048x1024, .f32⟩
  | .hbm, ⟨87, _⟩ => ⟨S4x2048x1024, .f32⟩
  | .hbm, ⟨88, _⟩ => ⟨S4x2048x1024, .f32⟩
  | .hbm, ⟨89, _⟩ => ⟨S4x2048x1024, .f32⟩
  | .hbm, ⟨90, _⟩ => ⟨S4x2048x1024, .f32⟩
  | .hbm, ⟨91, _⟩ => ⟨S4x2048x1024, .bf16⟩
  | .hbm, ⟨92, _⟩ => ⟨S1x128, .f32⟩
  | .hbm, ⟨93, _⟩ => ⟨S1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_cst_8 : Ref sig .tc := ⟨.hbm, 57, rfl⟩
abbrev main_cst_9 : Ref sig .tc := ⟨.hbm, 58, rfl⟩
abbrev main_v33 : Ref sig .tc := ⟨.hbm, 59, rfl⟩
abbrev main_v34 : Ref sig .tc := ⟨.hbm, 60, rfl⟩
abbrev main_cst_10 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_11 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_12 : Ref sig .tc := ⟨.hbm, 72, rfl⟩
abbrev main_v44 : Ref sig .tc := ⟨.hbm, 73, rfl⟩
abbrev main_v45 : Ref sig .tc := ⟨.hbm, 74, rfl⟩
abbrev main_cst_13 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_14 : Ref sig .tc := ⟨.hbm, 81, rfl⟩
abbrev main_v51 : Ref sig .tc := ⟨.hbm, 82, rfl⟩
abbrev main_v52 : Ref sig .tc := ⟨.hbm, 83, rfl⟩
abbrev main_cst_15 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩

abbrev nD : Nat := 1
abbrev τ : Topo := Topo.v7x

variable {F : FTy → Type} [FloatOps F]
-- ==== Kernel7.lean ====
abbrev S4x8x128x256 : Shape := ⟨4, ![4, 8, 128, 256]⟩
abbrev S4x8x128 : Shape := ⟨3, ![4, 8, 128]⟩
abbrev S128x256 : Shape := ⟨2, ![128, 256]⟩
abbrev S4x8x1x128 : Shape := ⟨4, ![4, 8, 1, 128]⟩
abbrev S8x32x128 : Shape := ⟨3, ![8, 32, 128]⟩
abbrev S8x1x128 : Shape := ⟨3, ![8, 1, 128]⟩
abbrev S4x1x128x256 : Shape := ⟨4, ![4, 1, 128, 256]⟩
abbrev S4x1x1x128 : Shape := ⟨4, ![4, 1, 1, 128]⟩
abbrev S1x32x128 : Shape := ⟨3, ![1, 32, 128]⟩
abbrev S1x1x128 : Shape := ⟨3, ![1, 1, 128]⟩
abbrev S1x1x128x256 : Shape := ⟨4, ![1, 1, 128, 256]⟩
abbrev S1x1x1x128 : Shape := ⟨4, ![1, 1, 1, 128]⟩
abbrev S1x128 : Shape := ⟨2, ![1, 128]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x8x128x256, .f32⟩
  | .hbm, ⟨1, _⟩ => ⟨S4x8x128, .f32⟩
  | .hbm, ⟨2, _⟩ => ⟨S128x256, .i32⟩
  | .hbm, ⟨3, _⟩ => ⟨S4x8x1x128, .f32⟩
  | .hbm, ⟨4, _⟩ => ⟨S8x32x128, .f32⟩
  | .hbm, ⟨5, _⟩ => ⟨S8x1x128, .f32⟩
  | .local _ .vmem, ⟨0, _⟩ => ⟨S4x1x128x256, .f32⟩
  | .local _ .vmem, ⟨1, _⟩ => ⟨S4x1x128x256, .f32⟩
  | .local _ .vmem, ⟨2, _⟩ => ⟨S4x1x1x128, .f32⟩
  | .local _ .vmem, ⟨3, _⟩ => ⟨S4x1x1x128, .f32⟩
  | .local _ .vmem, ⟨4, _⟩ => ⟨S128x256, .i32⟩
  | .local _ .vmem, ⟨5, _⟩ => ⟨S1x32x128, .f32⟩
  | .local _ .vmem, ⟨6, _⟩ => ⟨S1x32x128, .f32⟩
  | .local _ .vmem, ⟨7, _⟩ => ⟨S1x1x128, .f32⟩
  | .local _ .vmem, ⟨8, _⟩ => ⟨S1x1x128, .f32⟩
  | _, _ => ⟨S4x8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S4x8x128x256 : Shape := ⟨4, ![4, 8, 128, 256]⟩
abbrev S4x8x128 : Shape := ⟨3, ![4, 8, 128]⟩
abbrev S128x256 : Shape := ⟨2, ![128, 256]⟩
abbrev S_ : Shape := ⟨0, ![]⟩
abbrev S32x8 : Shape := ⟨2, ![32, 8]⟩
abbrev S8x128 : Shape := ⟨2, ![8, 128]⟩
abbrev S32768 : Shape := ⟨1, ![32768]⟩
abbrev S32768x1 : Shape := ⟨2, ![32768, 1]⟩
abbrev S1x32 : Shape := ⟨2, ![1, 32]⟩
abbrev S32768x32 : Shape := ⟨2, ![32768, 32]⟩
abbrev S32768x8 : Shape := ⟨2, ![32768, 8]⟩
abbrev S8x32768 : Shape := ⟨2, ![8, 32768]⟩
abbrev S8x128x256 : Shape := ⟨3, ![8, 128, 256]⟩
abbrev S8x32 : Shape := ⟨2, ![8, 32]⟩
abbrev S8x32x1 : Shape := ⟨3, ![8, 32, 1]⟩
abbrev S8x32x128 : Shape := ⟨3, ![8, 32, 128]⟩
abbrev S8x1x128 : Shape := ⟨3, ![8, 1, 128]⟩

abbrev nBuf : Space → Nat
  | .hbm => 31
  | .vmem => 0
  | .smem => 0
  | _ => 0

abbrev bufTy : (tb : Table) → Fin (tcTables nBuf tb) → BufTy
  | .hbm, ⟨0, _⟩ => ⟨S4x8x128x256, .f32⟩
  | .hbm, ⟨1, _⟩ => ⟨S4x8x128, .f32⟩
  | .hbm, ⟨2, _⟩ => ⟨S128x256, .i32⟩
  | .hbm, ⟨3, _⟩ => ⟨S_, .f32⟩
  | .hbm, ⟨4, _⟩ => ⟨S32x8, .f32⟩
  | .hbm, ⟨5, _⟩ => ⟨S_, .f32⟩
  | .hbm, ⟨6, _⟩ => ⟨S8x128, .f32⟩
  | .hbm, ⟨7, _⟩ => ⟨S32768, .i32⟩
  | .hbm, ⟨8, _⟩ => ⟨S32768x1, .i32⟩
  | .hbm, ⟨9, _⟩ => ⟨S1x32, .i32⟩
  | .hbm, ⟨10, _⟩ => ⟨S32768x32, .i32⟩
  | .hbm, ⟨11, _⟩ => ⟨S32768x32, .i32⟩
  | .hbm, ⟨12, _⟩ => ⟨S32768x32, .i1⟩
  | .hbm, ⟨13, _⟩ => ⟨S32768x32, .f32⟩
  | .hbm, ⟨14, _⟩ => ⟨S32768x8, .f32⟩
  | .hbm, ⟨15, _⟩ => ⟨S8x32768, .f32⟩
  | .hbm, ⟨16, _⟩ => ⟨S8x128x256, .f32⟩
  | .hbm, ⟨17, _⟩ => ⟨S4x8x128x256, .f32⟩
  | .hbm, ⟨18, _⟩ => ⟨S4x8x128, .f32⟩
  | .hbm, ⟨19, _⟩ => ⟨S_, .f32⟩
  | .hbm, ⟨20, _⟩ => ⟨S8x128, .f32⟩
  | .hbm, ⟨21, _⟩ => ⟨S_, .f32⟩
  | .hbm, ⟨22, _⟩ => ⟨S8x128x256, .f32⟩
  | .hbm, ⟨23, _⟩ => ⟨S8x32768, .f32⟩
  | .hbm, ⟨24, _⟩ => ⟨S32768x8, .f32⟩
  | .hbm, ⟨25, _⟩ => ⟨S8x32, .f32⟩
  | .hbm, ⟨26, _⟩ => ⟨S32x8, .f32⟩
  | .hbm, ⟨27, _⟩ => ⟨S8x32, .f32⟩
  | .hbm, ⟨28, _⟩ => ⟨S8x32x1, .f32⟩
  | .hbm, ⟨29, _⟩ => ⟨S8x32x128, .f32⟩
  | .hbm, ⟨30, _⟩ => ⟨S8x1x128, .f32⟩
  | _, _ => ⟨S4x8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== Kernel8.lean ====
abbrev S4x2048x1024 : Shape := ⟨3, ![4, 2048, 1024]⟩
abbrev S4x2048x3456 : Shape := ⟨3, ![4, 2048, 3456]⟩
abbrev S1024x1024 : Shape := ⟨2, ![1024, 1024]⟩
abbrev S4x1024 : Shape := ⟨2, ![4, 1024]⟩
abbrev S1024 : Shape := ⟨1, ![1024]⟩
abbrev S1024x2048 : Shape := ⟨2, ![1024, 2048]⟩
abbrev S4x2048x512 : Shape := ⟨3, ![4, 2048, 512]⟩
abbrev S4x1x1024 : Shape := ⟨3, ![4, 1, 1024]⟩
abbrev S1x1024 : Shape := ⟨2, ![1, 1024]⟩
abbrev S4x2048x2048 : Shape := ⟨3, ![4, 2048, 2048]⟩
abbrev S1x512x512 : Shape := ⟨3, ![1, 512, 512]⟩
abbrev S1x512x1024 : Shape := ⟨3, ![1, 512, 1024]⟩
abbrev S1x1x1024 : Shape := ⟨3, ![1, 1, 1024]⟩
abbrev S1x512x2048 : Shape := ⟨3, ![1, 512, 2048]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x2048 : Shape := ⟨2, ![512, 2048]⟩

abbrev nBuf : Space → Nat
  | .hbm => 24
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S4x2048x3456, .f32⟩
  | .hbm, ⟨2, _⟩ => ⟨S1024x1024, .f32⟩
  | .hbm, ⟨3, _⟩ => ⟨S4x2048x1024, .f32⟩
  | .hbm, ⟨4, _⟩ => ⟨S4x1024, .f32⟩
  | .hbm, ⟨5, _⟩ => ⟨S1024, .f32⟩
  | .hbm, ⟨6, _⟩ => ⟨S4x1024, .f32⟩
  | .hbm, ⟨7, _⟩ => ⟨S4x1024, .f32⟩
  | .hbm, ⟨8, _⟩ => ⟨S1024x2048, .f32⟩
  | .hbm, ⟨9, _⟩ => ⟨S4x2048x512, .f32⟩
  | .hbm, ⟨10, _⟩ => ⟨S4x2048x512, .bf16⟩
  | .hbm, ⟨11, _⟩ => ⟨S4x2048x512, .f32⟩
  | .hbm, ⟨12, _⟩ => ⟨S4x2048x512, .bf16⟩
  | .hbm, ⟨13, _⟩ => ⟨S4x2048x3456, .bf16⟩
  | .hbm, ⟨14, _⟩ => ⟨S1024x1024, .bf16⟩
  | .hbm, ⟨15, _⟩ => ⟨S4x1x1024, .f32⟩
  | .hbm, ⟨16, _⟩ => ⟨S1x1024, .f32⟩
  | .hbm, ⟨17, _⟩ => ⟨S4x1x1024, .f32⟩
  | .hbm, ⟨18, _⟩ => ⟨S4x1x1024, .f32⟩
  | .hbm, ⟨19, _⟩ => ⟨S1024x2048, .bf16⟩
  | .hbm, ⟨20, _⟩ => ⟨S4x2048x1024, .f32⟩
  | .hbm, ⟨21, _⟩ => ⟨S4x2048x1024, .bf16⟩
  | .hbm, ⟨22, _⟩ => ⟨S4x2048x2048, .bf16⟩
  | .hbm, ⟨23, _⟩ => ⟨S4x2048x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1024x1024, .bf16⟩
  | .local _ .vmem, ⟨7, _⟩ => ⟨S1x512x1024, .f32⟩
  | .local _ .vmem, ⟨8, _⟩ => ⟨S1x512x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x2048, .bf16⟩
  | .local _ .vmem, ⟨17, _⟩ => ⟨S1x512x1024, .f32⟩
  | .local _ .vmem, ⟨18, _⟩ => ⟨S1x512x1024, .f32⟩
  | .local _ .vmem, ⟨19, _⟩ => ⟨S1x512x1024, .bf16⟩
  | .local _ .vmem, ⟨20, _⟩ => ⟨S1x512x1024, .bf16⟩
  | .local _ .vmem, ⟨21, _⟩ => ⟨S1x512x2048, .bf16⟩
  | .local _ .vmem, ⟨22, _⟩ => ⟨S1x512x2048, .bf16⟩
  | .local _ .vmem, ⟨23, _⟩ => ⟨S1x512x1024, .bf16⟩
  | .local _ .vmem, ⟨24, _⟩ => ⟨S1x512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference8Ideal.lean ====
abbrev S4x2048x1024 : Shape := ⟨3, ![4, 2048, 1024]⟩
abbrev S4x2048x3456 : Shape := ⟨3, ![4, 2048, 3456]⟩
abbrev S1024x1024 : Shape := ⟨2, ![1024, 1024]⟩
abbrev S4x1024 : Shape := ⟨2, ![4, 1024]⟩
abbrev S1024 : Shape := ⟨1, ![1024]⟩
abbrev S1024x2048 : Shape := ⟨2, ![1024, 2048]⟩
abbrev S_ : Shape := ⟨0, ![]⟩
abbrev S4x1x1024 : Shape := ⟨3, ![4, 1, 1024]⟩
abbrev S4x2048 : Shape := ⟨2, ![4, 2048]⟩
abbrev S4x2048x1 : Shape := ⟨3, ![4, 2048, 1]⟩
abbrev S1x1x1024 : Shape := ⟨3, ![1, 1, 1024]⟩
abbrev S4x2048x2048 : Shape := ⟨3, ![4, 2048, 2048]⟩

abbrev nBuf : Space → Nat
  | .hbm => 54
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x3456, .f32⟩
  | .hbm, ⟨2, _⟩ => ⟨S1024x1024, .f32⟩
  | .hbm, ⟨3, _⟩ => ⟨S4x2048x1024, .f32⟩
  | .hbm, ⟨4, _⟩ => ⟨S4x1024, .f32⟩
  | .hbm, ⟨5, _⟩ => ⟨S1024, .f32⟩
  | .hbm, ⟨6, _⟩ => ⟨S4x1024, .f32⟩
  | .hbm, ⟨7, _⟩ => ⟨S4x1024, .f32⟩
  | .hbm, ⟨8, _⟩ => ⟨S1024x2048, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S_, .f32⟩
  | .hbm, ⟨13, _⟩ => ⟨S4x2048x1024, .f32⟩
  | .hbm, ⟨14, _⟩ => ⟨S4x2048x1024, .f32⟩
  | .hbm, ⟨15, _⟩ => ⟨S_, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S4x1x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S_, .f32⟩
  | .hbm, ⟨27, _⟩ => ⟨S4x2048, .f32⟩
  | .hbm, ⟨28, _⟩ => ⟨S4x2048x1, .f32⟩
  | .hbm, ⟨29, _⟩ => ⟨S_, .f32⟩
  | .hbm, ⟨30, _⟩ => ⟨S4x2048x1, .f32⟩
  | .hbm, ⟨31, _⟩ => ⟨S4x2048x1, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S4x2048x1, .f32⟩
  | .hbm, ⟨36, _⟩ => ⟨S4x2048x1024, .f32⟩
  | .hbm, ⟨37, _⟩ => ⟨S4x2048x1024, .f32⟩
  | .hbm, ⟨38, _⟩ => ⟨S1x1x1024, .f32⟩
  | .hbm, ⟨39, _⟩ => ⟨S4x2048x1024, .f32⟩
  | .hbm, ⟨40, _⟩ => ⟨S4x2048x1024, .f32⟩
  | .hbm, ⟨41, _⟩ => ⟨S4x1x1024, .f32⟩
  | .hbm, ⟨42, _⟩ => ⟨S_, .f32⟩
  | .hbm, ⟨43, _⟩ => ⟨S4x1x1024, .f32⟩
  | .hbm, ⟨44, _⟩ => ⟨S4x1x1024, .f32⟩
  | .hbm, ⟨45, _⟩ => ⟨S4x2048x1024, .f32⟩
  | .hbm, ⟨46, _⟩ => ⟨S4x2048x1024, .f32⟩
  | .hbm, ⟨47, _⟩ => ⟨S4x1x1024, .f32⟩
  | .hbm, ⟨48, _⟩ => ⟨S4x2048x1024, .f32⟩
  | .hbm, ⟨49, _⟩ => ⟨S4x2048x1024, .f32⟩
  | .hbm, ⟨50, _⟩ => ⟨S4x2048x1024, .bf16⟩
  | .hbm, ⟨51, _⟩ => ⟨S4x2048x2048, .f32⟩
  | .hbm, ⟨52, _⟩ => ⟨S4x2048x2048, .bf16⟩
  | .hbm, ⟨53, _⟩ => ⟨S4x2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]
-- ==== Kernel9.lean ====
abbrev S4x2048x1024 : Shape := ⟨3, ![4, 2048, 1024]⟩
abbrev S1024 : Shape := ⟨1, ![1024]⟩
abbrev S4x1024 : Shape := ⟨2, ![4, 1024]⟩
abbrev S1024x3336 : Shape := ⟨2, ![1024, 3336]⟩
abbrev S1024x1024 : Shape := ⟨2, ![1024, 1024]⟩
abbrev S1024x2312 : Shape := ⟨2, ![1024, 2312]⟩
abbrev S_ : Shape := ⟨0, ![]⟩
abbrev S1024x120 : Shape := ⟨2, ![1024, 120]⟩
abbrev S1024x3456 : Shape := ⟨2, ![1024, 3456]⟩
abbrev S1x1024 : Shape := ⟨2, ![1, 1024]⟩
abbrev S4x1x1024 : Shape := ⟨3, ![4, 1, 1024]⟩
abbrev S4x2048x3456 : Shape := ⟨3, ![4, 2048, 3456]⟩
abbrev S4x2048x128 : Shape := ⟨3, ![4, 2048, 128]⟩
abbrev S1x1024x1024 : Shape := ⟨3, ![1, 1024, 1024]⟩
abbrev S1x1x1024 : Shape := ⟨3, ![1, 1, 1024]⟩
abbrev S1x1024x3456 : Shape := ⟨3, ![1, 1024, 3456]⟩
abbrev S1x1024x128 : Shape := ⟨3, ![1, 1024, 128]⟩
abbrev S1024x1 : Shape := ⟨2, ![1024, 1]⟩
abbrev S1024x128 : Shape := ⟨2, ![1024, 128]⟩

abbrev nBuf : Space → Nat
  | .hbm => 17
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x3336, .f32⟩
  | .hbm, ⟨5, _⟩ => ⟨S1024x3336, .bf16⟩
  | .hbm, ⟨6, _⟩ => ⟨S1024x1024, .bf16⟩
  | .hbm, ⟨7, _⟩ => ⟨S1024x2312, .bf16⟩
  | .hbm, ⟨8, _⟩ => ⟨S_, .bf16⟩
  | .hbm, ⟨9, _⟩ => ⟨S1024x120, .bf16⟩
  | .hbm, ⟨10, _⟩ => ⟨S1024x3456, .bf16⟩
  | .hbm, ⟨11, _⟩ => ⟨S1x1024, .f32⟩
  | .hbm, ⟨12, _⟩ => ⟨S4x1x1024, .f32⟩
  | .hbm, ⟨13, _⟩ => ⟨S4x1x1024, .f32⟩
  | .hbm, ⟨14, _⟩ => ⟨S4x2048x3456, .bf16⟩
  | .hbm, ⟨15, _⟩ => ⟨S4x2048x1024, .bf16⟩
  | .hbm, ⟨16, _⟩ => ⟨S4x2048x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3456, .bf16⟩
  | .local _ .vmem, ⟨8, _⟩ => ⟨S1x1024x3456, .bf16⟩
  | .local _ .vmem, ⟨9, _⟩ => ⟨S1x1024x3456, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x128, .f32⟩
  | .local _ .vmem, ⟨13, _⟩ => ⟨S1x1024x128, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3456 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x3456 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference9Ideal.lean ====
abbrev S4x2048x1024 : Shape := ⟨3, ![4, 2048, 1024]⟩
abbrev S1024 : Shape := ⟨1, ![1024]⟩
abbrev S4x1024 : Shape := ⟨2, ![4, 1024]⟩
abbrev S1024x3336 : Shape := ⟨2, ![1024, 3336]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x2048x3336 : Shape := ⟨3, ![4, 2048, 3336]⟩
abbrev S4x2048x120 : Shape := ⟨3, ![4, 2048, 120]⟩
abbrev S4x2048x2312 : Shape := ⟨3, ![4, 2048, 2312]⟩
abbrev S4x2048x3456 : Shape := ⟨3, ![4, 2048, 3456]⟩
abbrev S4x2048x8 : Shape := ⟨3, ![4, 2048, 8]⟩
abbrev S4x2048x128 : Shape := ⟨3, ![4, 2048, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x3336, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x2048x1024, .f32⟩
  | .hbm, ⟨26, _⟩ => ⟨S4x2048x1024, .f32⟩
  | .hbm, ⟨27, _⟩ => ⟨S4x1x1024, .f32⟩
  | .hbm, ⟨28, _⟩ => ⟨S4x2048x1024, .f32⟩
  | .hbm, ⟨29, _⟩ => ⟨S4x2048x1024, .f32⟩
  | .hbm, ⟨30, _⟩ => ⟨S4x2048x3336, .f32⟩
  | .hbm, ⟨31, _⟩ => ⟨S_, .f32⟩
  | .hbm, ⟨32, _⟩ => ⟨S4x2048x120, .f32⟩
  | .hbm, ⟨33, _⟩ => ⟨S4x2048x1024, .f32⟩
  | .hbm, ⟨34, _⟩ => ⟨S4x2048x2312, .f32⟩
  | .hbm, ⟨35, _⟩ => ⟨S4x2048x3456, .f32⟩
  | .hbm, ⟨36, _⟩ => ⟨S4x2048x3456, .bf16⟩
  | .hbm, ⟨37, _⟩ => ⟨S4x2048x1024, .bf16⟩
  | .hbm, ⟨38, _⟩ => ⟨S4x2048x8, .f32⟩
  | .hbm, ⟨39, _⟩ => ⟨S4x2048x128, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Proof.GateOut.lean ====
module

public import proofs.«01_k».proof.Proof.Gen.KernelIdeal.Value
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

/-! The output projection's backward: what each of the five result arrays holds, as formulas of the argument arrays. -/

/-- The logistic function as the kernel writes it. -/
def SG (x : EReal) : EReal := Ideal.div 1 (1 + Ideal.exp (0 - x))

section Spec

variable (dx : FVec Ideal S4x2048x1024 .f32) (gm : FVec Ideal S4x1024 .f32) (mx : FVec Ideal S4x2048x1024 .f32)
  (pr : FVec Ideal S4x2048x2048 .f32) (wo : FVec Ideal S1024x1024 .f32)

/-- The gate: the second half of the projection's columns. -/
def gateAt (b : Fin 4) (r : Fin 2048) (k : Fin 1024) : EReal := pr (ix3 b r ⟨1024 + k.val, by omega⟩)
/-- The gradient of the product's left operand: one row of `gm · dx` against one row of the weight. -/
def dyAt (b : Fin 4) (r : Fin 2048) (k : Fin 1024) : EReal :=
  ∑ x : Fin 1024, gm (ix2 b x) * dx (ix3 b r x) * wo (ix2 k x)
/-- The forward's gated rows. -/
def yAt (b : Fin 4) (r : Fin 2048) (k : Fin 1024) : EReal :=
  mx (ix3 b r k) * (gateAt pr b r k * SG (gateAt pr b r k))
/-- The forward's product, which the kernel takes as an argument of its call. -/
def oAt (b : Fin 4) (r : Fin 2048) (k : Fin 1024) : EReal := ∑ x : Fin 1024, yAt mx pr b r x * wo (ix2 x k)

def dmixA : FVec Ideal S4x2048x1024 .f32 := fun i =>
  dyAt dx gm wo (i 0) (i 1) (i 2) * (gateAt pr (i 0) (i 1) (i 2) * SG (gateAt pr (i 0) (i 1) (i 2)))
def dgateA : FVec Ideal S4x2048x1024 .bf16 := fun i =>
  dyAt dx gm wo (i 0) (i 1) (i 2) * mx (ix3 (i 0) (i 1) (i 2)) * (SG (gateAt pr (i 0) (i 1) (i 2))
    * (1 + gateAt pr (i 0) (i 1) (i 2) * (1 - SG (gateAt pr (i 0) (i 1) (i 2)))))
def doA : FVec Ideal S4x2048x1024 .bf16 := fun i => gm (ix2 (i 0) (i 2)) * dx (ix3 (i 0) (i 1) (i 2))
def yA : FVec Ideal S4x2048x1024 .bf16 := fun i => yAt mx pr (i 0) (i 1) (i 2)
def dgmA : FVec Ideal S4x1x1024 .f32 := fun i =>
  ∑ r : Fin 2048, dx (ix3 (i 0) r (i 2)) * oAt mx pr wo (i 0) r (i 2)

end Spec

variable (m : (ℓ : Loc nD τ sig) → Buf (Elt Ideal) ℓ)

/-- The arguments at their types. -/
abbrev DX (c : Dev nD) : FVec Ideal S4x2048x1024 .f32 := m ((c : Thread nD τ).loc main_arg0)
abbrev GM (c : Dev nD) : FVec Ideal S4x1024 .f32 := m ((c : Thread nD τ).loc main_arg1)
abbrev MX (c : Dev nD) : FVec Ideal S4x2048x1024 .f32 := m ((c : Thread nD τ).loc main_arg2)
abbrev PR (c : Dev nD) : FVec Ideal S4x2048x2048 .f32 := m ((c : Thread nD τ).loc main_arg3)
abbrev WO (c : Dev nD) : FVec Ideal S1024x1024 .f32 := m ((c : Thread nD τ).loc main_arg4)

theorem idx_val : ∀ t : Fin cfg0.N, win0_0.index t = ![t.val / 2, t.val % 2, 0] ∧ win0_1.index t = ![t.val / 2, 0, 0]
    ∧ win0_2.index t = ![t.val / 2, t.val % 2, 0] ∧ win0_3.index t = ![t.val / 2, t.val % 2, 0]
    ∧ win0_4.index t = ![t.val / 2, t.val % 2, 1] ∧ win0_5.index t = ![0, 0]
    ∧ win0_6.index t = ![t.val / 2, t.val % 2, 0] ∧ win0_7.index t = ![t.val / 2, t.val % 2, 0]
    ∧ win0_8.index t = ![t.val / 2, t.val % 2, 0] ∧ win0_9.index t = ![t.val / 2, t.val % 2, 0]
    ∧ win0_10.index t = ![t.val / 2, 0, 0] :=
  (by decide +kernel : ∀ t : Fin grid0.N, _)

/-- The residual gate's row as the kernel's call gets it: a reshape of the argument. -/
theorem gm_read (c : Dev nD) (b : Fin 4) (k : Fin 1024) : V m c main_v6 (ix3 b (0 : Fin 1) k) = GM m c (ix2 b k) := by
  unfold V
  simp only [hostOps0, hostOps0_1, hostOps0_2, List.flatten_cons, List.flatten_nil, List.cons_append, List.nil_append,
    List.append_nil, StableHlo.TRef.binary, StableHlo.TRef.nullary, StableHlo.TRef.unary, StableHlo.TRef.toBuf,
    StableHlo.TRef.ofBuf, cast_eq]
  after_results_simp
  pointwise

theorem blk1 (c : Dev nD) (t : Fin cfg0.N) (k : Fin 1024) :
    iblk m c 1 t (ix3 (0 : Fin 1) (0 : Fin 1) k) = GM m c (ix2 ⟨t.val / 2, by have : t.val < 8 := t.isLt; omega⟩ k) := by
  rw [← gm_read]
  blk_point [iblk, idx_val t]

/-- The forward's product as the call gets it. -/
theorem o_read (c : Dev nD) (b : Fin 4) (r : Fin 2048) (k : Fin 1024) :
    V m c main_v7 (ix3 b r k) = oAt (MX m c) (PR m c) (WO m c) b r k := by
  unfold V
  simp only [hostOps0, hostOps0_1, hostOps0_2, List.flatten_cons, List.flatten_nil, List.cons_append, List.nil_append,
    List.append_nil, StableHlo.TRef.binary, StableHlo.TRef.nullary, StableHlo.TRef.unary, StableHlo.TRef.toBuf,
    StableHlo.TRef.ofBuf, cast_eq]
  after_results_simp
  pointwise [oAt, yAt, gateAt, SG]
  simp only [zero_sub]

theorem blk2 (c : Dev nD) (t : Fin cfg0.N) (r k : Fin 1024) :
    iblk m c 2 t (ix3 (0 : Fin 1) r k) = oAt (MX m c) (PR m c) (WO m c) ⟨t.val / 2, by have : t.val < 8 := t.isLt; omega⟩
      ⟨t.val % 2 * 1024 + r.val, by omega⟩ k := by
  rw [← o_read]
  blk_point [iblk, idx_val t]

theorem oAt_congr (mx : FVec Ideal S4x2048x1024 .f32) (pr : FVec Ideal S4x2048x2048 .f32) (wo : FVec Ideal S1024x1024 .f32)
    {b b' : Fin 4} {r r' : Fin 2048} {k k' : Fin 1024} (hb : b.val = b'.val) (hr : r.val = r'.val) (hk : k.val = k'.val) :
    oAt mx pr wo b r k = oAt mx pr wo b' r' k' := by
  rw [Fin.ext hb, Fin.ext hr, Fin.ext hk]

theorem stores (c : Dev nD) (t : Fin cfg0.N) :
    (outsAt0 m c t.val t.isLt).1 = k0_pay6 (k0_pay13 (iblk m c 0 t) (iblk m c 1 t) (iblk m c 5 t)) (iblk m c 4 t)
    ∧ (outsAt0 m c t.val t.isLt).2.1 = k0_pay7 (k0_pay13 (iblk m c 0 t) (iblk m c 1 t) (iblk m c 5 t)) (iblk m c 4 t) (iblk m c 3 t)
    ∧ (outsAt0 m c t.val t.isLt).2.2.1 = k0_pay12 (iblk m c 0 t) (iblk m c 1 t)
    ∧ (outsAt0 m c t.val t.isLt).2.2.2.1 = k0_pay5 (iblk m c 4 t) (iblk m c 3 t) := by
  refine ⟨?_, ?_, ?_, ?_⟩ <;> funext y
  all_goals
    by_cases h : t.val % 2 = 0
    · rw [outsAt0_A m c t h]; frame_out
    · rw [outsAt0_B m c t h]; frame_out

theorem final6 (c : Dev nD) : (dats m 0 c).arrAt 6 cfg0.N = dmixA (DX m c) (GM m c) (PR m c) (WO m c) := by
  refine (dats m 0 c).arrAt_eq_of_covers 6 _ (by decide +kernel) fun t _ y => ?_
  blk_simp
  rw [after0_6, (stores m c t).1]
  pointwise [k0_pay6, k0_pay13, k0_pay11, k0_pay9, k0_pay3, k0_pay2, k0_pay1, dmixA, dyAt, gateAt, SG]
  simp only [blk1]
  blk_point [iblk, V, idx_val t]

theorem final7 (c : Dev nD) : (dats m 0 c).arrAt 7 cfg0.N = dgateA (DX m c) (GM m c) (MX m c) (PR m c) (WO m c) := by
  refine (dats m 0 c).arrAt_eq_of_covers 7 _ (by decide +kernel) fun t _ y => ?_
  blk_simp
  rw [after0_7, (stores m c t).2.1]
  pointwise [k0_pay7, k0_pay4, k0_pay13, k0_pay11, k0_pay9, k0_pay2, k0_pay1, dgateA, dyAt, gateAt, SG]
  simp only [blk1]
  blk_point [iblk, V, idx_val t]

theorem final8 (c : Dev nD) : (dats m 0 c).arrAt 8 cfg0.N = doA (DX m c) (GM m c) := by
  refine (dats m 0 c).arrAt_eq_of_covers 8 _ (by decide +kernel) fun t _ y => ?_
  blk_simp
  rw [after0_8, (stores m c t).2.2.1]
  pointwise [k0_pay12, k0_pay11, k0_pay9, doA]
  refine Ideal.mul_congr ((blk1 m c t (y 2)).trans ?_) ?_
  all_goals blk_point [iblk, V, idx_val t]

theorem final9 (c : Dev nD) : (dats m 0 c).arrAt 9 cfg0.N = yA (MX m c) (PR m c) := by
  refine (dats m 0 c).arrAt_eq_of_covers 9 _ (by decide +kernel) fun t _ y => ?_
  blk_simp
  rw [after0_9, (stores m c t).2.2.2]
  pointwise [k0_pay5, k0_pay4, k0_pay3, k0_pay2, k0_pay1, yA, yAt, gateAt, SG]
  blk_point [iblk, V, idx_val t]

end Cert.KernelIdeal.Value
-- ==== Proof.Real.lean ====
module

public import Idealize.ShloMosaic.Lib.Pointwise

@[expose] public section

noncomputable section

namespace Cert.Finite

open Idealize.ShloMosaic

/-! Elements that are real numbers: what a finiteness precondition says of an argument, and the operations that keep it. -/

/-- The element is a real number. -/
def IsR (x : EReal) : Prop := ∃ r : ℝ, x = (r : EReal)

theorem IsR.coe (r : ℝ) : IsR (r : EReal) := ⟨r, rfl⟩
theorem IsR.zero : IsR (0 : EReal) := ⟨0, by simp⟩
theorem IsR.one : IsR (1 : EReal) := ⟨1, by simp⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.neg {x : EReal} (hx : IsR x) : IsR (-x) := by
  obtain ⟨a, rfl⟩ := hx; exact ⟨-a, (EReal.coe_neg a).symm⟩
theorem IsR.sum {ι : Type*} (s : Finset ι) {f : ι → EReal} (h : ∀ i, IsR (f i)) : IsR (∑ i ∈ s, f i) := by
  classical
  induction s using Finset.induction_on with
  | empty => simpa using IsR.zero
  | insert a s ha ih => rw [Finset.sum_insert ha]; exact (h a).add ih
theorem IsR.exp {x : EReal} (hx : IsR x) : ∃ r : ℝ, 0 < r ∧ Ideal.exp x = (r : EReal) := by
  obtain ⟨a, rfl⟩ := hx; exact ⟨Real.exp a, Real.exp_pos a, rfl⟩

/-- The logistic function of a real number is a real number. -/
theorem IsR.logistic {x : EReal} (hx : IsR x) : IsR (Ideal.div 1 (1 + Ideal.exp (0 - x))) := by
  obtain ⟨r, hr, h⟩ := (IsR.zero.sub hx).exp
  rw [h]
  have h1 : (1 : EReal) + (r : EReal) = ((1 + r : ℝ) : EReal) := by rw [EReal.coe_add]; rfl
  rw [h1, Ideal.div_coe (by positivity)]
  exact IsR.one.mul ⟨_, rfl⟩

/-- An element whose absolute value is below `+∞` is a real number. -/
theorem isR_of_abs_lt {x : EReal} (h : max x (-x) < ⊤) : IsR x := by
  induction x with
  | bot => simp at h
  | coe r => exact ⟨r, rfl⟩
  | top => simp at h

/-- The bit pattern of `+∞`. -/
theorem inf_bits : Ideal.ofBits .f32 0x7F800000#32 = (⊤ : EReal) := by
  simp [Ideal.ofBits, Ideal.ieee]

/-- What a finiteness precondition says at an element. -/
theorem isR_of_pre {x : EReal} (h : BitVec.ofBool (decide ((FloatOps.absf (F := Ideal) (φ := .f32) x : EReal) < ⊤)) = 1#1) :
    IsR x := by
  refine isR_of_abs_lt ?_
  by_contra hn
  have : decide ((FloatOps.absf (F := Ideal) (φ := .f32) x : EReal) < ⊤) = false := decide_eq_false hn
  rw [this] at h
  simp at h

end Cert.Finite
-- ==== Proof.GateRef.lean ====
module

public import proofs.«01_k».proof.Proof.Gen.ReferenceIdeal.Read
public import proofs.«01_k».proof.Proof.Gen.ReferenceIdeal.Run
public import proofs.«01_k».proof.Proof.GateOut
public import proofs.«01_k».proof.Proof.Real
public import Idealize.ShloMosaic.Lib.Pointwise

@[expose] public section

set_option maxRecDepth 16384

noncomputable section

namespace Cert.Gate

open Idealize.ShloMosaic Idealize.ShloMosaic.TcCoe Idealize.SL.Sem
open Cert.ReferenceIdeal Cert.ReferenceIdeal.Read Cert.Finite
open Cert.KernelIdeal.Value (SG gateAt dyAt yAt oAt dmixA dgateA doA yA dgmA)

/-! The reference's five results, read at an index, are the kernel's formulas. -/

variable (x0 : FVec Ideal S4x2048x1024 .f32) (x1 : FVec Ideal S4x1024 .f32) (x2 : FVec Ideal S4x2048x1024 .f32)
  (x3 : FVec Ideal S4x2048x2048 .f32) (x4 : FVec Ideal S1024x1024 .f32)

theorem sg_at (b : Fin 4) (r : Fin 2048) (k : Fin 1024) :
    val_main_v1_2 (F := Ideal) x3 (ix3 b r k) = SG (gateAt x3 b r k) := by
  pointwise [val_main_v1_2, val_main_call0_v3, val_main_v0, val_main_call0_v4, val_main_call0_v2, val_main_call0_cst,
    val_main_call0_cst_0, val_main_call0_v1, val_main_call0_v0, SG, gateAt]
  simp only [zero_sub]

theorem g_at (b : Fin 4) (r : Fin 2048) (k : Fin 1024) : val_main_v0 (F := Ideal) x3 (ix3 b r k) = gateAt x3 b r k := by
  pointwise [val_main_v0, gateAt]

theorem dy_at (b : Fin 4) (r : Fin 2048) (k : Fin 1024) :
    val_main_v13 (F := Ideal) x0 x1 x4 (ix3 b r k) = dyAt x0 x1 x4 b r k := by
  pointwise [val_main_v13, val_main_v8, val_main_v7, val_main_v4, dyAt]

theorem dmix_ref : val_main_v15 (F := Ideal) x0 x1 x3 x4 = dmixA x0 x1 x3 x4 := by
  funext i; idx_vars i
  pointwise [val_main_v15, val_main_v1_0, dy_at, sg_at, g_at, dmixA]

theorem do_ref : val_main_v18 (F := Ideal) x0 x1 = doA x0 x1 := by
  funext i; idx_vars i
  pointwise [val_main_v18, val_main_v8, val_main_v7, val_main_v4, doA]

theorem y_ref : val_main_v19 (F := Ideal) x2 x3 = yA x2 x3 := by
  funext i; idx_vars i
  pointwise [val_main_v19, val_main_v2, val_main_v1_0, sg_at, g_at, yA, yAt]

theorem dgm_ref : val_main_v20 (F := Ideal) x0 x2 x3 x4 = dgmA x0 x2 x3 x4 := by
  funext i; idx_vars i
  pointwise [val_main_v20, val_main_v12, val_main_v11, val_main_v10, val_main_v9, val_main_v3, val_main_v2, val_main_cst,
    val_main_cst_0, val_main_v1_0, sg_at, g_at, dgmA, oAt, yAt]
  exact Fin.sum_univ_one _

/-- The gate's gradient: the sum of the two terms of the derivative of `g · σ(g)` is the kernel's product, when the
    gradient that comes in is a real number (at `g = ±∞` both sides are the limit). -/
theorem silu_grad {a : EReal} (ha : IsR a) (g : EReal) :
    a * SG g + g * a * (SG g * (1 - SG g)) = a * (SG g * (1 + g * (1 - SG g))) := by
  obtain ⟨a, rfl⟩ := ha
  induction g with
  | bot =>
    have : SG ⊥ = 0 := by
      have h : Ideal.exp ⊤ = ⊤ := rfl
      have h1 : (1 : EReal) + ⊤ = ⊤ := EReal.coe_add_top 1
      simp [SG, h, h1, Ideal.div]
    simp [this]
  | coe g =>
    obtain ⟨s, hs⟩ := (IsR.coe g).logistic
    rw [show SG (g : EReal) = (s : EReal) from hs, ← EReal.coe_one]
    simp only [← EReal.coe_mul, ← EReal.coe_add, ← EReal.coe_sub]
    congr 1; ring
  | top =>
    have : SG ⊤ = 1 := by
      have h : Ideal.exp ⊥ = 0 := rfl
      simp [SG, h, Ideal.div]
    have h0 : (1 : EReal) - 1 = 0 := by rw [← EReal.coe_one, ← EReal.coe_sub]; simp
    rw [this, h0]; simp

theorem dy_real (h0 : ∀ i, IsR (x0 i)) (h1 : ∀ i, IsR (x1 i)) (h4 : ∀ i, IsR (x4 i)) (b : Fin 4) (r : Fin 2048) (k : Fin 1024) :
    IsR (dyAt x0 x1 x4 b r k) := IsR.sum _ fun x => ((h1 _).mul (h0 _)).mul (h4 _)

theorem dgate_ref (h0 : ∀ i, IsR (x0 i)) (h1 : ∀ i, IsR (x1 i)) (h2 : ∀ i, IsR (x2 i)) (h4 : ∀ i, IsR (x4 i)) :
    val_main_v17 (F := Ideal) x0 x1 x2 x3 x4 = dgateA x0 x1 x2 x3 x4 := by
  funext i; idx_vars i
  pointwise [val_main_v17, val_main_v16, val_main_call1_v2, val_main_call1_v1, val_main_call1_v0, val_main_v14, dy_at, sg_at, g_at, dgateA,
    val_main_v1_1, val_main_call0_v7, val_main_call0_v6, val_main_call0_cst_1]
  rw [mul_comm (x2 _)]
  exact silu_grad ((dy_real x0 x1 x4 h0 h1 h4 _ _ _).mul (h2 _)) _

/-- The reference's run, its results by name. -/
theorem run_r (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      (r.2.mem ((c.tc : Thread nD τ).loc main_v15) = val_main_v15 (F := Ideal) (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v17) = val_main_v17 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v18) = val_main_v18 (F := Ideal) (m ((c.tc : Thread nD τ).loc main_arg0)) (m ((c.tc : Thread nD τ).loc main_arg1))
      ∧ r.2.mem ((c.tc : Thread nD τ).loc main_v19) = val_main_v19 (F := Ideal) (m ((c.tc : Thread nD τ).loc main_arg2)) (m ((c.tc : Thread nD τ).loc main_arg3))
      ∧ r.2.mem ((c.tc : Thread nD τ).loc main_v20) = val_main_v20 (F := Ideal) (m ((c.tc : Thread nD τ).loc main_arg0)) (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨⟨(h c).1.trans (val_main_v15_eq ..), (h c).2.1.trans (val_main_v17_eq ..),
    (h c).2.2.1.trans (val_main_v18_eq ..), (h c).2.2.2.1.trans (val_main_v19_eq ..), (h c).2.2.2.2.1.trans (val_main_v20_eq ..)⟩,
    (h c).2.2.2.2.2⟩) (Cert.ReferenceIdeal.Value.run (F := Ideal) m g)

end Cert.Gate
-- ==== Proof.GateSum.lean ====
module

public import proofs.«01_k».proof.Proof.GateOut
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- One row tile's part of the residual gate's gradient, at a column. -/
def colSum (x0 : FVec Ideal S1x1024x1024 .f32) (x2 : FVec Ideal S1x1024x1024 .bf16) (k : Fin 1024) : EReal :=
  ∑ r : Fin 1024, x0 (ix3 0 r k) * x2 (ix3 0 r k)

theorem hzero (j : S1x1x1024.Idx) : k0_pay8 (F := Ideal) j = (0 : EReal) := by pointwise [k0_pay8]

theorem hpay (x0 : FVec Ideal S1x1024x1024 .f32) (acc : FVec Ideal S1x1x1024 .f32) (x2 : FVec Ideal S1x1024x1024 .bf16)
    (j : S1x1x1024.Idx) : k0_pay10 (F := Ideal) x0 acc x2 j = acc j + colSum x0 x2 (j 2) := by
  idx_vars j
  obtain rfl : j0 = 0 := Subsingleton.elim _ _
  obtain rfl : j1 = 0 := Subsingleton.elim _ _
  pointwise [k0_pay10, k0_pay9, colSum]

/-- 2048 rows summed in two tiles of 1024. -/
theorem sum_tiles (g : Fin 2 → EReal) (f : Fin 2048 → EReal)
    (h : ∀ s : Fin 2, g s = ∑ r : Fin 1024, f ⟨s.val * 1024 + r.val, by omega⟩) : ∑ s, g s = ∑ r, f r := by
  rw [Fin.sum_univ_tiles 2 1024 rfl]
  exact Fin.sum_fin_congr h

theorem final10 (c : Dev nD) : (dats m 0 c).arrAt 10 cfg0.N = dgmA (DX m c) (MX m c) (PR m c) (WO m c) := by
  refine (dats m 0 c).arrAt_eq_of_covers 10 _ (by decide +kernel) fun t hf y => ?_
  blk_simp
  rw [after0_10, Pipeline.eq_sum_fin_of_reset_step_apply_of_flush (fun n h => (outsAt0 m c n h).2.2.2.2) 2 (fun _ => (0 : EReal))
      (fun t j => colSum (iblk m c 0 t) (iblk m c 2 t) (j 2))
      (fun t h j => by rw [outsAt0_A m c t h]; frame_out; rw [hpay, hzero])
      (fun t h j => by rw [outsAt0_B m c t h]; frame_out; rw [hpay]) t ((flush0_10 t).mp hf) _, zero_add]
  refine sum_tiles _ (fun r => DX m c (ix3 _ r _) * oAt (MX m c) (PR m c) (WO m c) _ r _) fun s =>
    Fin.sum_fin_congr fun r => Ideal.mul_congr ?_ ?_
  · blk_point [iblk, V, idx_val t, idx_val ⟨_, Pipeline.run_point_lt_of_flush t ((flush0_10 t).mp hf) s⟩]
  · refine (blk2 m c _ r (y 2)).trans (oAt_congr _ _ _ ?_ ?_ ?_)
    · blk_simp [idx_val t]
      show (2 * (t.val / 2) + s.val) / 2 = t.val / 2
      omega
    · show (2 * (t.val / 2) + s.val) % 2 * 1024 + r.val = s.val * 1024 + r.val
      omega
    · blk_simp [idx_val t]

end Cert.KernelIdeal.Value
-- ==== Proof.FoxStage.lean ====
module

public import proofs.«01_k».proof.Proof.Gen.Kernel2Ideal.Value
import all proofs.«01_k».proof.Proof.Gen.Kernel2Ideal.Frame.RunA
import all proofs.«01_k».proof.Proof.Gen.Kernel2Ideal.Loops
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Fox

open Cert.Kernel2Ideal Cert.Kernel2Ideal.Gen Idealize.ShloMosaic Idealize.ShloMosaic.TcCoe Idealize.SL.Sem

/-! The forgetting attention's backward call: what its scratch buffers hold once they are filled. -/

variable (c : Dev nD) (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg15 arg16 : Memref sig .tc .vmem S2x2048x128 .bf16)
  (arg17 arg18 : Memref sig .tc .vmem S2048x128 .bf16)
  (arg19 arg20 : Memref sig .tc .vmem S128x2048 .bf16)
  (X0 X1 X2 X3 : Vec Ideal S1x2048x128 .bf16)

/-- The lanes of head `hh` of a pair. -/
def lane (hh : Fin 2) (l : Fin 128) : Prop := if hh = 0 then (l : ℕ) < 64 else 64 ≤ (l : ℕ)
instance (hh : Fin 2) (l : Fin 128) : Decidable (lane hh l) := by unfold lane; infer_instance

theorem slt64 : ∀ l : Fin 128, IntOp.cmpi .slt (BitVec.ofNat 32 l.val) 64#32 = if l.val < 64 then 1#1 else 0#1 := by decide +kernel
theorem sge64 : ∀ l : Fin 128, IntOp.cmpi .sge (BitVec.ofNat 32 l.val) 64#32 = if 64 ≤ l.val then 1#1 else 0#1 := by decide +kernel

/-- A selection by the low half of the lanes, and by the high half. -/
theorem sel_lo (l : Fin 128) (a b : EReal) : Scalar.select (IntOp.cmpi .slt (BitVec.ofNat 32 l.val) 64#32) a b = if l.val < 64 then a else b := by
  rw [slt64]; split <;> rfl
theorem sel_hi (l : Fin 128) (a b : EReal) : Scalar.select (IntOp.cmpi .sge (BitVec.ofNat 32 l.val) 64#32) a b = if 64 ≤ l.val then a else b := by
  rw [sge64]; split <;> rfl

/-- A whole block as a staging store reads it. -/
theorem whole_read {s : Shape} {e : EltTy} (v : Memref sig .tc .vmem s e) (hv : v.IsWhole) (x : Vec Ideal s e) {off : Fin s.rank → ℕ}
    (inb : ∀ a, off a + s.size a ≤ s.size a) (h : ∀ a, off a = 0) (y : s.Idx) :
    View.readAt (Elt Ideal) v.view (Rect.unit off s.size inb).toLoadRect (hv.unread x) y = x y := by
  rw [View.readAt_eq_ld, hv.read_unread, View.ld_unit_lit _ _ h]

theorem part_read {s : Shape} {e : EltTy} (v : Memref sig .tc .vmem s e) (hv : v.IsWhole) (x : Vec Ideal s e) (off size : Fin s.rank → ℕ)
    (inb : ∀ a, off a + size a ≤ s.size a) (y : (Rect.unit (s := s) off size inb).shape.Idx) (i : s.Idx) (hi : ∀ a, (i a : ℕ) = off a + y a) :
    View.readAt (Elt Ideal) v.view (Rect.unit off size inb).toLoadRect (hv.unread x) y = x i := by
  rw [View.readAt_eq_ld, hv.read_unread, View.ld_unit_apply_of _ _ _ _ _ i hi]

theorem block_read (v : Memref sig .tc .vmem S1x2048x128 .bf16) (hv : v.IsWhole) (x : Vec Ideal S1x2048x128 .bf16) (inb : ∀ a, ![0, 0, 0] a + ![1, 2048, 128] a ≤ S1x2048x128.size a) (y : S1x2048x128.Idx) :
    View.readAt (Elt Ideal) v.view (Rect.unit (s := S1x2048x128) ![0, 0, 0] ![1, 2048, 128] inb).toLoadRect (hv.unread x) y = x y :=
  whole_read v hv x inb (by decide) y

/-- The keys transposed, as any of the loads reads them. -/
theorem kt_read (off size : Fin 2 → ℕ) (inb) (y : (Rect.unit (s := S128x2048) off size inb).shape.Idx) (i : Fin 2048) (l : Fin 128)
    (hl : off 0 + (y 0).val = l.val) (hi : off 1 + (y 1).val = i.val) :
    arg19.view.readCov (kernelRun0_A.sl.HS4_1 (F := Ideal) c arg3 harg3 X1) (Rect.unit off size inb).toLoadRect y
      = X1 (ix3 0 i l) := by
  unfold kernelRun0_A.sl.HS4_1
  rw [View.readCov_fill _ _ _ _ _ (by decide),
    View.ld_unit_apply_of _ _ _ _ _ (ix2 l i) (by intro a; fin_cases a <;> simp [hl, hi])]
  pointwise [k0_pay21, k0_pay17]
  exact block_read arg3 harg3 X1 _ _

/-- The values transposed. -/
theorem vt_read (off size : Fin 2 → ℕ) (inb) (y : (Rect.unit (s := S128x2048) off size inb).shape.Idx) (i : Fin 2048) (l : Fin 128)
    (hl : off 0 + (y 0).val = l.val) (hi : off 1 + (y 1).val = i.val) :
    arg20.view.readCov (kernelRun0_A.sl.HS5_1 (F := Ideal) c arg4 harg4 X2) (Rect.unit off size inb).toLoadRect y
      = X2 (ix3 0 i l) := by
  unfold kernelRun0_A.sl.HS5_1
  rw [View.readCov_fill _ _ _ _ _ (by decide),
    View.ld_unit_apply_of _ _ _ _ _ (ix2 l i) (by intro a; fin_cases a <;> simp [hl, hi])]
  pointwise [k0_pay22, k0_pay18]
  exact block_read arg4 harg4 X2 _ _

/-- The keys. -/
theorem kb_read (off size : Fin 2 → ℕ) (inb) (y : (Rect.unit (s := S2048x128) off size inb).shape.Idx) (i : Fin 2048) (l : Fin 128)
    (hi : off 0 + (y 0).val = i.val) (hl : off 1 + (y 1).val = l.val) :
    arg17.view.readCov (kernelRun0_A.sl.HS2_1 (F := Ideal) c arg3 harg3 X1) (Rect.unit off size inb).toLoadRect y
      = X1 (ix3 0 i l) := by
  unfold kernelRun0_A.sl.HS2_1
  rw [View.readCov_fill _ _ _ _ _ (by decide),
    View.ld_unit_apply_of _ _ _ _ _ (ix2 i l) (by intro a; fin_cases a <;> simp [hl, hi])]
  pointwise [k0_pay19, k0_pay17]
  exact block_read arg3 harg3 X1 _ _

/-- The values. -/
theorem vb_read (off size : Fin 2 → ℕ) (inb) (y : (Rect.unit (s := S2048x128) off size inb).shape.Idx) (i : Fin 2048) (l : Fin 128)
    (hi : off 0 + (y 0).val = i.val) (hl : off 1 + (y 1).val = l.val) :
    arg18.view.readCov (kernelRun0_A.sl.HS3_1 (F := Ideal) c arg4 harg4 X2) (Rect.unit off size inb).toLoadRect y
      = X2 (ix3 0 i l) := by
  unfold kernelRun0_A.sl.HS3_1
  rw [View.readCov_fill _ _ _ _ _ (by decide),
    View.ld_unit_apply_of _ _ _ _ _ (ix2 i l) (by intro a; fin_cases a <;> simp [hl, hi])]
  pointwise [k0_pay20, k0_pay18]
  exact block_read arg4 harg4 X2 _ _

/-- The queries of one head of the pair, scaled, zero off its lanes. -/
theorem qm_read (off size : Fin 3 → ℕ) (inb) (y : (Rect.unit (s := S2x2048x128) off size inb).shape.Idx) (hh : Fin 2) (i : Fin 2048)
    (l : Fin 128) (hq : off 0 + (y 0).val = hh.val) (hi : off 1 + (y 1).val = i.val) (hl : off 2 + (y 2).val = l.val) :
    arg15.view.readCov (kernelRun0_A.sl.HS0_2 (F := Ideal) c arg2 harg2 X0) (Rect.unit off size inb).toLoadRect y
      = if lane hh l then X0 (ix3 0 i l) * Ideal.ofBits .f32 0x3e000000#32 else 0 := by
  rw [View.readCov_eq_canon']
  have hy : (Rect.unit off size inb).toLoadRect.idx y = ix3 hh i l := by
    funext a; apply Fin.ext; fin_cases a <;> simp [hq, hi, hl]
  simp only [hy]
  unfold kernelRun0_A.sl.HS0_2
  canon_tiles x e
  · obtain rfl : i = x 1 := Fin.ext e1
    obtain rfl : l = x 2 := Fin.ext e2
    obtain rfl : hh = 1 := Fin.ext (by have : (hh : ℕ) = 1 + x 0 := e0; simp; omega)
    idx_vars x
    pointwise [k0_pay14, k0_pay9, k0_pay10, lane]
    rw [sel_hi, block_read]
  · obtain rfl : i = x 1 := Fin.ext e1
    obtain rfl : l = x 2 := Fin.ext e2
    obtain rfl : hh = 0 := Fin.ext (by have : (hh : ℕ) = x 0 := e0; simp; omega)
    idx_vars x
    pointwise [k0_pay12, k0_pay8, k0_pay10, lane]
    rw [sel_lo, block_read]

/-- The cotangent of one head of the pair, zero off its lanes. -/
theorem dom_read (off size : Fin 3 → ℕ) (inb) (y : (Rect.unit (s := S2x2048x128) off size inb).shape.Idx) (hh : Fin 2) (i : Fin 2048)
    (l : Fin 128) (hq : off 0 + (y 0).val = hh.val) (hi : off 1 + (y 1).val = i.val) (hl : off 2 + (y 2).val = l.val) :
    arg16.view.readCov (kernelRun0_A.sl.HS1_2 (F := Ideal) c arg5 harg5 X3) (Rect.unit off size inb).toLoadRect y
      = if lane hh l then X3 (ix3 0 i l) else 0 := by
  rw [View.readCov_eq_canon']
  have hy : (Rect.unit off size inb).toLoadRect.idx y = ix3 hh i l := by
    funext a; apply Fin.ext; fin_cases a <;> simp [hq, hi, hl]
  simp only [hy]
  unfold kernelRun0_A.sl.HS1_2 kernelRun0_A.sl.r
  canon_tiles x e
  · obtain rfl : i = x 1 := Fin.ext e1
    obtain rfl : l = x 2 := Fin.ext e2
    obtain rfl : hh = 1 := Fin.ext (by have : (hh : ℕ) = 1 + x 0 := e0; simp; omega)
    idx_vars x
    pointwise [k0_pay16, k0_pay15, k0_pay9, k0_pay11, lane]
    rw [sel_hi, block_read]
  · obtain rfl : i = x 1 := Fin.ext e1
    obtain rfl : l = x 2 := Fin.ext e2
    obtain rfl : hh = 0 := Fin.ext (by have : (hh : ℕ) = x 0 := e0; simp; omega)
    idx_vars x
    pointwise [k0_pay13, k0_pay8, k0_pay11, lane]
    rw [sel_lo, block_read]

section Loop

variable (i : grid0.Coords)
  (arg6 : Memref sig .tc .vmem S1x2x2048x1 .f32) (harg6 : arg6.IsWhole) (arg7 : Memref sig .tc .vmem S1x2x1x2048 .f32) (harg7 : arg7.IsWhole)
  (arg8 : Memref sig .tc .vmem S1x2x4x1x512 .f32) (harg8 : arg8.IsWhole) (arg9 : Memref sig .tc .vmem S1x2x2048x1 .f32) (harg9 : arg9.IsWhole)
  (arg10 : Memref sig .tc .vmem S1x2x4x1x512 .f32) (harg10 : arg10.IsWhole) (arg11 : Memref sig .tc .vmem S1x2048x128 .bf16) (harg11 : arg11.IsWhole)
  (arg12 : Memref sig .tc .vmem S1x2048x128 .bf16) (harg12 : arg12.IsWhole) (arg13 : Memref sig .tc .vmem S1x2048x128 .bf16) (harg13 : arg13.IsWhole)
  (arg14 : Memref sig .tc .vmem S1x2x1x2048 .f32) (harg14 : arg14.IsWhole)
  (harg15 : arg15.IsWhole) (harg16 : arg16.IsWhole) (harg17 : arg17.IsWhole) (harg18 : arg18.IsWhole) (harg19 : arg19.IsWhole) (harg20 : arg20.IsWhole)
  (arg21 : Memref sig .tc .vmem S2x4x128x512 .bf16) (harg21 : arg21.IsWhole) (arg22 : Memref sig .tc .vmem S2x4x128x512 .bf16) (harg22 : arg22.IsWhole)
  (arg23 : Memref sig .tc .vmem S2048x128 .f32) (harg23 : arg23.IsWhole) (arg24 : Memref sig .tc .vmem S2048x128 .f32) (harg24 : arg24.IsWhole)

/-- What the staging loop has written after `n` trips. -/
abbrev staged (n : ℕ) :=
  pb_k0_t1 (F := Ideal) Variants.none c none i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19 arg20 harg20 arg21 harg21
    arg22 harg22 arg23 harg23 arg24 harg24 k0_pay23 k0_pay24 0#32 1#32 (harg2.unread X0) (harg5.unread X3) n

/-- The staged transposes: head, block of queries, lane, query of the block. -/
def stAt (g : Fin 2048 → Fin 128 → EReal) (hh : Fin 2) (n : Fin 4) (l : Fin 128) (j : Fin 512) : EReal :=
  if lane hh l then g ⟨512 * n.val + j.val, by omega⟩ l else 0
def stG (g : Fin 2048 → Fin 128 → EReal) : S2x4x128x512.Idx → EReal := fun y => stAt g (y 0) (y 1) (y 2) (y 3)

theorem off2_eq : ∀ n : Fin k0_t1_loop.trips, k0_off2 n = ![0, n.val, 0, 0] := by decide +kernel
theorem off3_eq : ∀ n : Fin k0_t1_loop.trips, k0_off3 n = ![1, n.val, 0, 0] := by decide +kernel
theorem iv_one : ∀ n : Fin k0_t1_loop.trips, BitVec.toNat (Scalar.indexCast (Scf.iv 0#32 1#32 n.val)) = n.val := by decide +kernel
theorem iv_row : ∀ n : Fin k0_t1_loop.trips, BitVec.toNat (Scalar.indexCast (Scalar.muli (Scf.iv 0#32 1#32 n.val) 512#32)) = 512 * n.val := by
  decide +kernel

/-- The rows of a block that a trip of the staging loop reads. -/
theorem row_read (v : Memref sig .tc .vmem S1x2048x128 .bf16) (hv : v.IsWhole) (x : Vec Ideal S1x2048x128 .bf16) (n : Fin k0_t1_loop.trips)
    (hn : n.val < 4) (inb) (j : Fin 512) (l : Fin 128) :
    View.readAt (Elt Ideal) v.view (Rect.unit (s := S1x2048x128) ![0, BitVec.toNat (Scalar.indexCast (Scalar.muli (Scf.iv 0#32 1#32 n.val) 512#32)), 0]
      ![1, 512, 128] inb).toLoadRect (hv.unread x) (ix3 0 j l : S1x512x128.Idx) = x (ix3 0 ⟨512 * n.val + j.val, by omega⟩ l) := by
  rw [part_read v hv x _ _ _ _ (ix3 0 ⟨512 * n.val + j.val, by omega⟩ l)]
  intro a; fin_cases a <;> simp [iv_row]

theorem trip_q (n : Fin k0_t1_loop.trips) :
    View.PiecesOf (Val := Elt Ideal) (stG fun t l => X0 (ix3 0 t l) * Ideal.ofBits .f32 0x3e000000#32)
    (tripL_k0_t1 (F := Ideal) Variants.none c none i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19 arg20 harg20 arg21 harg21
    arg22 harg22 arg23 harg23 arg24 harg24 k0_pay23 k0_pay24 0#32 1#32 (harg2.unread X0) (harg5.unread X3) n).1 := by
  unfold tripL_k0_t1 trip_k0_t1
  refine ⟨fun x => ?_, fun x => ?_, trivial⟩
  · sl_unfold_words
    obtain ⟨x, rfl⟩ : ∃ x' : S1x1x128x512.Idx, x' = x := ⟨x, rfl⟩
    idx_vars x
    have hn : n.val < 4 := n.isLt
    refine Eq.trans ?_ (congrArg (stG _) (show ix4 1 ⟨n.val, hn⟩ x2 x3 = _ from by
      funext a; apply Fin.ext; fin_cases a <;> simp [iv_one]))
    pointwise [stG, stAt, lane, k0_pay24]
    rw [sel_hi]
    exact congrArg (fun z => if 64 ≤ x2.val then z * _ else 0) (row_read arg2 harg2 X0 n hn _ x3 x2)
  · sl_unfold_words
    obtain ⟨x, rfl⟩ : ∃ x' : S1x1x128x512.Idx, x' = x := ⟨x, rfl⟩
    idx_vars x
    have hn : n.val < 4 := n.isLt
    refine Eq.trans ?_ (congrArg (stG _) (show ix4 0 ⟨n.val, hn⟩ x2 x3 = _ from by
      funext a; apply Fin.ext; fin_cases a <;> simp [iv_one]))
    pointwise [stG, stAt, lane, k0_pay23]
    rw [sel_lo]
    exact congrArg (fun z => if x2.val < 64 then z * _ else 0) (row_read arg2 harg2 X0 n hn _ x3 x2)

theorem trip_do (n : Fin k0_t1_loop.trips) :
    View.PiecesOf (Val := Elt Ideal) (stG fun t l => X3 (ix3 0 t l))
    (tripL_k0_t1 (F := Ideal) Variants.none c none i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19 arg20 harg20 arg21 harg21
    arg22 harg22 arg23 harg23 arg24 harg24 k0_pay23 k0_pay24 0#32 1#32 (harg2.unread X0) (harg5.unread X3) n).2 := by
  unfold tripL_k0_t1 trip_k0_t1
  refine ⟨fun x => ?_, fun x => ?_, trivial⟩
  · sl_unfold_words
    obtain ⟨x, rfl⟩ : ∃ x' : S1x1x128x512.Idx, x' = x := ⟨x, rfl⟩
    idx_vars x
    have hn : n.val < 4 := n.isLt
    refine Eq.trans ?_ (congrArg (stG _) (show ix4 1 ⟨n.val, hn⟩ x2 x3 = _ from by
      funext a; apply Fin.ext; fin_cases a <;> simp [iv_one]))
    pointwise [stG, stAt, lane, k0_pay25, k0_pay24]
    rw [sel_hi]
    exact congrArg (fun z => if 64 ≤ x2.val then z else 0) (row_read arg5 harg5 X3 n hn _ x3 x2)
  · sl_unfold_words
    obtain ⟨x, rfl⟩ : ∃ x' : S1x1x128x512.Idx, x' = x := ⟨x, rfl⟩
    idx_vars x
    have hn : n.val < 4 := n.isLt
    refine Eq.trans ?_ (congrArg (stG _) (show ix4 0 ⟨n.val, hn⟩ x2 x3 = _ from by
      funext a; apply Fin.ext; fin_cases a <;> simp [iv_one]))
    pointwise [stG, stAt, lane, k0_pay23]
    rw [sel_lo]
    exact congrArg (fun z => if x2.val < 64 then z else 0) (row_read arg5 harg5 X3 n hn _ x3 x2)

/-- Blocks of one function after blocks of it are blocks of it. -/
theorem piecesOf_append {s : Shape} {e : EltTy} (G : s.Idx → Elt Ideal e) : ∀ L L' : List (View.Piece (Elt Ideal) s e),
    View.PiecesOf G L → View.PiecesOf G L' → View.PiecesOf G (L ++ L')
  | [], _, _, h => h
  | _ :: L, _, h, h' => ⟨h.1, piecesOf_append G L _ h.2 h'⟩

theorem staged_pieces : ∀ n : ℕ, n ≤ 4 → View.PiecesOf (Val := Elt Ideal) (stG fun t l => X0 (ix3 0 t l) * Ideal.ofBits .f32 0x3e000000#32)
      (staged c arg2 harg2 arg3 harg3 arg4 harg4 arg5 harg5 arg15 arg16 arg17 arg18 arg19 arg20 X0 X3 i arg6 harg6 arg7 harg7 arg8 harg8 arg9 harg9 arg10 harg10
      arg11 harg11 arg12 harg12 arg13 harg13 arg14 harg14 harg15 harg16 harg17 harg18 harg19 harg20 arg21 harg21 arg22 harg22 arg23 harg23 arg24 harg24 n).1
    ∧ View.PiecesOf (Val := Elt Ideal) (stG fun t l => X3 (ix3 0 t l))
      (staged c arg2 harg2 arg3 harg3 arg4 harg4 arg5 harg5 arg15 arg16 arg17 arg18 arg19 arg20 X0 X3 i arg6 harg6 arg7 harg7 arg8 harg8 arg9 harg9 arg10 harg10
      arg11 harg11 arg12 harg12 arg13 harg13 arg14 harg14 harg15 harg16 harg17 harg18 harg19 harg20 arg21 harg21 arg22 harg22 arg23 harg23 arg24 harg24 n).2
  | 0, _ => ⟨trivial, trivial⟩
  | n + 1, h => by
    have hn : n < k0_t1_loop.trips := h
    rw [show n + 1 = (⟨n, hn⟩ : Fin k0_t1_loop.trips).val + 1 from rfl, staged, pb_k0_t1_succ]
    exact ⟨piecesOf_append _ _ _ (trip_q ..) (staged_pieces n (by omega)).1,
      piecesOf_append _ _ _ (trip_do ..) (staged_pieces n (by omega)).2⟩

/-- An index of a trip's block lies in one of its two rectangles. -/
theorem trip_mem (n : Fin k0_t1_loop.trips) (y : S2x4x128x512.Idx) (hy : (y 1).val = n.val) :
    (∃ p ∈ (tripL_k0_t1 (F := Ideal) Variants.none c none i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19 arg20 harg20 arg21 harg21
    arg22 harg22 arg23 harg23 arg24 harg24 k0_pay23 k0_pay24 0#32 1#32 (harg2.unread X0) (harg5.unread X3) n).1, y ∈ p.1.set)
    ∧ ∃ p ∈ (tripL_k0_t1 (F := Ideal) Variants.none c none i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19 arg20 harg20 arg21 harg21
    arg22 harg22 arg23 harg23 arg24 harg24 k0_pay23 k0_pay24 0#32 1#32 (harg2.unread X0) (harg5.unread X3) n).2, y ∈ p.1.set := by
  have h0 : (y 0).val < 2 := (y 0).isLt
  have h2 : (y 2).val < 128 := (y 2).isLt
  have h3 : (y 3).val < 512 := (y 3).isLt
  unfold tripL_k0_t1 trip_k0_t1
  dsimp only
  by_cases h : (y 0).val = 1
  · have hm : y ∈ (Rect.unit (s := S2x4x128x512) (k0_off3 n) ![1, 1, 128, 512] (k0_off3_inb n)).set := by
      refine Rect.mem_set_unit.mpr fun a => ?_
      fin_cases a <;> simp [off3_eq] <;> omega
    exact ⟨⟨_, List.mem_cons_self, hm⟩, ⟨_, List.mem_cons_self, hm⟩⟩
  · have hm : y ∈ (Rect.unit (s := S2x4x128x512) (k0_off2 n) ![1, 1, 128, 512] (k0_off2_inb n)).set := by
      refine Rect.mem_set_unit.mpr fun a => ?_
      fin_cases a <;> simp [off2_eq] <;> omega
    exact ⟨⟨_, List.mem_cons_of_mem _ List.mem_cons_self, hm⟩, ⟨_, List.mem_cons_of_mem _ List.mem_cons_self, hm⟩⟩

theorem staged_mem (y : S2x4x128x512.Idx) : ∀ n : ℕ, n ≤ 4 → (y 1).val < n →
    (∃ p ∈ (staged c arg2 harg2 arg3 harg3 arg4 harg4 arg5 harg5 arg15 arg16 arg17 arg18 arg19 arg20 X0 X3 i arg6 harg6 arg7 harg7 arg8 harg8 arg9 harg9 arg10 harg10
      arg11 harg11 arg12 harg12 arg13 harg13 arg14 harg14 harg15 harg16 harg17 harg18 harg19 harg20 arg21 harg21 arg22 harg22 arg23 harg23 arg24 harg24 n).1, y ∈ p.1.set)
    ∧ ∃ p ∈ (staged c arg2 harg2 arg3 harg3 arg4 harg4 arg5 harg5 arg15 arg16 arg17 arg18 arg19 arg20 X0 X3 i arg6 harg6 arg7 harg7 arg8 harg8 arg9 harg9 arg10 harg10
      arg11 harg11 arg12 harg12 arg13 harg13 arg14 harg14 harg15 harg16 harg17 harg18 harg19 harg20 arg21 harg21 arg22 harg22 arg23 harg23 arg24 harg24 n).2, y ∈ p.1.set
  | 0, _, h => absurd h (Nat.not_lt_zero _)
  | n + 1, hn, h => by
    have hk : n < k0_t1_loop.trips := hn
    rw [show n + 1 = (⟨n, hk⟩ : Fin k0_t1_loop.trips).val + 1 from rfl, staged, pb_k0_t1_succ]
    by_cases e : (y 1).val = n
    · have := trip_mem c arg2 harg2 arg3 harg3 arg4 harg4 arg5 harg5 arg15 arg16 arg17 arg18 arg19 arg20 X0 X3 i arg6 harg6 arg7 harg7 arg8 harg8 arg9 harg9 arg10 harg10
        arg11 harg11 arg12 harg12 arg13 harg13 arg14 harg14 harg15 harg16 harg17 harg18 harg19 harg20 arg21 harg21 arg22 harg22 arg23 harg23 arg24 harg24 ⟨n, hk⟩ y e
      obtain ⟨⟨p, hp, hm⟩, ⟨q, hq, hm'⟩⟩ := this
      exact ⟨⟨p, List.mem_append_left _ hp, hm⟩, ⟨q, List.mem_append_left _ hq, hm'⟩⟩
    · obtain ⟨⟨p, hp, hm⟩, ⟨q, hq, hm'⟩⟩ := staged_mem y n (by omega) (by omega)
      exact ⟨⟨p, List.mem_append_right _ hp, hm⟩, ⟨q, List.mem_append_right _ hq, hm'⟩⟩

/-- The transposed queries of one head of the pair, as a load reads them. -/
theorem qt_read (off size : Fin 4 → ℕ) (inb) (y : (Rect.unit (s := S2x4x128x512) off size inb).shape.Idx) (hh : Fin 2) (n : Fin 4) (l : Fin 128)
    (j : Fin 512) (h0 : off 0 + (y 0).val = hh.val) (h1 : off 1 + (y 1).val = n.val) (h2 : off 2 + (y 2).val = l.val) (h3 : off 3 + (y 3).val = j.val) :
    arg21.view.readCov (staged c arg2 harg2 arg3 harg3 arg4 harg4 arg5 harg5 arg15 arg16 arg17 arg18 arg19 arg20 X0 X3 i arg6 harg6 arg7 harg7 arg8 harg8 arg9 harg9 arg10 harg10
      arg11 harg11 arg12 harg12 arg13 harg13 arg14 harg14 harg15 harg16 harg17 harg18 harg19 harg20 arg21 harg21 arg22 harg22 arg23 harg23 arg24 harg24 4).1 (Rect.unit off size inb).toLoadRect y
      = if lane hh l then X0 (ix3 0 ⟨512 * n.val + j.val, by omega⟩ l) * Ideal.ofBits .f32 0x3e000000#32 else 0 := by
  rw [View.readCov_eq_canon']
  have hy : (Rect.unit off size inb).toLoadRect.idx y = ix4 hh n l j := by
    funext a; apply Fin.ext; fin_cases a <;> simp [h0, h1, h2, h3]
  simp only [hy]
  have := View.canon_append_of_piecesOf _ [] _ (staged_pieces c arg2 harg2 arg3 harg3 arg4 harg4 arg5 harg5 arg15 arg16 arg17 arg18 arg19 arg20 X0 X3 i arg6 harg6 arg7 harg7 arg8 harg8 arg9 harg9 arg10 harg10
      arg11 harg11 arg12 harg12 arg13 harg13 arg14 harg14 harg15 harg16 harg17 harg18 harg19 harg20 arg21 harg21 arg22 harg22 arg23 harg23 arg24 harg24 4 (by omega)).1 (ix4 hh n l j) (staged_mem c arg2 harg2 arg3 harg3 arg4 harg4 arg5 harg5 arg15 arg16 arg17 arg18 arg19 arg20 X0 X3 i arg6 harg6 arg7 harg7 arg8 harg8 arg9 harg9 arg10 harg10
      arg11 harg11 arg12 harg12 arg13 harg13 arg14 harg14 harg15 harg16 harg17 harg18 harg19 harg20 arg21 harg21 arg22 harg22 arg23 harg23 arg24 harg24 _ 4 (by omega) n.isLt).1
  rw [List.append_nil] at this
  exact this

/-- The transposed cotangent of one head of the pair. -/
theorem dt_read (off size : Fin 4 → ℕ) (inb) (y : (Rect.unit (s := S2x4x128x512) off size inb).shape.Idx) (hh : Fin 2) (n : Fin 4) (l : Fin 128)
    (j : Fin 512) (h0 : off 0 + (y 0).val = hh.val) (h1 : off 1 + (y 1).val = n.val) (h2 : off 2 + (y 2).val = l.val) (h3 : off 3 + (y 3).val = j.val) :
    arg22.view.readCov (staged c arg2 harg2 arg3 harg3 arg4 harg4 arg5 harg5 arg15 arg16 arg17 arg18 arg19 arg20 X0 X3 i arg6 harg6 arg7 harg7 arg8 harg8 arg9 harg9 arg10 harg10
      arg11 harg11 arg12 harg12 arg13 harg13 arg14 harg14 harg15 harg16 harg17 harg18 harg19 harg20 arg21 harg21 arg22 harg22 arg23 harg23 arg24 harg24 4).2 (Rect.unit off size inb).toLoadRect y
      = if lane hh l then X3 (ix3 0 ⟨512 * n.val + j.val, by omega⟩ l) else 0 := by
  rw [View.readCov_eq_canon']
  have hy : (Rect.unit off size inb).toLoadRect.idx y = ix4 hh n l j := by
    funext a; apply Fin.ext; fin_cases a <;> simp [h0, h1, h2, h3]
  simp only [hy]
  have := View.canon_append_of_piecesOf _ [] _ (staged_pieces c arg2 harg2 arg3 harg3 arg4 harg4 arg5 harg5 arg15 arg16 arg17 arg18 arg19 arg20 X0 X3 i arg6 harg6 arg7 harg7 arg8 harg8 arg9 harg9 arg10 harg10
      arg11 harg11 arg12 harg12 arg13 harg13 arg14 harg14 harg15 harg16 harg17 harg18 harg19 harg20 arg21 harg21 arg22 harg22 arg23 harg23 arg24 harg24 4 (by omega)).2 (ix4 hh n l j) (staged_mem c arg2 harg2 arg3 harg3 arg4 harg4 arg5 harg5 arg15 arg16 arg17 arg18 arg19 arg20 X0 X3 i arg6 harg6 arg7 harg7 arg8 harg8 arg9 harg9 arg10 harg10
      arg11 harg11 arg12 harg12 arg13 harg13 arg14 harg14 harg15 harg16 harg17 harg18 harg19 harg20 arg21 harg21 arg22 harg22 arg23 harg23 arg24 harg24 _ 4 (by omega) n.isLt).2
  rw [List.append_nil] at this
  exact this

end Loop

end Cert.Fox
-- ==== Proof.FoxStep.lean ====
module

public import proofs.«01_k».proof.Proof.FoxStage
import all proofs.«01_k».proof.Proof.Gen.Kernel2Ideal.Frame.RunA

@[expose] public section

set_option maxRecDepth 16384

noncomputable section

namespace Cert.Fox

open Cert.Kernel2Ideal Cert.Kernel2Ideal.Gen Idealize.ShloMosaic Idealize.ShloMosaic.TcCoe Idealize.SL.Sem

/-! The forgetting attention's backward call: what the four blocks of queries add to the results. -/

section Spec

variable (q k : Fin 2048 → Fin 128 → EReal) (f l g : Fin 2048 → EReal) (d v : Fin 2048 → Fin 128 → EReal)

/-- The weight of key `s` for query `t`, from the saved logarithm of the row's sum. -/
def pr (t s : Fin 2048) : EReal := Ideal.exp (if s.val ≤ t.val then (∑ x : Fin 128, q t x * k s x) + ((f t - l t) - g s) else ⊥)
/-- The cotangent of that weight. -/
def dp (t s : Fin 2048) : EReal := ∑ x : Fin 128, d t x * v s x
/-- The cotangent of the logit. -/
def ds (t s : Fin 2048) : EReal := pr q k f l g t s * (dp d v t s - ∑ s' : Fin 2048, pr q k f l g t s' * dp d v t s')

theorem pr_of_lt {t s : Fin 2048} (h : t.val < s.val) : pr q k f l g t s = 0 := by
  rw [pr, if_neg (by omega)]; rfl

/-- A sum over the first `w` keys is the sum over all, when the others are zero. -/
theorem sum_prefix (w : ℕ) (hw : w ≤ 2048) (F : Fin w → EReal) (G : Fin 2048 → EReal) (h : ∀ s : Fin w, F s = G ⟨s, by omega⟩)
    (h0 : ∀ s : Fin 2048, w ≤ s.val → G s = 0) : ∑ s, F s = ∑ s, G s := by
  rw [Finset.sum_congr rfl fun s _ => h s]
  refine Finset.sum_of_injOn (fun s : Fin w => (⟨s, by omega⟩ : Fin 2048)) (fun a _ b _ e => Fin.ext (Fin.mk.inj_iff.mp e))
    (fun _ _ => Finset.mem_coe.mpr (Finset.mem_univ _)) (fun s _ hs => h0 s ?_) (fun _ _ => rfl)
  by_contra hlt
  exact hs ⟨⟨s, by omega⟩, Finset.mem_coe.mpr (Finset.mem_univ _), rfl⟩

/-- The same sum in two parts, the keys before block `w` and the block itself. -/
theorem sum_two (w : ℕ) (hw : w + 512 ≤ 2048) (G : Fin 2048 → EReal) (h0 : ∀ s : Fin 2048, w + 512 ≤ s.val → G s = 0) :
    (∑ s : Fin w, G ⟨s, by omega⟩) + (∑ s : Fin 512, G ⟨w + s, by omega⟩) = ∑ s, G s := by
  rw [← sum_prefix (w + 512) hw (fun s => G ⟨s, by omega⟩) G (fun _ => rfl) h0, Fin.sum_univ_add]
  rfl

theorem causal (a b : Fin 512) (X Y : EReal) :
    Scalar.select (IntOp.cmpi CmpIPredicate.sle (IntOp.subi (BitVec.ofNat 32 a.val) (BitVec.ofNat 32 b.val)) 0#32) X Y = if a.val ≤ b.val then X else Y := by
  have h : IntOp.cmpi CmpIPredicate.sle (IntOp.subi (BitVec.ofNat 32 a.val) (BitVec.ofNat 32 b.val)) 0#32 = if a.val ≤ b.val then 1#1 else 0#1 := by
    obtain ⟨a, ha⟩ := a
    obtain ⟨b, hb⟩ := b
    have hs : ((BitVec.ofNat 32 a - BitVec.ofNat 32 b).sle 0#32) = decide (a ≤ b) := by
      have e : ∀ n : ℕ, n < 512 → (BitVec.ofNat 32 n).toInt = n := fun n hn => by
        rw [BitVec.toInt_eq_toNat_of_lt (by rw [BitVec.toNat_ofNat]; omega), BitVec.toNat_ofNat]; omega
      rw [BitVec.sle_eq_decide, BitVec.toInt_sub, e a ha, e b hb, Int.bmod_eq_of_le (by omega) (by omega), decide_eq_decide]
      show (a : ℤ) - b ≤ 0 ↔ _
      omega
    show BitVec.ofBool ((BitVec.ofNat 32 a - BitVec.ofNat 32 b).sle 0#32) = _
    rw [hs]
    by_cases hab : a ≤ b <;> simp [hab]
  rw [h]
  split <;> simp [Scalar.select]

theorem mask_bot : (Named.named κ "mask" 4048155338#32 : Ideal .f32) = (⊥ : EReal) := by rfl

/-- The weight inside block `w` of the keys, as the kernel masks it. -/
theorem pr_block (w : ℕ) (hw : w + 512 ≤ 2048) (j s : Fin 512) :
    Ideal.exp (Scalar.select (IntOp.cmpi CmpIPredicate.sle (IntOp.subi (BitVec.ofNat 32 s.val) (BitVec.ofNat 32 j.val)) 0#32)
      ((∑ x : Fin 128, q ⟨w + j, by omega⟩ x * k ⟨w + s, by omega⟩ x) + ((f ⟨w + j, by omega⟩ - l ⟨w + j, by omega⟩) - g ⟨w + s, by omega⟩))
      (Named.named κ "mask" 4048155338#32 : Ideal .f32)) = pr q k f l g ⟨w + j, by omega⟩ ⟨w + s, by omega⟩ := by
  rw [causal, mask_bot, pr]
  simp only [Nat.add_le_add_iff_left]

/-- The weight of a key before block `w`. -/
theorem pr_before (w : ℕ) (hw : w + 512 ≤ 2048) (j : Fin 512) (s : ℕ) (hs : s < w) :
    Ideal.exp ((∑ x : Fin 128, q ⟨w + j, by omega⟩ x * k ⟨s, by omega⟩ x) + ((f ⟨w + j, by omega⟩ - l ⟨w + j, by omega⟩) - g ⟨s, by omega⟩))
      = pr q k f l g ⟨w + j, by omega⟩ ⟨s, by omega⟩ := by
  rw [pr, if_pos (by simp only; omega)]

/-- The weight of any key up to the block's end. -/
theorem pr_any (w : ℕ) (hw : w + 512 ≤ 2048) (j : Fin 512) (s : Fin (w + 512)) :
    Ideal.exp (if h : s.val < w then (∑ x : Fin 128, q ⟨w + j, by omega⟩ x * k ⟨s, by omega⟩ x) + ((f ⟨w + j, by omega⟩ - l ⟨w + j, by omega⟩) - g ⟨s, by omega⟩)
      else Scalar.select (IntOp.cmpi CmpIPredicate.sle (IntOp.subi (BitVec.ofNat 32 (s.val - w)) (BitVec.ofNat 32 j.val)) 0#32)
        ((∑ x : Fin 128, q ⟨w + j, by omega⟩ x * k ⟨w + (s - w), by omega⟩ x) + ((f ⟨w + j, by omega⟩ - l ⟨w + j, by omega⟩) - g ⟨w + (s - w), by omega⟩))
        (Named.named κ "mask" 4048155338#32 : Ideal .f32)) = pr q k f l g ⟨w + j, by omega⟩ ⟨s, by omega⟩ := by
  split
  · exact pr_before q k f l g w hw j s ‹_›
  · rw [pr_block q k f l g w hw j ⟨s - w, by omega⟩]
    congr 2
    exact Nat.add_sub_cancel' (by omega)

theorem ds_of_lt {t s : Fin 2048} (h : t.val < s.val) : ds q k f l g d v t s = 0 := by rw [ds, pr_of_lt q k f l g h, zero_mul]

variable {q k f l g d v}

/-- The cotangent of the logit of a key up to the block's end, as the kernel computes it. -/
theorem ds_close (w : ℕ) (hw : w + 512 ≤ 2048) (j : Fin 512) (s : Fin (w + 512)) :
    Ideal.exp (if h : s.val < w then (∑ x : Fin 128, q ⟨w + j, by omega⟩ x * k ⟨s, by omega⟩ x) + ((f ⟨w + j, by omega⟩ - l ⟨w + j, by omega⟩) - g ⟨s, by omega⟩)
      else Scalar.select (IntOp.cmpi CmpIPredicate.sle (IntOp.subi (BitVec.ofNat 32 (s.val - w)) (BitVec.ofNat 32 j.val)) 0#32)
        ((∑ x : Fin 128, q ⟨w + j, by omega⟩ x * k ⟨w + (s - w), by omega⟩ x) + ((f ⟨w + j, by omega⟩ - l ⟨w + j, by omega⟩) - g ⟨w + (s - w), by omega⟩))
        (Named.named κ "mask" 4048155338#32 : Ideal .f32)) *
      ((∑ x : Fin 128, d ⟨w + j, by omega⟩ x * v ⟨s, by omega⟩ x) -
        ((∑ s : Fin w, Ideal.exp ((∑ x : Fin 128, q ⟨w + j, by omega⟩ x * k ⟨s, by omega⟩ x) + ((f ⟨w + j, by omega⟩ - l ⟨w + j, by omega⟩) - g ⟨s, by omega⟩))
            * ∑ x : Fin 128, d ⟨w + j, by omega⟩ x * v ⟨s, by omega⟩ x)
          + ∑ s : Fin 512, Ideal.exp (Scalar.select (IntOp.cmpi CmpIPredicate.sle (IntOp.subi (BitVec.ofNat 32 s.val) (BitVec.ofNat 32 j.val)) 0#32)
              ((∑ x : Fin 128, q ⟨w + j, by omega⟩ x * k ⟨w + s, by omega⟩ x) + ((f ⟨w + j, by omega⟩ - l ⟨w + j, by omega⟩) - g ⟨w + s, by omega⟩))
              (Named.named κ "mask" 4048155338#32 : Ideal .f32)) * ∑ x : Fin 128, d ⟨w + j, by omega⟩ x * v ⟨w + s, by omega⟩ x))
      = ds q k f l g d v ⟨w + j, by omega⟩ ⟨s, by omega⟩ := by
  rw [pr_any q k f l g w hw j s, ds, ← sum_two w hw _ fun s hs => by rw [pr_of_lt q k f l g (by simp only; omega), zero_mul]]
  refine congrArg (_ * ·) (congrArg (_ - ·) (congrArg₂ (· + ·) (Finset.sum_congr rfl fun s _ => ?_) (Finset.sum_congr rfl fun s _ => ?_)))
  · rw [pr_before q k f l g w hw j s s.isLt]; rfl
  · rw [pr_block q k f l g w hw j s]; rfl

/-- The weight in the first block, where no key lies before it. -/
theorem pr_first (j s : Fin 512) :
    Ideal.exp (Scalar.select (IntOp.cmpi CmpIPredicate.sle (IntOp.subi (BitVec.ofNat 32 s.val) (BitVec.ofNat 32 j.val)) 0#32)
      ((∑ x : Fin 128, q ⟨j, by omega⟩ x * k ⟨s, by omega⟩ x) + ((f ⟨j, by omega⟩ - l ⟨j, by omega⟩) - g ⟨s, by omega⟩))
      (Named.named κ "mask" 4048155338#32 : Ideal .f32)) = pr q k f l g ⟨j, by omega⟩ ⟨s, by omega⟩ := by
  rw [causal, mask_bot, pr]

/-- The same with the sum over the keys written in one piece. -/
theorem dst_close (w w' : ℕ) (hw : w + 512 = w') (hw' : w' ≤ 2048) (j : Fin 512) (s : Fin w') :
    pr q k f l g ⟨w + j, by omega⟩ ⟨s, by omega⟩ * ((∑ x : Fin 128, d ⟨w + j, by omega⟩ x * v ⟨s, by omega⟩ x)
      - ∑ s : Fin w', pr q k f l g ⟨w + j, by omega⟩ ⟨s, by omega⟩ * ∑ x : Fin 128, d ⟨w + j, by omega⟩ x * v ⟨s, by omega⟩ x)
      = ds q k f l g d v ⟨w + j, by omega⟩ ⟨s, by omega⟩ := by
  rw [ds, ← sum_prefix w' hw' (fun s => pr q k f l g ⟨w + j, by omega⟩ ⟨s, by omega⟩ * dp d v ⟨w + j, by omega⟩ ⟨s, by omega⟩) _ (fun _ => rfl)
    fun s hs => by rw [pr_of_lt q k f l g (by simp only; omega), zero_mul]]
  rfl

/-- The same in the first block. -/
theorem ds_first (j s : Fin 512) :
    pr q k f l g ⟨j, by omega⟩ ⟨s, by omega⟩ * ((∑ x : Fin 128, d ⟨j, by omega⟩ x * v ⟨s, by omega⟩ x)
      - ∑ s : Fin 512, pr q k f l g ⟨j, by omega⟩ ⟨s, by omega⟩ * ∑ x : Fin 128, d ⟨j, by omega⟩ x * v ⟨s, by omega⟩ x)
      = ds q k f l g d v ⟨j, by omega⟩ ⟨s, by omega⟩ := by
  have h := dst_close (q := q) (k := k) (f := f) (l := l) (g := g) (d := d) (v := v) 0 512 rfl (by decide) j s
  simpa only [Nat.zero_add] using h

end Spec

theorem block0 : 0 + 512 ≤ 2048 := by decide
theorem block1 : 512 + 512 ≤ 2048 := by decide
theorem block2 : 1024 + 512 ≤ 2048 := by decide
theorem block3 : 1536 + 512 ≤ 2048 := by decide
theorem upto0 : 512 ≤ 2048 := by decide
theorem upto1 : 1024 ≤ 2048 := by decide
theorem upto2 : 1536 ≤ 2048 := by decide
theorem upto3 : 2048 ≤ 2048 := by decide

/-- What the kernel loads for the queries of block `w`. -/
structure Rows (w : ℕ) (hw : w + 512 ≤ 2048) (q d : Fin 2048 → Fin 128 → EReal) (f l : Fin 2048 → EReal)
    (qv dv : Vec Ideal S1x512x128 .bf16) (fv lv : Vec Ideal S1x1x512x1 .f32) (qt dt : Vec Ideal S1x1x128x512 .bf16) (ft lt : Vec Ideal S1x1x1x1x512 .f32) : Prop where
  hq : ∀ (j : Fin 512) (x : Fin 128), qv (ix3 0 j x) = q ⟨w + j, by omega⟩ x
  hd : ∀ (j : Fin 512) (x : Fin 128), dv (ix3 0 j x) = d ⟨w + j, by omega⟩ x
  hf : ∀ j : Fin 512, fv (ix4 0 0 j 0) = f ⟨w + j, by omega⟩
  hl : ∀ j : Fin 512, lv (ix4 0 0 j 0) = l ⟨w + j, by omega⟩
  hqt : ∀ (x : Fin 128) (j : Fin 512), qt (ix4 0 0 x j) = q ⟨w + j, by omega⟩ x
  hdt : ∀ (x : Fin 128) (j : Fin 512), dt (ix4 0 0 x j) = d ⟨w + j, by omega⟩ x
  hft : ∀ j : Fin 512, ft (ix5 0 0 0 0 j) = f ⟨w + j, by omega⟩
  hlt : ∀ j : Fin 512, lt (ix5 0 0 0 0 j) = l ⟨w + j, by omega⟩

/-- What the kernel loads for the first `w` keys. -/
structure Keys (w : ℕ) (hw : w ≤ 2048) (k v : Fin 2048 → Fin 128 → EReal) (g : Fin 2048 → EReal)
    (kt vt : Vec Ideal ⟨2, ![128, w]⟩ .bf16) (gv : Vec Ideal ⟨4, ![1, 1, 1, w]⟩ .f32) (kb vb : Vec Ideal ⟨2, ![w, 128]⟩ .bf16)
    (gc : Vec Ideal ⟨4, ![1, 1, w, 1]⟩ .f32) : Prop where
  hkt : ∀ (x : Fin 128) (s : Fin w), kt (ix2 x s) = k ⟨s, by omega⟩ x
  hvt : ∀ (x : Fin 128) (s : Fin w), vt (ix2 x s) = v ⟨s, by omega⟩ x
  hg : ∀ s : Fin w, gv (ix4 0 0 0 s) = g ⟨s, by omega⟩
  hk : ∀ (s : Fin w) (x : Fin 128), kb (ix2 s x) = k ⟨s, by omega⟩ x
  hv : ∀ (s : Fin w) (x : Fin 128), vb (ix2 s x) = v ⟨s, by omega⟩ x
  hgc : ∀ s : Fin w, gc (ix4 0 0 s 0) = g ⟨s, by omega⟩

section Payloads

variable {q k d v : Fin 2048 → Fin 128 → EReal} {f l g : Fin 2048 → EReal}
  {qv dv : Vec Ideal S1x512x128 .bf16} {fv lv : Vec Ideal S1x1x512x1 .f32} {qt dt : Vec Ideal S1x1x128x512 .bf16} {ft lt : Vec Ideal S1x1x1x1x512 .f32}

section Block0

variable {kt vt : Vec Ideal S128x512 .bf16} {gv : Vec Ideal S1x1x1x512 .f32} {kb vb : Vec Ideal S512x128 .bf16} {gc : Vec Ideal S1x1x512x1 .f32}
  (hr : Rows 0 block0 q d f l qv dv fv lv qt dt ft lt) (hk : Keys 512 upto0 k v g kt vt gv kb vb gc)

include hr hk

theorem ds_0_0 (j : Fin 512) (s : Fin 512) : k0_pay34 k0_pay30 0#32 (k0_pay32 qv) (k0_pay33 dv) kt (kernelRun0_A.sl.cst_59 (F := Ideal)) fv lv gv vt (ix2 j s)
    = ds q k f l g d v ⟨0 + j, by omega⟩ ⟨s, by omega⟩ := by
  pointwise [k0_pay34, k0_pay30, k0_pay32, k0_pay33, kernelRun0_A.sl.cst_59]
  simp only [hr.hq, hr.hd, hr.hf, hr.hl, hk.hkt, hk.hvt, hk.hg, Nat.zero_add, pr_first]
  exact ds_first j s

theorem dq_0_0 (j : Fin 512) (x : Fin 128) : k0_pay35 k0_pay30 0#32 (k0_pay32 qv) (k0_pay33 dv) kt (kernelRun0_A.sl.cst_59 (F := Ideal)) fv lv gv vt kb (ix2 j x)
    = ∑ s : Fin 2048, ds q k f l g d v ⟨0 + j, by omega⟩ s * k s x := by
  pointwise [k0_pay35]
  exact sum_prefix 512 (by decide) _ _ (fun s => congrArg₂ (· * ·) ((ds_0_0 hr hk j s).trans (by simp only [Nat.zero_add])) (hk.hk s x)) fun s hs => by rw [ds_of_lt _ _ _ _ _ _ _ (by simp only; omega), zero_mul]

theorem df_0_0 (old : Vec Ideal S1x1x1x512 .f32) (s : Fin 512) : k0_pay37 (k0_pay36 k0_pay30 0#32 (k0_pay32 qv) (k0_pay33 dv) kt (kernelRun0_A.sl.cst_59 (F := Ideal)) fv lv gv vt old) (ix4 0 0 0 s)
    = old (ix4 0 0 0 s) - ∑ j : Fin 512, ds q k f l g d v ⟨0 + j, by omega⟩ ⟨s, by omega⟩ := by
  pointwise [k0_pay37, k0_pay36]
  simp only [ds_0_0 hr hk, Nat.zero_add]

theorem pt_0_0 (s : Fin 512) (j : Fin 512) : k0_pay38 k0_pay31 0#32 kb qt ft lt gc (ix2 s j) = pr q k f l g ⟨0 + j, by omega⟩ ⟨s, by omega⟩ := by
  pointwise [k0_pay38, k0_pay31]
  simp only [hr.hqt, hr.hft, hr.hlt, hk.hk, hk.hgc, mul_comm (k _ _), Nat.zero_add]
  exact pr_first j s

theorem dk_0_0 (acc : Vec Ideal S512x128 .f32) (s : Fin 512) (x : Fin 128) :
    k0_pay41 (k0_pay32 qv) (k0_pay38 k0_pay31 0#32 kb qt ft lt gc) (k0_pay39 vb dt) (k0_pay40 k0_pay31 0#32 kb qt ft lt gc vb dt) acc (ix2 s x)
    = acc (ix2 s x) + ∑ j : Fin 512, ds q k f l g d v ⟨0 + j, by omega⟩ ⟨s, by omega⟩ * q ⟨0 + j, by omega⟩ x := by
  pointwise [k0_pay41, k0_pay32, k0_pay39, k0_pay40]
  simp only [pt_0_0 hr hk, hk.hv, hr.hdt, hr.hq, mul_comm (v _ _), Nat.zero_add]
  simp only [ds_first]

theorem dv_0_0 (acc : Vec Ideal S512x128 .f32) (s : Fin 512) (x : Fin 128) :
    k0_pay42 (k0_pay33 dv) (k0_pay38 k0_pay31 0#32 kb qt ft lt gc) acc (ix2 s x)
    = acc (ix2 s x) + ∑ j : Fin 512, pr q k f l g ⟨0 + j, by omega⟩ ⟨s, by omega⟩ * d ⟨0 + j, by omega⟩ x := by
  pointwise [k0_pay42, k0_pay33]
  simp only [pt_0_0 hr hk, hr.hd, Nat.zero_add]

theorem ds_0_1 (j : Fin 512) (s : Fin 512) : k0_pay47 k0_pay30 0#32 (k0_pay44 dv) (k0_pay45 qv kt) (k0_pay46 fv lv) gv vt (ix2 j s)
    = ds q k f l g d v ⟨0 + j, by omega⟩ ⟨s, by omega⟩ := by
  pointwise [k0_pay47, k0_pay30, k0_pay44, k0_pay45, k0_pay43, k0_pay46]
  simp only [hr.hq, hr.hd, hr.hf, hr.hl, hk.hkt, hk.hvt, hk.hg, Nat.zero_add, pr_first]
  exact ds_first j s

theorem dq_0_1 (j : Fin 512) (x : Fin 128) : k0_pay48 k0_pay30 0#32 (k0_pay44 dv) (k0_pay45 qv kt) (k0_pay46 fv lv) gv vt kb (ix2 j x)
    = ∑ s : Fin 2048, ds q k f l g d v ⟨0 + j, by omega⟩ s * k s x := by
  pointwise [k0_pay48]
  exact sum_prefix 512 (by decide) _ _ (fun s => congrArg₂ (· * ·) ((ds_0_1 hr hk j s).trans (by simp only [Nat.zero_add])) (hk.hk s x)) fun s hs => by rw [ds_of_lt _ _ _ _ _ _ _ (by simp only; omega), zero_mul]

theorem df_0_1 (old : Vec Ideal S1x1x1x512 .f32) (s : Fin 512) : k0_pay49 k0_pay30 0#32 (k0_pay44 dv) (k0_pay45 qv kt) (k0_pay46 fv lv) gv vt old (ix4 0 0 0 s)
    = old (ix4 0 0 0 s) - ∑ j : Fin 512, ds q k f l g d v ⟨0 + j, by omega⟩ ⟨s, by omega⟩ := by
  pointwise [k0_pay49]
  simp only [ds_0_1 hr hk, Nat.zero_add]

theorem pt_0_1 (s : Fin 512) (j : Fin 512) : k0_pay50 k0_pay31 0#32 kb qt ft lt gc (ix2 s j) = pr q k f l g ⟨0 + j, by omega⟩ ⟨s, by omega⟩ := by
  pointwise [k0_pay50, k0_pay31]
  simp only [hr.hqt, hr.hft, hr.hlt, hk.hk, hk.hgc, mul_comm (k _ _), Nat.zero_add]
  exact pr_first j s

theorem dk_0_1 (acc : Vec Ideal S512x128 .f32) (s : Fin 512) (x : Fin 128) :
    k0_pay52 (k0_pay51 k0_pay31 0#32 (k0_pay43 qv) kb qt ft lt gc vb dt acc) (ix2 s x)
    = acc (ix2 s x) + ∑ j : Fin 512, ds q k f l g d v ⟨0 + j, by omega⟩ ⟨s, by omega⟩ * q ⟨0 + j, by omega⟩ x := by
  pointwise [k0_pay52, k0_pay51, k0_pay43]
  simp only [pt_0_1 hr hk, hk.hv, hr.hdt, hr.hq, mul_comm (v _ _), Nat.zero_add]
  simp only [ds_first]

theorem dv_0_1 (acc : Vec Ideal S512x128 .f32) (s : Fin 512) (x : Fin 128) :
    k0_pay53 (k0_pay44 dv) (k0_pay50 k0_pay31 0#32 kb qt ft lt gc) acc (ix2 s x)
    = acc (ix2 s x) + ∑ j : Fin 512, pr q k f l g ⟨0 + j, by omega⟩ ⟨s, by omega⟩ * d ⟨0 + j, by omega⟩ x := by
  pointwise [k0_pay53, k0_pay44]
  simp only [pt_0_1 hr hk, hr.hd, Nat.zero_add]

end Block0

section Block1

variable {kt vt : Vec Ideal S128x1024 .bf16} {gv : Vec Ideal S1x1x1x1024 .f32} {kb vb : Vec Ideal S1024x128 .bf16} {gc : Vec Ideal S1x1x1024x1 .f32}
  (hr : Rows 512 block1 q d f l qv dv fv lv qt dt ft lt) (hk : Keys 1024 upto1 k v g kt vt gv kb vb gc)

include hr hk

theorem ds_1_0 (j : Fin 512) (s : Fin 1024) : k0_pay59 k0_pay30 0#32 (k0_pay56 dv) (k0_pay57 qv kt) (k0_pay58 fv) lv gv vt (ix2 j s)
    = ds q k f l g d v ⟨512 + j, by omega⟩ ⟨s, by omega⟩ := by
  pointwise [k0_pay59, k0_pay30, k0_pay56, k0_pay57, k0_pay55, k0_pay58]
  simp only [hr.hq, hr.hd, hr.hf, hr.hl, hk.hkt, hk.hvt, hk.hg]
  exact ds_close 512 (by decide) j s

theorem dq_1_0 (j : Fin 512) (x : Fin 128) : k0_pay60 k0_pay30 0#32 (k0_pay56 dv) (k0_pay57 qv kt) (k0_pay58 fv) lv gv vt kb (ix2 j x)
    = ∑ s : Fin 2048, ds q k f l g d v ⟨512 + j, by omega⟩ s * k s x := by
  pointwise [k0_pay60]
  exact sum_prefix 1024 (by decide) _ _ (fun s => congrArg₂ (· * ·) (ds_1_0 hr hk j s) (hk.hk s x)) fun s hs => by rw [ds_of_lt _ _ _ _ _ _ _ (by simp only; omega), zero_mul]

theorem df_1_0 (old : Vec Ideal S1x1x1x1024 .f32) (s : Fin 1024) : k0_pay62 (k0_pay61 k0_pay30 0#32 (k0_pay56 dv) (k0_pay57 qv kt) (k0_pay58 fv) lv gv vt old) (ix4 0 0 0 s)
    = old (ix4 0 0 0 s) - ∑ j : Fin 512, ds q k f l g d v ⟨512 + j, by omega⟩ ⟨s, by omega⟩ := by
  pointwise [k0_pay62, k0_pay61]
  simp only [ds_1_0 hr hk]

theorem pt_1_0 (s : Fin 1024) (j : Fin 512) : k0_pay63 k0_pay31 0#32 kb qt ft lt gc (ix2 s j) = pr q k f l g ⟨512 + j, by omega⟩ ⟨s, by omega⟩ := by
  pointwise [k0_pay63, k0_pay31]
  simp only [hr.hqt, hr.hft, hr.hlt, hk.hk, hk.hgc, mul_comm (k _ _)]
  exact pr_any q k f l g 512 (by decide) j s

theorem dk_1_0 (acc : Vec Ideal S1024x128 .f32) (s : Fin 1024) (x : Fin 128) :
    k0_pay66 (k0_pay55 qv) (k0_pay63 k0_pay31 0#32 kb qt ft lt gc) (k0_pay64 vb dt) (k0_pay65 k0_pay31 0#32 kb qt ft lt gc vb dt) acc (ix2 s x)
    = acc (ix2 s x) + ∑ j : Fin 512, ds q k f l g d v ⟨512 + j, by omega⟩ ⟨s, by omega⟩ * q ⟨512 + j, by omega⟩ x := by
  pointwise [k0_pay66, k0_pay65, k0_pay64, k0_pay55]
  simp only [pt_1_0 hr hk, hk.hv, hr.hdt, hr.hq, mul_comm (v _ _)]
  simp only [dst_close 512 1024 rfl (by decide)]

theorem dv_1_0 (acc : Vec Ideal S1024x128 .f32) (s : Fin 1024) (x : Fin 128) :
    k0_pay67 (k0_pay56 dv) (k0_pay63 k0_pay31 0#32 kb qt ft lt gc) acc (ix2 s x)
    = acc (ix2 s x) + ∑ j : Fin 512, pr q k f l g ⟨512 + j, by omega⟩ ⟨s, by omega⟩ * d ⟨512 + j, by omega⟩ x := by
  pointwise [k0_pay67, k0_pay56]
  simp only [pt_1_0 hr hk, hr.hd]

theorem ds_1_1 (j : Fin 512) (s : Fin 1024) : k0_pay72 k0_pay30 0#32 (k0_pay69 dv) (k0_pay70 qv kt) (k0_pay71 fv lv) gv vt (ix2 j s)
    = ds q k f l g d v ⟨512 + j, by omega⟩ ⟨s, by omega⟩ := by
  pointwise [k0_pay72, k0_pay30, k0_pay69, k0_pay70, k0_pay68, k0_pay71]
  simp only [hr.hq, hr.hd, hr.hf, hr.hl, hk.hkt, hk.hvt, hk.hg]
  exact ds_close 512 (by decide) j s

theorem dq_1_1 (j : Fin 512) (x : Fin 128) : k0_pay73 k0_pay30 0#32 (k0_pay69 dv) (k0_pay70 qv kt) (k0_pay71 fv lv) gv vt kb (ix2 j x)
    = ∑ s : Fin 2048, ds q k f l g d v ⟨512 + j, by omega⟩ s * k s x := by
  pointwise [k0_pay73]
  exact sum_prefix 1024 (by decide) _ _ (fun s => congrArg₂ (· * ·) (ds_1_1 hr hk j s) (hk.hk s x)) fun s hs => by rw [ds_of_lt _ _ _ _ _ _ _ (by simp only; omega), zero_mul]

theorem df_1_1 (old : Vec Ideal S1x1x1x1024 .f32) (s : Fin 1024) : k0_pay74 k0_pay30 0#32 (k0_pay69 dv) (k0_pay70 qv kt) (k0_pay71 fv lv) gv vt old (ix4 0 0 0 s)
    = old (ix4 0 0 0 s) - ∑ j : Fin 512, ds q k f l g d v ⟨512 + j, by omega⟩ ⟨s, by omega⟩ := by
  pointwise [k0_pay74]
  simp only [ds_1_1 hr hk]

theorem pt_1_1 (s : Fin 1024) (j : Fin 512) : k0_pay75 k0_pay31 0#32 kb qt ft lt gc (ix2 s j) = pr q k f l g ⟨512 + j, by omega⟩ ⟨s, by omega⟩ := by
  pointwise [k0_pay75, k0_pay31]
  simp only [hr.hqt, hr.hft, hr.hlt, hk.hk, hk.hgc, mul_comm (k _ _)]
  exact pr_any q k f l g 512 (by decide) j s

theorem dk_1_1 (acc : Vec Ideal S1024x128 .f32) (s : Fin 1024) (x : Fin 128) :
    k0_pay77 (k0_pay68 qv) (k0_pay76 k0_pay31 0#32 kb qt ft lt gc vb dt) acc (ix2 s x)
    = acc (ix2 s x) + ∑ j : Fin 512, ds q k f l g d v ⟨512 + j, by omega⟩ ⟨s, by omega⟩ * q ⟨512 + j, by omega⟩ x := by
  pointwise [k0_pay77, k0_pay76, k0_pay68]
  simp only [pt_1_1 hr hk, hk.hv, hr.hdt, hr.hq, mul_comm (v _ _)]
  simp only [dst_close 512 1024 rfl (by decide)]

theorem dv_1_1 (acc : Vec Ideal S1024x128 .f32) (s : Fin 1024) (x : Fin 128) :
    k0_pay78 (k0_pay69 dv) (k0_pay75 k0_pay31 0#32 kb qt ft lt gc) acc (ix2 s x)
    = acc (ix2 s x) + ∑ j : Fin 512, pr q k f l g ⟨512 + j, by omega⟩ ⟨s, by omega⟩ * d ⟨512 + j, by omega⟩ x := by
  pointwise [k0_pay78, k0_pay69]
  simp only [pt_1_1 hr hk, hr.hd]

end Block1

section Block2

variable {kt vt : Vec Ideal S128x1536 .bf16} {gv : Vec Ideal S1x1x1x1536 .f32} {kb vb : Vec Ideal S1536x128 .bf16} {gc : Vec Ideal S1x1x1536x1 .f32}
  (hr : Rows 1024 block2 q d f l qv dv fv lv qt dt ft lt) (hk : Keys 1536 upto2 k v g kt vt gv kb vb gc)

include hr hk

theorem ds_2_0 (j : Fin 512) (s : Fin 1536) : k0_pay83 k0_pay30 0#32 (k0_pay81 dv) (k0_pay82 qv kt) fv lv gv vt (ix2 j s)
    = ds q k f l g d v ⟨1024 + j, by omega⟩ ⟨s, by omega⟩ := by
  pointwise [k0_pay83, k0_pay30, k0_pay81, k0_pay82, k0_pay80]
  simp only [hr.hq, hr.hd, hr.hf, hr.hl, hk.hkt, hk.hvt, hk.hg]
  exact ds_close 1024 (by decide) j s

theorem dq_2_0 (j : Fin 512) (x : Fin 128) : k0_pay84 k0_pay30 0#32 (k0_pay81 dv) (k0_pay82 qv kt) fv lv gv vt kb (ix2 j x)
    = ∑ s : Fin 2048, ds q k f l g d v ⟨1024 + j, by omega⟩ s * k s x := by
  pointwise [k0_pay84]
  exact sum_prefix 1536 (by decide) _ _ (fun s => congrArg₂ (· * ·) (ds_2_0 hr hk j s) (hk.hk s x)) fun s hs => by rw [ds_of_lt _ _ _ _ _ _ _ (by simp only; omega), zero_mul]

theorem df_2_0 (old : Vec Ideal S1x1x1x1536 .f32) (s : Fin 1536) : k0_pay86 (k0_pay85 k0_pay30 0#32 (k0_pay81 dv) (k0_pay82 qv kt) fv lv gv vt old) (ix4 0 0 0 s)
    = old (ix4 0 0 0 s) - ∑ j : Fin 512, ds q k f l g d v ⟨1024 + j, by omega⟩ ⟨s, by omega⟩ := by
  pointwise [k0_pay86, k0_pay85]
  simp only [ds_2_0 hr hk]

theorem pt_2_0 (s : Fin 1536) (j : Fin 512) : k0_pay87 k0_pay31 0#32 kb qt ft lt gc (ix2 s j) = pr q k f l g ⟨1024 + j, by omega⟩ ⟨s, by omega⟩ := by
  pointwise [k0_pay87, k0_pay31]
  simp only [hr.hqt, hr.hft, hr.hlt, hk.hk, hk.hgc, mul_comm (k _ _)]
  exact pr_any q k f l g 1024 (by decide) j s

theorem dk_2_0 (acc : Vec Ideal S1536x128 .f32) (s : Fin 1536) (x : Fin 128) :
    k0_pay88 (k0_pay80 qv) (k0_pay87 k0_pay31 0#32 kb qt ft lt gc) vb dt acc (ix2 s x)
    = acc (ix2 s x) + ∑ j : Fin 512, ds q k f l g d v ⟨1024 + j, by omega⟩ ⟨s, by omega⟩ * q ⟨1024 + j, by omega⟩ x := by
  pointwise [k0_pay88, k0_pay80]
  simp only [pt_2_0 hr hk, hk.hv, hr.hdt, hr.hq, mul_comm (v _ _)]
  simp only [dst_close 1024 1536 rfl (by decide)]

theorem dv_2_0 (acc : Vec Ideal S1536x128 .f32) (s : Fin 1536) (x : Fin 128) :
    k0_pay89 (k0_pay81 dv) (k0_pay87 k0_pay31 0#32 kb qt ft lt gc) acc (ix2 s x)
    = acc (ix2 s x) + ∑ j : Fin 512, pr q k f l g ⟨1024 + j, by omega⟩ ⟨s, by omega⟩ * d ⟨1024 + j, by omega⟩ x := by
  pointwise [k0_pay89, k0_pay81]
  simp only [pt_2_0 hr hk, hr.hd]

theorem ds_2_1 (j : Fin 512) (s : Fin 1536) : k0_pay94 k0_pay30 0#32 (k0_pay91 dv) (k0_pay92 qv kt) (k0_pay93 fv) lv gv vt (ix2 j s)
    = ds q k f l g d v ⟨1024 + j, by omega⟩ ⟨s, by omega⟩ := by
  pointwise [k0_pay94, k0_pay30, k0_pay91, k0_pay92, k0_pay90, k0_pay93]
  simp only [hr.hq, hr.hd, hr.hf, hr.hl, hk.hkt, hk.hvt, hk.hg]
  exact ds_close 1024 (by decide) j s

theorem dq_2_1 (j : Fin 512) (x : Fin 128) : k0_pay95 k0_pay30 0#32 (k0_pay91 dv) (k0_pay92 qv kt) (k0_pay93 fv) lv gv vt kb (ix2 j x)
    = ∑ s : Fin 2048, ds q k f l g d v ⟨1024 + j, by omega⟩ s * k s x := by
  pointwise [k0_pay95]
  exact sum_prefix 1536 (by decide) _ _ (fun s => congrArg₂ (· * ·) (ds_2_1 hr hk j s) (hk.hk s x)) fun s hs => by rw [ds_of_lt _ _ _ _ _ _ _ (by simp only; omega), zero_mul]

theorem df_2_1 (old : Vec Ideal S1x1x1x1536 .f32) (s : Fin 1536) : k0_pay96 k0_pay30 0#32 (k0_pay91 dv) (k0_pay92 qv kt) (k0_pay93 fv) lv gv vt old (ix4 0 0 0 s)
    = old (ix4 0 0 0 s) - ∑ j : Fin 512, ds q k f l g d v ⟨1024 + j, by omega⟩ ⟨s, by omega⟩ := by
  pointwise [k0_pay96]
  simp only [ds_2_1 hr hk]

theorem pt_2_1 (s : Fin 1536) (j : Fin 512) : k0_pay97 k0_pay31 0#32 kb qt ft lt gc (ix2 s j) = pr q k f l g ⟨1024 + j, by omega⟩ ⟨s, by omega⟩ := by
  pointwise [k0_pay97, k0_pay31]
  simp only [hr.hqt, hr.hft, hr.hlt, hk.hk, hk.hgc, mul_comm (k _ _)]
  exact pr_any q k f l g 1024 (by decide) j s

theorem dk_2_1 (acc : Vec Ideal S1536x128 .f32) (s : Fin 1536) (x : Fin 128) :
    k0_pay100 (k0_pay90 qv) (k0_pay97 k0_pay31 0#32 kb qt ft lt gc) (k0_pay98 vb dt) (k0_pay99 k0_pay31 0#32 kb qt ft lt gc vb dt) acc (ix2 s x)
    = acc (ix2 s x) + ∑ j : Fin 512, ds q k f l g d v ⟨1024 + j, by omega⟩ ⟨s, by omega⟩ * q ⟨1024 + j, by omega⟩ x := by
  pointwise [k0_pay100, k0_pay99, k0_pay98, k0_pay90]
  simp only [pt_2_1 hr hk, hk.hv, hr.hdt, hr.hq, mul_comm (v _ _)]
  simp only [dst_close 1024 1536 rfl (by decide)]

theorem dv_2_1 (acc : Vec Ideal S1536x128 .f32) (s : Fin 1536) (x : Fin 128) :
    k0_pay101 (k0_pay91 dv) (k0_pay97 k0_pay31 0#32 kb qt ft lt gc) acc (ix2 s x)
    = acc (ix2 s x) + ∑ j : Fin 512, pr q k f l g ⟨1024 + j, by omega⟩ ⟨s, by omega⟩ * d ⟨1024 + j, by omega⟩ x := by
  pointwise [k0_pay101, k0_pay91]
  simp only [pt_2_1 hr hk, hr.hd]

end Block2

section Block3

variable {kt vt : Vec Ideal S128x2048 .bf16} {gv : Vec Ideal S1x1x1x2048 .f32} {kb vb : Vec Ideal S2048x128 .bf16} {gc : Vec Ideal S1x1x2048x1 .f32}
  (hr : Rows 1536 block3 q d f l qv dv fv lv qt dt ft lt) (hk : Keys 2048 upto3 k v g kt vt gv kb vb gc)

include hr hk

theorem ds_3_0 (j : Fin 512) (s : Fin 2048) : k0_pay105 k0_pay30 0#32 (k0_pay103 qv) (k0_pay104 dv) kt fv lv gv vt (ix2 j s)
    = ds q k f l g d v ⟨1536 + j, by omega⟩ ⟨s, by omega⟩ := by
  pointwise [k0_pay105, k0_pay30, k0_pay103, k0_pay104]
  simp only [hr.hq, hr.hd, hr.hf, hr.hl, hk.hkt, hk.hvt, hk.hg]
  exact ds_close 1536 (by decide) j s

theorem dq_3_0 (j : Fin 512) (x : Fin 128) : k0_pay106 k0_pay30 0#32 (k0_pay103 qv) (k0_pay104 dv) kt fv lv gv vt kb (ix2 j x)
    = ∑ s : Fin 2048, ds q k f l g d v ⟨1536 + j, by omega⟩ s * k s x := by
  pointwise [k0_pay106]
  exact sum_prefix 2048 (by decide) _ _ (fun s => congrArg₂ (· * ·) (ds_3_0 hr hk j s) (hk.hk s x)) fun s hs => by rw [ds_of_lt _ _ _ _ _ _ _ (by simp only; omega), zero_mul]

theorem df_3_0 (old : Vec Ideal S1x1x1x2048 .f32) (s : Fin 2048) : k0_pay108 (k0_pay105 k0_pay30 0#32 (k0_pay103 qv) (k0_pay104 dv) kt fv lv gv vt) (k0_pay107 old) (ix4 0 0 0 s)
    = old (ix4 0 0 0 s) - ∑ j : Fin 512, ds q k f l g d v ⟨1536 + j, by omega⟩ ⟨s, by omega⟩ := by
  pointwise [k0_pay108, k0_pay107]
  simp only [ds_3_0 hr hk]

theorem pt_3_0 (s : Fin 2048) (j : Fin 512) : k0_pay109 k0_pay31 0#32 kb qt ft lt gc (ix2 s j) = pr q k f l g ⟨1536 + j, by omega⟩ ⟨s, by omega⟩ := by
  pointwise [k0_pay109, k0_pay31]
  simp only [hr.hqt, hr.hft, hr.hlt, hk.hk, hk.hgc, mul_comm (k _ _)]
  exact pr_any q k f l g 1536 (by decide) j s

theorem dk_3_0 (acc : Vec Ideal S2048x128 .f32) (s : Fin 2048) (x : Fin 128) :
    k0_pay110 (k0_pay103 qv) (k0_pay109 k0_pay31 0#32 kb qt ft lt gc) vb dt acc (ix2 s x)
    = acc (ix2 s x) + ∑ j : Fin 512, ds q k f l g d v ⟨1536 + j, by omega⟩ ⟨s, by omega⟩ * q ⟨1536 + j, by omega⟩ x := by
  pointwise [k0_pay110, k0_pay103]
  simp only [pt_3_0 hr hk, hk.hv, hr.hdt, hr.hq, mul_comm (v _ _)]
  simp only [dst_close 1536 2048 rfl (by decide)]

theorem dv_3_0 (acc : Vec Ideal S2048x128 .f32) (s : Fin 2048) (x : Fin 128) :
    k0_pay111 (k0_pay104 dv) (k0_pay109 k0_pay31 0#32 kb qt ft lt gc) acc (ix2 s x)
    = acc (ix2 s x) + ∑ j : Fin 512, pr q k f l g ⟨1536 + j, by omega⟩ ⟨s, by omega⟩ * d ⟨1536 + j, by omega⟩ x := by
  pointwise [k0_pay111, k0_pay104]
  simp only [pt_3_0 hr hk, hr.hd]

theorem ds_3_1 (j : Fin 512) (s : Fin 2048) : k0_pay115 k0_pay30 0#32 (k0_pay113 dv) (k0_pay114 qv kt) fv lv gv vt (ix2 j s)
    = ds q k f l g d v ⟨1536 + j, by omega⟩ ⟨s, by omega⟩ := by
  pointwise [k0_pay115, k0_pay30, k0_pay113, k0_pay114, k0_pay112]
  simp only [hr.hq, hr.hd, hr.hf, hr.hl, hk.hkt, hk.hvt, hk.hg]
  exact ds_close 1536 (by decide) j s

theorem dq_3_1 (j : Fin 512) (x : Fin 128) : k0_pay116 k0_pay30 0#32 (k0_pay113 dv) (k0_pay114 qv kt) fv lv gv vt kb (ix2 j x)
    = ∑ s : Fin 2048, ds q k f l g d v ⟨1536 + j, by omega⟩ s * k s x := by
  pointwise [k0_pay116]
  exact sum_prefix 2048 (by decide) _ _ (fun s => congrArg₂ (· * ·) (ds_3_1 hr hk j s) (hk.hk s x)) fun s hs => by rw [ds_of_lt _ _ _ _ _ _ _ (by simp only; omega), zero_mul]

theorem df_3_1 (old : Vec Ideal S1x1x1x2048 .f32) (s : Fin 2048) : k0_pay118 (k0_pay117 k0_pay30 0#32 (k0_pay113 dv) (k0_pay114 qv kt) fv lv gv vt old) (ix4 0 0 0 s)
    = old (ix4 0 0 0 s) - ∑ j : Fin 512, ds q k f l g d v ⟨1536 + j, by omega⟩ ⟨s, by omega⟩ := by
  pointwise [k0_pay118, k0_pay117]
  simp only [ds_3_1 hr hk]

theorem pt_3_1 (s : Fin 2048) (j : Fin 512) : k0_pay119 k0_pay31 0#32 kb qt ft lt gc (ix2 s j) = pr q k f l g ⟨1536 + j, by omega⟩ ⟨s, by omega⟩ := by
  pointwise [k0_pay119, k0_pay31]
  simp only [hr.hqt, hr.hft, hr.hlt, hk.hk, hk.hgc, mul_comm (k _ _)]
  exact pr_any q k f l g 1536 (by decide) j s

theorem dk_3_1 (acc : Vec Ideal S2048x128 .f32) (s : Fin 2048) (x : Fin 128) :
    k0_pay121 (k0_pay112 qv) (k0_pay119 k0_pay31 0#32 kb qt ft lt gc) (k0_pay120 vb dt) acc (ix2 s x)
    = acc (ix2 s x) + ∑ j : Fin 512, ds q k f l g d v ⟨1536 + j, by omega⟩ ⟨s, by omega⟩ * q ⟨1536 + j, by omega⟩ x := by
  pointwise [k0_pay121, k0_pay120, k0_pay112]
  simp only [pt_3_1 hr hk, hk.hv, hr.hdt, hr.hq, mul_comm (v _ _)]
  simp only [dst_close 1536 2048 rfl (by decide)]

theorem dv_3_1 (acc : Vec Ideal S2048x128 .f32) (s : Fin 2048) (x : Fin 128) :
    k0_pay122 (k0_pay113 dv) (k0_pay119 k0_pay31 0#32 kb qt ft lt gc) acc (ix2 s x)
    = acc (ix2 s x) + ∑ j : Fin 512, pr q k f l g ⟨1536 + j, by omega⟩ ⟨s, by omega⟩ * d ⟨1536 + j, by omega⟩ x := by
  pointwise [k0_pay122, k0_pay113]
  simp only [pt_3_1 hr hk, hr.hd]

end Block3

end Payloads

end Cert.Fox
-- ==== Proof.FoxOut.lean ====
module

public import proofs.«01_k».proof.Proof.FoxStep
import all proofs.«01_k».proof.Proof.Gen.Kernel2Ideal.Frame.RunA

@[expose] public section

set_option maxRecDepth 16384

noncomputable section

namespace Cert.Fox

open Cert.Kernel2Ideal Cert.Kernel2Ideal.Gen Idealize.ShloMosaic Idealize.ShloMosaic.TcCoe Idealize.SL.Sem

/-! The forgetting attention's backward call: the results of one grid point, a pair of heads of one sequence. -/

section Acc

/-- Adding a block's contribution to the first `w` rows of an accumulator. -/
theorem acc_step {L : List (View.Piece (Elt Ideal) S2048x128 .f32)} {w : ℕ} (hw : w ≤ 2048) (D : Fin 2048 → Fin 128 → EReal) {A : Fin 2048 → Fin 128 → EReal}
    (v : Memref sig .tc .vmem S2048x128 .f32) {inb : ∀ a, ![0, 0] a + ![w, 128] a ≤ S2048x128.size a} {pl : Vec Ideal ⟨2, ![w, 128]⟩ .f32}
    (hL : ∀ s x, View.canon (Val := Elt Ideal) L (ix2 s x) = A s x)
    (hp : ∀ (s : Fin w) (x : Fin 128), pl (ix2 s x)
      = v.view.readCov (Val := Elt Ideal) L (Rect.unit (s := S2048x128) ![0, 0] ![w, 128] inb).toLoadRect (ix2 s x) + D ⟨s, by omega⟩ x)
    (hD : ∀ (s : Fin 2048) (x : Fin 128), w ≤ s.val → D s x = 0) (s : Fin 2048) (x : Fin 128) :
    View.canon (Val := Elt Ideal) (⟨Rect.unit (s := S2048x128) ![0, 0] ![w, 128] inb, pl⟩ :: L) (ix2 s x) = A s x + D s x := by
  by_cases hs : s.val < w
  · have e : (Rect.unit (s := S2048x128) ![0, 0] ![w, 128] inb).emb (ix2 ⟨s, hs⟩ x) = ix2 s x := by
      funext a; apply Fin.ext; fin_cases a <;> simp
    rw [← e, View.canon_cons_emb, hp, View.readCov_eq_canon']
    exact congrArg₂ (· + ·) ((congrArg (View.canon (Val := Elt Ideal) L) e).trans (hL s x)) rfl
  · rw [View.canon_cons_of_not_mem, hL, hD s x (by omega), add_zero]
    intro hm
    have hm' : ix2 s x ∈ (Rect.unit (s := S2048x128) ![0, 0] ![w, 128] inb).set := hm
    rw [Rect.mem_set_unit] at hm'
    have := hm' 0
    simp at this
    omega

/-- Taking a block's contribution from the first `w` entries of one head's row. -/
theorem row_step {L : List (View.Piece (Elt Ideal) S1x2x1x2048 .f32)} {w : ℕ} (hw : w ≤ 2048) (h : Fin 2) (h0 : ℕ) (eh : h0 = h.val) (D : Fin 2048 → EReal)
    {A : Fin 2 → Fin 2048 → EReal} (v : Memref sig .tc .vmem S1x2x1x2048 .f32) {inb : ∀ a, ![0, h0, 0, 0] a + ![1, 1, 1, w] a ≤ S1x2x1x2048.size a}
    {pl : Vec Ideal ⟨4, ![1, 1, 1, w]⟩ .f32}
    (hL : ∀ hh s, View.canon (Val := Elt Ideal) L (ix4 0 hh 0 s) = A hh s)
    (hp : ∀ (s : Fin w), pl (ix4 0 0 0 s)
      = v.view.readCov (Val := Elt Ideal) L (Rect.unit (s := S1x2x1x2048) ![0, h0, 0, 0] ![1, 1, 1, w] inb).toLoadRect (ix4 0 0 0 s) - D ⟨s, by omega⟩)
    (hD : ∀ (s : Fin 2048), w ≤ s.val → D s = 0) (hh : Fin 2) (s : Fin 2048) :
    View.canon (Val := Elt Ideal) (⟨Rect.unit (s := S1x2x1x2048) ![0, h0, 0, 0] ![1, 1, 1, w] inb, pl⟩ :: L) (ix4 0 hh 0 s)
      = A hh s - if hh = h then D s else 0 := by
  by_cases hs : hh = h ∧ s.val < w
  · have e : (Rect.unit (s := S1x2x1x2048) ![0, h0, 0, 0] ![1, 1, 1, w] inb).emb (ix4 0 0 0 ⟨s, hs.2⟩) = ix4 0 hh 0 s := by
      funext a; apply Fin.ext; fin_cases a <;> simp [eh, hs.1]
    rw [← e, View.canon_cons_emb, hp, View.readCov_eq_canon', if_pos hs.1]
    exact congrArg₂ (· - ·) ((congrArg (View.canon (Val := Elt Ideal) L) e).trans (hL hh s)) rfl
  · rw [View.canon_cons_of_not_mem, hL]
    · by_cases h1 : hh = h
      · rw [if_pos h1, hD s (by have := not_and.mp hs h1; omega), sub_zero]
      · rw [if_neg h1, sub_zero]
    intro hm
    have hm' : ix4 0 hh 0 s ∈ (Rect.unit (s := S1x2x1x2048) ![0, h0, 0, 0] ![1, 1, 1, w] inb).set := hm
    rw [Rect.mem_set_unit] at hm'
    have h1 := hm' 1
    have h3 := hm' 3
    simp at h1 h3
    exact hs ⟨Fin.ext (by omega), by omega⟩

end Acc

variable (X0 X1 X2 X3 : Vec Ideal S1x2048x128 .bf16) (X4 : Vec Ideal S1x2x2048x1 .f32) (X5 : Vec Ideal S1x2x1x2048 .f32)
  (X6 : Vec Ideal S1x2x4x1x512 .f32) (X7 : Vec Ideal S1x2x2048x1 .f32) (X8 : Vec Ideal S1x2x4x1x512 .f32)

/-- One head's queries, scaled, and its cotangents: the other head's lanes are zero. -/
def qh (hh : Fin 2) (t : Fin 2048) (x : Fin 128) : EReal := if lane hh x then X0 (ix3 0 t x) * Ideal.ofBits .f32 0x3e000000#32 else 0
def dh (hh : Fin 2) (t : Fin 2048) (x : Fin 128) : EReal := if lane hh x then X3 (ix3 0 t x) else 0
/-- The pair's rows, and a head's column. -/
def kk (t : Fin 2048) (x : Fin 128) : EReal := X1 (ix3 0 t x)
def fh (hh : Fin 2) (t : Fin 2048) : EReal := X4 (ix4 0 hh t 0)

variable {X0 X1 X2 X3 X4 X5 X6 X7 X8} {c : Dev nD} {i : grid0.Coords} {arg2 : Memref sig .tc .vmem S1x2048x128 .bf16} {harg2 : arg2.IsWhole}
  {arg3 : Memref sig .tc .vmem S1x2048x128 .bf16} {harg3 : arg3.IsWhole}
  {arg4 : Memref sig .tc .vmem S1x2048x128 .bf16} {harg4 : arg4.IsWhole}
  {arg5 : Memref sig .tc .vmem S1x2048x128 .bf16} {harg5 : arg5.IsWhole}
  {arg6 : Memref sig .tc .vmem S1x2x2048x1 .f32} {harg6 : arg6.IsWhole} {arg7 : Memref sig .tc .vmem S1x2x1x2048 .f32} {harg7 : arg7.IsWhole}
  {arg8 : Memref sig .tc .vmem S1x2x4x1x512 .f32} {harg8 : arg8.IsWhole} {arg9 : Memref sig .tc .vmem S1x2x2048x1 .f32} {harg9 : arg9.IsWhole}
  {arg10 : Memref sig .tc .vmem S1x2x4x1x512 .f32} {harg10 : arg10.IsWhole} {arg11 : Memref sig .tc .vmem S1x2048x128 .bf16} {harg11 : arg11.IsWhole}
  {arg12 : Memref sig .tc .vmem S1x2048x128 .bf16} {harg12 : arg12.IsWhole} {arg13 : Memref sig .tc .vmem S1x2048x128 .bf16} {harg13 : arg13.IsWhole}
  {arg14 : Memref sig .tc .vmem S1x2x1x2048 .f32} {harg14 : arg14.IsWhole}
  {arg15 arg16 : Memref sig .tc .vmem S2x2048x128 .bf16} {arg17 arg18 : Memref sig .tc .vmem S2048x128 .bf16} {arg19 arg20 : Memref sig .tc .vmem S128x2048 .bf16}
  {harg15 : arg15.IsWhole} {harg16 : arg16.IsWhole} {harg17 : arg17.IsWhole} {harg18 : arg18.IsWhole} {harg19 : arg19.IsWhole} {harg20 : arg20.IsWhole}
  {arg21 : Memref sig .tc .vmem S2x4x128x512 .bf16} {harg21 : arg21.IsWhole} {arg22 : Memref sig .tc .vmem S2x4x128x512 .bf16} {harg22 : arg22.IsWhole}
  {arg23 : Memref sig .tc .vmem S2048x128 .f32} {harg23 : arg23.IsWhole} {arg24 : Memref sig .tc .vmem S2048x128 .f32} {harg24 : arg24.IsWhole}

theorem in_q {hh : Fin 2} {n : Fin 4} {h0 w : ℕ} (e0 : h0 = hh.val) (ew : w = 512 * n.val) : ∀ a, ![h0, w, 0] a + ![1, 512, 128] a ≤ S2x2048x128.size a := by
  intro a; fin_cases a <;> simp <;> omega
theorem in_f {hh : Fin 2} {n : Fin 4} {h0 w : ℕ} (e0 : h0 = hh.val) (ew : w = 512 * n.val) : ∀ a, ![0, h0, w, 0] a + ![1, 1, 512, 1] a ≤ S1x2x2048x1.size a := by
  intro a; fin_cases a <;> simp <;> omega
theorem in_t {hh : Fin 2} {n : Fin 4} {h0 n0 : ℕ} (e0 : h0 = hh.val) (en : n0 = n.val) : ∀ a, ![h0, n0, 0, 0] a + ![1, 1, 128, 512] a ≤ S2x4x128x512.size a := by
  intro a; fin_cases a <;> simp <;> omega
theorem in_r {hh : Fin 2} {n : Fin 4} {h0 n0 : ℕ} (e0 : h0 = hh.val) (en : n0 = n.val) : ∀ a, ![0, h0, n0, 0, 0] a + ![1, 1, 1, 1, 512] a ≤ S1x2x4x1x512.size a := by
  intro a; fin_cases a <;> simp <;> omega
theorem in_kt {w : ℕ} (hw : w ≤ 2048) : ∀ a, ![0, 0] a + ![128, w] a ≤ S128x2048.size a := by intro a; fin_cases a <;> simp <;> omega
theorem in_kb {w : ℕ} (hw : w ≤ 2048) : ∀ a, ![0, 0] a + ![w, 128] a ≤ S2048x128.size a := by intro a; fin_cases a <;> simp <;> omega
theorem in_gr {hh : Fin 2} {h0 w : ℕ} (e0 : h0 = hh.val) (hw : w ≤ 2048) : ∀ a, ![0, h0, 0, 0] a + ![1, 1, 1, w] a ≤ S1x2x1x2048.size a := by
  intro a; fin_cases a <;> simp <;> omega
theorem in_gc {hh : Fin 2} {h0 w : ℕ} (e0 : h0 = hh.val) (hw : w ≤ 2048) : ∀ a, ![0, h0, 0, 0] a + ![1, 1, w, 1] a ≤ S1x2x2048x1.size a := by
  intro a; fin_cases a <;> simp <;> omega

/-- The loads of a block of queries. -/
theorem rows (H6 : ∀ (hh : Fin 2) (n : Fin 4) (j : Fin 512), X6 (ix5 0 hh n 0 j) = X4 (ix4 0 hh ⟨512 * n.val + j, by omega⟩ 0))
    (H8 : ∀ (hh : Fin 2) (n : Fin 4) (j : Fin 512), X8 (ix5 0 hh n 0 j) = X7 (ix4 0 hh ⟨512 * n.val + j, by omega⟩ 0))
    (hh : Fin 2) (n : Fin 4) (h0 n0 w : ℕ) (e0 : h0 = hh.val) (en : n0 = n.val) (ew : w = 512 * n.val) (hw : w + 512 ≤ 2048) :
    Rows w hw (qh X0 hh) (dh X3 hh) (fh X4 hh) (fh X7 hh)
      (arg15.view.readCov (kernelRun0_A.sl.HS0_2 (F := Ideal) c arg2 harg2 X0) (Rect.unit (s := S2x2048x128) ![h0, w, 0] ![1, 512, 128] (in_q e0 ew)).toLoadRect)
      (arg16.view.readCov (kernelRun0_A.sl.HS1_2 (F := Ideal) c arg5 harg5 X3) (Rect.unit (s := S2x2048x128) ![h0, w, 0] ![1, 512, 128] (in_q e0 ew)).toLoadRect)
      (View.readAt (Elt Ideal) arg6.view (Rect.unit (s := S1x2x2048x1) ![0, h0, w, 0] ![1, 1, 512, 1] (in_f e0 ew)).toLoadRect (harg6.unread X4))
      (View.readAt (Elt Ideal) arg9.view (Rect.unit (s := S1x2x2048x1) ![0, h0, w, 0] ![1, 1, 512, 1] (in_f e0 ew)).toLoadRect (harg9.unread X7))
      (arg21.view.readCov (staged c arg2 harg2 arg3 harg3 arg4 harg4 arg5 harg5 arg15 arg16 arg17 arg18 arg19 arg20 X0 X3 i arg6 harg6 arg7 harg7 arg8 harg8 arg9 harg9 arg10 harg10
        arg11 harg11 arg12 harg12 arg13 harg13 arg14 harg14 harg15 harg16 harg17 harg18 harg19 harg20 arg21 harg21 arg22 harg22 arg23 harg23 arg24 harg24 4).1
        (Rect.unit (s := S2x4x128x512) ![h0, n0, 0, 0] ![1, 1, 128, 512] (in_t e0 en)).toLoadRect)
      (arg22.view.readCov (staged c arg2 harg2 arg3 harg3 arg4 harg4 arg5 harg5 arg15 arg16 arg17 arg18 arg19 arg20 X0 X3 i arg6 harg6 arg7 harg7 arg8 harg8 arg9 harg9 arg10 harg10
        arg11 harg11 arg12 harg12 arg13 harg13 arg14 harg14 harg15 harg16 harg17 harg18 harg19 harg20 arg21 harg21 arg22 harg22 arg23 harg23 arg24 harg24 4).2
        (Rect.unit (s := S2x4x128x512) ![h0, n0, 0, 0] ![1, 1, 128, 512] (in_t e0 en)).toLoadRect)
      (View.readAt (Elt Ideal) arg8.view (Rect.unit (s := S1x2x4x1x512) ![0, h0, n0, 0, 0] ![1, 1, 1, 1, 512] (in_r e0 en)).toLoadRect (harg8.unread X6))
      (View.readAt (Elt Ideal) arg10.view (Rect.unit (s := S1x2x4x1x512) ![0, h0, n0, 0, 0] ![1, 1, 1, 1, 512] (in_r e0 en)).toLoadRect (harg10.unread X8)) := by
  subst e0 en ew
  constructor
  · intro j x
    exact qm_read (hh := hh) (i := ⟨512 * n.val + j, by omega⟩) (l := x) (hq := by simp) (hi := by simp) (hl := by simp) ..
  · intro j x
    exact dom_read (hh := hh) (i := ⟨512 * n.val + j, by omega⟩) (l := x) (hq := by simp) (hi := by simp) (hl := by simp) ..
  · intro j
    exact part_read _ _ _ _ _ _ _ _ (by intro a; fin_cases a <;> simp)
  · intro j
    exact part_read _ _ _ _ _ _ _ _ (by intro a; fin_cases a <;> simp)
  · intro x j
    exact qt_read (hh := hh) (n := n) (l := x) (j := j) (h0 := by simp) (h1 := by simp) (h2 := by simp) (h3 := by simp) ..
  · intro x j
    exact dt_read (hh := hh) (n := n) (l := x) (j := j) (h0 := by simp) (h1 := by simp) (h2 := by simp) (h3 := by simp) ..
  · intro j
    exact (part_read _ _ _ _ _ _ _ (ix5 0 hh n 0 j) (by intro a; fin_cases a <;> simp)).trans (H6 hh n j)
  · intro j
    exact (part_read _ _ _ _ _ _ _ (ix5 0 hh n 0 j) (by intro a; fin_cases a <;> simp)).trans (H8 hh n j)

/-- The loads of the first `w` keys. -/
theorem keys (H5 : ∀ (hh : Fin 2) (s : Fin 2048), X5 (ix4 0 hh 0 s) = X4 (ix4 0 hh s 0))
    (hh : Fin 2) (h0 w : ℕ) (e0 : h0 = hh.val) (hw : w ≤ 2048) :
    Keys w hw (kk X1) (kk X2) (fh X4 hh)
      (arg19.view.readCov (kernelRun0_A.sl.HS4_1 (F := Ideal) c arg3 harg3 X1) (Rect.unit (s := S128x2048) ![0, 0] ![128, w] (in_kt hw)).toLoadRect)
      (arg20.view.readCov (kernelRun0_A.sl.HS5_1 (F := Ideal) c arg4 harg4 X2) (Rect.unit (s := S128x2048) ![0, 0] ![128, w] (in_kt hw)).toLoadRect)
      (View.readAt (Elt Ideal) arg7.view (Rect.unit (s := S1x2x1x2048) ![0, h0, 0, 0] ![1, 1, 1, w] (in_gr e0 hw)).toLoadRect (harg7.unread X5))
      (arg17.view.readCov (kernelRun0_A.sl.HS2_1 (F := Ideal) c arg3 harg3 X1) (Rect.unit (s := S2048x128) ![0, 0] ![w, 128] (in_kb hw)).toLoadRect)
      (arg18.view.readCov (kernelRun0_A.sl.HS3_1 (F := Ideal) c arg4 harg4 X2) (Rect.unit (s := S2048x128) ![0, 0] ![w, 128] (in_kb hw)).toLoadRect)
      (View.readAt (Elt Ideal) arg6.view (Rect.unit (s := S1x2x2048x1) ![0, h0, 0, 0] ![1, 1, w, 1] (in_gc e0 hw)).toLoadRect (harg6.unread X4)) := by
  subst e0
  constructor
  · intro x s
    exact kt_read (i := ⟨s, by omega⟩) (l := x) (hl := by simp) (hi := by simp) ..
  · intro x s
    exact vt_read (i := ⟨s, by omega⟩) (l := x) (hl := by simp) (hi := by simp) ..
  · intro s
    exact (part_read _ _ _ _ _ _ _ (ix4 0 hh 0 ⟨s, by omega⟩) (by intro a; fin_cases a <;> simp)).trans (H5 hh _)
  · intro s x
    exact kb_read (i := ⟨s, by omega⟩) (l := x) (hl := by simp) (hi := by simp) ..
  · intro s x
    exact vb_read (i := ⟨s, by omega⟩) (l := x) (hl := by simp) (hi := by simp) ..
  · intro s
    exact part_read _ _ _ _ _ _ _ _ (by intro a; fin_cases a <;> simp)

/-- The pieces the run of one grid point leaves in the result buffers. -/
abbrev run (X0 X1 X2 X3 : Vec Ideal S1x2048x128 .bf16) (X4 : Vec Ideal S1x2x2048x1 .f32) (X5 : Vec Ideal S1x2x1x2048 .f32)
    (X6 : Vec Ideal S1x2x4x1x512 .f32) (X7 : Vec Ideal S1x2x2048x1 .f32) (X8 : Vec Ideal S1x2x4x1x512 .f32) :=
  kernelRun0_A (F := Ideal) c i arg2 harg2 arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21 harg21 arg22 harg22 arg23 harg23 arg24 harg24 X0 X1 X2 X3 X4 X5 X6 X7 X8

/-- What the queries of block `w` add to the gradients of the keys and of the values, and take from the decay's. -/
def dkB (q k : Fin 2048 → Fin 128 → EReal) (f l : Fin 2048 → EReal) (d v : Fin 2048 → Fin 128 → EReal) (w : ℕ) (hw : w + 512 ≤ 2048) (s : Fin 2048) (x : Fin 128) : EReal :=
  ∑ j : Fin 512, ds q k f l f d v ⟨w + j, by omega⟩ s * q ⟨w + j, by omega⟩ x
def dvB (q k : Fin 2048 → Fin 128 → EReal) (f l : Fin 2048 → EReal) (d : Fin 2048 → Fin 128 → EReal) (w : ℕ) (hw : w + 512 ≤ 2048) (s : Fin 2048) (x : Fin 128) : EReal :=
  ∑ j : Fin 512, pr q k f l f ⟨w + j, by omega⟩ s * d ⟨w + j, by omega⟩ x
def dfB (q k : Fin 2048 → Fin 128 → EReal) (f l : Fin 2048 → EReal) (d v : Fin 2048 → Fin 128 → EReal) (w : ℕ) (hw : w + 512 ≤ 2048) (s : Fin 2048) : EReal :=
  ∑ j : Fin 512, ds q k f l f d v ⟨w + j, by omega⟩ s

variable (H5 : ∀ (hh : Fin 2) (s : Fin 2048), X5 (ix4 0 hh 0 s) = X4 (ix4 0 hh s 0))
  (H6 : ∀ (hh : Fin 2) (n : Fin 4) (j : Fin 512), X6 (ix5 0 hh n 0 j) = X4 (ix4 0 hh ⟨512 * n.val + j, by omega⟩ 0))
  (H8 : ∀ (hh : Fin 2) (n : Fin 4) (j : Fin 512), X8 (ix5 0 hh n 0 j) = X7 (ix4 0 hh ⟨512 * n.val + j, by omega⟩ 0))

theorem dkB_zero {q k : Fin 2048 → Fin 128 → EReal} {f l : Fin 2048 → EReal} {d v : Fin 2048 → Fin 128 → EReal} (w w' : ℕ) (hw : w + 512 ≤ 2048) (e : w + 512 = w') (s : Fin 2048) (x : Fin 128) (h : w' ≤ s.val) :
    dkB q k f l d v w hw s x = 0 :=
  Finset.sum_eq_zero fun j _ => by rw [ds_of_lt _ _ _ _ _ _ _ (by simp only; omega), zero_mul]
theorem dvB_zero {q k : Fin 2048 → Fin 128 → EReal} {f l : Fin 2048 → EReal} {d : Fin 2048 → Fin 128 → EReal} (w w' : ℕ) (hw : w + 512 ≤ 2048) (e : w + 512 = w') (s : Fin 2048) (x : Fin 128) (h : w' ≤ s.val) :
    dvB q k f l d w hw s x = 0 :=
  Finset.sum_eq_zero fun j _ => by rw [pr_of_lt _ _ _ _ _ (by simp only; omega), zero_mul]
theorem dfB_zero {q k : Fin 2048 → Fin 128 → EReal} {f l : Fin 2048 → EReal} {d v : Fin 2048 → Fin 128 → EReal} (w w' : ℕ) (hw : w + 512 ≤ 2048) (e : w + 512 = w') (s : Fin 2048) (h : w' ≤ s.val) :
    dfB q k f l d v w hw s = 0 :=
  Finset.sum_eq_zero fun j _ => ds_of_lt _ _ _ _ _ _ _ (by simp only; omega)

/-- The four blocks of queries are all the queries. -/
theorem sum_blocks (G : Fin 2048 → EReal) : (∑ j : Fin 512, G ⟨0 + j, by omega⟩) + (∑ j : Fin 512, G ⟨512 + j, by omega⟩)
    + (∑ j : Fin 512, G ⟨1024 + j, by omega⟩) + (∑ j : Fin 512, G ⟨1536 + j, by omega⟩) = ∑ t, G t := by
  have cut : ∀ (a : ℕ) (ha : a + 512 ≤ 2048), ∑ s : Fin (a + 512), G ⟨s, by omega⟩ = (∑ s : Fin a, G ⟨s, by omega⟩) + ∑ j : Fin 512, G ⟨a + j, by omega⟩ :=
    fun a ha => Fin.sum_univ_add _
  have h0 : ∑ s : Fin (0 + 512), G ⟨s, by omega⟩ = ∑ j : Fin 512, G ⟨0 + j, by omega⟩ := (cut 0 (by decide)).trans (zero_add _)
  have h1 := cut 512 (by decide)
  have h2 := cut 1024 (by decide)
  have h3 := cut 1536 (by decide)
  rw [← h0]
  exact ((congrArg (· + _) (congrArg (· + _) h1.symm)).trans (congrArg (· + _) h2.symm)).trans h3.symm

/-- The two heads' blocks, in the order the kernel adds them. -/
theorem sum_heads (a b : Fin 2 → EReal) (c d : Fin 2 → EReal) : ((((((((0 + a 0) + a 1) + b 0) + b 1) + c 0) + c 1) + d 0) + d 1) = ∑ hh, (a hh + b hh + c hh + d hh) := by
  rw [Fin.sum_univ_two, zero_add]; abel

/-- What the kernel takes from one head's row, block by block. -/
def negBlocks (q k : Fin 2048 → Fin 128 → EReal) (f l : Fin 2048 → EReal) (d v : Fin 2048 → Fin 128 → EReal) (s : Fin 2048) : EReal :=
  (((0 - dfB q k f l d v 0 (by decide) s) - dfB q k f l d v 512 (by decide) s) - dfB q k f l d v 1024 (by decide) s) - dfB q k f l d v 1536 (by decide) s

/-- A block of rows stored above the blocks before it. -/
theorem store_step {L : List (View.Piece (Elt Ideal) S1x2048x128 .bf16)} {w w' : ℕ} (hw : w + 512 ≤ 2048) (e : w + 512 = w') (A : Fin 2048 → Fin 128 → EReal)
    {inb : ∀ a, ![0, w, 0] a + ![1, 512, 128] a ≤ S1x2048x128.size a} {pl : Vec Ideal ⟨3, ![1, 512, 128]⟩ .bf16}
    (hL : ∀ (t : Fin 2048) x, t.val < w → View.canon (Val := Elt Ideal) L (ix3 0 t x) = A t x)
    (hp : ∀ (j : Fin 512) (x : Fin 128), pl (ix3 0 j x) = A ⟨w + j, by omega⟩ x) (t : Fin 2048) (x : Fin 128) (ht : t.val < w') :
    View.canon (Val := Elt Ideal) (⟨Rect.unit (s := S1x2048x128) ![0, w, 0] ![1, 512, 128] inb, pl⟩ :: L) (ix3 0 t x) = A t x := by
  by_cases hs : w ≤ t.val
  · have ej : (Rect.unit (s := S1x2048x128) ![0, w, 0] ![1, 512, 128] inb).emb (ix3 0 ⟨t - w, by omega⟩ x) = ix3 0 t x := by
      funext a; apply Fin.ext; fin_cases a <;> simp [hs]
    rw [← ej, View.canon_cons_emb, hp]
    exact congrArg (fun u => A u x) (Fin.ext (by simp only; omega))
  · rw [View.canon_cons_of_not_mem, hL t x (by omega)]
    intro hm
    have hm' : ix3 0 t x ∈ (Rect.unit (s := S1x2048x128) ![0, w, 0] ![1, 512, 128] inb).set := hm
    rw [Rect.mem_set_unit] at hm'
    have := hm' 1
    simp at this
    omega

/-- Four blocks of rows, one store each. -/
theorem four_blocks (A : Fin 2048 → Fin 128 → EReal) {i0 : ∀ a, ![0, 0, 0] a + ![1, 512, 128] a ≤ S1x2048x128.size a}
    {i1 : ∀ a, ![0, 512, 0] a + ![1, 512, 128] a ≤ S1x2048x128.size a} {i2 : ∀ a, ![0, 1024, 0] a + ![1, 512, 128] a ≤ S1x2048x128.size a}
    {i3 : ∀ a, ![0, 1536, 0] a + ![1, 512, 128] a ≤ S1x2048x128.size a} (p0 p1 p2 p3 : Vec Ideal S1x512x128 .bf16)
    (h0 : ∀ (j : Fin 512) (x : Fin 128), p0 (ix3 0 j x) = A ⟨0 + j, by omega⟩ x) (h1 : ∀ (j : Fin 512) (x : Fin 128), p1 (ix3 0 j x) = A ⟨512 + j, by omega⟩ x)
    (h2 : ∀ (j : Fin 512) (x : Fin 128), p2 (ix3 0 j x) = A ⟨1024 + j, by omega⟩ x) (h3 : ∀ (j : Fin 512) (x : Fin 128), p3 (ix3 0 j x) = A ⟨1536 + j, by omega⟩ x)
    (t : Fin 2048) (x : Fin 128) :
    View.canon (Val := Elt Ideal) [⟨Rect.unit (s := S1x2048x128) ![0, 1536, 0] ![1, 512, 128] i3, p3⟩, ⟨Rect.unit (s := S1x2048x128) ![0, 1024, 0] ![1, 512, 128] i2, p2⟩,
      ⟨Rect.unit (s := S1x2048x128) ![0, 512, 0] ![1, 512, 128] i1, p1⟩, ⟨Rect.unit (s := S1x2048x128) ![0, 0, 0] ![1, 512, 128] i0, p0⟩] (ix3 0 t x) = A t x :=
  store_step (w := 1536) (w' := 2048) (by decide) rfl A (store_step (w := 1024) (w' := 1536) (by decide) rfl A (store_step (w := 512) (w' := 1024) (by decide) rfl A
    (store_step (w := 0) (w' := 512) (by decide) rfl A (fun t x ht => absurd ht (by omega)) h0) h1) h2) h3 t x t.isLt

/-- The kernel's gradient of the queries, the two heads side by side in the lanes. -/
def dqB (q : Fin 2 → Fin 2048 → Fin 128 → EReal) (k : Fin 2048 → Fin 128 → EReal) (f l : Fin 2 → Fin 2048 → EReal) (d : Fin 2 → Fin 2048 → Fin 128 → EReal)
    (v : Fin 2048 → Fin 128 → EReal) (t : Fin 2048) (x : Fin 128) : EReal :=
  (if x.val < 64 then ∑ s, ds (q 0) k (f 0) (l 0) (f 0) (d 0) v t s * k s x else ∑ s, ds (q 1) k (f 1) (l 1) (f 1) (d 1) v t s * k s x) * Ideal.ofBits .f32 1040187392#32

theorem select_lane (x : Fin 128) (a b a' b' : EReal) (ha : a = a') (hb : b = b') :
    Scalar.select (IntOp.cmpi .slt (BitVec.ofNat 32 x.val) 64#32) a b * Ideal.ofBits .f32 1040187392#32
      = (if x.val < 64 then a' else b') * Ideal.ofBits .f32 1040187392#32 := by
  have e : IntOp.cmpi .slt (BitVec.ofNat 32 x.val) 64#32 = if x.val < 64 then 1#1 else 0#1 := by
    revert x; decide +kernel
  rw [e, ha, hb]
  split <;> simp [Scalar.select]

theorem store_0 (a b : FVec Ideal S512x128 .f32) (j : Fin 512) (x : Fin 128) {a' b' : EReal} (ha : a (ix2 j x) = a') (hb : b (ix2 j x) = b') :
    k0_pay54 k0_pay29 a b (ix3 0 j x) = (if x.val < 64 then a' else b') * Ideal.ofBits .f32 1040187392#32 := by
  pointwise [k0_pay54, k0_pay29]
  exact select_lane x _ _ _ _ ha hb
theorem store_1 (a b : FVec Ideal S512x128 .f32) (j : Fin 512) (x : Fin 128) {a' b' : EReal} (ha : a (ix2 j x) = a') (hb : b (ix2 j x) = b') :
    k0_pay79 k0_pay29 a b (ix3 0 j x) = (if x.val < 64 then a' else b') * Ideal.ofBits .f32 1040187392#32 := by
  pointwise [k0_pay79, k0_pay29]
  exact select_lane x _ _ _ _ ha hb
theorem store_2 (a b : FVec Ideal S512x128 .f32) (j : Fin 512) (x : Fin 128) {a' b' : EReal} (ha : a (ix2 j x) = a') (hb : b (ix2 j x) = b') :
    k0_pay102 k0_pay29 a b (ix3 0 j x) = (if x.val < 64 then a' else b') * Ideal.ofBits .f32 1040187392#32 := by
  pointwise [k0_pay102, k0_pay29]
  exact select_lane x _ _ _ _ ha hb
theorem store_3 (a b : FVec Ideal S512x128 .f32) (j : Fin 512) (x : Fin 128) {a' b' : EReal} (ha : a (ix2 j x) = a') (hb : b (ix2 j x) = b') :
    k0_pay123 k0_pay29 a b (ix3 0 j x) = (if x.val < 64 then a' else b') * Ideal.ofBits .f32 1040187392#32 := by
  pointwise [k0_pay123, k0_pay29]
  exact select_lane x _ _ _ _ ha hb

include H5 H6 H8

theorem out_dk (s : Fin 2048) (x : Fin 128) :
    View.canon (Val := Elt Ideal) (kernelRun0_A (F := Ideal) c i arg2 harg2 arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21 harg21 arg22 harg22 arg23 harg23 arg24 harg24 X0 X1 X2 X3 X4 X5 X6 X7 X8).2.1 (ix3 0 s x)
      = ∑ hh, ∑ t, ds (qh X0 hh) (kk X1) (fh X4 hh) (fh X7 hh) (fh X4 hh) (dh X3 hh) (kk X2) t s * qh X0 hh t x := by
  have R := @rows X0 X3 X4 X6 X7 X8 c i arg2 harg2 arg3 harg3 arg4 harg4 arg5 harg5 arg6 harg6 arg7 harg7 arg8 harg8 arg9 harg9 arg10 harg10 arg11 harg11 arg12 harg12
    arg13 harg13 arg14 harg14 arg15 arg16 arg17 arg18 arg19 arg20 harg15 harg16 harg17 harg18 harg19 harg20 arg21 harg21 arg22 harg22 arg23 harg23 arg24 harg24 H6 H8
  have K := @keys X1 X2 X4 X5 c arg3 harg3 arg4 harg4 arg6 harg6 arg7 harg7 arg17 arg18 arg19 arg20 H5
  unfold kernelRun0_A
  dsimp only
  refine (congrFun (View.canon_cons_unit_lit (Val := Elt Ideal) (S := S1x2048x128) _ _ _ (by decide)) _).trans ?_
  pointwise [k0_pay124, kernelRun0_A.sl.v915]
  rw [View.readCov_eq_canon']
  have e : (Rect.unit (s := S2048x128) ![0, 0] ![2048, 128] (by decide)).toLoadRect.idx (ix2 s x) = ix2 s x := by
    funext a; apply Fin.ext; fin_cases a <;> simp
  refine (congrArg (View.canon (Val := Elt Ideal) _) e).trans ?_
  let D : Fin 2 → (w : ℕ) → w + 512 ≤ 2048 → Fin 2048 → Fin 128 → EReal := fun hh => dkB (qh X0 hh) (kk X1) (fh X4 hh) (fh X7 hh) (dh X3 hh) (kk X2)
  have h1 : ∀ s x, View.canon (Val := Elt Ideal) (kernelRun0_A.sl.HS8_1 (F := Ideal)) (ix2 s x) = 0 := fun s x => by
    unfold kernelRun0_A.sl.HS8_1
    refine (congrFun (View.canon_cons_unit_lit (Val := Elt Ideal) (S := S2048x128) _ _ _ (by decide)) _).trans ?_
    pointwise [k0_pay26]
  refine (acc_step (w := 2048) (by decide) (D 1 1536 (by decide)) arg23 (acc_step (w := 2048) (by decide) (D 0 1536 (by decide)) arg23 (acc_step (w := 1536) (by decide) (D 1 1024 (by decide)) arg23 (acc_step (w := 1536) (by decide) (D 0 1024 (by decide)) arg23 (acc_step (w := 1024) (by decide) (D 1 512 (by decide)) arg23 (acc_step (w := 1024) (by decide) (D 0 512 (by decide)) arg23 (acc_step (w := 512) (by decide) (D 1 0 (by decide)) arg23 (acc_step (w := 512) (by decide) (D 0 0 (by decide)) arg23 h1
    (fun s x => dk_0_0 (R 0 0 0 0 0 rfl rfl rfl (by decide)) (K 0 0 512 rfl (by decide)) _ s x) (dkB_zero 0 512 (by decide) rfl))
    (fun s x => dk_0_1 (R 1 0 1 0 0 rfl rfl rfl (by decide)) (K 1 1 512 rfl (by decide)) _ s x) (dkB_zero 0 512 (by decide) rfl))
    (fun s x => dk_1_0 (R 0 1 0 1 512 rfl rfl rfl (by decide)) (K 0 0 1024 rfl (by decide)) _ s x) (dkB_zero 512 1024 (by decide) rfl))
    (fun s x => dk_1_1 (R 1 1 1 1 512 rfl rfl rfl (by decide)) (K 1 1 1024 rfl (by decide)) _ s x) (dkB_zero 512 1024 (by decide) rfl))
    (fun s x => dk_2_0 (R 0 2 0 2 1024 rfl rfl rfl (by decide)) (K 0 0 1536 rfl (by decide)) _ s x) (dkB_zero 1024 1536 (by decide) rfl))
    (fun s x => dk_2_1 (R 1 2 1 2 1024 rfl rfl rfl (by decide)) (K 1 1 1536 rfl (by decide)) _ s x) (dkB_zero 1024 1536 (by decide) rfl))
    (fun s x => dk_3_0 (R 0 3 0 3 1536 rfl rfl rfl (by decide)) (K 0 0 2048 rfl (by decide)) _ s x) (dkB_zero 1536 2048 (by decide) rfl))
    (fun s x => dk_3_1 (R 1 3 1 3 1536 rfl rfl rfl (by decide)) (K 1 1 2048 rfl (by decide)) _ s x) (dkB_zero 1536 2048 (by decide) rfl) s x).trans ?_
  refine (sum_heads (fun hh => D hh 0 (by decide) s x) (fun hh => D hh 512 (by decide) s x) (fun hh => D hh 1024 (by decide) s x)
    (fun hh => D hh 1536 (by decide) s x)).trans ?_
  exact Finset.sum_congr rfl fun hh _ => sum_blocks fun t => ds (qh X0 hh) (kk X1) (fh X4 hh) (fh X7 hh) (fh X4 hh) (dh X3 hh) (kk X2) t s * qh X0 hh t x

theorem out_dv (s : Fin 2048) (x : Fin 128) :
    View.canon (Val := Elt Ideal) (kernelRun0_A (F := Ideal) c i arg2 harg2 arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21 harg21 arg22 harg22 arg23 harg23 arg24 harg24 X0 X1 X2 X3 X4 X5 X6 X7 X8).2.2.1 (ix3 0 s x)
      = ∑ hh, ∑ t, pr (qh X0 hh) (kk X1) (fh X4 hh) (fh X7 hh) (fh X4 hh) t s * dh X3 hh t x := by
  have R := @rows X0 X3 X4 X6 X7 X8 c i arg2 harg2 arg3 harg3 arg4 harg4 arg5 harg5 arg6 harg6 arg7 harg7 arg8 harg8 arg9 harg9 arg10 harg10 arg11 harg11 arg12 harg12
    arg13 harg13 arg14 harg14 arg15 arg16 arg17 arg18 arg19 arg20 harg15 harg16 harg17 harg18 harg19 harg20 arg21 harg21 arg22 harg22 arg23 harg23 arg24 harg24 H6 H8
  have K := @keys X1 X2 X4 X5 c arg3 harg3 arg4 harg4 arg6 harg6 arg7 harg7 arg17 arg18 arg19 arg20 H5
  unfold kernelRun0_A
  dsimp only
  refine (congrFun (View.canon_cons_unit_lit (Val := Elt Ideal) (S := S1x2048x128) _ _ _ (by decide)) _).trans ?_
  pointwise [k0_pay1, kernelRun0_A.sl.v]
  rw [View.readCov_eq_canon']
  have e : (Rect.unit (s := S2048x128) ![0, 0] ![2048, 128] (by decide)).toLoadRect.idx (ix2 s x) = ix2 s x := by
    funext a; apply Fin.ext; fin_cases a <;> simp
  refine (congrArg (View.canon (Val := Elt Ideal) _) e).trans ?_
  let D : Fin 2 → (w : ℕ) → w + 512 ≤ 2048 → Fin 2048 → Fin 128 → EReal := fun hh => dvB (qh X0 hh) (kk X1) (fh X4 hh) (fh X7 hh) (dh X3 hh)
  have h1 : ∀ s x, View.canon (Val := Elt Ideal) (kernelRun0_A.sl.HS9_1 (F := Ideal)) (ix2 s x) = 0 := fun s x => by
    unfold kernelRun0_A.sl.HS9_1
    refine (congrFun (View.canon_cons_unit_lit (Val := Elt Ideal) (S := S2048x128) _ _ _ (by decide)) _).trans ?_
    pointwise [k0_pay27]
  refine (acc_step (w := 2048) (by decide) (D 1 1536 (by decide)) arg24 (acc_step (w := 2048) (by decide) (D 0 1536 (by decide)) arg24 (acc_step (w := 1536) (by decide) (D 1 1024 (by decide)) arg24 (acc_step (w := 1536) (by decide) (D 0 1024 (by decide)) arg24 (acc_step (w := 1024) (by decide) (D 1 512 (by decide)) arg24 (acc_step (w := 1024) (by decide) (D 0 512 (by decide)) arg24 (acc_step (w := 512) (by decide) (D 1 0 (by decide)) arg24 (acc_step (w := 512) (by decide) (D 0 0 (by decide)) arg24 h1
    (fun s x => dv_0_0 (R 0 0 0 0 0 rfl rfl rfl (by decide)) (K 0 0 512 rfl (by decide)) _ s x) (dvB_zero 0 512 (by decide) rfl))
    (fun s x => dv_0_1 (R 1 0 1 0 0 rfl rfl rfl (by decide)) (K 1 1 512 rfl (by decide)) _ s x) (dvB_zero 0 512 (by decide) rfl))
    (fun s x => dv_1_0 (R 0 1 0 1 512 rfl rfl rfl (by decide)) (K 0 0 1024 rfl (by decide)) _ s x) (dvB_zero 512 1024 (by decide) rfl))
    (fun s x => dv_1_1 (R 1 1 1 1 512 rfl rfl rfl (by decide)) (K 1 1 1024 rfl (by decide)) _ s x) (dvB_zero 512 1024 (by decide) rfl))
    (fun s x => dv_2_0 (R 0 2 0 2 1024 rfl rfl rfl (by decide)) (K 0 0 1536 rfl (by decide)) _ s x) (dvB_zero 1024 1536 (by decide) rfl))
    (fun s x => dv_2_1 (R 1 2 1 2 1024 rfl rfl rfl (by decide)) (K 1 1 1536 rfl (by decide)) _ s x) (dvB_zero 1024 1536 (by decide) rfl))
    (fun s x => dv_3_0 (R 0 3 0 3 1536 rfl rfl rfl (by decide)) (K 0 0 2048 rfl (by decide)) _ s x) (dvB_zero 1536 2048 (by decide) rfl))
    (fun s x => dv_3_1 (R 1 3 1 3 1536 rfl rfl rfl (by decide)) (K 1 1 2048 rfl (by decide)) _ s x) (dvB_zero 1536 2048 (by decide) rfl) s x).trans ?_
  refine (sum_heads (fun hh => D hh 0 (by decide) s x) (fun hh => D hh 512 (by decide) s x) (fun hh => D hh 1024 (by decide) s x)
    (fun hh => D hh 1536 (by decide) s x)).trans ?_
  exact Finset.sum_congr rfl fun hh _ => sum_blocks fun t => pr (qh X0 hh) (kk X1) (fh X4 hh) (fh X7 hh) (fh X4 hh) t s * dh X3 hh t x

theorem out_df (hh : Fin 2) (s : Fin 2048) :
    View.canon (Val := Elt Ideal) (kernelRun0_A (F := Ideal) c i arg2 harg2 arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21 harg21 arg22 harg22 arg23 harg23 arg24 harg24 X0 X1 X2 X3 X4 X5 X6 X7 X8).2.2.2.1 (ix4 0 hh 0 s)
      = negBlocks (qh X0 hh) (kk X1) (fh X4 hh) (fh X7 hh) (dh X3 hh) (kk X2) s := by
  have R := @rows X0 X3 X4 X6 X7 X8 c i arg2 harg2 arg3 harg3 arg4 harg4 arg5 harg5 arg6 harg6 arg7 harg7 arg8 harg8 arg9 harg9 arg10 harg10 arg11 harg11 arg12 harg12
    arg13 harg13 arg14 harg14 arg15 arg16 arg17 arg18 arg19 arg20 harg15 harg16 harg17 harg18 harg19 harg20 arg21 harg21 arg22 harg22 arg23 harg23 arg24 harg24 H6 H8
  have K := @keys X1 X2 X4 X5 c arg3 harg3 arg4 harg4 arg6 harg6 arg7 harg7 arg17 arg18 arg19 arg20 H5
  unfold kernelRun0_A
  dsimp only
  let D : Fin 2 → (w : ℕ) → w + 512 ≤ 2048 → Fin 2048 → EReal := fun hh => dfB (qh X0 hh) (kk X1) (fh X4 hh) (fh X7 hh) (dh X3 hh) (kk X2)
  have h1 : ∀ hh s, View.canon (Val := Elt Ideal) (kernelRun0_A.sl.H12_1 (F := Ideal)) (ix4 0 hh 0 s) = 0 := fun hh s => by
    unfold kernelRun0_A.sl.H12_1
    refine (congrFun (View.canon_cons_unit_lit (Val := Elt Ideal) (S := S1x2x1x2048) _ _ _ (by decide)) _).trans ?_
    pointwise [k0_pay28]
  refine (row_step (w := 2048) (by decide) 1 1 rfl (D 1 1536 (by decide)) arg14 (row_step (w := 2048) (by decide) 0 0 rfl (D 0 1536 (by decide)) arg14 (row_step (w := 1536) (by decide) 1 1 rfl (D 1 1024 (by decide)) arg14 (row_step (w := 1536) (by decide) 0 0 rfl (D 0 1024 (by decide)) arg14 (row_step (w := 1024) (by decide) 1 1 rfl (D 1 512 (by decide)) arg14 (row_step (w := 1024) (by decide) 0 0 rfl (D 0 512 (by decide)) arg14 (row_step (w := 512) (by decide) 1 1 rfl (D 1 0 (by decide)) arg14 (row_step (w := 512) (by decide) 0 0 rfl (D 0 0 (by decide)) arg14 h1
    (fun s => df_0_0 (R 0 0 0 0 0 rfl rfl rfl (by decide)) (K 0 0 512 rfl (by decide)) _ s) (dfB_zero 0 512 (by decide) rfl))
    (fun s => df_0_1 (R 1 0 1 0 0 rfl rfl rfl (by decide)) (K 1 1 512 rfl (by decide)) _ s) (dfB_zero 0 512 (by decide) rfl))
    (fun s => df_1_0 (R 0 1 0 1 512 rfl rfl rfl (by decide)) (K 0 0 1024 rfl (by decide)) _ s) (dfB_zero 512 1024 (by decide) rfl))
    (fun s => df_1_1 (R 1 1 1 1 512 rfl rfl rfl (by decide)) (K 1 1 1024 rfl (by decide)) _ s) (dfB_zero 512 1024 (by decide) rfl))
    (fun s => df_2_0 (R 0 2 0 2 1024 rfl rfl rfl (by decide)) (K 0 0 1536 rfl (by decide)) _ s) (dfB_zero 1024 1536 (by decide) rfl))
    (fun s => df_2_1 (R 1 2 1 2 1024 rfl rfl rfl (by decide)) (K 1 1 1536 rfl (by decide)) _ s) (dfB_zero 1024 1536 (by decide) rfl))
    (fun s => df_3_0 (R 0 3 0 3 1536 rfl rfl rfl (by decide)) (K 0 0 2048 rfl (by decide)) _ s) (dfB_zero 1536 2048 (by decide) rfl))
    (fun s => df_3_1 (R 1 3 1 3 1536 rfl rfl rfl (by decide)) (K 1 1 2048 rfl (by decide)) _ s) (dfB_zero 1536 2048 (by decide) rfl) hh s).trans ?_
  rcases (show hh = 0 ∨ hh = 1 by omega) with rfl | rfl
  · simp only [if_true, zero_ne_one, if_false, sub_zero]; rfl
  · simp only [if_true, one_ne_zero, if_false, sub_zero]; rfl

theorem out_dq (t : Fin 2048) (x : Fin 128) :
    View.canon (Val := Elt Ideal) (kernelRun0_A (F := Ideal) c i arg2 harg2 arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21 harg21 arg22 harg22 arg23 harg23 arg24 harg24 X0 X1 X2 X3 X4 X5 X6 X7 X8).1 (ix3 0 t x)
      = dqB (qh X0) (kk X1) (fh X4) (fh X7) (dh X3) (kk X2) t x := by
  have R := @rows X0 X3 X4 X6 X7 X8 c i arg2 harg2 arg3 harg3 arg4 harg4 arg5 harg5 arg6 harg6 arg7 harg7 arg8 harg8 arg9 harg9 arg10 harg10 arg11 harg11 arg12 harg12
    arg13 harg13 arg14 harg14 arg15 arg16 arg17 arg18 arg19 arg20 harg15 harg16 harg17 harg18 harg19 harg20 arg21 harg21 arg22 harg22 arg23 harg23 arg24 harg24 H6 H8
  have K := @keys X1 X2 X4 X5 c arg3 harg3 arg4 harg4 arg6 harg6 arg7 harg7 arg17 arg18 arg19 arg20 H5
  unfold kernelRun0_A
  dsimp only
  let A := dqB (qh X0) (kk X1) (fh X4) (fh X7) (dh X3) (kk X2)
  refine four_blocks A _ _ _ _ ?_ ?_ ?_ ?_ t x
  · exact fun j x => store_0 _ _ j x (dq_0_0 (R 0 0 0 0 0 rfl rfl rfl (by decide)) (K 0 0 512 rfl (by decide)) j x)
      (dq_0_1 (R 1 0 1 0 0 rfl rfl rfl (by decide)) (K 1 1 512 rfl (by decide)) j x)
  · exact fun j x => store_1 _ _ j x (dq_1_0 (R 0 1 0 1 512 rfl rfl rfl (by decide)) (K 0 0 1024 rfl (by decide)) j x)
      (dq_1_1 (R 1 1 1 1 512 rfl rfl rfl (by decide)) (K 1 1 1024 rfl (by decide)) j x)
  · exact fun j x => store_2 _ _ j x (dq_2_0 (R 0 2 0 2 1024 rfl rfl rfl (by decide)) (K 0 0 1536 rfl (by decide)) j x)
      (dq_2_1 (R 1 2 1 2 1024 rfl rfl rfl (by decide)) (K 1 1 1536 rfl (by decide)) j x)
  · exact fun j x => store_3 _ _ j x (dq_3_0 (R 0 3 0 3 1536 rfl rfl rfl (by decide)) (K 0 0 2048 rfl (by decide)) j x)
      (dq_3_1 (R 1 3 1 3 1536 rfl rfl rfl (by decide)) (K 1 1 2048 rfl (by decide)) j x)

end Cert.Fox
-- ==== Proof.FoxKernel.lean ====
module

public import proofs.«01_k».proof.Proof.FoxOut
public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.Fox

open Cert.Kernel2Ideal Cert.Kernel2Ideal.Gen Idealize.ShloMosaic Idealize.ShloMosaic.TcCoe Idealize.SL.Sem
open Idealize.ShloMosaic.Pipeline (Dat)

/-! The forgetting attention's backward call: the four result arrays, as formulas of the arguments and of the saved row sums. -/

section Spec

variable (pj : FVec Ideal S4x2048x3336 .f32) (ff : FVec Ideal S4x2048x8 .f32) (dm : FVec Ideal S4x2048x1024 .f32) (ls : FVec Ideal S4x8x2048x1 .f32)

/-- The masked rows of one head of a pair: queries, and the output's cotangent. -/
def qA (b p : Fin 4) (hh : Fin 2) (t : Fin 2048) (x : Fin 128) : EReal :=
  if lane hh x then pj (ix3 b t ⟨768 + (p * 128 + x), by omega⟩) * Ideal.ofBits .f32 0x3e000000#32 else 0
def dA (b p : Fin 4) (hh : Fin 2) (t : Fin 2048) (x : Fin 128) : EReal :=
  if lane hh x then dm (ix3 b t ⟨512 + (p * 128 + x), by omega⟩) else 0
/-- The pair's keys and values. -/
def kA (b p : Fin 4) (s : Fin 2048) (x : Fin 128) : EReal := pj (ix3 b s ⟨1280 + (p * 128 + x), by omega⟩)
def vA (b p : Fin 4) (s : Fin 2048) (x : Fin 128) : EReal := pj (ix3 b s ⟨1792 + (p * 128 + x), by omega⟩)
/-- A head's decays and saved row sums. -/
def fA (b p : Fin 4) (hh : Fin 2) (t : Fin 2048) : EReal := ff (ix3 b t ⟨p * 2 + hh, by omega⟩)
def lA (b p : Fin 4) (hh : Fin 2) (t : Fin 2048) : EReal := ls (ix4 b ⟨p * 2 + hh, by omega⟩ t 0)

def dqF (b p : Fin 4) (t : Fin 2048) (x : Fin 128) : EReal := dqB (qA pj b p) (kA pj b p) (fA ff b p) (lA ls b p) (dA dm b p) (vA pj b p) t x
def dkF (b p : Fin 4) (s : Fin 2048) (x : Fin 128) : EReal :=
  ∑ hh, ∑ t, ds (qA pj b p hh) (kA pj b p) (fA ff b p hh) (lA ls b p hh) (fA ff b p hh) (dA dm b p hh) (vA pj b p) t s * qA pj b p hh t x
def dvF (b p : Fin 4) (s : Fin 2048) (x : Fin 128) : EReal :=
  ∑ hh, ∑ t, pr (qA pj b p hh) (kA pj b p) (fA ff b p hh) (lA ls b p hh) (fA ff b p hh) t s * dA dm b p hh t x
def dfF (b p : Fin 4) (hh : Fin 2) (s : Fin 2048) : EReal :=
  negBlocks (qA pj b p hh) (kA pj b p) (fA ff b p hh) (lA ls b p hh) (dA dm b p hh) (vA pj b p) s

/-- The pair and the lane of a column, the pair and the place of a head. -/
def pairOf (c : Fin 512) : Fin 4 := ⟨c.val / 128, by omega⟩
def laneOf (c : Fin 512) : Fin 128 := ⟨c.val % 128, by omega⟩
def pairOf' (h : Fin 8) : Fin 4 := ⟨h.val / 2, by omega⟩
def placeOf (h : Fin 8) : Fin 2 := ⟨h.val % 2, by omega⟩

def dqR : FVec Ideal S4x2048x512 .bf16 := fun i => dqF pj ff dm ls (i 0) (pairOf (i 2)) (i 1) (laneOf (i 2))
def dkR : FVec Ideal S4x2048x512 .bf16 := fun i => dkF pj ff dm ls (i 0) (pairOf (i 2)) (i 1) (laneOf (i 2))
def dvR : FVec Ideal S4x2048x512 .bf16 := fun i => dvF pj ff dm ls (i 0) (pairOf (i 2)) (i 1) (laneOf (i 2))
def dfR : FVec Ideal S4x8x1x2048 .f32 := fun i => dfF pj ff dm ls (i 0) (pairOf' (i 1)) (placeOf (i 1)) (i 3)

end Spec

variable (m : (ℓ : Loc nD τ sig) → Buf (Elt Ideal) ℓ)

/-- The arguments at their types, and the saved row sums as the region finds them. -/
abbrev PJ (c : Dev nD) : FVec Ideal S4x2048x3336 .f32 := m ((c : Thread nD τ).loc main_arg0)
abbrev FF (c : Dev nD) : FVec Ideal S4x2048x8 .f32 := m ((c : Thread nD τ).loc main_arg1)
abbrev DM (c : Dev nD) : FVec Ideal S4x2048x1024 .f32 := m ((c : Thread nD τ).loc main_arg2)
def LS (c : Dev nD) : FVec Ideal S4x8x2048x1 .f32 := V m c main_v47

theorem idx_val : ∀ t : Fin cfg0.N, win0_0.index t = ![t.val / 4, 0, 14 + t.val % 4] ∧ win0_1.index t = ![t.val / 4, 0, 18 + t.val % 4]
    ∧ win0_2.index t = ![t.val / 4, 0, 22 + t.val % 4] ∧ win0_3.index t = ![t.val / 4, 0, 4 + t.val % 4]
    ∧ win0_4.index t = ![t.val / 4, t.val % 4, 0, 0] ∧ win0_5.index t = ![t.val / 4, t.val % 4, 0, 0]
    ∧ win0_6.index t = ![t.val / 4, t.val % 4, 0, 0, 0] ∧ win0_7.index t = ![t.val / 4, t.val % 4, 0, 0]
    ∧ win0_8.index t = ![t.val / 4, t.val % 4, 0, 0, 0]
    ∧ win0_9.index t = ![t.val / 4, 0, t.val % 4] ∧ win0_10.index t = ![t.val / 4, 0, t.val % 4]
    ∧ win0_11.index t = ![t.val / 4, 0, t.val % 4] ∧ win0_12.index t = ![t.val / 4, t.val % 4, 0, 0] :=
  (by decide +kernel : ∀ t : Fin grid0.N, _)

/-- The projection's columns as the call gets them: the gate moved to the front. -/
theorem proj_read (c : Dev nD) (b : Fin 4) (r : Fin 2048) (y : Fin 3456) (y' : Fin 3336) (h : y.val = 1024 + y'.val) (h' : y'.val < 2312) :
    V m c main_v4 (ix3 b r y) = PJ m c (ix3 b r y') := by
  unfold V
  simp only [hostOps0, hostOps0_1, hostOps0_2, List.flatten_cons, List.flatten_nil, List.cons_append, List.nil_append,
    List.append_nil, StableHlo.TRef.binary, StableHlo.TRef.nullary, StableHlo.TRef.unary, StableHlo.TRef.toBuf,
    StableHlo.TRef.ofBuf, cast_eq]
  after_results_simp
  pointwise
  rw [dif_neg (by omega), dif_pos (by omega)]
  after_results_simp
  pointwise
  congr 1; congr 1; exact Fin.ext (by simp only; omega)

theorem dm_read (c : Dev nD) (i : S4x2048x1024.Idx) : V m c main_v49 i = DM m c i := by
  unfold V
  simp only [hostOps0, hostOps0_1, hostOps0_2, List.flatten_cons, List.flatten_nil, List.cons_append, List.nil_append,
    List.append_nil, StableHlo.TRef.binary, StableHlo.TRef.nullary, StableHlo.TRef.unary, StableHlo.TRef.toBuf,
    StableHlo.TRef.ofBuf, cast_eq]
  after_results_simp
  pointwise

theorem fcol_read (c : Dev nD) (b : Fin 4) (h : Fin 8) (r : Fin 2048) : V m c main_v6 (ix4 b h r 0) = FF m c (ix3 b r h) := by
  unfold V
  simp only [hostOps0, hostOps0_1, hostOps0_2, List.flatten_cons, List.flatten_nil, List.cons_append, List.nil_append,
    List.append_nil, StableHlo.TRef.binary, StableHlo.TRef.nullary, StableHlo.TRef.unary, StableHlo.TRef.toBuf,
    StableHlo.TRef.ofBuf, cast_eq]
  after_results_simp
  pointwise

theorem frow_read (c : Dev nD) (b : Fin 4) (h : Fin 8) (r : Fin 2048) : V m c main_v7 (ix4 b h 0 r) = FF m c (ix3 b r h) := by
  unfold V
  simp only [hostOps0, hostOps0_1, hostOps0_2, List.flatten_cons, List.flatten_nil, List.cons_append, List.nil_append,
    List.append_nil, StableHlo.TRef.binary, StableHlo.TRef.nullary, StableHlo.TRef.unary, StableHlo.TRef.toBuf,
    StableHlo.TRef.ofBuf, cast_eq]
  after_results_simp
  pointwise

theorem blocks_read {s : S4x8x2048x1.ShapeCasts S4x8x4x1x512} (y : FVec Ideal S4x8x2048x1 .f32) (b : Fin 4) (h : Fin 8) (n : Fin 4) (j : Fin 512) :
    shapeCast S4x8x4x1x512 y s (ix5 b h n 0 j) = y (ix4 b h ⟨512 * n + j, by omega⟩ 0) := by
  pointwise
  exact congrArg (fun r => y (ix4 b h r 0)) (Fin.ext (by simp only; omega))

theorem frowb_read (c : Dev nD) (b : Fin 4) (h : Fin 8) (n : Fin 4) (j : Fin 512) :
    V m c main_v8 (ix5 b h n 0 j) = FF m c (ix3 b ⟨512 * n + j, by omega⟩ h) := by
  unfold V
  simp only [hostOps0, hostOps0_1, hostOps0_2, List.flatten_cons, List.flatten_nil, List.cons_append, List.nil_append,
    List.append_nil, StableHlo.TRef.binary, StableHlo.TRef.nullary, StableHlo.TRef.unary, StableHlo.TRef.toBuf,
    StableHlo.TRef.ofBuf, cast_eq]
  after_results_simp
  pointwise
  exact congrArg (fun r => FF m c (ix3 b r h)) (Fin.ext (by simp only; omega))

theorem lserow_read (c : Dev nD) (b : Fin 4) (h : Fin 8) (n : Fin 4) (j : Fin 512) :
    V m c main_v48 (ix5 b h n 0 j) = LS m c (ix4 b h ⟨512 * n + j, by omega⟩ 0) := by
  unfold LS
  unfold V
  simp only [hostOps0, hostOps0_1, hostOps0_2, List.flatten_cons, List.flatten_nil, List.cons_append, List.nil_append,
    List.append_nil, StableHlo.TRef.binary, StableHlo.TRef.nullary, StableHlo.TRef.unary, StableHlo.TRef.toBuf,
    StableHlo.TRef.ofBuf, cast_eq]
  after_results_simp
  exact blocks_read _ b h n j

/-- The sequence and the pair of a grid point. -/
def bOf (t : Fin cfg0.N) : Fin 4 := ⟨t.val / 4, by have : t.val < 16 := t.isLt; omega⟩
def pOf (t : Fin cfg0.N) : Fin 4 := ⟨t.val % 4, by omega⟩

theorem blk0 (c : Dev nD) (t : Fin cfg0.N) (r : Fin 2048) (x : Fin 128) :
    iblk m c 0 t (ix3 0 r x) = PJ m c (ix3 (bOf t) r ⟨768 + ((pOf t).val * 128 + x), by omega⟩) := by
  rw [← proj_read m c (bOf t) r ⟨(14 + t.val % 4) * 128 + x, by omega⟩ _ (by simp only [pOf]; omega) (by simp only [pOf]; omega)]
  blk_point [iblk, idx_val t, bOf]
theorem blk1 (c : Dev nD) (t : Fin cfg0.N) (r : Fin 2048) (x : Fin 128) :
    iblk m c 1 t (ix3 0 r x) = PJ m c (ix3 (bOf t) r ⟨1280 + ((pOf t).val * 128 + x), by omega⟩) := by
  rw [← proj_read m c (bOf t) r ⟨(18 + t.val % 4) * 128 + x, by omega⟩ _ (by simp only [pOf]; omega) (by simp only [pOf]; omega)]
  blk_point [iblk, idx_val t, bOf]
theorem blk2 (c : Dev nD) (t : Fin cfg0.N) (r : Fin 2048) (x : Fin 128) :
    iblk m c 2 t (ix3 0 r x) = PJ m c (ix3 (bOf t) r ⟨1792 + ((pOf t).val * 128 + x), by omega⟩) := by
  rw [← proj_read m c (bOf t) r ⟨(22 + t.val % 4) * 128 + x, by omega⟩ _ (by simp only [pOf]; omega) (by simp only [pOf]; omega)]
  blk_point [iblk, idx_val t, bOf]
theorem blk3 (c : Dev nD) (t : Fin cfg0.N) (r : Fin 2048) (x : Fin 128) :
    iblk m c 3 t (ix3 0 r x) = DM m c (ix3 (bOf t) r ⟨512 + ((pOf t).val * 128 + x), by omega⟩) := by
  rw [← dm_read]
  blk_point [iblk, idx_val t, bOf, pOf]
theorem blk4 (c : Dev nD) (t : Fin cfg0.N) (hh : Fin 2) (r : Fin 2048) :
    iblk m c 4 t (ix4 0 hh r 0) = FF m c (ix3 (bOf t) r ⟨(pOf t).val * 2 + hh, by omega⟩) := by
  rw [← fcol_read]
  blk_point [iblk, idx_val t, bOf, pOf]
theorem blk5 (c : Dev nD) (t : Fin cfg0.N) (hh : Fin 2) (r : Fin 2048) :
    iblk m c 5 t (ix4 0 hh 0 r) = FF m c (ix3 (bOf t) r ⟨(pOf t).val * 2 + hh, by omega⟩) := by
  rw [← frow_read]
  blk_point [iblk, idx_val t, bOf, pOf]
theorem blk6 (c : Dev nD) (t : Fin cfg0.N) (hh : Fin 2) (n : Fin 4) (j : Fin 512) :
    iblk m c 6 t (ix5 0 hh n 0 j) = FF m c (ix3 (bOf t) ⟨512 * n + j, by omega⟩ ⟨(pOf t).val * 2 + hh, by omega⟩) := by
  rw [← frowb_read]
  blk_point [iblk, idx_val t, bOf, pOf]
/-- A block of an array of columns, and of an array of blocks of rows. -/
theorem col_block (t : Fin cfg0.N) (A : FVec Ideal S4x8x2048x1 .f32) (hh : Fin 2) (r : Fin 2048) :
    ((cfg0.win 7).blk t).view.read (Elt Ideal) A (ix4 0 hh r 0) = A (ix4 (bOf t) ⟨(pOf t).val * 2 + hh, by omega⟩ r 0) := by
  blk_point [idx_val t, bOf, pOf]
theorem row_block (t : Fin cfg0.N) (A : FVec Ideal S4x8x4x1x512 .f32) (hh : Fin 2) (n : Fin 4) (j : Fin 512) :
    ((cfg0.win 8).blk t).view.read (Elt Ideal) A (ix5 0 hh n 0 j) = A (ix5 (bOf t) ⟨(pOf t).val * 2 + hh, by omega⟩ n 0 j) := by
  blk_point [idx_val t, bOf, pOf]
theorem blk7 (c : Dev nD) (t : Fin cfg0.N) (hh : Fin 2) (r : Fin 2048) :
    iblk m c 7 t (ix4 0 hh r 0) = LS m c (ix4 (bOf t) ⟨(pOf t).val * 2 + hh, by omega⟩ r 0) :=
  col_block t (V m c main_v47) hh r
theorem blk8 (c : Dev nD) (t : Fin cfg0.N) (hh : Fin 2) (n : Fin 4) (j : Fin 512) :
    iblk m c 8 t (ix5 0 hh n 0 j) = LS m c (ix4 (bOf t) ⟨(pOf t).val * 2 + hh, by omega⟩ ⟨512 * n + j, by omega⟩ 0) :=
  (row_block t (V m c main_v48) hh n j).trans (lserow_read m c _ _ n j)

end Cert.Fox
-- ==== Proof.FoxFinal.lean ====
module

public import proofs.«01_k».proof.Proof.FoxKernel

@[expose] public section

set_option maxRecDepth 16384

noncomputable section

namespace Cert.Fox

open Cert.Kernel2Ideal Cert.Kernel2Ideal.Gen Idealize.ShloMosaic Idealize.ShloMosaic.TcCoe Idealize.SL.Sem
open Idealize.ShloMosaic.Pipeline (Dat)

/-! The forgetting attention's backward call: the four arrays after the last grid point. -/

variable (m : (ℓ : Loc nD τ sig) → Buf (Elt Ideal) ℓ)

theorem qh_blk (c : Dev nD) (t : Fin cfg0.N) : qh (iblk m c 0 t) = qA (PJ m c) (bOf t) (pOf t) := by
  funext hh r x; unfold qh qA; rw [blk0]
theorem dh_blk (c : Dev nD) (t : Fin cfg0.N) : dh (iblk m c 3 t) = dA (DM m c) (bOf t) (pOf t) := by
  funext hh r x; unfold dh dA; rw [blk3]
theorem kk_blk (c : Dev nD) (t : Fin cfg0.N) : kk (iblk m c 1 t) = kA (PJ m c) (bOf t) (pOf t) := by
  funext r x; unfold kk kA; rw [blk1]
theorem vv_blk (c : Dev nD) (t : Fin cfg0.N) : kk (iblk m c 2 t) = vA (PJ m c) (bOf t) (pOf t) := by
  funext r x; unfold kk vA; rw [blk2]
theorem fh_blk (c : Dev nD) (t : Fin cfg0.N) : fh (iblk m c 4 t) = fA (FF m c) (bOf t) (pOf t) := by
  funext hh r; unfold fh fA; rw [blk4]
theorem lh_blk (c : Dev nD) (t : Fin cfg0.N) : fh (iblk m c 7 t) = lA (LS m c) (bOf t) (pOf t) := by
  funext hh r; unfold fh lA; rw [blk7]

theorem h5 (c : Dev nD) (t : Fin cfg0.N) (hh : Fin 2) (s : Fin 2048) : iblk m c 5 t (ix4 0 hh 0 s) = iblk m c 4 t (ix4 0 hh s 0) :=
  (blk5 m c t hh s).trans (blk4 m c t hh s).symm
theorem h6 (c : Dev nD) (t : Fin cfg0.N) (hh : Fin 2) (n : Fin 4) (j : Fin 512) :
    iblk m c 6 t (ix5 0 hh n 0 j) = iblk m c 4 t (ix4 0 hh ⟨512 * n.val + j, by omega⟩ 0) :=
  (blk6 m c t hh n j).trans (blk4 m c t hh _).symm
theorem h8 (c : Dev nD) (t : Fin cfg0.N) (hh : Fin 2) (n : Fin 4) (j : Fin 512) :
    iblk m c 8 t (ix5 0 hh n 0 j) = iblk m c 7 t (ix4 0 hh ⟨512 * n.val + j, by omega⟩ 0) :=
  (blk8 m c t hh n j).trans (blk7 m c t hh _).symm

theorem store_dq (c : Dev nD) (t : Fin cfg0.N) (s : Fin 2048) (x : Fin 128) :
    (outsAt0 m c t).1 (ix3 0 s x) = dqF (PJ m c) (FF m c) (DM m c) (LS m c) (bOf t) (pOf t) s x := by
  unfold outsAt0 out0_A_9
  dsimp only
  rw [View.read_writes_eq_canon _ _ _ (cover0_A_9 _ _ _ _ _ _ _ _ _ _ _ _ _ _ _ _ _ _ _ _ _ _ _ _ _ _ _ _ _ _ _ _ _ _ _ _ _ _ _ _ _ _ _ _ _ _ _ _ _ _ _ _ _ _ _ _ _)]
  refine (out_dq (h5 m c t) (h6 m c t) (h8 m c t) s x).trans ?_
  rw [qh_blk, dh_blk, kk_blk, vv_blk, fh_blk, lh_blk]
  rfl

theorem store_dk (c : Dev nD) (t : Fin cfg0.N) (s : Fin 2048) (x : Fin 128) :
    (outsAt0 m c t).2.1 (ix3 0 s x) = dkF (PJ m c) (FF m c) (DM m c) (LS m c) (bOf t) (pOf t) s x := by
  unfold outsAt0 out0_A_10
  dsimp only
  rw [View.read_writes_eq_canon _ _ _ (cover0_A_10 _ _ _ _ _ _ _ _ _ _ _ _ _ _ _ _ _ _ _ _ _ _ _ _ _ _ _ _ _ _ _ _ _ _ _ _ _ _ _ _ _ _ _ _ _ _ _ _ _ _ _ _ _ _ _ _ _)]
  refine (out_dk (h5 m c t) (h6 m c t) (h8 m c t) s x).trans ?_
  rw [qh_blk, dh_blk, kk_blk, vv_blk, fh_blk, lh_blk]
  rfl

theorem store_dv (c : Dev nD) (t : Fin cfg0.N) (s : Fin 2048) (x : Fin 128) :
    (outsAt0 m c t).2.2.1 (ix3 0 s x) = dvF (PJ m c) (FF m c) (DM m c) (LS m c) (bOf t) (pOf t) s x := by
  unfold outsAt0 out0_A_11
  dsimp only
  rw [View.read_writes_eq_canon _ _ _ (cover0_A_11 _ _ _ _ _ _ _ _ _ _ _ _ _ _ _ _ _ _ _ _ _ _ _ _ _ _ _ _ _ _ _ _ _ _ _ _ _ _ _ _ _ _ _ _ _ _ _ _ _ _ _ _ _ _ _ _ _)]
  refine (out_dv (h5 m c t) (h6 m c t) (h8 m c t) s x).trans ?_
  rw [qh_blk, dh_blk, kk_blk, fh_blk, lh_blk]
  rfl

theorem store_df (c : Dev nD) (t : Fin cfg0.N) (hh : Fin 2) (s : Fin 2048) :
    (outsAt0 m c t).2.2.2 (ix4 0 hh 0 s) = dfF (PJ m c) (FF m c) (DM m c) (LS m c) (bOf t) (pOf t) hh s := by
  unfold outsAt0 out0_A_12
  dsimp only
  rw [View.read_writes_eq_canon _ _ _ (cover0_A_12 _ _ _ _ _ _ _ _ _ _ _ _ _ _ _ _ _ _ _ _ _ _ _ _ _ _ _ _ _ _ _ _ _ _ _ _ _ _ _ _ _ _ _ _ _ _ _ _ _ _ _ _ _ _ _ _ _)]
  refine (out_df (h5 m c t) (h6 m c t) (h8 m c t) hh s).trans ?_
  rw [qh_blk, dh_blk, kk_blk, vv_blk, fh_blk, lh_blk]
  rfl

/-- Where a block of rows, and a block of heads' rows, lies in its array. -/
theorem at9 (t : Fin cfg0.N) (A : FVec Ideal S4x2048x512 .bf16) (r : Fin 2048) (x : Fin 128) :
    A ((win0_9.blk t).view.emb (ix3 0 r x)) = A (ix3 (bOf t) r ⟨(pOf t).val * 128 + x, by omega⟩) := by blk_point [idx_val t, bOf, pOf]
theorem at10 (t : Fin cfg0.N) (A : FVec Ideal S4x2048x512 .bf16) (r : Fin 2048) (x : Fin 128) :
    A ((win0_10.blk t).view.emb (ix3 0 r x)) = A (ix3 (bOf t) r ⟨(pOf t).val * 128 + x, by omega⟩) := by blk_point [idx_val t, bOf, pOf]
theorem at11 (t : Fin cfg0.N) (A : FVec Ideal S4x2048x512 .bf16) (r : Fin 2048) (x : Fin 128) :
    A ((win0_11.blk t).view.emb (ix3 0 r x)) = A (ix3 (bOf t) r ⟨(pOf t).val * 128 + x, by omega⟩) := by blk_point [idx_val t, bOf, pOf]
theorem at12 (t : Fin cfg0.N) (A : FVec Ideal S4x8x1x2048 .f32) (hh : Fin 2) (s : Fin 2048) :
    A ((win0_12.blk t).view.emb (ix4 0 hh 0 s)) = A (ix4 (bOf t) ⟨(pOf t).val * 2 + hh, by omega⟩ 0 s) := by blk_point [idx_val t, bOf, pOf]

theorem pair_lane (p : Fin 4) (x : Fin 128) : pairOf ⟨p.val * 128 + x, by omega⟩ = p ∧ laneOf ⟨p.val * 128 + x, by omega⟩ = x :=
  ⟨Fin.ext (by simp only [pairOf]; omega), Fin.ext (by simp only [laneOf]; omega)⟩
theorem pair_place (p : Fin 4) (hh : Fin 2) : pairOf' ⟨p.val * 2 + hh, by omega⟩ = p ∧ placeOf ⟨p.val * 2 + hh, by omega⟩ = hh :=
  ⟨Fin.ext (by simp only [pairOf']; omega), Fin.ext (by simp only [placeOf]; omega)⟩

theorem row_index (y : S1x2048x128.Idx) : ∃ (r : Fin 2048) (x : Fin 128), y = ix3 (0 : Fin 1) r x := by
  refine ⟨y 1, y 2, ?_⟩
  funext a; match a with | ⟨0, _⟩ => exact Subsingleton.elim (α := Fin 1) _ _ | ⟨1, _⟩ => rfl | ⟨2, _⟩ => rfl
theorem head_index (y : S1x2x1x2048.Idx) : ∃ (hh : Fin 2) (s : Fin 2048), y = ix4 (0 : Fin 1) hh (0 : Fin 1) s := by
  refine ⟨y 1, y 3, ?_⟩
  funext a
  match a with | ⟨0, _⟩ => exact Subsingleton.elim (α := Fin 1) _ _ | ⟨1, _⟩ => rfl | ⟨2, _⟩ => exact Subsingleton.elim (α := Fin 1) _ _ | ⟨3, _⟩ => rfl

theorem final9 (c : Dev nD) : (dats m 0 c).arrAt 9 cfg0.N = dqR (PJ m c) (FF m c) (DM m c) (LS m c) := by
  refine (dats m 0 c).arrAt_eq_of_covers 9 _ (by decide +kernel) fun t _ y => ?_
  blk_simp
  rw [after0_9]
  obtain ⟨r, x, e⟩ := row_index y
  rw [e]
  refine (store_dq m c t r x).trans (Eq.trans ?_ (at9 t (dqR (PJ m c) (FF m c) (DM m c) (LS m c)) r x).symm)
  exact congrArg₂ (fun p z => dqF (PJ m c) (FF m c) (DM m c) (LS m c) (bOf t) p r z) (pair_lane (pOf t) x).1.symm (pair_lane (pOf t) x).2.symm

theorem final10 (c : Dev nD) : (dats m 0 c).arrAt 10 cfg0.N = dkR (PJ m c) (FF m c) (DM m c) (LS m c) := by
  refine (dats m 0 c).arrAt_eq_of_covers 10 _ (by decide +kernel) fun t _ y => ?_
  blk_simp
  rw [after0_10]
  obtain ⟨r, x, e⟩ := row_index y
  rw [e]
  refine (store_dk m c t r x).trans (Eq.trans ?_ (at10 t (dkR (PJ m c) (FF m c) (DM m c) (LS m c)) r x).symm)
  exact congrArg₂ (fun p z => dkF (PJ m c) (FF m c) (DM m c) (LS m c) (bOf t) p r z) (pair_lane (pOf t) x).1.symm (pair_lane (pOf t) x).2.symm

theorem final11 (c : Dev nD) : (dats m 0 c).arrAt 11 cfg0.N = dvR (PJ m c) (FF m c) (DM m c) (LS m c) := by
  refine (dats m 0 c).arrAt_eq_of_covers 11 _ (by decide +kernel) fun t _ y => ?_
  blk_simp
  rw [after0_11]
  obtain ⟨r, x, e⟩ := row_index y
  rw [e]
  refine (store_dv m c t r x).trans (Eq.trans ?_ (at11 t (dvR (PJ m c) (FF m c) (DM m c) (LS m c)) r x).symm)
  exact congrArg₂ (fun p z => dvF (PJ m c) (FF m c) (DM m c) (LS m c) (bOf t) p r z) (pair_lane (pOf t) x).1.symm (pair_lane (pOf t) x).2.symm

theorem final12 (c : Dev nD) : (dats m 0 c).arrAt 12 cfg0.N = dfR (PJ m c) (FF m c) (DM m c) (LS m c) := by
  refine (dats m 0 c).arrAt_eq_of_covers 12 _ (by decide +kernel) fun t _ y => ?_
  blk_simp
  rw [after0_12]
  obtain ⟨hh, r, e⟩ := head_index y
  rw [e]
  refine (store_df m c t hh r).trans (Eq.trans ?_ (at12 t (dfR (PJ m c) (FF m c) (DM m c) (LS m c)) hh r).symm)
  exact congrArg₂ (fun p z => dfF (PJ m c) (FF m c) (DM m c) (LS m c) (bOf t) p z r) (pair_place (pOf t) hh).1.symm (pair_place (pOf t) hh).2.symm

end Cert.Fox
-- ==== Proof.FoxLse.lean ====
module

public import proofs.«01_k».proof.Proof.FoxKernel
public import proofs.«01_k».proof.Proof.Real

@[expose] public section

set_option maxRecDepth 16384

noncomputable section

namespace Cert.Fox

open Cert.Kernel2Ideal Cert.Kernel2Ideal.Gen Idealize.ShloMosaic Idealize.ShloMosaic.TcCoe Idealize.SL.Sem
open Idealize.ShloMosaic.Pipeline (Dat)

/-! The row sums the forward saves, as the kernel's host lines compute them. -/

open Cert.Finite

/-- The largest of a row of logits is a real number: each is one or masked, and the first is not masked. -/
theorem max_real {h : S4x8x2048x2048.ReducesTo [3] S4x8x2048} {hu} (Z : FVec Ideal S4x8x2048x2048 .f32) (b : Fin 4) (k : Fin 8) (t : Fin 2048)
    (H : ∀ s, Z (ix4 b k t s) = ⊥ ∨ IsR (Z (ix4 b k t s))) (H0 : IsR (Z (ix4 b k t 0))) :
    IsR (Host.reduce (u := S_) (FloatOps.maximumf (F := Ideal) (φ := .f32)) Z (constant (F := Ideal) S_ .f32 4286578688#32) h hu (ix3 b k t)) := by
  pointwise
  have hb : Ideal.ofBits FTy.f32 4286578688#32 = (⊥ : EReal) := by simp [Ideal.ofBits, Ideal.ieee]
  rw [hb]
  obtain ⟨r, hr⟩ := H0
  have h1 : (⊥ : EReal) < Finset.fold max ⊥ (fun x => Z (ix4 b k t x)) Finset.univ :=
    (Finset.lt_fold_max _).mpr (.inr ⟨0, Finset.mem_univ _, by rw [hr]; exact EReal.bot_lt_coe r⟩)
  have h2 : Finset.fold max ⊥ (fun x => Z (ix4 b k t x)) Finset.univ < (⊤ : EReal) :=
    (Finset.fold_max_lt _).mpr ⟨bot_lt_top, fun x _ => by
      rcases H x with h | ⟨a, h⟩ <;> rw [h]
      · exact bot_lt_top
      · exact EReal.coe_lt_top a⟩
  exact ⟨_, (EReal.coe_toReal h2.ne h1.ne').symm⟩

variable (m : (ℓ : Loc nD τ sig) → Buf (Elt Ideal) ℓ)

/-- The logit of a query and a key of one head, masked. -/
def logit (pj : FVec Ideal S4x2048x3336 .f32) (ff : FVec Ideal S4x2048x8 .f32) (b : Fin 4) (h : Fin 8) (t s : Fin 2048) : EReal :=
  if s.val ≤ t.val then (∑ x : Fin 64, pj (ix3 b t ⟨768 + (h.val * 64 + x), by omega⟩) * pj (ix3 b s ⟨1280 + (h.val * 64 + x), by omega⟩))
    * Ideal.ofBits .f32 1040187392#32 + (ff (ix3 b t h) - ff (ix3 b s h)) else ⊥

/-- The logarithm of a row's sum, shifted by the row's largest logit. -/
theorem lse_of {h : S4x8x2048x2048.ReducesTo [3] S4x8x2048} {hu} {b3 : S4x8x2048.BroadcastsInDim S4x8x2048x1 ![0, 1, 2]} {b4 : S4x8x2048x1.BroadcastsInDim S4x8x2048x2048 ![0, 1, 2, 3]}
    (Z : FVec Ideal S4x8x2048x2048 .f32) (M : FVec Ideal S4x8x2048 .f32) (b : Fin 4) (k : Fin 8) (t : Fin 2048) :
    addf (broadcastInDim S4x8x2048x1 ![0, 1, 2] b3 M) (Host.log (broadcastInDim S4x8x2048x1 ![0, 1, 2] b3
      (Host.reduceAdd (u := S_) (Host.exp (subf Z (broadcastInDim S4x8x2048x2048 ![0, 1, 2, 3] b4 (broadcastInDim S4x8x2048x1 ![0, 1, 2] b3 M)))) (constant (F := Ideal) S_ .f32 0#32) h hu))) (ix4 b k t 0)
      = M (ix3 b k t) + Ideal.log (∑ s : Fin 2048, Ideal.exp (Z (ix4 b k t s) - M (ix3 b k t))) := by
  pointwise

/-- A choice by the causal mask as the host lines write it. -/
theorem sel_le (t s : Fin 2048) (a z : EReal) : Scalar.select (IntOp.cmpi .sle (BitVec.ofNat 32 s.val) (BitVec.ofNat 32 t.val)) a z = if s.val ≤ t.val then a else z := by
  have hs : (BitVec.ofNat 32 s.val).toInt = s.val := by
    rw [BitVec.toInt_eq_toNat_of_lt] <;> simp only [BitVec.toNat_ofNat] <;> omega
  have ht : (BitVec.ofNat 32 t.val).toInt = t.val := by
    rw [BitVec.toInt_eq_toNat_of_lt] <;> simp only [BitVec.toNat_ofNat] <;> omega
  have e : IntOp.cmpi .sle (BitVec.ofNat 32 s.val) (BitVec.ofNat 32 t.val) = if s.val ≤ t.val then 1#1 else 0#1 := by
    simp only [IntOp.cmpi, BitVec.sle_eq_decide, hs, ht, Nat.cast_le]
    by_cases h : s.val ≤ t.val <;> simp [h]
  rw [e]
  split <;> simp [Scalar.select]

/-- The masked logit as the host lines write it. -/
theorem mask_sel (t s : Fin 2048) (a : EReal) : Scalar.select (IntOp.cmpi .sle (BitVec.ofNat 32 s.val) (BitVec.ofNat 32 t.val)) a
    (Ideal.ofBits .f32 4286578688#32) = if s.val ≤ t.val then a else ⊥ := by
  rw [sel_le]
  simp [Ideal.ofBits, Ideal.ieee]

theorem logit_cases {pj : FVec Ideal S4x2048x3336 .f32} {ff : FVec Ideal S4x2048x8 .f32} {b : Fin 4} {h : Fin 8} {t : Fin 2048}
    (H : ∀ s, s.val ≤ t.val → IsR (logit pj ff b h t s)) (s : Fin 2048) : logit pj ff b h t s = ⊥ ∨ IsR (logit pj ff b h t s) := by
  by_cases hs : s.val ≤ t.val
  · exact .inr (H s hs)
  · exact .inl (by rw [logit, if_neg hs])

/-- The saved row sum: the largest logit, a real number, plus the logarithm of the shifted sum. -/
theorem lse_read (c : Dev nD) (b : Fin 4) (h : Fin 8) (t : Fin 2048) (H : ∀ s, s.val ≤ t.val → IsR (logit (PJ m c) (FF m c) b h t s)) :
    ∃ μ : ℝ, LS m c (ix4 b h t 0) = μ + Ideal.log (∑ s : Fin 2048, Ideal.exp (logit (PJ m c) (FF m c) b h t s - μ)) := by
  unfold LS
  unfold V
  simp only [hostOps0, hostOps0_1, hostOps0_2, List.flatten_cons, List.flatten_nil, List.cons_append, List.nil_append,
    List.append_nil, StableHlo.TRef.binary, StableHlo.TRef.nullary, StableHlo.TRef.unary, StableHlo.TRef.toBuf,
    StableHlo.TRef.ofBuf, cast_eq]
  after_results_simp
  simp only [StableHlo.TRef.toBuf, StableHlo.TRef.ofBuf, cast_eq]
  generalize hZ : select _ _ _ = Z
  have hz : ∀ s, Z (ix4 b h t s) = logit (PJ m c) (FF m c) b h t s := fun s => by
    rw [← hZ]
    pointwise [logit]
    exact mask_sel t s _
  obtain ⟨μ, hμ⟩ := max_real (h := reducesTo_S4x8x2048x2048_S4x8x2048_d3) (hu := h_S_) Z b h t (fun s => by rw [hz]; exact logit_cases H s)
    (by rw [hz]; exact H 0 (Nat.zero_le _))
  refine ⟨μ, (lse_of Z _ b h t).trans ?_⟩
  simp only [hz]
  exact congrArg (fun u => u + Ideal.log (∑ s : Fin 2048, Ideal.exp (logit (PJ m c) (FF m c) b h t s - u))) hμ

end Cert.Fox
-- ==== Proof.FoxReal.lean ====
module

public import proofs.«01_k».proof.Proof.FoxLse

@[expose] public section

set_option maxRecDepth 16384

noncomputable section

namespace Cert.Fox

open Cert.Kernel2Ideal Cert.Kernel2Ideal.Gen Idealize.ShloMosaic Idealize.ShloMosaic.TcCoe Idealize.SL.Sem
open Idealize.ShloMosaic.Pipeline (Dat)

/-! The kernel's formulas over the real numbers: with real arguments the weights are the softmax of the logits. -/

open Cert.Finite

/-- One head's lanes of a pair. -/
theorem sum_lane (hh : Fin 2) (G : Fin 128 → EReal) : (∑ x : Fin 128, if lane hh x then G x else 0) = ∑ y : Fin 64, G ⟨hh.val * 64 + y, by omega⟩ := by
  have h : ∀ F : Fin 128 → EReal, ∑ x : Fin 128, F x = (∑ y : Fin 64, F ⟨y, by omega⟩) + ∑ y : Fin 64, F ⟨64 + y, by omega⟩ :=
    fun F => Fin.sum_univ_add (a := 64) (b := 64) F
  rw [h]
  rcases (show hh = 0 ∨ hh = 1 by omega) with rfl | rfl
  · rw [Finset.sum_congr rfl fun y _ => if_pos (show lane 0 ⟨y.val, _⟩ by simp [lane]),
      Finset.sum_congr rfl fun (y : Fin 64) _ => if_neg (show ¬ lane 0 ⟨64 + y.val, _⟩ by simp [lane]), Finset.sum_const_zero, add_zero]
    exact Finset.sum_congr rfl fun y _ => congrArg G (Fin.ext (by simp))
  · rw [Finset.sum_congr rfl fun (y : Fin 64) _ => if_neg (show ¬ lane 1 ⟨y.val, _⟩ by simp [lane]),
      Finset.sum_congr rfl fun (y : Fin 64) _ => if_pos (show lane 1 ⟨64 + y.val, _⟩ by simp [lane]), Finset.sum_const_zero, zero_add]
    exact Finset.sum_congr rfl fun y _ => congrArg G (Fin.ext (by simp))

theorem eighth : Ideal.ofBits .f32 1040187392#32 = (((1 : ℝ) / 8 : ℝ) : EReal) := by
  have h1 : 1040187392 >>> 23 % 256 = 124 := by decide
  have h2 : BitVec.extractLsb' 31 1 1040187392#32 = 0#1 := by decide
  simp [Ideal.ofBits, Ideal.ieee, h1, h2]
  rw [← EReal.coe_mul]
  norm_num

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section RealForms

variable (Q K V D : Fin 2048 → Fin 64 → ℝ) (f : Fin 2048 → ℝ)

/-- The logits, their exponentials under the mask, the row sums, the weights; the weights' cotangents and the logits'. -/
def LG (t s : Fin 2048) : ℝ := (∑ x, Q t x * K s x) * (1 / 8) + (f t - f s)
def EX (t s : Fin 2048) : ℝ := if s.val ≤ t.val then Real.exp (LG Q K f t s) else 0
def SM (t : Fin 2048) : ℝ := ∑ s, EX Q K f t s
def WT (t s : Fin 2048) : ℝ := EX Q K f t s / SM Q K f t
def DW (t s : Fin 2048) : ℝ := ∑ x, D t x * V s x
def DL (t s : Fin 2048) : ℝ := WT Q K f t s * (DW V D t s - ∑ s', WT Q K f t s' * DW V D t s')

theorem EX_nonneg (t s : Fin 2048) : 0 ≤ EX Q K f t s := by unfold EX; split <;> positivity
theorem SM_pos (t : Fin 2048) : 0 < SM Q K f t :=
  lt_of_lt_of_le (show 0 < EX Q K f t t by rw [EX, if_pos le_rfl]; exact Real.exp_pos _)
    (Finset.single_le_sum (f := EX Q K f t) (fun s _ => EX_nonneg Q K f t s) (Finset.mem_univ t))
theorem WT_sum (t : Fin 2048) : ∑ s, WT Q K f t s = 1 := by
  unfold WT
  rw [← Finset.sum_div]
  exact div_self (SM_pos Q K f t).ne'
/-- A row of the logits' cotangents sums to zero. -/
theorem DL_sum (t : Fin 2048) : ∑ s, DL Q K V D f t s = 0 := by
  unfold DL
  simp only [mul_sub, Finset.sum_sub_distrib]
  rw [← Finset.sum_mul, WT_sum, one_mul, sub_self]

end RealForms

/-- A head's columns of the queries, keys, values and of the output's cotangent. -/
abbrev qCol (h : Fin 8) (x : Fin 64) : Fin 3336 := ⟨768 + (h.val * 64 + x.val), by omega⟩
abbrev kCol (h : Fin 8) (x : Fin 64) : Fin 3336 := ⟨1280 + (h.val * 64 + x.val), by omega⟩
abbrev vCol (h : Fin 8) (x : Fin 64) : Fin 3336 := ⟨1792 + (h.val * 64 + x.val), by omega⟩
abbrev dCol (h : Fin 8) (x : Fin 64) : Fin 1024 := ⟨512 + (h.val * 64 + x.val), by omega⟩

section Kernel

variable {pj : FVec Ideal S4x2048x3336 .f32} {ff : FVec Ideal S4x2048x8 .f32} {dm : FVec Ideal S4x2048x1024 .f32} {ls : FVec Ideal S4x8x2048x1 .f32}
  {b : Fin 4} {h : Fin 8} {Q K V D : Fin 2048 → Fin 64 → ℝ} {f : Fin 2048 → ℝ}
  (hQ : ∀ t x, pj (ix3 b t (qCol h x)) = (Q t x : EReal))
  (hK : ∀ t x, pj (ix3 b t (kCol h x)) = (K t x : EReal))
  (hV : ∀ t x, pj (ix3 b t (vCol h x)) = (V t x : EReal))
  (hD : ∀ t x, dm (ix3 b t (dCol h x)) = (D t x : EReal))
  (hf : ∀ t, ff (ix3 b t h) = (f t : EReal))

include hQ hK hf in
theorem logit_real (t s : Fin 2048) : logit pj ff b h t s = if s.val ≤ t.val then (LG Q K f t s : EReal) else ⊥ := by
  unfold logit LG
  simp only [hQ, hK, hf, eighth, ← EReal.coe_mul, ← coe_sum, ← EReal.coe_sub, ← EReal.coe_add]

include hQ hK hf in
/-- An exponential of a shifted logit. -/
theorem exp_shift (μ : ℝ) (t s : Fin 2048) : Ideal.exp (logit pj ff b h t s - μ) = ((EX Q K f t s * Real.exp (-μ) : ℝ) : EReal) := by
  rw [logit_real hQ hK hf, EX]
  split
  · rw [← EReal.coe_sub]
    show ((Real.exp _ : ℝ) : EReal) = _
    rw [sub_eq_add_neg, Real.exp_add]
  · rw [zero_mul]; rfl

include hQ hK hf in
theorem exp_sum (μ : ℝ) (t : Fin 2048) : ∑ s, Ideal.exp (logit pj ff b h t s - μ) = ((SM Q K f t * Real.exp (-μ) : ℝ) : EReal) := by
  simp only [exp_shift hQ hK hf, ← coe_sum]
  rw [← Finset.sum_mul]; rfl

theorem log_pos {r : ℝ} (h : 0 < r) : Ideal.log (r : EReal) = (Real.log r : EReal) := by
  rw [Ideal.log_coe, if_neg (not_le.mpr h)]

include hQ hK hf in
/-- The saved row sum is the logarithm of the row's sum, whatever the shift. -/
theorem lse_real {μ : ℝ} {t : Fin 2048} {l : EReal} (hl : l = μ + Ideal.log (∑ s : Fin 2048, Ideal.exp (logit pj ff b h t s - μ))) :
    l = (Real.log (SM Q K f t) : EReal) := by
  have hp := SM_pos Q K f t
  rw [hl, exp_sum hQ hK hf, log_pos (by positivity), ← EReal.coe_add, Real.log_mul hp.ne' (Real.exp_pos _).ne', Real.log_exp]
  congr 1; ring

theorem fin_pair (h : Fin 8) : (⟨(pairOf' h).val * 2 + (placeOf h).val, by omega⟩ : Fin 8) = h := Fin.ext (by simp only [pairOf', placeOf]; omega)

theorem qA_lane (p : Fin 4) (hh : Fin 2) (t : Fin 2048) (x : Fin 128) : qA pj b p hh t x =
    if lane hh x then pj (ix3 b t ⟨768 + (p.val * 128 + x.val), by omega⟩) * Ideal.ofBits .f32 1040187392#32 else 0 := rfl

/-- A head's lane of the pair's columns. -/
theorem col_eq (o : ℕ) (h : Fin 8) (y : Fin 64) (n : ℕ) (ho : o + 512 ≤ n) :
    (⟨o + ((pairOf' h).val * 128 + ((placeOf h).val * 64 + y.val)), by simp only [pairOf', placeOf]; omega⟩ : Fin n) = ⟨o + (h.val * 64 + y.val), by omega⟩ :=
  Fin.ext (by simp only [pairOf', placeOf]; omega)

include hQ hK in
theorem qk_real (t s : Fin 2048) : ∑ x : Fin 128, qA pj b (pairOf' h) (placeOf h) t x * kA pj b (pairOf' h) s x = (((∑ x, Q t x * K s x) * (1 / 8) : ℝ) : EReal) := by
  unfold qA kA
  simp only [ite_mul, zero_mul]
  rw [sum_lane (placeOf h) fun x => pj (ix3 b t ⟨768 + ((pairOf' h).val * 128 + x.val), by omega⟩) * Ideal.ofBits .f32 1040187392#32
    * pj (ix3 b s ⟨1280 + ((pairOf' h).val * 128 + x.val), by omega⟩)]
  simp only [col_eq 768 h _ 3336 (by decide), col_eq 1280 h _ 3336 (by decide), hQ, hK, eighth, ← EReal.coe_mul, ← coe_sum]
  congr 1
  rw [Finset.sum_mul]
  exact Finset.sum_congr rfl fun x _ => by ring

include hV hD in
theorem dp_real (t s : Fin 2048) : dp (dA dm b (pairOf' h) (placeOf h)) (vA pj b (pairOf' h)) t s = (DW V D t s : EReal) := by
  unfold dp dA vA DW
  simp only [ite_mul, zero_mul]
  rw [sum_lane (placeOf h) fun x => dm (ix3 b t ⟨512 + ((pairOf' h).val * 128 + x.val), by omega⟩) * pj (ix3 b s ⟨1792 + ((pairOf' h).val * 128 + x.val), by omega⟩)]
  simp only [col_eq 512 h _ 1024 (by decide), col_eq 1792 h _ 3336 (by decide), hV, hD, ← EReal.coe_mul, ← coe_sum]

variable (hl : ∀ t, ls (ix4 b h t 0) = (Real.log (SM Q K f t) : EReal))

include hQ hK hf hl in
/-- The kernel's weight is the softmax's. -/
theorem pr_real (t s : Fin 2048) : pr (qA pj b (pairOf' h) (placeOf h)) (kA pj b (pairOf' h)) (fA ff b (pairOf' h) (placeOf h)) (lA ls b (pairOf' h) (placeOf h))
    (fA ff b (pairOf' h) (placeOf h)) t s = (WT Q K f t s : EReal) := by
  unfold pr fA lA
  rw [qk_real hQ hK, fin_pair, hf, hf, hl, WT, EX]
  by_cases hs : s.val ≤ t.val
  · rw [if_pos hs, if_pos hs, ← EReal.coe_sub, ← EReal.coe_sub, ← EReal.coe_add]
    show ((Real.exp _ : ℝ) : EReal) = _
    congr 1
    rw [show (∑ x, Q t x * K s x) * (1 / 8) + (f t - Real.log (SM Q K f t) - f s) = LG Q K f t s - Real.log (SM Q K f t) by unfold LG; ring,
      Real.exp_sub, Real.exp_log (SM_pos Q K f t)]
  · rw [if_neg hs, if_neg hs, zero_div]; rfl

include hQ hK hV hD hf hl in
theorem ds_real (t s : Fin 2048) : ds (qA pj b (pairOf' h) (placeOf h)) (kA pj b (pairOf' h)) (fA ff b (pairOf' h) (placeOf h)) (lA ls b (pairOf' h) (placeOf h))
    (fA ff b (pairOf' h) (placeOf h)) (dA dm b (pairOf' h) (placeOf h)) (vA pj b (pairOf' h)) t s = (DL Q K V D f t s : EReal) := by
  unfold ds DL
  simp only [pr_real hQ hK hf hl, dp_real hV hD, ← EReal.coe_mul, ← coe_sum, ← EReal.coe_sub]

/-- The head's lane in the pair. -/
def laneAt (h : Fin 8) (y : Fin 64) : Fin 128 := ⟨(placeOf h).val * 64 + y.val, by omega⟩
theorem lane_at (h : Fin 8) (y : Fin 64) : lane (placeOf h) (laneAt h y) := by
  unfold lane laneAt
  split
  · rename_i e
    show (placeOf h).val * 64 + y.val < 64
    omega
  · rename_i e
    show 64 ≤ (placeOf h).val * 64 + y.val
    omega
theorem lane_other (h : Fin 8) (y : Fin 64) {hh : Fin 2} (e : hh ≠ placeOf h) : ¬ lane hh (laneAt h y) := by
  intro hc
  have h1 := lane_at h y
  unfold lane at hc h1
  by_cases h0 : hh = 0
  · rw [if_pos h0] at hc; rw [if_neg (by omega)] at h1; omega
  · rw [if_neg h0] at hc; rw [if_pos (by omega)] at h1; omega

include hQ hK hV hD hf hl in
theorem dk_real (s : Fin 2048) (y : Fin 64) : dkF pj ff dm ls b (pairOf' h) s (laneAt h y) = ((∑ t, DL Q K V D f t s * (Q t y * (1 / 8)) : ℝ) : EReal) := by
  unfold dkF
  rw [Finset.sum_eq_single (placeOf h)]
  · simp only [ds_real hQ hK hV hD hf hl]
    rw [coe_sum]
    refine Finset.sum_congr rfl fun t _ => ?_
    rw [EReal.coe_mul, qA, if_pos (lane_at h y), EReal.coe_mul, ← hQ, ← eighth]
    exact congrArg (fun z => _ * (pj (ix3 b t z) * _)) (col_eq 768 h y 3336 (by decide))
  · intro hh _ e
    refine Finset.sum_eq_zero fun t _ => ?_
    rw [qA, if_neg (lane_other h y e), mul_zero]
  · intro e; exact absurd (Finset.mem_univ _) e

include hQ hK hD hf hl in
theorem dv_real (s : Fin 2048) (y : Fin 64) : dvF pj ff dm ls b (pairOf' h) s (laneAt h y) = ((∑ t, WT Q K f t s * D t y : ℝ) : EReal) := by
  unfold dvF
  rw [Finset.sum_eq_single (placeOf h)]
  · simp only [pr_real hQ hK hf hl]
    rw [coe_sum]
    refine Finset.sum_congr rfl fun t _ => ?_
    rw [EReal.coe_mul, dA, if_pos (lane_at h y), ← hD]
    exact congrArg (fun z => _ * dm (ix3 b t z)) (col_eq 512 h y 1024 (by decide))
  · intro hh _ e
    refine Finset.sum_eq_zero fun t _ => ?_
    rw [dA, if_neg (lane_other h y e), mul_zero]
  · intro e; exact absurd (Finset.mem_univ _) e

include hQ hK hV hD hf hl in
theorem dq_real (t : Fin 2048) (y : Fin 64) : dqF pj ff dm ls b (pairOf' h) t (laneAt h y) = (((∑ s, DL Q K V D f t s * K s y) * (1 / 8) : ℝ) : EReal) := by
  have key : ∑ s, ds (qA pj b (pairOf' h) (placeOf h)) (kA pj b (pairOf' h)) (fA ff b (pairOf' h) (placeOf h)) (lA ls b (pairOf' h) (placeOf h))
      (fA ff b (pairOf' h) (placeOf h)) (dA dm b (pairOf' h) (placeOf h)) (vA pj b (pairOf' h)) t s * kA pj b (pairOf' h) s (laneAt h y)
      = ((∑ s, DL Q K V D f t s * K s y : ℝ) : EReal) := by
    simp only [ds_real hQ hK hV hD hf hl]
    rw [coe_sum]
    refine Finset.sum_congr rfl fun s _ => ?_
    rw [EReal.coe_mul, kA, ← hK]
    exact congrArg (fun z => _ * pj (ix3 b s z)) (col_eq 1280 h y 3336 (by decide))
  unfold dqF dqB
  have hc : (if (laneAt h y).val < 64 then (0 : Fin 2) else 1) = placeOf h := by
    have := lane_at h y
    unfold lane at this
    split at this <;> split <;> omega
  rw [EReal.coe_mul, ← eighth, ← key, ← hc]
  split <;> rfl

include hQ hK hV hD hf hl in
theorem df_real (s : Fin 2048) : dfF pj ff dm ls b (pairOf' h) (placeOf h) s = ((-∑ t, DL Q K V D f t s : ℝ) : EReal) := by
  have hb : ∀ w hw, dfB (qA pj b (pairOf' h) (placeOf h)) (kA pj b (pairOf' h)) (fA ff b (pairOf' h) (placeOf h)) (lA ls b (pairOf' h) (placeOf h))
      (dA dm b (pairOf' h) (placeOf h)) (vA pj b (pairOf' h)) w hw s = ((∑ j : Fin 512, DL Q K V D f ⟨w + j, by omega⟩ s : ℝ) : EReal) := fun w hw => by
    unfold dfB
    simp only [ds_real hQ hK hV hD hf hl, coe_sum]
  unfold dfF negBlocks
  rw [hb, hb, hb, hb, ← EReal.coe_zero, ← EReal.coe_sub, ← EReal.coe_sub, ← EReal.coe_sub, ← EReal.coe_sub]
  have hs := sum_blocks fun t => (DL Q K V D f t s : EReal)
  simp only [← coe_sum, ← EReal.coe_add] at hs
  rw [← EReal.coe_injective hs]
  congr 1; ring

end Kernel

end Cert.Fox
-- ==== Proof.FoxRef.lean ====
module

public import proofs.«01_k».proof.Proof.Gen.Reference2Ideal.Read
public import proofs.«01_k».proof.Proof.Gen.Reference2Ideal.Run
public import proofs.«01_k».proof.Proof.FoxReal
public import Idealize.ShloMosaic.Lib.Pointwise

@[expose] public section

set_option maxRecDepth 16384

noncomputable section

namespace Cert.FoxRef

open Idealize.ShloMosaic Idealize.ShloMosaic.TcCoe Idealize.SL.Sem
open Cert.Reference2Ideal Cert.Reference2Ideal.Read Cert.Finite
open Cert.Fox (qCol kCol vCol dCol logit logit_real exp_shift exp_sum eighth coe_sum LG EX SM WT DW DL SM_pos WT_sum DL_sum mask_sel max_real)

/-! The reference's four gradients at an index, in real numbers. -/

variable {x0 : FVec Ideal S4x2048x3336 .f32} {x1 : FVec Ideal S4x2048x8 .f32} {x2 : FVec Ideal S4x2048x1024 .f32}
  {b : Fin 4} {h : Fin 8} {Q K V D : Fin 2048 → Fin 64 → ℝ} {f : Fin 2048 → ℝ}
  (hQ : ∀ t x, x0 (ix3 b t (qCol h x)) = (Q t x : EReal))
  (hK : ∀ t x, x0 (ix3 b t (kCol h x)) = (K t x : EReal))
  (hV : ∀ t x, x0 (ix3 b t (vCol h x)) = (V t x : EReal))
  (hD : ∀ t x, x2 (ix3 b t (dCol h x)) = (D t x : EReal))
  (hf : ∀ t, x1 (ix3 b t h) = (f t : EReal))

theorem logit_at (t s : Fin 2048) : val_main_v29_0 (F := Ideal) x0 x1 (ix4 b h t s) = logit x0 x1 b h t s := by
  pointwise [val_main_v29_0, val_main_v29_1, val_main_v28, val_main_v27, val_main_v26, val_main_v25, val_main_v24,
    val_main_v23, val_main_v22, val_main_v21, val_main_v20, val_main_v19, val_main_v18, val_main_v17, val_main_v16,
    val_main_v15, val_main_v14, val_main_v13, val_main_v12, val_main_cst, val_main_v11, val_main_v9, val_main_v8,
    val_main_v4, val_main_v3, val_main_call0_v2, val_main_call0_v0, val_main_cst_0, logit]
  exact mask_sel t s _

include hQ hK hf in
theorem max_at (t : Fin 2048) : IsR (val_main_v37 (F := Ideal) x0 x1 (ix3 b h t)) := by
  have hl := logit_real hQ hK hf
  have h30 : IsR (val_main_v30 (F := Ideal) x0 x1 (ix3 b h t)) := by
    unfold val_main_v30 val_main_cst_1
    refine max_real (val_main_v29_0 (F := Ideal) x0 x1) b h t (fun s => ?_) ?_
    · rw [logit_at, hl]
      split
      · exact .inr ⟨_, rfl⟩
      · exact .inl rfl
    · rw [logit_at, hl, if_pos (show (0 : Fin 2048).val ≤ t.val from Nat.zero_le _)]
      exact ⟨_, rfl⟩
  have h36 : val_main_v36 (F := Ideal) (ix3 b h t) = (⊥ : EReal) := by
    pointwise [val_main_v36, val_main_cst_3]
    simp [Ideal.ofBits, Ideal.ieee]
  have e : val_main_v37 (F := Ideal) x0 x1 (ix3 b h t) = max (val_main_v36 (F := Ideal) (ix3 b h t)) (val_main_v30 (F := Ideal) x0 x1 (ix3 b h t)) := val_main_v37_apply ..
  rw [e, h36, bot_sup_eq]
  exact h30

theorem e_at (t s : Fin 2048) : val_main_v50 (F := Ideal) x0 x1 (ix4 b h t s) = Ideal.exp (logit x0 x1 b h t s - val_main_v37 (F := Ideal) x0 x1 (ix3 b h t)) := by
  rw [← logit_at]
  pointwise [val_main_v50, val_main_v49, val_main_v48, val_main_v47]

theorem sum_at (t : Fin 2048) : val_main_v51 (F := Ideal) x0 x1 (ix3 b h t) = ∑ s : Fin 2048, val_main_v50 (F := Ideal) x0 x1 (ix4 b h t s) := by
  pointwise [val_main_v51, val_main_cst_9]

include hV hD in
theorem dp_at (t s : Fin 2048) : val_main_v64 (F := Ideal) x0 x2 (ix4 b h t s) = (DW V D t s : EReal) := by
  pointwise [val_main_v64, val_main_v63, val_main_v62, val_main_v61, val_main_v10, val_main_v5]
  simp only [hV, hD, ← EReal.coe_mul, ← coe_sum]
  rfl

include hQ hK hf in
/-- A row's exponentials and their sum, over one shift. -/
theorem row_at (t : Fin 2048) : ∃ E : ℝ, 0 < E ∧ (∀ s, val_main_v50 (F := Ideal) x0 x1 (ix4 b h t s) = ((EX Q K f t s * E : ℝ) : EReal))
    ∧ val_main_v51 (F := Ideal) x0 x1 (ix3 b h t) = ((SM Q K f t * E : ℝ) : EReal) := by
  obtain ⟨μ, hμ⟩ := max_at hQ hK hf t
  have he : ∀ s, val_main_v50 (F := Ideal) x0 x1 (ix4 b h t s) = ((EX Q K f t s * Real.exp (-μ) : ℝ) : EReal) := fun s => by
    rw [e_at, hμ, exp_shift hQ hK hf]
  refine ⟨Real.exp (-μ), Real.exp_pos _, he, ?_⟩
  rw [sum_at]
  simp only [he, ← coe_sum]
  rw [← Finset.sum_mul]; rfl

include hQ hK hf in
/-- The softmax's weight. -/
theorem weight_at (t s : Fin 2048) : Ideal.div (val_main_v50 (F := Ideal) x0 x1 (ix4 b h t s)) (val_main_v51 (F := Ideal) x0 x1 (ix3 b h t)) = (WT Q K f t s : EReal) := by
  obtain ⟨E, hE, he, hs⟩ := row_at hQ hK hf t
  have hS := SM_pos Q K f t
  rw [he, hs, Ideal.div_coe (by positivity), ← EReal.coe_mul, WT]
  congr 1
  field_simp

/-- The mask on the logits' cotangents. -/
theorem mask_zero (t s : Fin 2048) (a : EReal) : Scalar.select (val_main_v29_1 (F := Ideal) (ix4 b h t s)) a (0 : EReal) = if s.val ≤ t.val then a else 0 := by
  pointwise [val_main_v29_1, val_main_v28, val_main_v27, val_main_v26, val_main_v25, val_main_v24,
    val_main_v23, val_main_v22, val_main_v21, val_main_v20, val_main_v19, val_main_v18, val_main_v17]
  exact Cert.Fox.sel_le t s a 0

include hQ hK hV hD hf in
theorem ds_at (t s : Fin 2048) : val_main_v79 (F := Ideal) x0 x1 x2 (ix4 b h t s) = (DL Q K V D f t s : EReal) := by
  obtain ⟨E, hE, he, hs⟩ := row_at hQ hK hf t
  have hS := SM_pos Q K f t
  have key : val_main_v79 (F := Ideal) x0 x1 x2 (ix4 b h t s) = Scalar.select (val_main_v29_1 (F := Ideal) (ix4 b h t s))
      ((Ideal.div (val_main_v64 (F := Ideal) x0 x2 (ix4 b h t s)) (val_main_v51 (F := Ideal) x0 x1 (ix3 b h t))
        + ∑ _x : Fin 1, -∑ x, val_main_v64 (F := Ideal) x0 x2 (ix4 b h t x)
            * Ideal.div 1 (val_main_v51 (F := Ideal) x0 x1 (ix3 b h t) * val_main_v51 (F := Ideal) x0 x1 (ix3 b h t)) * val_main_v50 (F := Ideal) x0 x1 (ix4 b h t x))
        * val_main_v50 (F := Ideal) x0 x1 (ix4 b h t s)) (0 : EReal) := by
    pointwise [val_main_v79, val_main_v78, val_main_v77, val_main_v76, val_main_v75, val_main_v74, val_main_v73, val_main_v72,
      val_main_v71, val_main_v70, val_main_v69, val_main_v68, val_main_v67, val_main_v57, val_main_v56, val_main_v55, val_main_v52,
      val_main_call1_v0, val_main_call1_cst, val_main_cst_12, val_main_cst_11, val_main_cst_10]
  rw [key, mask_zero, Fin.sum_univ_one, hs]
  simp only [he, dp_at hV hD]
  rw [← EReal.coe_mul, Ideal.div_coe (by positivity), Ideal.div_coe (by positivity), one_mul]
  simp only [← EReal.coe_mul, ← coe_sum, ← EReal.coe_neg, ← EReal.coe_add]
  have hin : (DW V D t s * (1 / (SM Q K f t * E)) + -∑ x, DW V D t x * (1 / (SM Q K f t * E * (SM Q K f t * E))) * (EX Q K f t x * E)) * (EX Q K f t s * E) = DL Q K V D f t s := by
    have : ∑ x, DW V D t x * (1 / (SM Q K f t * E * (SM Q K f t * E))) * (EX Q K f t x * E) = (∑ x, WT Q K f t x * DW V D t x) * (1 / (SM Q K f t * E)) := by
      rw [Finset.sum_mul]
      refine Finset.sum_congr rfl fun x _ => ?_
      unfold WT; field_simp
    rw [this]; unfold DL
    generalize ∑ x, WT Q K f t x * DW V D t x = c
    unfold WT; field_simp; ring
  rw [hin]
  split
  · rfl
  · rename_i hn
    unfold DL WT EX
    rw [if_neg hn, zero_div, zero_mul]; rfl

/-- The column of a head's lane. -/
def colAt (h : Fin 8) (y : Fin 64) : Fin 512 := ⟨h.val * 64 + y.val, by omega⟩
theorem head_col (h : Fin 8) (y : Fin 64) (hp) : (⟨(colAt h y).val / 64, hp⟩ : Fin 8) = h := Fin.ext (by simp only [colAt]; omega)

include hQ hK hV hD hf in
theorem dq_at (t : Fin 2048) (y : Fin 64) : val_main_v97 (F := Ideal) x0 x1 x2 (ix3 b t (colAt h y)) = (((∑ s, DL Q K V D f t s * K s y) * (1 / 8) : ℝ) : EReal) := by
  pointwise [val_main_v97, val_main_v96, val_main_v95, val_main_v94, val_main_v91, val_main_v90, val_main_cst_17, val_main_v9, val_main_v4]
  simp only [head_col, ds_at hQ hK hV hD hf]
  simp only [colAt, hK, eighth, ← EReal.coe_mul, ← coe_sum]
  congr 1
  rw [Finset.sum_mul]
  exact Finset.sum_congr rfl fun x _ => by ring

include hQ hK hV hD hf in
theorem dk_at (s : Fin 2048) (y : Fin 64) : val_main_v99 (F := Ideal) x0 x1 x2 (ix3 b s (colAt h y)) = ((∑ t, DL Q K V D f t s * (Q t y * (1 / 8)) : ℝ) : EReal) := by
  pointwise [val_main_v99, val_main_v98, val_main_v93, val_main_v92, val_main_v91, val_main_v90, val_main_cst_17, val_main_v8, val_main_v3]
  simp only [head_col, ds_at hQ hK hV hD hf]
  simp only [colAt, hQ, eighth, ← EReal.coe_mul, ← coe_sum]
  congr 1
  exact Finset.sum_congr rfl fun x _ => by ring

include hQ hK hD hf in
theorem dv_at (s : Fin 2048) (y : Fin 64) : val_main_v101 (F := Ideal) x0 x1 x2 (ix3 b s (colAt h y)) = ((∑ t, WT Q K f t s * D t y : ℝ) : EReal) := by
  pointwise [val_main_v101, val_main_v100, val_main_v66, val_main_v65, val_main_v63, val_main_v62, val_main_v61, val_main_v54, val_main_v53, val_main_v52]
  simp only [head_col, weight_at hQ hK hf]
  simp only [colAt, hD, ← EReal.coe_mul, ← coe_sum]
  congr 1
  exact Finset.sum_congr rfl fun x _ => mul_comm _ _

include hQ hK hV hD hf in
theorem dF_at (s : Fin 2048) : val_main_v103 (F := Ideal) x0 x1 x2 (ix4 b h 0 s) = ((-∑ t, DL Q K V D f t s : ℝ) : EReal) := by
  pointwise [val_main_v103, val_main_v102, val_main_v89, val_main_v88, val_main_v87, val_main_v86, val_main_v85, val_main_v84, val_main_v83, val_main_v82,
   val_main_v81, val_main_v80, val_main_cst_16, val_main_cst_15, val_main_cst_14, val_main_cst_13]
  simp only [ds_at hQ hK hV hD hf, Fin.sum_univ_one, ← EReal.coe_neg, ← coe_sum, ← EReal.coe_add]
  congr 1
  rw [DL_sum, Finset.sum_neg_distrib, add_zero]

/-- The reference's run, its results by name. -/
theorem run_r (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      (r.2.mem ((c.tc : Thread nD τ).loc main_v97) = val_main_v97 (F := Ideal) (m ((c.tc : Thread nD τ).loc main_arg0)) (m ((c.tc : Thread nD τ).loc main_arg1)) (m ((c.tc : Thread nD τ).loc main_arg2))
      ∧ r.2.mem ((c.tc : Thread nD τ).loc main_v99) = val_main_v99 (F := Ideal) (m ((c.tc : Thread nD τ).loc main_arg0)) (m ((c.tc : Thread nD τ).loc main_arg1)) (m ((c.tc : Thread nD τ).loc main_arg2))
      ∧ r.2.mem ((c.tc : Thread nD τ).loc main_v101) = val_main_v101 (F := Ideal) (m ((c.tc : Thread nD τ).loc main_arg0)) (m ((c.tc : Thread nD τ).loc main_arg1)) (m ((c.tc : Thread nD τ).loc main_arg2))
      ∧ r.2.mem ((c.tc : Thread nD τ).loc main_v103) = val_main_v103 (F := Ideal) (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨⟨(h c).1.trans (val_main_v97_eq ..), (h c).2.1.trans (val_main_v99_eq ..),
    (h c).2.2.1.trans (val_main_v101_eq ..), (h c).2.2.2.1.trans (val_main_v103_eq ..)⟩, (h c).2.2.2.2⟩)
    (Cert.Reference2Ideal.Value.run (F := Ideal) m g)

end Cert.FoxRef
-- ==== Proof.FoxEq.lean ====
module

public import proofs.«01_k».proof.Proof.FoxFinal
public import proofs.«01_k».proof.Proof.FoxRef

@[expose] public section

set_option maxRecDepth 16384

noncomputable section

namespace Cert.Fox

open Cert.Kernel2Ideal Cert.Kernel2Ideal.Gen Idealize.ShloMosaic Idealize.ShloMosaic.TcCoe Idealize.SL.Sem
open Cert.Finite
open Cert.FoxRef (colAt)

/-! On arguments that are real numbers the kernel's four results are the reference's. -/

/-- The columns the call reads of the projections and of the output's cotangent. -/
abbrev pCol (x : Fin 1536) : Fin 3336 := ⟨768 + x.val, by omega⟩
abbrev gCol (x : Fin 512) : Fin 1024 := ⟨512 + x.val, by omega⟩

section Arrays

variable {pj : FVec Ideal S4x2048x3336 .f32} {ff : FVec Ideal S4x2048x8 .f32} {dm : FVec Ideal S4x2048x1024 .f32} {ls : FVec Ideal S4x8x2048x1 .f32}

/-- The entries of one head that the call reads are these real numbers. -/
def Reals (pj : FVec Ideal S4x2048x3336 .f32) (ff : FVec Ideal S4x2048x8 .f32) (dm : FVec Ideal S4x2048x1024 .f32) (b : Fin 4) (h : Fin 8)
    (Q K V D : Fin 2048 → Fin 64 → ℝ) (f : Fin 2048 → ℝ) : Prop :=
  (∀ t x, pj (ix3 b t (qCol h x)) = (Q t x : EReal)) ∧ (∀ t x, pj (ix3 b t (kCol h x)) = (K t x : EReal))
  ∧ (∀ t x, pj (ix3 b t (vCol h x)) = (V t x : EReal)) ∧ (∀ t x, dm (ix3 b t (dCol h x)) = (D t x : EReal)) ∧ ∀ t, ff (ix3 b t h) = (f t : EReal)

variable (hp : ∀ b t (c : Fin 1536), IsR (pj (ix3 b t (pCol c)))) (hf : ∀ b t h, IsR (ff (ix3 b t h)))
  (hd : ∀ b t (c : Fin 512), IsR (dm (ix3 b t (gCol c))))

include hp hf hd in
theorem reals (b : Fin 4) (h : Fin 8) : ∃ Q K V D f, Reals pj ff dm b h Q K V D f := by
  have hq : ∀ t (x : Fin 64), IsR (pj (ix3 b t (qCol h x))) := fun t x => by
    rw [show qCol h x = ⟨768 + (⟨h.val * 64 + x.val, by omega⟩ : Fin 1536).val, by omega⟩ from Fin.ext rfl]
    exact hp b t _
  have hk : ∀ t (x : Fin 64), IsR (pj (ix3 b t (kCol h x))) := fun t x => by
    rw [show kCol h x = ⟨768 + (⟨512 + h.val * 64 + x.val, by omega⟩ : Fin 1536).val, by omega⟩ from Fin.ext (by simp only [kCol]; omega)]
    exact hp b t _
  have hv : ∀ t (x : Fin 64), IsR (pj (ix3 b t (vCol h x))) := fun t x => by
    rw [show vCol h x = ⟨768 + (⟨1024 + h.val * 64 + x.val, by omega⟩ : Fin 1536).val, by omega⟩ from Fin.ext (by simp only [vCol]; omega)]
    exact hp b t _
  have hdd : ∀ t (x : Fin 64), IsR (dm (ix3 b t (dCol h x))) := fun t x => by
    rw [show dCol h x = ⟨512 + (⟨h.val * 64 + x.val, by omega⟩ : Fin 512).val, by omega⟩ from Fin.ext rfl]
    exact hd b t _
  choose Q hQ using hq
  choose K hK using hk
  choose V hV using hv
  choose D hD using hdd
  choose f hF using fun t => hf b t h
  exact ⟨Q, K, V, D, f, hQ, hK, hV, hD, hF⟩

variable (hl : ∀ b h t, (∀ s, s.val ≤ t.val → IsR (logit pj ff b h t s)) → ∃ μ : ℝ, ls (ix4 b h t 0) = μ + Ideal.log (∑ s : Fin 2048, Ideal.exp (logit pj ff b h t s - μ)))

include hl in
/-- The saved row sum, over a head's real entries. -/
theorem lse_at {b : Fin 4} {h : Fin 8} {Q K V D f} (H : Reals pj ff dm b h Q K V D f) (t : Fin 2048) : ls (ix4 b h t 0) = (Real.log (SM Q K f t) : EReal) := by
  obtain ⟨hQ, hK, _, _, hF⟩ := H
  obtain ⟨μ, hμ⟩ := hl b h t fun s hs => by
    rw [logit_real hQ hK hF, if_pos hs]; exact ⟨_, rfl⟩
  exact lse_real hQ hK hF hμ

/-- A column is a lane of a head, and the head's lane of its pair. -/
theorem col_cases (c : Fin 512) : ∃ (h : Fin 8) (y : Fin 64), c = colAt h y ∧ pairOf c = pairOf' h ∧ laneOf c = laneAt h y :=
  ⟨⟨c.val / 64, by omega⟩, ⟨c.val % 64, by omega⟩, Fin.ext (by simp only [colAt]; omega), Fin.ext (by simp only [pairOf, pairOf']; omega),
    Fin.ext (by simp only [laneOf, laneAt, placeOf]; omega)⟩

include hp hf hd hl in
theorem dq_eq : dqR pj ff dm ls = Cert.Reference2Ideal.Read.val_main_v97 (F := Ideal) pj ff dm := by
  funext i; idx_vars i
  obtain ⟨h, y, rfl, h1, h2⟩ := col_cases i2
  obtain ⟨Q, K, V, D, f, H⟩ := reals hp hf hd i0 h
  have hL := lse_at hl H
  obtain ⟨hQ, hK, hV, hD, hF⟩ := H
  refine Eq.trans ?_ (Cert.FoxRef.dq_at hQ hK hV hD hF i1 y).symm
  refine Eq.trans ?_ (dq_real hQ hK hV hD hF hL i1 y)
  exact congrArg₂ (fun p z => dqF pj ff dm ls i0 p i1 z) h1 h2

include hp hf hd hl in
theorem dk_eq : dkR pj ff dm ls = Cert.Reference2Ideal.Read.val_main_v99 (F := Ideal) pj ff dm := by
  funext i; idx_vars i
  obtain ⟨h, y, rfl, h1, h2⟩ := col_cases i2
  obtain ⟨Q, K, V, D, f, H⟩ := reals hp hf hd i0 h
  have hL := lse_at hl H
  obtain ⟨hQ, hK, hV, hD, hF⟩ := H
  refine Eq.trans ?_ (Cert.FoxRef.dk_at hQ hK hV hD hF i1 y).symm
  refine Eq.trans ?_ (dk_real hQ hK hV hD hF hL i1 y)
  exact congrArg₂ (fun p z => dkF pj ff dm ls i0 p i1 z) h1 h2

include hp hf hd hl in
theorem dv_eq : dvR pj ff dm ls = Cert.Reference2Ideal.Read.val_main_v101 (F := Ideal) pj ff dm := by
  funext i; idx_vars i
  obtain ⟨h, y, rfl, h1, h2⟩ := col_cases i2
  obtain ⟨Q, K, V, D, f, H⟩ := reals hp hf hd i0 h
  have hL := lse_at hl H
  obtain ⟨hQ, hK, hV, hD, hF⟩ := H
  refine Eq.trans ?_ (Cert.FoxRef.dv_at hQ hK hD hF i1 y).symm
  refine Eq.trans ?_ (dv_real hQ hK hD hF hL i1 y)
  exact congrArg₂ (fun p z => dvF pj ff dm ls i0 p i1 z) h1 h2

include hp hf hd hl in
theorem df_eq : dfR pj ff dm ls = Cert.Reference2Ideal.Read.val_main_v103 (F := Ideal) pj ff dm := by
  funext i; idx_vars i
  obtain ⟨Q, K, V, D, f, H⟩ := reals hp hf hd i0 i1
  have hL := lse_at hl H
  obtain ⟨hQ, hK, hV, hD, hF⟩ := H
  rw [Subsingleton.elim (α := Fin 1) i2 0]
  exact (df_real hQ hK hV hD hF hL i3).trans (Cert.FoxRef.dF_at hQ hK hV hD hF i3).symm

end Arrays

end Cert.Fox
-- ==== Proof.FwdStep.lean ====
module

public import proofs.«01_k».proof.Proof.FoxStep
public import proofs.«01_k».proof.Proof.Gen.Kernel3Ideal.Skeleton

@[expose] public section

set_option maxRecDepth 16384

noncomputable section

namespace Cert.FoxFwd

open Cert.Kernel3Ideal Cert.Kernel3Ideal.Gen Idealize.ShloMosaic Idealize.ShloMosaic.TcCoe Idealize.SL.Sem
open Cert.Fox (sum_prefix causal block0 block1 block2 block3 upto0 upto1 upto2 upto3)

/-! The forgetting attention's forward call: what a block of queries gives, one block after the other. -/

section Spec

variable (q k : Fin 2048 → Fin 128 → EReal) (f g : Fin 2048 → EReal) (v : Fin 2048 → Fin 128 → EReal)

/-- The masked logit of query `t` and key `s`. -/
def sc (t s : Fin 2048) : EReal := if s.val ≤ t.val then (∑ x : Fin 128, q t x * k s x) + (f t - g s) else ⊥
/-- The largest logit of a row. -/
def mx (t : Fin 2048) : EReal := Finset.fold max ⊥ (fun s => sc q k f g t s) Finset.univ
/-- The sum of a row's exponentials, shifted by the largest logit. -/
def sm (t : Fin 2048) : EReal := ∑ s : Fin 2048, Ideal.exp (sc q k f g t s - mx q k f g t)
/-- The average of the values by a row's weights. -/
def av (t : Fin 2048) (x : Fin 128) : EReal :=
  ∑ s : Fin 2048, Ideal.exp (sc q k f g t s - mx q k f g t) * Ideal.div 1 (sm q k f g t) * v s x
/-- The logarithm of a row's sum. -/
def ls (t : Fin 2048) : EReal := mx q k f g t + Ideal.log (sm q k f g t)

theorem sc_of_lt {t s : Fin 2048} (h : t.val < s.val) : sc q k f g t s = ⊥ := if_neg (by omega)

theorem exp_of_lt {t s : Fin 2048} (a : EReal) (h : t.val < s.val) : Ideal.exp (sc q k f g t s - a) = 0 := by
  rw [sc_of_lt q k f g h, sub_eq_add_neg, EReal.bot_add]; rfl

/-- The largest of the first `w` logits is the largest of all, when the others are masked. -/
theorem mx_close (w : ℕ) (hw : w ≤ 2048) (t : Fin 2048) (ht : t.val < w) :
    Finset.fold max (Ideal.ofBits .f32 4286578688#32) (fun s : Fin w => sc q k f g t ⟨s, by omega⟩) Finset.univ = mx q k f g t := by
  have hb : Ideal.ofBits FTy.f32 4286578688#32 = (⊥ : EReal) := by simp [Ideal.ofBits, Ideal.ieee]
  rw [hb]
  refine le_antisymm ((Finset.fold_max_le _).mpr ⟨bot_le, fun s _ => ?_⟩) ((Finset.fold_max_le _).mpr ⟨bot_le, fun s _ => ?_⟩)
  · exact (Finset.le_fold_max _).mpr (.inr ⟨⟨s, by omega⟩, Finset.mem_univ _, le_rfl⟩)
  · by_cases hs : s.val < w
    · exact (Finset.le_fold_max _).mpr (.inr ⟨⟨s, hs⟩, Finset.mem_univ _, le_rfl⟩)
    · rw [sc_of_lt q k f g (by omega)]; exact bot_le

theorem sm_close (w : ℕ) (hw : w ≤ 2048) (t : Fin 2048) (ht : t.val < w) :
    ∑ s : Fin w, Ideal.exp (sc q k f g t ⟨s, by omega⟩ - mx q k f g t) = sm q k f g t :=
  sum_prefix w hw _ _ (fun _ => rfl) fun s hs => exp_of_lt q k f g _ (by omega)

/-- The average over the first `w` keys. -/
theorem av_close (w : ℕ) (hw : w ≤ 2048) (t : Fin 2048) (ht : t.val < w) (x : Fin 128) :
    ∑ s : Fin w, Ideal.exp (sc q k f g t ⟨s, by omega⟩ - mx q k f g t) * Ideal.div 1 (sm q k f g t) * v ⟨s, by omega⟩ x
      = av q k f g v t x := by
  exact sum_prefix w hw _ _ (fun _ => rfl) fun s hs => by rw [exp_of_lt q k f g _ (by omega), zero_mul, zero_mul]

theorem mask_bot : (Named.named κ "mask" 4048155338#32 : Ideal .f32) = (⊥ : EReal) := by rfl

/-- The logit inside block `w` of the keys, as the kernel masks it. -/
theorem sc_block (w : ℕ) (hw : w + 512 ≤ 2048) (j s : Fin 512) :
    Scalar.select (IntOp.cmpi CmpIPredicate.sle (IntOp.subi (BitVec.ofNat 32 s.val) (BitVec.ofNat 32 j.val)) 0#32)
      ((∑ x : Fin 128, q ⟨w + j, by omega⟩ x * k ⟨w + s, by omega⟩ x) + (f ⟨w + j, by omega⟩ - g ⟨w + s, by omega⟩))
      (Named.named κ "mask" 4048155338#32 : Ideal .f32) = sc q k f g ⟨w + j, by omega⟩ ⟨w + s, by omega⟩ := by
  rw [causal, mask_bot, sc]
  simp only [Nat.add_le_add_iff_left]

/-- The logit of any key up to the block's end. -/
theorem sc_any (w : ℕ) (hw : w + 512 ≤ 2048) (j : Fin 512) (s : Fin (w + 512)) :
    (if h : s.val < w then (∑ x : Fin 128, q ⟨w + j, by omega⟩ x * k ⟨s, by omega⟩ x) + (f ⟨w + j, by omega⟩ - g ⟨s, by omega⟩)
      else Scalar.select (IntOp.cmpi CmpIPredicate.sle (IntOp.subi (BitVec.ofNat 32 (s.val - w)) (BitVec.ofNat 32 j.val)) 0#32)
        ((∑ x : Fin 128, q ⟨w + j, by omega⟩ x * k ⟨w + (s - w), by omega⟩ x) + (f ⟨w + j, by omega⟩ - g ⟨w + (s - w), by omega⟩))
        (Named.named κ "mask" 4048155338#32 : Ideal .f32)) = sc q k f g ⟨w + j, by omega⟩ ⟨s, by omega⟩ := by
  split
  · rw [sc, if_pos (by simp only; omega)]
  · rw [sc_block q k f g w hw j ⟨s - w, by omega⟩]
    congr 1
    exact Fin.ext (Nat.add_sub_cancel' (by omega))

end Spec

/-- What the kernel loads for the queries of block `w`. -/
structure Rows (w : ℕ) (hw : w + 512 ≤ 2048) (q : Fin 2048 → Fin 128 → EReal) (f : Fin 2048 → EReal)
    (qv : Vec Ideal S1x512x128 .bf16) (fv : Vec Ideal S1x1x512x1 .f32) : Prop where
  hq : ∀ (j : Fin 512) (x : Fin 128), qv (ix3 0 j x) = q ⟨w + j, by omega⟩ x
  hf : ∀ j : Fin 512, fv (ix4 0 0 j 0) = f ⟨w + j, by omega⟩

/-- What the kernel loads for the first `w` keys. -/
structure Keys (w : ℕ) (hw : w ≤ 2048) (k v : Fin 2048 → Fin 128 → EReal) (g : Fin 2048 → EReal)
    (kt : Vec Ideal ⟨2, ![128, w]⟩ .bf16) (gv : Vec Ideal ⟨4, ![1, 1, 1, w]⟩ .f32) (vb : Vec Ideal ⟨2, ![w, 128]⟩ .bf16) : Prop where
  hk : ∀ (x : Fin 128) (s : Fin w), kt (ix2 x s) = k ⟨s, by omega⟩ x
  hg : ∀ s : Fin w, gv (ix4 0 0 0 s) = g ⟨s, by omega⟩
  hv : ∀ (s : Fin w) (x : Fin 128), vb (ix2 s x) = v ⟨s, by omega⟩ x

/-- A selection by the low half of the lanes. -/
theorem sel_lane (x : Fin 128) (a b a' b' : EReal) (ha : a = a') (hb : b = b') :
    Scalar.select (IntOp.cmpi .slt (BitVec.ofNat 32 x.val) 64#32) a b = if x.val < 64 then a' else b' := by
  rw [Cert.Fox.sel_lo, ha, hb]

section Payloads

variable {q k v : Fin 2048 → Fin 128 → EReal} {f g : Fin 2048 → EReal} {qv : Vec Ideal S1x512x128 .bf16} {fv : Vec Ideal S1x1x512x1 .f32}
  {a : FVec Ideal S512x128 .f32} {j : Fin 512} {x : Fin 128} {a' : EReal}

section Block0

variable {kt : Vec Ideal S128x512 .bf16} {gv : Vec Ideal S1x1x1x512 .f32} {vb : Vec Ideal S512x128 .bf16}
  (hr : Rows 0 block0 q f qv fv) (hk : Keys 512 upto0 k v g kt gv vb)

include hr hk

theorem sc_0_0 (j s : Fin 512) : k0_pay10 qv kt fv gv (ix2 j s) = sc q k f g ⟨0 + j, by omega⟩ ⟨s, by omega⟩ := by
  pointwise [k0_pay10, k0_pay9]
  simp only [hr.hq, hr.hf, hk.hk, hk.hg]
  have := sc_block q k f g 0 (by decide) j s
  simp only [Nat.zero_add] at this ⊢
  exact this

theorem ls_0_0 (j : Fin 512) : k0_pay15 (k0_pay11 qv kt fv gv) (k0_pay13 qv kt fv gv) (ix4 0 0 j 0) = ls q k f g ⟨0 + j, by omega⟩ := by
  pointwise [k0_pay15, k0_pay11, k0_pay13, k0_pay12]
  simp only [sc_0_0 hr hk, mx_close q k f g 512 upto0 ⟨0 + j, by omega⟩ (by simp only; omega), sm_close q k f g 512 upto0 ⟨0 + j, by omega⟩ (by simp only; omega)]
  simp only [ls, Nat.zero_add]

theorem av_0_0 (j : Fin 512) (x : Fin 128) : k0_pay14 (k0_pay12 qv kt fv gv) (k0_pay13 qv kt fv gv) vb (ix2 j x) = av q k f g v ⟨0 + j, by omega⟩ x := by
  pointwise [k0_pay14, k0_pay11, k0_pay13, k0_pay12]
  simp only [sc_0_0 hr hk, mx_close q k f g 512 upto0 ⟨0 + j, by omega⟩ (by simp only; omega), sm_close q k f g 512 upto0 ⟨0 + j, by omega⟩ (by simp only; omega), hk.hv]
  rw [av_close q k f g v 512 upto0 ⟨0 + j, by omega⟩ (by simp only; omega) x]
  simp only [Nat.zero_add]

theorem sc_0_1 (j s : Fin 512) : k0_pay16 k0_pay9 0#32 qv kt fv gv (ix2 j s) = sc q k f g ⟨0 + j, by omega⟩ ⟨s, by omega⟩ := by
  pointwise [k0_pay16, k0_pay9]
  simp only [hr.hq, hr.hf, hk.hk, hk.hg]
  have := sc_block q k f g 0 (by decide) j s
  simp only [Nat.zero_add] at this ⊢
  exact this

theorem ls_0_1 (j : Fin 512) : k0_pay21 (k0_pay16 k0_pay9 0#32 qv kt fv gv) (k0_pay17 k0_pay9 0#32 qv kt fv gv) (k0_pay18 k0_pay9 0#32 qv kt fv gv) (ix4 0 0 j 0)
    = ls q k f g ⟨0 + j, by omega⟩ := by
  pointwise [k0_pay21, k0_pay20, k0_pay19, k0_pay18, k0_pay17]
  simp only [sc_0_1 hr hk, mx_close q k f g 512 upto0 ⟨0 + j, by omega⟩ (by simp only; omega), sm_close q k f g 512 upto0 ⟨0 + j, by omega⟩ (by simp only; omega)]
  simp only [ls, Nat.zero_add]

theorem out_0 (ha : a (ix2 j x) = a') : k0_pay22 k0_pay8 a (k0_pay16 k0_pay9 0#32 qv kt fv gv) (k0_pay18 k0_pay9 0#32 qv kt fv gv) vb (ix3 0 j x)
    = if x.val < 64 then a' else av q k f g v ⟨0 + j, by omega⟩ x := by
  pointwise [k0_pay22, k0_pay20, k0_pay19, k0_pay18, k0_pay17, k0_pay8]
  simp only [sc_0_1 hr hk, mx_close q k f g 512 upto0 ⟨0 + j, by omega⟩ (by simp only; omega), sm_close q k f g 512 upto0 ⟨0 + j, by omega⟩ (by simp only; omega), hk.hv]
  rw [av_close q k f g v 512 upto0 ⟨0 + j, by omega⟩ (by simp only; omega) x]
  simp only [Nat.zero_add]
  exact sel_lane x _ _ _ _ ha rfl

end Block0

section Block1

variable {kt : Vec Ideal S128x1024 .bf16} {gv : Vec Ideal S1x1x1x1024 .f32} {vb : Vec Ideal S1024x128 .bf16}
  (hr : Rows 512 block1 q f qv fv) (hk : Keys 1024 upto1 k v g kt gv vb)

include hr hk

theorem sc_1_0 (j : Fin 512) (s : Fin 1024) : k0_pay25 k0_pay9 1#32 (k0_pay23 qv kt) (k0_pay24 fv) gv (ix2 j s) = sc q k f g ⟨512 + j, by omega⟩ ⟨s, by omega⟩ := by
  pointwise [k0_pay25, k0_pay9, k0_pay23, k0_pay24]
  simp only [hr.hq, hr.hf, hk.hk, hk.hg]
  exact sc_any q k f g 512 (by decide) j s

theorem ls_1_0 (j : Fin 512) : k0_pay30 k0_pay9 1#32 (k0_pay23 qv kt) (k0_pay24 fv) gv (ix4 0 0 j 0) = ls q k f g ⟨512 + j, by omega⟩ := by
  pointwise [k0_pay30, k0_pay28, k0_pay27, k0_pay26]
  simp only [sc_1_0 hr hk, mx_close q k f g 1024 upto1 ⟨512 + j, by omega⟩ (by simp only; omega), sm_close q k f g 1024 upto1 ⟨512 + j, by omega⟩ (by simp only; omega)]
  rfl

theorem av_1_0 (j : Fin 512) (x : Fin 128) : k0_pay29 k0_pay9 1#32 (k0_pay23 qv kt) (k0_pay24 fv) gv vb (ix2 j x) = av q k f g v ⟨512 + j, by omega⟩ x := by
  pointwise [k0_pay29, k0_pay28, k0_pay27, k0_pay26]
  simp only [sc_1_0 hr hk, mx_close q k f g 1024 upto1 ⟨512 + j, by omega⟩ (by simp only; omega), sm_close q k f g 1024 upto1 ⟨512 + j, by omega⟩ (by simp only; omega), hk.hv]
  exact av_close q k f g v 1024 upto1 ⟨512 + j, by omega⟩ (by simp only; omega) x

theorem sc_1_1 (j : Fin 512) (s : Fin 1024) : k0_pay32 k0_pay9 1#32 (k0_pay31 qv kt) fv gv (ix2 j s) = sc q k f g ⟨512 + j, by omega⟩ ⟨s, by omega⟩ := by
  pointwise [k0_pay32, k0_pay9, k0_pay31]
  simp only [hr.hq, hr.hf, hk.hk, hk.hg]
  exact sc_any q k f g 512 (by decide) j s

theorem ls_1_1 (j : Fin 512) : k0_pay36 k0_pay9 1#32 (k0_pay31 qv kt) fv gv (ix4 0 0 j 0) = ls q k f g ⟨512 + j, by omega⟩ := by
  pointwise [k0_pay36, k0_pay35, k0_pay34, k0_pay33]
  simp only [sc_1_1 hr hk, mx_close q k f g 1024 upto1 ⟨512 + j, by omega⟩ (by simp only; omega), sm_close q k f g 1024 upto1 ⟨512 + j, by omega⟩ (by simp only; omega)]
  rfl

theorem out_1 (ha : a (ix2 j x) = a') : k0_pay38 (k0_pay37 k0_pay8 k0_pay9 1#32 a (k0_pay31 qv kt) fv gv vb) (ix3 0 j x)
    = if x.val < 64 then a' else av q k f g v ⟨512 + j, by omega⟩ x := by
  pointwise [k0_pay38, k0_pay37, k0_pay35, k0_pay34, k0_pay33, k0_pay8]
  simp only [sc_1_1 hr hk, mx_close q k f g 1024 upto1 ⟨512 + j, by omega⟩ (by simp only; omega), sm_close q k f g 1024 upto1 ⟨512 + j, by omega⟩ (by simp only; omega), hk.hv]
  exact sel_lane x _ _ _ _ ha (av_close q k f g v 1024 upto1 ⟨512 + j, by omega⟩ (by simp only; omega) x)

end Block1

section Block2

variable {kt : Vec Ideal S128x1536 .bf16} {gv : Vec Ideal S1x1x1x1536 .f32} {vb : Vec Ideal S1536x128 .bf16}
  (hr : Rows 1024 block2 q f qv fv) (hk : Keys 1536 upto2 k v g kt gv vb)

include hr hk

theorem sc_2_0 (j : Fin 512) (s : Fin 1536) : k0_pay39 k0_pay9 qv kt fv gv (ix2 j s) = sc q k f g ⟨1024 + j, by omega⟩ ⟨s, by omega⟩ := by
  pointwise [k0_pay39, k0_pay9]
  simp only [hr.hq, hr.hf, hk.hk, hk.hg]
  exact sc_any q k f g 1024 (by decide) j s

theorem ls_2_0 (j : Fin 512) : k0_pay45 (k0_pay40 k0_pay9 qv kt fv gv) (k0_pay42 k0_pay9 qv kt fv gv) (ix4 0 0 j 0) = ls q k f g ⟨1024 + j, by omega⟩ := by
  pointwise [k0_pay45, k0_pay42, k0_pay41, k0_pay40]
  simp only [sc_2_0 hr hk, mx_close q k f g 1536 upto2 ⟨1024 + j, by omega⟩ (by simp only; omega), sm_close q k f g 1536 upto2 ⟨1024 + j, by omega⟩ (by simp only; omega)]
  rfl

theorem av_2_0 (j : Fin 512) (x : Fin 128) : k0_pay44 (k0_pay41 k0_pay9 qv kt fv gv) (k0_pay43 k0_pay9 qv kt fv gv) vb (ix2 j x) = av q k f g v ⟨1024 + j, by omega⟩ x := by
  pointwise [k0_pay44, k0_pay43, k0_pay42, k0_pay41, k0_pay40]
  simp only [sc_2_0 hr hk, mx_close q k f g 1536 upto2 ⟨1024 + j, by omega⟩ (by simp only; omega), sm_close q k f g 1536 upto2 ⟨1024 + j, by omega⟩ (by simp only; omega), hk.hv]
  exact av_close q k f g v 1536 upto2 ⟨1024 + j, by omega⟩ (by simp only; omega) x

theorem sc_2_1 (j : Fin 512) (s : Fin 1536) : k0_pay46 k0_pay9 2#32 qv kt fv gv (ix2 j s) = sc q k f g ⟨1024 + j, by omega⟩ ⟨s, by omega⟩ := by
  pointwise [k0_pay46, k0_pay9]
  simp only [hr.hq, hr.hf, hk.hk, hk.hg]
  exact sc_any q k f g 1024 (by decide) j s

theorem ls_2_1 (j : Fin 512) : k0_pay51 (k0_pay46 k0_pay9 2#32 qv kt fv gv) (k0_pay47 k0_pay9 2#32 qv kt fv gv) (k0_pay48 k0_pay9 2#32 qv kt fv gv) (ix4 0 0 j 0) = ls q k f g ⟨1024 + j, by omega⟩ := by
  pointwise [k0_pay51, k0_pay50, k0_pay49, k0_pay48, k0_pay47]
  simp only [sc_2_1 hr hk, mx_close q k f g 1536 upto2 ⟨1024 + j, by omega⟩ (by simp only; omega), sm_close q k f g 1536 upto2 ⟨1024 + j, by omega⟩ (by simp only; omega)]
  rfl

theorem out_2 (ha : a (ix2 j x) = a') : k0_pay52 k0_pay8 a (k0_pay46 k0_pay9 2#32 qv kt fv gv) (k0_pay48 k0_pay9 2#32 qv kt fv gv) vb (ix3 0 j x)
    = if x.val < 64 then a' else av q k f g v ⟨1024 + j, by omega⟩ x := by
  pointwise [k0_pay52, k0_pay50, k0_pay49, k0_pay48, k0_pay47, k0_pay8]
  simp only [sc_2_1 hr hk, mx_close q k f g 1536 upto2 ⟨1024 + j, by omega⟩ (by simp only; omega), sm_close q k f g 1536 upto2 ⟨1024 + j, by omega⟩ (by simp only; omega), hk.hv]
  exact sel_lane x _ _ _ _ ha (av_close q k f g v 1536 upto2 ⟨1024 + j, by omega⟩ (by simp only; omega) x)

end Block2

section Block3

variable {kt : Vec Ideal S128x2048 .bf16} {gv : Vec Ideal S1x1x1x2048 .f32} {vb : Vec Ideal S2048x128 .bf16}
  (hr : Rows 1536 block3 q f qv fv) (hk : Keys 2048 upto3 k v g kt gv vb)

include hr hk

theorem sc_3_0 (j : Fin 512) (s : Fin 2048) : k0_pay55 k0_pay9 3#32 (k0_pay53 qv kt) (k0_pay54 fv) gv (ix2 j s) = sc q k f g ⟨1536 + j, by omega⟩ ⟨s, by omega⟩ := by
  pointwise [k0_pay55, k0_pay9, k0_pay53, k0_pay54]
  simp only [hr.hq, hr.hf, hk.hk, hk.hg]
  exact sc_any q k f g 1536 (by decide) j s

theorem ls_3_0 (j : Fin 512) : k0_pay60 k0_pay9 3#32 (k0_pay53 qv kt) (k0_pay54 fv) gv (ix4 0 0 j 0) = ls q k f g ⟨1536 + j, by omega⟩ := by
  pointwise [k0_pay60, k0_pay58, k0_pay57, k0_pay56]
  simp only [sc_3_0 hr hk, mx_close q k f g 2048 upto3 ⟨1536 + j, by omega⟩ (by simp only; omega), sm_close q k f g 2048 upto3 ⟨1536 + j, by omega⟩ (by simp only; omega)]
  rfl

theorem av_3_0 (j : Fin 512) (x : Fin 128) : k0_pay59 k0_pay9 3#32 (k0_pay53 qv kt) (k0_pay54 fv) gv vb (ix2 j x) = av q k f g v ⟨1536 + j, by omega⟩ x := by
  pointwise [k0_pay59, k0_pay58, k0_pay57, k0_pay56]
  simp only [sc_3_0 hr hk, mx_close q k f g 2048 upto3 ⟨1536 + j, by omega⟩ (by simp only; omega), sm_close q k f g 2048 upto3 ⟨1536 + j, by omega⟩ (by simp only; omega), hk.hv]
  exact av_close q k f g v 2048 upto3 ⟨1536 + j, by omega⟩ (by simp only; omega) x

theorem sc_3_1 (j : Fin 512) (s : Fin 2048) : k0_pay62 k0_pay9 3#32 (k0_pay61 qv kt) fv gv (ix2 j s) = sc q k f g ⟨1536 + j, by omega⟩ ⟨s, by omega⟩ := by
  pointwise [k0_pay62, k0_pay9, k0_pay61]
  simp only [hr.hq, hr.hf, hk.hk, hk.hg]
  exact sc_any q k f g 1536 (by decide) j s

theorem ls_3_1 (j : Fin 512) : k0_pay66 k0_pay9 3#32 (k0_pay61 qv kt) fv gv (ix4 0 0 j 0) = ls q k f g ⟨1536 + j, by omega⟩ := by
  pointwise [k0_pay66, k0_pay65, k0_pay64, k0_pay63]
  simp only [sc_3_1 hr hk, mx_close q k f g 2048 upto3 ⟨1536 + j, by omega⟩ (by simp only; omega), sm_close q k f g 2048 upto3 ⟨1536 + j, by omega⟩ (by simp only; omega)]
  rfl

theorem out_3 (ha : a (ix2 j x) = a') : k0_pay1 (k0_pay67 k0_pay8 k0_pay9 3#32 a (k0_pay61 qv kt) fv gv vb) (ix3 0 j x)
    = if x.val < 64 then a' else av q k f g v ⟨1536 + j, by omega⟩ x := by
  pointwise [k0_pay1, k0_pay67, k0_pay65, k0_pay64, k0_pay63, k0_pay8]
  simp only [sc_3_1 hr hk, mx_close q k f g 2048 upto3 ⟨1536 + j, by omega⟩ (by simp only; omega), sm_close q k f g 2048 upto3 ⟨1536 + j, by omega⟩ (by simp only; omega), hk.hv]
  exact sel_lane x _ _ _ _ ha (av_close q k f g v 2048 upto3 ⟨1536 + j, by omega⟩ (by simp only; omega) x)

end Block3

end Payloads

end Cert.FoxFwd
-- ==== Proof.FwdOut.lean ====
module

public import proofs.«01_k».proof.Proof.FwdStep
public import proofs.«01_k».proof.Proof.FoxOut
public import proofs.«01_k».proof.Proof.Gen.Kernel3Ideal.Value
import all proofs.«01_k».proof.Proof.Gen.Kernel3Ideal.Frame.RunA
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FoxFwd

open Cert.Kernel3Ideal Cert.Kernel3Ideal.Gen Idealize.ShloMosaic Idealize.ShloMosaic.TcCoe Idealize.SL.Sem
open Cert.Fox (lane sel_lo sel_hi part_read block0 block1 block2 block3 upto0 upto1 upto2 upto3 four_blocks)

/-! The forgetting attention's forward call: the results of one grid point, a pair of heads of one sequence. -/

/-- A block of one head's column stored above the others. -/
theorem head_step {L : List (View.Piece (Elt Ideal) S1x2x2048x1 .f32)} {w : ℕ} (hw : w + 512 ≤ 2048) (h : Fin 2) (h0 : ℕ) (eh : h0 = h.val) (A : Fin 2 → Fin 2048 → EReal)
    {inb : ∀ a, ![0, h0, w, 0] a + ![1, 1, 512, 1] a ≤ S1x2x2048x1.size a} {pl : Vec Ideal ⟨4, ![1, 1, 512, 1]⟩ .f32}
    (hp : ∀ j : Fin 512, pl (ix4 0 0 j 0) = A h ⟨w + j, by omega⟩) (hh : Fin 2) (t : Fin 2048) (ht : t.val < w + 512)
    (hL : hh ≠ h ∨ t.val < w → View.canon (Val := Elt Ideal) L (ix4 0 hh t 0) = A hh t) :
    View.canon (Val := Elt Ideal) (⟨Rect.unit (s := S1x2x2048x1) ![0, h0, w, 0] ![1, 1, 512, 1] inb, pl⟩ :: L) (ix4 0 hh t 0) = A hh t := by
  by_cases hs : hh = h ∧ w ≤ t.val
  · obtain ⟨rfl, hs⟩ := hs
    have e : (Rect.unit (s := S1x2x2048x1) ![0, h0, w, 0] ![1, 1, 512, 1] inb).emb (ix4 0 0 ⟨t - w, by omega⟩ 0) = ix4 0 hh t 0 := by
      funext a; apply Fin.ext; fin_cases a <;> simp [eh, hs]
    rw [← e, View.canon_cons_emb, hp]
    exact congrArg (A hh) (Fin.ext (by simp only; omega))
  · rw [View.canon_cons_of_not_mem, hL (by by_cases h1 : hh = h; · exact .inr (by have := not_and.mp hs h1; omega)
                                           · exact .inl h1)]
    intro hm
    have hm' : ix4 0 hh t 0 ∈ (Rect.unit (s := S1x2x2048x1) ![0, h0, w, 0] ![1, 1, 512, 1] inb).set := hm
    rw [Rect.mem_set_unit] at hm'
    have h1 := hm' 1
    have h2 := hm' 2
    simp at h1 h2
    exact hs ⟨Fin.ext (by omega), by omega⟩

/-- A block of both heads' columns stored above the blocks before it. -/
theorem col_step {L : List (View.Piece (Elt Ideal) S1x2x2048x1 .f32)} {w w' : ℕ} (hw : w + 512 ≤ 2048) (e : w + 512 = w') (A : Fin 2 → Fin 2048 → EReal)
    {i0 : ∀ a, ![0, 0, w, 0] a + ![1, 1, 512, 1] a ≤ S1x2x2048x1.size a} {i1 : ∀ a, ![0, 1, w, 0] a + ![1, 1, 512, 1] a ≤ S1x2x2048x1.size a}
    {p0 p1 : Vec Ideal ⟨4, ![1, 1, 512, 1]⟩ .f32}
    (hL : ∀ hh (t : Fin 2048), t.val < w → View.canon (Val := Elt Ideal) L (ix4 0 hh t 0) = A hh t)
    (h0 : ∀ j : Fin 512, p0 (ix4 0 0 j 0) = A 0 ⟨w + j, by omega⟩) (h1 : ∀ j : Fin 512, p1 (ix4 0 0 j 0) = A 1 ⟨w + j, by omega⟩)
    (hh : Fin 2) (t : Fin 2048) (ht : t.val < w') :
    View.canon (Val := Elt Ideal) (⟨Rect.unit (s := S1x2x2048x1) ![0, 1, w, 0] ![1, 1, 512, 1] i1, p1⟩ ::
      ⟨Rect.unit (s := S1x2x2048x1) ![0, 0, w, 0] ![1, 1, 512, 1] i0, p0⟩ :: L) (ix4 0 hh t 0) = A hh t :=
  head_step hw 1 1 rfl A h1 hh t (by omega) fun c1 => head_step hw 0 0 rfl A h0 hh t (by omega) fun c0 => hL hh t (by omega)

variable (X0 X1 X2 : Vec Ideal S1x2048x128 .bf16) (X3 : Vec Ideal S1x2x2048x1 .f32) (X4 : Vec Ideal S1x2x1x2048 .f32)

/-- One head's queries, scaled: the other head's lanes are zero. -/
def qh (hh : Fin 2) (t : Fin 2048) (x : Fin 128) : EReal := if lane hh x then X0 (ix3 0 t x) * Ideal.ofBits .f32 0x3e000000#32 else 0
/-- The pair's rows, and a head's column. -/
def kk (t : Fin 2048) (x : Fin 128) : EReal := X1 (ix3 0 t x)
def fh (hh : Fin 2) (t : Fin 2048) : EReal := X3 (ix4 0 hh t 0)

variable {X0 X1 X2 X3 X4} {c : Dev nD} {i : grid0.Coords} {arg2 : Memref sig .tc .vmem S1x2048x128 .bf16} {harg2 : arg2.IsWhole}
  {arg3 : Memref sig .tc .vmem S1x2048x128 .bf16} {harg3 : arg3.IsWhole}
  {arg4 : Memref sig .tc .vmem S1x2048x128 .bf16} {harg4 : arg4.IsWhole}
  {arg5 : Memref sig .tc .vmem S1x2x2048x1 .f32} {harg5 : arg5.IsWhole} {arg6 : Memref sig .tc .vmem S1x2x1x2048 .f32} {harg6 : arg6.IsWhole}
  {arg7 : Memref sig .tc .vmem S1x2048x128 .bf16} {harg7 : arg7.IsWhole} {arg8 : Memref sig .tc .vmem S1x2x2048x1 .f32} {harg8 : arg8.IsWhole}
  {arg9 : Memref sig .tc .vmem S2x2048x128 .bf16} {harg9 : arg9.IsWhole} {arg10 : Memref sig .tc .vmem S128x2048 .bf16} {harg10 : arg10.IsWhole}
  {arg11 : Memref sig .tc .vmem S2048x128 .bf16} {harg11 : arg11.IsWhole}

theorem block_read (v : Memref sig .tc .vmem S1x2048x128 .bf16) (hv : v.IsWhole) (x : Vec Ideal S1x2048x128 .bf16) (inb : ∀ a, ![0, 0, 0] a + ![1, 2048, 128] a ≤ S1x2048x128.size a) (y : S1x2048x128.Idx) :
    View.readAt (Elt Ideal) v.view (Rect.unit (s := S1x2048x128) ![0, 0, 0] ![1, 2048, 128] inb).toLoadRect (hv.unread x) y = x y := by
  rw [View.readAt_eq_ld, hv.read_unread, View.ld_unit_lit _ _ (by decide)]
theorem cut_read {s : Shape} {e : EltTy} (v : Memref sig .tc .vmem s e) (hv : v.IsWhole) (x : Vec Ideal s e) (off size : Fin s.rank → ℕ)
    (inb : ∀ a, off a + size a ≤ s.size a) (y : (Rect.unit (s := s) off size inb).shape.Idx) (i : s.Idx) (hi : ∀ a, (i a : ℕ) = off a + y a) :
    View.readAt (Elt Ideal) v.view (Rect.unit off size inb).toLoadRect (hv.unread x) y = x i := by
  rw [View.readAt_eq_ld, hv.read_unread, View.ld_unit_apply_of _ _ _ _ _ i hi]

/-- The loads of a block of queries. -/
theorem rows (hh : Fin 2) (h0 w : ℕ) (e0 : h0 = hh.val) (hw : w + 512 ≤ 2048)
    {iq : ∀ a, ![h0, w, 0] a + ![1, 512, 128] a ≤ S2x2048x128.size a} {jf : ∀ a, ![0, h0, w, 0] a + ![1, 1, 512, 1] a ≤ S1x2x2048x1.size a} :
    Rows w hw (qh X0 hh) (fh X3 hh)
      (arg9.view.readCov (kernelRun0_A.sl.HS0_2 (F := Ideal) c arg2 harg2 X0) (Rect.unit (s := S2x2048x128) ![h0, w, 0] ![1, 512, 128] iq).toLoadRect)
      (View.readAt (Elt Ideal) arg5.view (Rect.unit (s := S1x2x2048x1) ![0, h0, w, 0] ![1, 1, 512, 1] jf).toLoadRect (harg5.unread X3)) := by
  subst e0
  constructor
  · intro j l
    rw [View.readCov_eq_canon']
    have hy : (Rect.unit (s := S2x2048x128) ![hh.val, w, 0] ![1, 512, 128] iq).toLoadRect.idx (ix3 0 j l) = ix3 hh ⟨w + j, by omega⟩ l := by
      funext a; apply Fin.ext; fin_cases a <;> simp
    simp only [hy, qh]
    generalize (⟨w + j, by omega⟩ : Fin 2048) = t
    unfold kernelRun0_A.sl.HS0_2
    canon_tiles x e
    · obtain rfl : t = x 1 := Fin.ext e1
      obtain rfl : l = x 2 := Fin.ext e2
      obtain rfl : hh = 1 := Fin.ext (by have : (hh : ℕ) = 1 + x 0 := e0; simp; omega)
      idx_vars x
      pointwise [k0_pay4, k0_pay2, lane]
      rw [sel_hi, block_read]
    · obtain rfl : t = x 1 := Fin.ext e1
      obtain rfl : l = x 2 := Fin.ext e2
      obtain rfl : hh = 0 := Fin.ext (by have : (hh : ℕ) = x 0 := e0; simp; omega)
      idx_vars x
      pointwise [k0_pay3, k0_pay2, lane]
      rw [sel_lo, block_read]
  · intro j
    exact cut_read _ _ _ _ _ _ _ _ (by intro a; fin_cases a <;> simp)

/-- The loads of the first `w` keys. -/
theorem keys (H4 : ∀ (hh : Fin 2) (s : Fin 2048), X4 (ix4 0 hh 0 s) = X3 (ix4 0 hh s 0))
    (hh : Fin 2) (h0 w : ℕ) (e0 : h0 = hh.val) (hw : w ≤ 2048) {ik : ∀ a, ![0, 0] a + ![128, w] a ≤ S128x2048.size a}
    {ig : ∀ a, ![0, h0, 0, 0] a + ![1, 1, 1, w] a ≤ S1x2x1x2048.size a} {iv : ∀ a, ![0, 0] a + ![w, 128] a ≤ S2048x128.size a} :
    Keys w hw (kk X1) (kk X2) (fh X3 hh)
      (arg10.view.readCov (kernelRun0_A.sl.HS1_1 (F := Ideal) c arg3 harg3 X1) (Rect.unit (s := S128x2048) ![0, 0] ![128, w] ik).toLoadRect)
      (View.readAt (Elt Ideal) arg6.view (Rect.unit (s := S1x2x1x2048) ![0, h0, 0, 0] ![1, 1, 1, w] ig).toLoadRect (harg6.unread X4))
      (arg11.view.readCov (kernelRun0_A.sl.HS2_1 (F := Ideal) c arg4 harg4 X2) (Rect.unit (s := S2048x128) ![0, 0] ![w, 128] iv).toLoadRect) := by
  subst e0
  constructor
  · intro l s
    unfold kernelRun0_A.sl.HS1_1
    rw [View.readCov_fill _ _ _ _ _ (by decide),
      View.ld_unit_apply_of _ _ _ _ _ (ix2 l ⟨s, by omega⟩) (by intro a; fin_cases a <;> simp)]
    pointwise [k0_pay5]
    exact block_read arg3 harg3 X1 _ _
  · intro s
    exact (cut_read _ _ _ _ _ _ _ (ix4 0 hh 0 ⟨s, by omega⟩) (by intro a; fin_cases a <;> simp)).trans (H4 hh _)
  · intro s l
    unfold kernelRun0_A.sl.HS2_1
    rw [View.readCov_fill _ _ _ _ _ (by decide),
      View.ld_unit_apply_of _ _ _ _ _ (ix2 ⟨s, by omega⟩ l) (by intro a; fin_cases a <;> simp)]
    pointwise [k0_pay7, k0_pay6, kernelRun0_A.sl.r]
    exact block_read arg4 harg4 X2 _ _

/-- The kernel's output, the two heads side by side in the lanes. -/
def oB (q : Fin 2 → Fin 2048 → Fin 128 → EReal) (k : Fin 2048 → Fin 128 → EReal) (f : Fin 2 → Fin 2048 → EReal)
    (v : Fin 2048 → Fin 128 → EReal) (t : Fin 2048) (x : Fin 128) : EReal :=
  if x.val < 64 then av (q 0) k (f 0) (f 0) v t x else av (q 1) k (f 1) (f 1) v t x

variable (H4 : ∀ (hh : Fin 2) (s : Fin 2048), X4 (ix4 0 hh 0 s) = X3 (ix4 0 hh s 0))

include H4

theorem out_o (t : Fin 2048) (x : Fin 128) :
    View.canon (Val := Elt Ideal) (kernelRun0_A (F := Ideal) c i arg2 harg2 arg3 harg3 arg4 harg4 arg5 harg5 arg6 harg6 arg7 harg7 arg8 harg8 arg9 harg9 arg10 harg10 arg11 harg11
        X0 X1 X2 X3 X4).1 (ix3 0 t x)
      = oB (qh X0) (kk X1) (fh X3) (kk X2) t x := by
  have R := @rows X0 X3 c arg2 harg2 arg5 harg5 arg9
  have K := @keys X1 X2 X3 X4 c arg3 harg3 arg4 harg4 arg6 harg6 arg10 arg11 H4
  unfold kernelRun0_A
  dsimp only
  let A := oB (qh X0) (kk X1) (fh X3) (kk X2)
  refine four_blocks A _ _ _ _ ?_ ?_ ?_ ?_ t x
  · exact fun j x => out_0 (R 1 1 0 rfl (by decide)) (K 1 1 512 rfl (by decide)) (av_0_0 (R 0 0 0 rfl (by decide)) (K 0 0 512 rfl (by decide)) j x)
  · exact fun j x => out_1 (R 1 1 512 rfl (by decide)) (K 1 1 1024 rfl (by decide)) (av_1_0 (R 0 0 512 rfl (by decide)) (K 0 0 1024 rfl (by decide)) j x)
  · exact fun j x => out_2 (R 1 1 1024 rfl (by decide)) (K 1 1 1536 rfl (by decide)) (av_2_0 (R 0 0 1024 rfl (by decide)) (K 0 0 1536 rfl (by decide)) j x)
  · exact fun j x => out_3 (R 1 1 1536 rfl (by decide)) (K 1 1 2048 rfl (by decide)) (av_3_0 (R 0 0 1536 rfl (by decide)) (K 0 0 2048 rfl (by decide)) j x)

theorem out_ls (hh : Fin 2) (t : Fin 2048) :
    View.canon (Val := Elt Ideal) (kernelRun0_A (F := Ideal) c i arg2 harg2 arg3 harg3 arg4 harg4 arg5 harg5 arg6 harg6 arg7 harg7 arg8 harg8 arg9 harg9 arg10 harg10 arg11 harg11
        X0 X1 X2 X3 X4).2.1 (ix4 0 hh t 0)
      = ls (qh X0 hh) (kk X1) (fh X3 hh) (fh X3 hh) t := by
  have R := @rows X0 X3 c arg2 harg2 arg5 harg5 arg9
  have K := @keys X1 X2 X3 X4 c arg3 harg3 arg4 harg4 arg6 harg6 arg10 arg11 H4
  unfold kernelRun0_A
  dsimp only
  let A : Fin 2 → Fin 2048 → EReal := fun hh => ls (qh X0 hh) (kk X1) (fh X3 hh) (fh X3 hh)
  refine col_step (w := 1536) (w' := 2048) (by decide) rfl A (col_step (w := 1024) (w' := 1536) (by decide) rfl A (col_step (w := 512) (w' := 1024) (by decide) rfl A
    (col_step (w := 0) (w' := 512) (by decide) rfl A (fun hh t ht => absurd ht (by omega)) ?_ ?_) ?_ ?_) ?_ ?_) ?_ ?_ hh t t.isLt
  · exact fun j => ls_0_0 (R 0 0 0 rfl (by decide)) (K 0 0 512 rfl (by decide) (iv := by decide)) j
  · exact fun j => ls_0_1 (R 1 1 0 rfl (by decide)) (K 1 1 512 rfl (by decide) (iv := by decide)) j
  · exact fun j => ls_1_0 (R 0 0 512 rfl (by decide)) (K 0 0 1024 rfl (by decide) (iv := by decide)) j
  · exact fun j => ls_1_1 (R 1 1 512 rfl (by decide)) (K 1 1 1024 rfl (by decide) (iv := by decide)) j
  · exact fun j => ls_2_0 (R 0 0 1024 rfl (by decide)) (K 0 0 1536 rfl (by decide) (iv := by decide)) j
  · exact fun j => ls_2_1 (R 1 1 1024 rfl (by decide)) (K 1 1 1536 rfl (by decide) (iv := by decide)) j
  · exact fun j => ls_3_0 (R 0 0 1536 rfl (by decide)) (K 0 0 2048 rfl (by decide) (iv := by decide)) j
  · exact fun j => ls_3_1 (R 1 1 1536 rfl (by decide)) (K 1 1 2048 rfl (by decide) (iv := by decide)) j

end Cert.FoxFwd
-- ==== Proof.FwdFinal.lean ====
module

public import proofs.«01_k».proof.Proof.FwdOut
public import proofs.«01_k».proof.Proof.FoxFinal
public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.FoxFwd

open Cert.Kernel3Ideal Cert.Kernel3Ideal.Gen Idealize.ShloMosaic Idealize.ShloMosaic.TcCoe Idealize.SL.Sem
open Idealize.ShloMosaic.Pipeline (Dat)
open Cert.Fox (qA kA vA fA pairOf laneOf pairOf' placeOf pair_lane pair_place row_index)

/-! The forgetting attention's forward call: its two result arrays, as formulas of the arguments. -/

section Spec

variable (pj : FVec Ideal S4x2048x3336 .f32) (ff : FVec Ideal S4x2048x8 .f32)

def oF (b p : Fin 4) (t : Fin 2048) (x : Fin 128) : EReal := oB (qA pj b p) (kA pj b p) (fA ff b p) (vA pj b p) t x
def lF (b p : Fin 4) (hh : Fin 2) (t : Fin 2048) : EReal := ls (qA pj b p hh) (kA pj b p) (fA ff b p hh) (fA ff b p hh) t

def oR : FVec Ideal S4x2048x512 .bf16 := fun i => oF pj ff (i 0) (pairOf (i 2)) (i 1) (laneOf (i 2))
def lR : FVec Ideal S4x8x2048x1 .f32 := fun i => lF pj ff (i 0) (pairOf' (i 1)) (placeOf (i 1)) (i 2)

end Spec

variable (m : (ℓ : Loc nD τ sig) → Buf (Elt Ideal) ℓ)

/-- The arguments at their types. -/
abbrev PJ (c : Dev nD) : FVec Ideal S4x2048x3336 .f32 := m ((c : Thread nD τ).loc main_arg0)
abbrev FF (c : Dev nD) : FVec Ideal S4x2048x8 .f32 := m ((c : Thread nD τ).loc main_arg1)

theorem idx_val : ∀ t : Fin cfg0.N, win0_0.index t = ![t.val / 4, 0, 14 + t.val % 4] ∧ win0_1.index t = ![t.val / 4, 0, 18 + t.val % 4]
    ∧ win0_2.index t = ![t.val / 4, 0, 22 + t.val % 4]
    ∧ win0_3.index t = ![t.val / 4, t.val % 4, 0, 0] ∧ win0_4.index t = ![t.val / 4, t.val % 4, 0, 0]
    ∧ win0_5.index t = ![t.val / 4, 0, t.val % 4] ∧ win0_6.index t = ![t.val / 4, t.val % 4, 0, 0] :=
  (by decide +kernel : ∀ t : Fin grid0.N, _)

/-- The projection's columns as the call gets them: the gate moved to the front. -/
theorem proj_read (c : Dev nD) (b : Fin 4) (r : Fin 2048) (y : Fin 3456) (y' : Fin 3336) (h : y.val = 1024 + y'.val) (h' : y'.val < 2312) :
    V m c main_v4 (ix3 b r y) = PJ m c (ix3 b r y') := by
  unfold V
  simp only [hostOps0, List.flatten_cons, List.flatten_nil, List.cons_append, List.nil_append,
    List.append_nil, StableHlo.TRef.binary, StableHlo.TRef.nullary, StableHlo.TRef.unary, StableHlo.TRef.toBuf,
    StableHlo.TRef.ofBuf, cast_eq]
  after_results_simp
  pointwise
  rw [dif_neg (by omega), dif_pos (by omega)]
  after_results_simp
  pointwise
  congr 1; congr 1; exact Fin.ext (by simp only; omega)

theorem fcol_read (c : Dev nD) (b : Fin 4) (h : Fin 8) (r : Fin 2048) : V m c main_v6 (ix4 b h r 0) = FF m c (ix3 b r h) := by
  unfold V
  simp only [hostOps0, List.flatten_cons, List.flatten_nil, List.cons_append, List.nil_append,
    List.append_nil, StableHlo.TRef.binary, StableHlo.TRef.nullary, StableHlo.TRef.unary, StableHlo.TRef.toBuf,
    StableHlo.TRef.ofBuf, cast_eq]
  after_results_simp
  pointwise

theorem frow_read (c : Dev nD) (b : Fin 4) (h : Fin 8) (r : Fin 2048) : V m c main_v7 (ix4 b h 0 r) = FF m c (ix3 b r h) := by
  unfold V
  simp only [hostOps0, List.flatten_cons, List.flatten_nil, List.cons_append, List.nil_append,
    List.append_nil, StableHlo.TRef.binary, StableHlo.TRef.nullary, StableHlo.TRef.unary, StableHlo.TRef.toBuf,
    StableHlo.TRef.ofBuf, cast_eq]
  after_results_simp
  pointwise

/-- The sequence and the pair of a grid point. -/
def bOf (t : Fin cfg0.N) : Fin 4 := ⟨t.val / 4, by have : t.val < 16 := t.isLt; omega⟩
def pOf (t : Fin cfg0.N) : Fin 4 := ⟨t.val % 4, by omega⟩

theorem blk0 (c : Dev nD) (t : Fin cfg0.N) (r : Fin 2048) (x : Fin 128) :
    iblk m c 0 t (ix3 0 r x) = PJ m c (ix3 (bOf t) r ⟨768 + ((pOf t).val * 128 + x), by omega⟩) := by
  rw [← proj_read m c (bOf t) r ⟨(14 + t.val % 4) * 128 + x, by omega⟩ _ (by simp only [pOf]; omega) (by simp only [pOf]; omega)]
  blk_point [iblk, idx_val t, bOf]
theorem blk1 (c : Dev nD) (t : Fin cfg0.N) (r : Fin 2048) (x : Fin 128) :
    iblk m c 1 t (ix3 0 r x) = PJ m c (ix3 (bOf t) r ⟨1280 + ((pOf t).val * 128 + x), by omega⟩) := by
  rw [← proj_read m c (bOf t) r ⟨(18 + t.val % 4) * 128 + x, by omega⟩ _ (by simp only [pOf]; omega) (by simp only [pOf]; omega)]
  blk_point [iblk, idx_val t, bOf]
theorem blk2 (c : Dev nD) (t : Fin cfg0.N) (r : Fin 2048) (x : Fin 128) :
    iblk m c 2 t (ix3 0 r x) = PJ m c (ix3 (bOf t) r ⟨1792 + ((pOf t).val * 128 + x), by omega⟩) := by
  rw [← proj_read m c (bOf t) r ⟨(22 + t.val % 4) * 128 + x, by omega⟩ _ (by simp only [pOf]; omega) (by simp only [pOf]; omega)]
  blk_point [iblk, idx_val t, bOf]
theorem blk3 (c : Dev nD) (t : Fin cfg0.N) (hh : Fin 2) (r : Fin 2048) :
    iblk m c 3 t (ix4 0 hh r 0) = FF m c (ix3 (bOf t) r ⟨(pOf t).val * 2 + hh, by omega⟩) := by
  rw [← fcol_read]
  blk_point [iblk, idx_val t, bOf, pOf]
theorem blk4 (c : Dev nD) (t : Fin cfg0.N) (hh : Fin 2) (r : Fin 2048) :
    iblk m c 4 t (ix4 0 hh 0 r) = FF m c (ix3 (bOf t) r ⟨(pOf t).val * 2 + hh, by omega⟩) := by
  rw [← frow_read]
  blk_point [iblk, idx_val t, bOf, pOf]

theorem qh_blk (c : Dev nD) (t : Fin cfg0.N) : qh (iblk m c 0 t) = qA (PJ m c) (bOf t) (pOf t) := by
  funext hh r x; unfold qh qA; rw [blk0]
theorem kk_blk (c : Dev nD) (t : Fin cfg0.N) : kk (iblk m c 1 t) = kA (PJ m c) (bOf t) (pOf t) := by
  funext r x; unfold kk kA; rw [blk1]
theorem vv_blk (c : Dev nD) (t : Fin cfg0.N) : kk (iblk m c 2 t) = vA (PJ m c) (bOf t) (pOf t) := by
  funext r x; unfold kk vA; rw [blk2]
theorem fh_blk (c : Dev nD) (t : Fin cfg0.N) : fh (iblk m c 3 t) = fA (FF m c) (bOf t) (pOf t) := by
  funext hh r; unfold fh fA; rw [blk3]
theorem h4 (c : Dev nD) (t : Fin cfg0.N) (hh : Fin 2) (s : Fin 2048) : iblk m c 4 t (ix4 0 hh 0 s) = iblk m c 3 t (ix4 0 hh s 0) :=
  (blk4 m c t hh s).trans (blk3 m c t hh s).symm

theorem store_o (c : Dev nD) (t : Fin cfg0.N) (s : Fin 2048) (x : Fin 128) :
    (outsAt0 m c t).1 (ix3 0 s x) = oF (PJ m c) (FF m c) (bOf t) (pOf t) s x := by
  unfold outsAt0 out0_A_5
  dsimp only
  rw [View.read_writes_eq_canon _ _ _ (cover0_A_5 _ _ _ _ _ _ _ _ _ _ _ _ _ _ _ _ _ _ _ _ _ _ _ _ _ _ _)]
  refine (out_o (h4 m c t) s x).trans ?_
  rw [qh_blk, kk_blk, vv_blk, fh_blk]
  rfl

theorem store_ls (c : Dev nD) (t : Fin cfg0.N) (hh : Fin 2) (s : Fin 2048) :
    (outsAt0 m c t).2 (ix4 0 hh s 0) = lF (PJ m c) (FF m c) (bOf t) (pOf t) hh s := by
  unfold outsAt0 out0_A_6
  dsimp only
  rw [View.read_writes_eq_canon _ _ _ (cover0_A_6 _ _ _ _ _ _ _ _ _ _ _ _ _ _ _ _ _ _ _ _ _ _ _ _ _ _ _)]
  refine (out_ls (h4 m c t) hh s).trans ?_
  rw [qh_blk, kk_blk, fh_blk]
  rfl

/-- Where a block of rows, and a block of heads' columns, lies in its array. -/
theorem at5 (t : Fin cfg0.N) (A : FVec Ideal S4x2048x512 .bf16) (r : Fin 2048) (x : Fin 128) :
    A ((win0_5.blk t).view.emb (ix3 0 r x)) = A (ix3 (bOf t) r ⟨(pOf t).val * 128 + x, by omega⟩) := by blk_point [idx_val t, bOf, pOf]
theorem at6 (t : Fin cfg0.N) (A : FVec Ideal S4x8x2048x1 .f32) (hh : Fin 2) (s : Fin 2048) :
    A ((win0_6.blk t).view.emb (ix4 0 hh s 0)) = A (ix4 (bOf t) ⟨(pOf t).val * 2 + hh, by omega⟩ s 0) := by blk_point [idx_val t, bOf, pOf]

theorem col_index (y : S1x2x2048x1.Idx) : ∃ (hh : Fin 2) (s : Fin 2048), y = ix4 (0 : Fin 1) hh s (0 : Fin 1) := by
  refine ⟨y 1, y 2, ?_⟩
  funext a
  match a with | ⟨0, _⟩ => exact Subsingleton.elim (α := Fin 1) _ _ | ⟨1, _⟩ => rfl | ⟨2, _⟩ => rfl | ⟨3, _⟩ => exact Subsingleton.elim (α := Fin 1) _ _

theorem final5 (c : Dev nD) : (dats m 0 c).arrAt 5 cfg0.N = oR (PJ m c) (FF m c) := by
  refine (dats m 0 c).arrAt_eq_of_covers 5 _ (by decide +kernel) fun t _ y => ?_
  blk_simp
  rw [after0_5]
  obtain ⟨r, x, e⟩ := row_index y
  rw [e]
  refine (store_o m c t r x).trans (Eq.trans ?_ (at5 t (oR (PJ m c) (FF m c)) r x).symm)
  exact congrArg₂ (fun p z => oF (PJ m c) (FF m c) (bOf t) p r z) (pair_lane (pOf t) x).1.symm (pair_lane (pOf t) x).2.symm

theorem final6 (c : Dev nD) : (dats m 0 c).arrAt 6 cfg0.N = lR (PJ m c) (FF m c) := by
  refine (dats m 0 c).arrAt_eq_of_covers 6 _ (by decide +kernel) fun t _ y => ?_
  blk_simp
  rw [after0_6]
  obtain ⟨hh, r, e⟩ := col_index y
  rw [e]
  refine (store_ls m c t hh r).trans (Eq.trans ?_ (at6 t (lR (PJ m c) (FF m c)) hh r).symm)
  exact congrArg₂ (fun p z => lF (PJ m c) (FF m c) (bOf t) p z r) (pair_place (pOf t) hh).1.symm (pair_place (pOf t) hh).2.symm

end Cert.FoxFwd
-- ==== Proof.FwdRef.lean ====
module

public import proofs.«01_k».proof.Proof.Gen.Reference3Ideal.Read
public import proofs.«01_k».proof.Proof.Gen.Reference3Ideal.Run
public import proofs.«01_k».proof.Proof.FoxReal
public import proofs.«01_k».proof.Proof.FoxRef
public import Idealize.ShloMosaic.Lib.Pointwise

@[expose] public section

set_option maxRecDepth 16384

noncomputable section

namespace Cert.FwdRef

open Idealize.ShloMosaic Idealize.ShloMosaic.TcCoe Idealize.SL.Sem
open Cert.Reference3Ideal Cert.Reference3Ideal.Read Cert.Finite
open Cert.Fox (qCol kCol vCol logit logit_real exp_shift exp_sum lse_real EX SM WT SM_pos mask_sel max_real)
open Cert.FoxRef (colAt head_col)

/-! The reference's two results at an index: the average of the values by the softmax of the logits, and the
    logarithm of the row's sum. -/

variable {x0 : FVec Ideal S4x2048x3336 .f32} {x1 : FVec Ideal S4x2048x8 .f32}
  {b : Fin 4} {h : Fin 8} {Q K : Fin 2048 → Fin 64 → ℝ} {f : Fin 2048 → ℝ}
  (hQ : ∀ t x, x0 (ix3 b t (qCol h x)) = (Q t x : EReal))
  (hK : ∀ t x, x0 (ix3 b t (kCol h x)) = (K t x : EReal))
  (hf : ∀ t, x1 (ix3 b t h) = (f t : EReal))

theorem logit_at (t s : Fin 2048) : val_main_v29 (F := Ideal) x0 x1 (ix4 b h t s) = logit x0 x1 b h t s := by
  pointwise [val_main_v29, val_main_v28, val_main_v27, val_main_v26, val_main_v25, val_main_v24,
    val_main_v23, val_main_v22, val_main_v21, val_main_v20, val_main_v19, val_main_v18, val_main_v17, val_main_v16,
    val_main_v15, val_main_v14, val_main_v13, val_main_v12, val_main_cst, val_main_v11, val_main_v9, val_main_v8,
    val_main_v4, val_main_v3, val_main_call0_v2, val_main_call0_v1, val_main_call0_v0, val_main_cst_0, logit]
  exact mask_sel t s _

include hQ hK hf in
/-- Each logit of a row is a real number or masked, and the first is real. -/
theorem row_cases (t : Fin 2048) : (∀ s, val_main_v29 (F := Ideal) x0 x1 (ix4 b h t s) = ⊥ ∨ IsR (val_main_v29 (F := Ideal) x0 x1 (ix4 b h t s)))
    ∧ IsR (val_main_v29 (F := Ideal) x0 x1 (ix4 b h t 0)) := by
  have hl := logit_real hQ hK hf
  refine ⟨fun s => ?_, ?_⟩
  · rw [logit_at, hl]
    split
    · exact .inr ⟨_, rfl⟩
    · exact .inl rfl
  · rw [logit_at, hl, if_pos (show (0 : Fin 2048).val ≤ t.val from Nat.zero_le _)]
    exact ⟨_, rfl⟩

include hQ hK hf in
theorem top_at (t : Fin 2048) : IsR (val_main_v32 (F := Ideal) x0 x1 (ix3 b h t)) := by
  obtain ⟨H, H0⟩ := row_cases hQ hK hf t
  have h30 : IsR (val_main_v30 (F := Ideal) x0 x1 (ix3 b h t)) := by
    unfold val_main_v30 val_main_cst_1
    exact max_real (val_main_v29 (F := Ideal) x0 x1) b h t H H0
  have h31 : val_main_v31 (F := Ideal) (ix3 b h t) = (⊥ : EReal) := by
    pointwise [val_main_v31, val_main_cst_2]
    simp [Ideal.ofBits, Ideal.ieee]
  have e : val_main_v32 (F := Ideal) x0 x1 (ix3 b h t) = max (val_main_v31 (F := Ideal) (ix3 b h t)) (val_main_v30 (F := Ideal) x0 x1 (ix3 b h t)) := val_main_v32_apply ..
  rw [e, h31, bot_sup_eq]
  exact h30

include hQ hK hf in
theorem shift_at (t : Fin 2048) : IsR (val_main_v41 (F := Ideal) x0 x1 (ix3 b h t)) := by
  obtain ⟨H, H0⟩ := row_cases hQ hK hf t
  unfold val_main_v41 val_main_cst_4
  exact max_real (val_main_v29 (F := Ideal) x0 x1) b h t H H0

theorem e_at (t s : Fin 2048) : val_main_v36 (F := Ideal) x0 x1 (ix4 b h t s) = Ideal.exp (logit x0 x1 b h t s - val_main_v32 (F := Ideal) x0 x1 (ix3 b h t)) := by
  rw [← logit_at]
  pointwise [val_main_v36, val_main_v35, val_main_v34, val_main_v33]

theorem sum_at (t : Fin 2048) : val_main_v37 (F := Ideal) x0 x1 (ix3 b h t) = ∑ s : Fin 2048, val_main_v36 (F := Ideal) x0 x1 (ix4 b h t s) := by
  pointwise [val_main_v37, val_main_cst_3]

include hQ hK hf in
/-- The softmax's weight. -/
theorem weight_at (t s : Fin 2048) : Ideal.div (val_main_v36 (F := Ideal) x0 x1 (ix4 b h t s)) (val_main_v37 (F := Ideal) x0 x1 (ix3 b h t)) = (WT Q K f t s : EReal) := by
  obtain ⟨μ, hμ⟩ := top_at hQ hK hf t
  have hS := SM_pos Q K f t
  rw [sum_at]
  simp only [e_at, hμ]
  rw [exp_sum hQ hK hf, exp_shift hQ hK hf]
  have hE := Real.exp_pos (-μ)
  generalize Real.exp (-μ) = E at hE ⊢
  rw [Ideal.div_coe (by positivity), ← EReal.coe_mul, WT]
  refine congrArg (fun r : ℝ => (r : EReal)) ?_
  field_simp

/-- The product with the values, its heads side by side. -/
theorem out_at (t : Fin 2048) (y : Fin 64) : val_main_v53 (F := Ideal) x0 x1 (ix3 b t (colAt h y))
    = ∑ s, val_main_v10 (F := Ideal) x0 (ix4 b s h y) * val_main_v40 (F := Ideal) x0 x1 (ix4 b h t s) := by
  unfold val_main_v53 val_main_v52 val_main_v51 val_main_v50
  generalize val_main_v10 (F := Ideal) x0 = v
  generalize val_main_v40 (F := Ideal) x0 x1 = p
  have hy : (⟨(colAt h y).val % 64, by omega⟩ : Fin 64) = y := Fin.ext (by simp only [colAt]; omega)
  pointwise
  simp only [head_col, hy]

theorem value_at (s : Fin 2048) (y : Fin 64) : val_main_v10 (F := Ideal) x0 (ix4 b s h y) = x0 (ix3 b s (vCol h y)) := by
  pointwise [val_main_v10, val_main_v5]

theorem soft_at (t s : Fin 2048) : val_main_v40 (F := Ideal) x0 x1 (ix4 b h t s)
    = Ideal.div (val_main_v36 (F := Ideal) x0 x1 (ix4 b h t s)) (val_main_v37 (F := Ideal) x0 x1 (ix3 b h t)) := by
  unfold val_main_v40 val_main_v39 val_main_v38
  generalize val_main_v36 (F := Ideal) x0 x1 = e
  generalize val_main_v37 (F := Ideal) x0 x1 = l
  pointwise

include hQ hK hf in
theorem o_at (t : Fin 2048) (y : Fin 64) : val_main_v53 (F := Ideal) x0 x1 (ix3 b t (colAt h y)) = ∑ s, (WT Q K f t s : EReal) * x0 (ix3 b s (vCol h y)) := by
  rw [out_at]
  refine Finset.sum_congr rfl fun s _ => ?_
  rw [value_at, soft_at, weight_at hQ hK hf, mul_comm]

/-- The row's sum over any logits and any shift. -/
theorem log_at (t : Fin 2048) : val_main_v49 (F := Ideal) x0 x1 (ix4 b h t 0) = val_main_v41 (F := Ideal) x0 x1 (ix3 b h t)
      + Ideal.log (∑ s : Fin 2048, Ideal.exp (val_main_v29 (F := Ideal) x0 x1 (ix4 b h t s) - val_main_v41 (F := Ideal) x0 x1 (ix3 b h t))) := by
  unfold val_main_v49 val_main_v48 val_main_v47 val_main_v46 val_main_cst_5 val_main_v45 val_main_v44 val_main_v43 val_main_v42
  generalize val_main_v29 (F := Ideal) x0 x1 = z
  generalize val_main_v41 (F := Ideal) x0 x1 = a
  exact Cert.Fox.lse_of z a b h t

include hQ hK hf in
theorem l_at (t : Fin 2048) : val_main_v49 (F := Ideal) x0 x1 (ix4 b h t 0) = (Real.log (SM Q K f t) : EReal) := by
  obtain ⟨μ, hμ⟩ := shift_at hQ hK hf t
  have key := log_at (x0 := x0) (x1 := x1) (b := b) (h := h) t
  rw [hμ] at key
  simp only [logit_at] at key
  exact lse_real hQ hK hf key

/-- The reference's run, its results by name. -/
theorem run_r (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      (r.2.mem ((c.tc : Thread nD τ).loc main_v53) = val_main_v53 (F := Ideal) (m ((c.tc : Thread nD τ).loc main_arg0)) (m ((c.tc : Thread nD τ).loc main_arg1))
      ∧ r.2.mem ((c.tc : Thread nD τ).loc main_v49) = val_main_v49 (F := Ideal) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨⟨(h c).1.trans (val_main_v53_eq ..), (h c).2.1.trans (val_main_v49_eq ..)⟩, (h c).2.2⟩)
    (Cert.Reference3Ideal.Value.run (F := Ideal) m g)

end Cert.FwdRef
-- ==== Proof.FwdEq.lean ====
module

public import proofs.«01_k».proof.Proof.FwdFinal
public import proofs.«01_k».proof.Proof.FwdRef
public import proofs.«01_k».proof.Proof.FoxEq

@[expose] public section

set_option maxRecDepth 16384

noncomputable section

namespace Cert.FoxFwd

open Cert.Kernel3Ideal Cert.Kernel3Ideal.Gen Idealize.ShloMosaic Idealize.ShloMosaic.TcCoe Idealize.SL.Sem
open Cert.Finite
open Cert.FoxRef (colAt)
open Cert.Fox (qCol kCol vCol qA kA vA fA pairOf pairOf' placeOf laneOf laneAt lane lane_at logit logit_real exp_shift exp_sum lse_real LG EX SM WT SM_pos
  qk_real fin_pair col_eq col_cases)

/-! On queries, keys and decays that are real numbers the forward's two results are the reference's. -/

/-- The columns of the queries and the keys. -/
abbrev qkCol (x : Fin 1024) : Fin 3336 := ⟨768 + x.val, by omega⟩

section Head

variable {pj : FVec Ideal S4x2048x3336 .f32} {ff : FVec Ideal S4x2048x8 .f32}
  {b : Fin 4} {h : Fin 8} {Q K : Fin 2048 → Fin 64 → ℝ} {f : Fin 2048 → ℝ}
  (hQ : ∀ t x, pj (ix3 b t (qCol h x)) = (Q t x : EReal))
  (hK : ∀ t x, pj (ix3 b t (kCol h x)) = (K t x : EReal))
  (hf : ∀ t, ff (ix3 b t h) = (f t : EReal))

include hQ hK hf in
/-- The kernel's logit is the reference's. -/
theorem sc_eq (t s : Fin 2048) : sc (qA pj b (pairOf' h) (placeOf h)) (kA pj b (pairOf' h)) (fA ff b (pairOf' h) (placeOf h)) (fA ff b (pairOf' h) (placeOf h)) t s
    = logit pj ff b h t s := by
  unfold sc fA
  rw [logit_real hQ hK hf, qk_real hQ hK, fin_pair, hf, hf, ← EReal.coe_sub, ← EReal.coe_add]
  rfl

include hQ hK hf in
/-- The largest logit of a row is a real number. -/
theorem mx_real (t : Fin 2048) : IsR (mx (qA pj b (pairOf' h) (placeOf h)) (kA pj b (pairOf' h)) (fA ff b (pairOf' h) (placeOf h)) (fA ff b (pairOf' h) (placeOf h)) t) := by
  unfold mx
  simp only [sc_eq hQ hK hf, logit_real hQ hK hf]
  generalize hZ : (fun s : Fin 2048 => if s.val ≤ t.val then (LG Q K f t s : EReal) else ⊥) = Z
  have h1 : (⊥ : EReal) < Finset.fold max ⊥ Z Finset.univ :=
    (Finset.lt_fold_max _).mpr (.inr ⟨0, Finset.mem_univ _, by
      rw [← hZ]
      show ⊥ < if (0 : Fin 2048).val ≤ t.val then (LG Q K f t 0 : EReal) else ⊥
      rw [if_pos (show (0 : Fin 2048).val ≤ t.val from Nat.zero_le _)]
      exact EReal.bot_lt_coe _⟩)
  have h2 : Finset.fold max ⊥ Z Finset.univ < (⊤ : EReal) :=
    (Finset.fold_max_lt _).mpr ⟨bot_lt_top, fun s _ => by
      rw [← hZ]
      show (if s.val ≤ t.val then (LG Q K f t s : EReal) else ⊥) < ⊤
      split
      · exact EReal.coe_lt_top _
      · exact bot_lt_top⟩
  exact ⟨_, (EReal.coe_toReal h2.ne h1.ne').symm⟩

include hQ hK hf in
theorem l_real (t : Fin 2048) : lF pj ff b (pairOf' h) (placeOf h) t = (Real.log (SM Q K f t) : EReal) := by
  obtain ⟨μ, hμ⟩ := mx_real hQ hK hf t
  unfold lF ls sm
  simp only [hμ, sc_eq hQ hK hf]
  exact lse_real hQ hK hf rfl

include hQ hK hf in
theorem av_real (v : Fin 2048 → Fin 128 → EReal) (t : Fin 2048) (x : Fin 128) :
    av (qA pj b (pairOf' h) (placeOf h)) (kA pj b (pairOf' h)) (fA ff b (pairOf' h) (placeOf h)) (fA ff b (pairOf' h) (placeOf h)) v t x
      = ∑ s, (WT Q K f t s : EReal) * v s x := by
  obtain ⟨μ, hμ⟩ := mx_real hQ hK hf t
  have hS := SM_pos Q K f t
  unfold av sm
  simp only [hμ, sc_eq hQ hK hf]
  rw [exp_sum hQ hK hf]
  refine Finset.sum_congr rfl fun s _ => congrArg (fun z => z * v s x) ?_
  rw [exp_shift hQ hK hf]
  have hE := Real.exp_pos (-μ)
  generalize Real.exp (-μ) = E at hE ⊢
  rw [Ideal.div_coe (by positivity), one_mul, ← EReal.coe_mul, WT]
  refine congrArg (fun r : ℝ => (r : EReal)) ?_
  field_simp

include hQ hK hf in
theorem o_real (t : Fin 2048) (y : Fin 64) : oF pj ff b (pairOf' h) t (laneAt h y) = ∑ s, (WT Q K f t s : EReal) * pj (ix3 b s (vCol h y)) := by
  have hc : (if (laneAt h y).val < 64 then (0 : Fin 2) else 1) = placeOf h := by
    have := lane_at h y
    unfold lane at this
    split at this <;> split <;> omega
  have key := av_real hQ hK hf (vA pj b (pairOf' h)) t (laneAt h y)
  rw [← hc] at key
  have hv : ∀ s, vA pj b (pairOf' h) s (laneAt h y) = pj (ix3 b s (vCol h y)) := fun s => by
    unfold vA
    exact congrArg (fun z => pj (ix3 b s z)) (col_eq 1792 h y 3336 (by decide))
  simp only [hv] at key
  rw [← key]
  unfold oF oB
  split <;> rfl

end Head

section Arrays

variable {pj : FVec Ideal S4x2048x3336 .f32} {ff : FVec Ideal S4x2048x8 .f32}
  (hp : ∀ b t (c : Fin 1024), IsR (pj (ix3 b t (qkCol c)))) (hf : ∀ b t h, IsR (ff (ix3 b t h)))

include hp hf in
theorem reals (b : Fin 4) (h : Fin 8) : ∃ (Q K : Fin 2048 → Fin 64 → ℝ) (f : Fin 2048 → ℝ), (∀ t x, pj (ix3 b t (qCol h x)) = (Q t x : EReal))
    ∧ (∀ t x, pj (ix3 b t (kCol h x)) = (K t x : EReal)) ∧ ∀ t, ff (ix3 b t h) = (f t : EReal) := by
  have hq : ∀ t (x : Fin 64), IsR (pj (ix3 b t (qCol h x))) := fun t x => by
    rw [show qCol h x = ⟨768 + (⟨h.val * 64 + x.val, by omega⟩ : Fin 1024).val, by omega⟩ from Fin.ext rfl]
    exact hp b t _
  have hk : ∀ t (x : Fin 64), IsR (pj (ix3 b t (kCol h x))) := fun t x => by
    rw [show kCol h x = ⟨768 + (⟨512 + h.val * 64 + x.val, by omega⟩ : Fin 1024).val, by omega⟩ from Fin.ext (by simp only [kCol]; omega)]
    exact hp b t _
  choose Q hQ using hq
  choose K hK using hk
  choose f hF using fun t => hf b t h
  exact ⟨Q, K, f, hQ, hK, hF⟩

include hp hf in
theorem o_eq : oR pj ff = Cert.Reference3Ideal.Read.val_main_v53 (F := Ideal) pj ff := by
  funext i; idx_vars i
  obtain ⟨h, y, rfl, h1, h2⟩ := col_cases i2
  obtain ⟨Q, K, f, hQ, hK, hF⟩ := reals hp hf i0 h
  refine Eq.trans ?_ (Cert.FwdRef.o_at hQ hK hF i1 y).symm
  refine Eq.trans ?_ (o_real hQ hK hF i1 y)
  exact congrArg₂ (fun p z => oF pj ff i0 p i1 z) h1 h2

include hp hf in
theorem l_eq : lR pj ff = Cert.Reference3Ideal.Read.val_main_v49 (F := Ideal) pj ff := by
  funext i; idx_vars i
  obtain ⟨Q, K, f, hQ, hK, hF⟩ := reals hp hf i0 i1
  rw [Subsingleton.elim (α := Fin 1) i3 0]
  exact (l_real hQ hK hF i2).trans (Cert.FwdRef.l_at hQ hK hF i2).symm

end Arrays

end Cert.FoxFwd
-- ==== Proof.NormOut.lean ====
module

public import proofs.«01_k».proof.Proof.Gen.Kernel4Ideal.Value
public import Idealize.ShloMosaic.Lib.Pipeline.ValueKit
public import Idealize.ShloMosaic.Lib.Pointwise
public import Idealize.ShloMosaic.Lib.Claim

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)

/-! The input projection's backward: what each of the four result arrays holds, as formulas of the argument arrays. -/

section Spec

variable (dp : FVec Ideal S4x2048x2048 .f32) (wi : FVec Ideal S1024x2048 .f32) (x : FVec Ideal S4x2048x1024 .f32)
  (gn : FVec Ideal S1024 .f32) (sc : FVec Ideal S4x1024 .f32) (dxo : FVec Ideal S4x2048x1024 .f32)

/-- The gradient of the product's left operand. -/
def dhAt (b : Fin 4) (r : Fin 2048) (k : Fin 1024) : EReal := ∑ j : Fin 2048, dp (ix3 b r j) * wi (ix2 k j)
/-- One row's mean square plus the small constant of the norm. -/
def msAt (b : Fin 4) (r : Fin 2048) : EReal :=
  Ideal.div (∑ k : Fin 1024, x (ix3 b r k) * x (ix3 b r k)) (Ideal.ofBits .f32 0x44800000#32) + Ideal.ofBits .f32 0x358637BD#32
def rsAt (b : Fin 4) (r : Fin 2048) : EReal := Ideal.rsqrt (msAt x b r)
/-- The gradient with respect to the normed row. -/
def pAt (b : Fin 4) (r : Fin 2048) (k : Fin 1024) : EReal := dhAt dp wi b r k * (1 + sc (ix2 b k)) * gn (ix1 k)

def dxA : FVec Ideal S4x2048x1024 .f32 := fun i =>
  dxo (ix3 (i 0) (i 1) (i 2)) + rsAt x (i 0) (i 1) * (pAt dp wi gn sc (i 0) (i 1) (i 2) - x (ix3 (i 0) (i 1) (i 2)) * rsAt x (i 0) (i 1)
    * Ideal.div (∑ k : Fin 1024, pAt dp wi gn sc (i 0) (i 1) k * (x (ix3 (i 0) (i 1) k) * rsAt x (i 0) (i 1)))
        (Ideal.ofBits .f32 0x44800000#32))
def dshA : FVec Ideal S4x1x1024 .f32 := fun i => ∑ r : Fin 2048, dhAt dp wi (i 0) r (i 2)
def dscA : FVec Ideal S4x1x1024 .f32 := fun i =>
  ∑ r : Fin 2048, dhAt dp wi (i 0) r (i 2) * (x (ix3 (i 0) r (i 2)) * rsAt x (i 0) r * gn (ix1 (i 2)))
def dgA : FVec Ideal S1x1024 .f32 := fun i =>
  ∑ b : Fin 4, ∑ r : Fin 2048, dhAt dp wi b r (i 1) * (1 + sc (ix2 b (i 1))) * (x (ix3 b r (i 1)) * rsAt x b r)

end Spec

variable (m : (ℓ : Loc nD τ sig) → Buf (Elt Ideal) ℓ)

/-- The arguments at their types. -/
abbrev DP (c : Dev nD) : FVec Ideal S4x2048x2048 .f32 := m ((c : Thread nD τ).loc main_arg0)
abbrev WI (c : Dev nD) : FVec Ideal S1024x2048 .f32 := m ((c : Thread nD τ).loc main_arg1)
abbrev XX (c : Dev nD) : FVec Ideal S4x2048x1024 .f32 := m ((c : Thread nD τ).loc main_arg2)
abbrev GN (c : Dev nD) : FVec Ideal S1024 .f32 := m ((c : Thread nD τ).loc main_arg3)
abbrev SC (c : Dev nD) : FVec Ideal S4x1024 .f32 := m ((c : Thread nD τ).loc main_arg4)
abbrev DO (c : Dev nD) : FVec Ideal S4x2048x1024 .f32 := m ((c : Thread nD τ).loc main_arg5)

/-- The grid point's batch and its row of the array. -/
def bOf (t : Fin cfg0.N) : Fin 4 := ⟨t.val / 2, by have : t.val < 8 := t.isLt; omega⟩
def rOf (t : Fin cfg0.N) (r : Fin 1024) : Fin 2048 := ⟨t.val % 2 * 1024 + r.val, by omega⟩

theorem idx_val : ∀ t : Fin cfg0.N, win0_0.index t = ![t.val / 2, t.val % 2, 0] ∧ win0_1.index t = ![t.val / 2, t.val % 2, 0]
    ∧ win0_2.index t = ![0, 0] ∧ win0_3.index t = ![t.val / 2, t.val % 2, 0]
    ∧ win0_4.index t = ![0, 0] ∧ win0_5.index t = ![t.val / 2, 0, 0]
    ∧ win0_6.index t = ![t.val / 2, t.val % 2, 0] ∧ win0_7.index t = ![t.val / 2, t.val % 2, 0]
    ∧ win0_8.index t = ![t.val / 2, 0, 0] ∧ win0_9.index t = ![t.val / 2, 0, 0]
    ∧ win0_10.index t = ![0, 0] :=
  (by decide +kernel : ∀ t : Fin grid0.N, _)

/-! What the host's lines before the call leave in the call's arrays. -/

theorem lo_read (c : Dev nD) (b : Fin 4) (r : Fin 2048) (k : Fin 1024) :
    V m c main_v1 (ix3 b r k) = DP m c (ix3 b r ⟨k.val, by omega⟩) := by
  unfold V
  simp only [hostOps0, StableHlo.TRef.binary, StableHlo.TRef.nullary, StableHlo.TRef.unary, StableHlo.TRef.toBuf,
    StableHlo.TRef.ofBuf, cast_eq]
  after_results_simp
  pointwise

theorem hi_read (c : Dev nD) (b : Fin 4) (r : Fin 2048) (k : Fin 1024) :
    V m c main_v3 (ix3 b r k) = DP m c (ix3 b r ⟨1024 + k.val, by omega⟩) := by
  unfold V
  simp only [hostOps0, StableHlo.TRef.binary, StableHlo.TRef.nullary, StableHlo.TRef.unary, StableHlo.TRef.toBuf,
    StableHlo.TRef.ofBuf, cast_eq]
  after_results_simp
  pointwise

theorem w_read (c : Dev nD) (k : Fin 1024) (j : Fin 2048) : V m c main_v4 (ix2 k j) = WI m c (ix2 k j) := by
  unfold V
  simp only [hostOps0, StableHlo.TRef.binary, StableHlo.TRef.nullary, StableHlo.TRef.unary, StableHlo.TRef.toBuf,
    StableHlo.TRef.ofBuf, cast_eq]
  after_results_simp
  pointwise

theorem g_read (c : Dev nD) (k : Fin 1024) : V m c main_v5 (ix2 (0 : Fin 1) k) = GN m c (ix1 k) := by
  unfold V
  simp only [hostOps0, StableHlo.TRef.binary, StableHlo.TRef.nullary, StableHlo.TRef.unary, StableHlo.TRef.toBuf,
    StableHlo.TRef.ofBuf, cast_eq]
  after_results_simp
  pointwise

theorem s_read (c : Dev nD) (b : Fin 4) (k : Fin 1024) : V m c main_v6 (ix3 b (0 : Fin 1) k) = SC m c (ix2 b k) := by
  unfold V
  simp only [hostOps0, StableHlo.TRef.binary, StableHlo.TRef.nullary, StableHlo.TRef.unary, StableHlo.TRef.toBuf,
    StableHlo.TRef.ofBuf, cast_eq]
  after_results_simp
  pointwise

/-! The blocks a grid point reads, as entries of the arguments. -/

theorem blk0 (c : Dev nD) (t : Fin cfg0.N) (r k : Fin 1024) :
    iblk m c 0 t (ix3 (0 : Fin 1) r k) = DP m c (ix3 (bOf t) (rOf t r) ⟨k.val, by omega⟩) := by
  rw [← lo_read]
  blk_point [iblk, idx_val t, bOf, rOf]

theorem blk1 (c : Dev nD) (t : Fin cfg0.N) (r k : Fin 1024) :
    iblk m c 1 t (ix3 (0 : Fin 1) r k) = DP m c (ix3 (bOf t) (rOf t r) ⟨1024 + k.val, by omega⟩) := by
  rw [← hi_read]
  blk_point [iblk, idx_val t, bOf, rOf]

theorem blk2 (c : Dev nD) (t : Fin cfg0.N) (k : Fin 1024) (j : Fin 2048) :
    iblk m c 2 t (ix2 k j) = WI m c (ix2 k j) := by
  rw [← w_read]
  blk_point [iblk, idx_val t]

theorem blk3 (c : Dev nD) (t : Fin cfg0.N) (r k : Fin 1024) :
    iblk m c 3 t (ix3 (0 : Fin 1) r k) = XX m c (ix3 (bOf t) (rOf t r) k) := by
  blk_point [iblk, V, idx_val t, bOf, rOf]

theorem blk4 (c : Dev nD) (t : Fin cfg0.N) (k : Fin 1024) :
    iblk m c 4 t (ix2 (0 : Fin 1) k) = GN m c (ix1 k) := by
  rw [← g_read]
  blk_point [iblk, idx_val t]

theorem blk5 (c : Dev nD) (t : Fin cfg0.N) (k : Fin 1024) :
    iblk m c 5 t (ix3 (0 : Fin 1) (0 : Fin 1) k) = SC m c (ix2 (bOf t) k) := by
  rw [← s_read]
  blk_point [iblk, idx_val t, bOf]

theorem blk6 (c : Dev nD) (t : Fin cfg0.N) (r k : Fin 1024) :
    iblk m c 6 t (ix3 (0 : Fin 1) r k) = DO m c (ix3 (bOf t) (rOf t r) k) := by
  blk_point [iblk, V, idx_val t, bOf, rOf]

/-! The values the body works with, as the formulas. -/

/-- The two halves of the incoming gradient, side by side. -/
theorem cat_at (c : Dev nD) (t : Fin cfg0.N) (r : Fin 1024) (k : Fin 1024) :
    k0_pay5 (F := Ideal) (iblk m c 0 t) (iblk m c 1 t) (iblk m c 2 t) (ix2 r k) = dhAt (DP m c) (WI m c) (bOf t) (rOf t r) k := by
  pointwise [k0_pay5, dhAt]
  rw [Fin.sum_univ_add (a := 1024) (b := 1024) fun j : Fin 2048 => DP m c (ix3 (bOf t) (rOf t r) j) * WI m c (ix2 k j)]
  refine Ideal.add_congr (Finset.sum_congr rfl fun j _ => Ideal.mul_congr (blk0 m c t r j) (blk2 m c t k _))
    (Finset.sum_congr rfl fun j _ => Ideal.mul_congr (blk1 m c t r j) (blk2 m c t k _))

theorem x_at (c : Dev nD) (t : Fin cfg0.N) (r : Fin 1024) (k : Fin 1024) :
    k0_pay6 (F := Ideal) (iblk m c 3 t) (ix2 r k) = XX m c (ix3 (bOf t) (rOf t r) k) := by
  rw [← blk3]; pointwise [k0_pay6]

theorem g_at (c : Dev nD) (t : Fin cfg0.N) (k : Fin 1024) :
    k0_pay7 (F := Ideal) (iblk m c 4 t) (ix2 (0 : Fin 1) k) = GN m c (ix1 k) := by
  rw [← blk4 m c t]; pointwise [k0_pay7]

theorem s_at (c : Dev nD) (t : Fin cfg0.N) (k : Fin 1024) :
    k0_pay8 (F := Ideal) (iblk m c 5 t) (ix2 (0 : Fin 1) k) = 1 + SC m c (ix2 (bOf t) k) := by
  rw [← blk5 m c t]; pointwise [k0_pay8]

theorem r_at (c : Dev nD) (t : Fin cfg0.N) (r : Fin 1024) :
    k0_pay11 (F := Ideal) (k0_pay9 (iblk m c 3 t)) (k0_pay10 (F := Ideal)) (ix2 r (0 : Fin 1)) = rsAt (XX m c) (bOf t) (rOf t r) := by
  pointwise [k0_pay11, k0_pay9, k0_pay10, x_at, rsAt, msAt]

end Cert.Kernel4Ideal.Value
-- ==== Proof.NormRef.lean ====
module

public import proofs.«01_k».proof.Proof.Gen.Reference4Ideal.Read
public import proofs.«01_k».proof.Proof.Gen.Reference4Ideal.Run
public import proofs.«01_k».proof.Proof.NormOut
public import proofs.«01_k».proof.Proof.Real
public import Idealize.ShloMosaic.Lib.Pointwise

@[expose] public section

set_option maxRecDepth 16384

noncomputable section

namespace Cert.Norm

open Idealize.ShloMosaic Idealize.ShloMosaic.TcCoe Idealize.SL.Sem
open Cert.Reference4Ideal Cert.Reference4Ideal.Read Cert.Finite
open Cert.Kernel4Ideal.Value (dhAt msAt rsAt pAt dxA dshA dscA dgA)

/-! The reference's four results, read at an index, are the kernel's formulas. -/

variable (x0 : FVec Ideal S4x2048x2048 .f32) (x1 : FVec Ideal S1024x2048 .f32) (x2 : FVec Ideal S4x2048x1024 .f32)
  (x3 : FVec Ideal S1024 .f32) (x4 : FVec Ideal S4x1024 .f32) (x5 : FVec Ideal S4x2048x1024 .f32)

/-- A sum over the first two axes of three. -/
theorem sum_two {n0 n1 n2 : Nat} (h : (⟨3, ![n0, n1, n2]⟩ : Shape).ReducesTo [0, 1] ⟨1, ![n2]⟩)
    (v : (⟨3, ![n0, n1, n2]⟩ : Shape).Idx → EReal) (init : EReal) (k : Fin n2) :
    Ideal.hostReduceAdd h v init (ix1 k) = init + ∑ a : Fin n0, ∑ b : Fin n1, v (ix3 a b k) := by
  have hk : ∀ i : (⟨3, ![n0, n1, n2]⟩ : Shape).Idx, h.drop i = ix1 k → ix3 (i 0) (i 1) k = i := fun i e => by
    have e2 : k.val = (i 2).val := (congrArg Fin.val (congrFun e 0)).symm
    funext z
    refine Fin.ext ?_
    fin_cases z
    · rfl
    · rfl
    · exact e2
  have hi : ∀ (a : Fin n0) (b : Fin n1), h.drop (ix3 a b k) = ix1 k := fun a b => by
    funext z; obtain rfl : z = 0 := Subsingleton.elim _ _; exact Fin.ext rfl
  refine congrArg (init + ·) ?_
  rw [← Fintype.sum_prod_type']
  exact Finset.sum_nbij' (fun i => (i 0, i 1)) (fun q => ix3 q.1 q.2 k) (fun i _ => Finset.mem_univ _)
    (fun q _ => Finset.mem_filter.mpr ⟨Finset.mem_univ _, hi q.1 q.2⟩) (fun i hm => hk i (Finset.mem_filter.mp hm).2)
    (fun q _ => rfl) (fun i hm => congrArg v (hk i (Finset.mem_filter.mp hm).2).symm)

theorem dh_at (b : Fin 4) (r : Fin 2048) (k : Fin 1024) : val_main_v26 (F := Ideal) x0 x1 (ix3 b r k) = dhAt x0 x1 b r k := by
  pointwise [val_main_v26, dhAt]

theorem ms_at (b : Fin 4) (r : Fin 2048) : val_main_v7 (F := Ideal) x2 (ix3 b r (0 : Fin 1)) = msAt x2 b r := by
  pointwise [val_main_v7, val_main_v6, val_main_v5, val_main_v4, val_main_v3, val_main_v2, val_main_v1, val_main_cst,
    val_main_cst_0, val_main_cst_1, val_main_cst_2, msAt]

theorem rs_at (b : Fin 4) (r : Fin 2048) : val_main_v8 (F := Ideal) x2 (ix3 b r (0 : Fin 1)) = rsAt x2 b r := by
  pointwise [val_main_v8, ms_at, rsAt]

theorem xh_at (b : Fin 4) (r : Fin 2048) (k : Fin 1024) :
    val_main_v13 (F := Ideal) x2 (ix3 b r k) = x2 (ix3 b r k) * rsAt x2 b r := by
  pointwise [val_main_v13, val_main_v12, rs_at]

theorem dsh_ref : val_main_v57 (F := Ideal) x0 x1 = dshA x0 x1 := by
  funext i; idx_vars i
  pointwise [val_main_v57, val_main_v29, val_main_v28, val_main_v27, val_main_cst_5, val_main_cst_6, dh_at, dshA]
  exact Fin.sum_univ_one _

theorem dsc_ref : val_main_v58 (F := Ideal) x0 x1 x2 x3 = dscA x0 x1 x2 x3 := by
  funext i; idx_vars i
  pointwise [val_main_v58, val_main_v35, val_main_v32, val_main_v31, val_main_v30, val_main_v16, val_main_v15, val_main_v14,
    val_main_cst_7, val_main_cst_8, dh_at, xh_at, dscA]
  rw [Fin.sum_univ_one]
  exact Finset.sum_congr rfl fun r _ => mul_comm _ _

theorem ds_at (b : Fin 4) (r : Fin 2048) (k : Fin 1024) :
    val_main_v34 (F := Ideal) x0 x1 x4 (ix3 b r k) = dhAt x0 x1 b r k * (1 + x4 (ix2 b k)) := by
  pointwise [val_main_v34, val_main_v33, val_main_v19, val_main_v18, val_main_v17, val_main_cst_4, dh_at]

theorem dg_ref : val_main_v59 (F := Ideal) x0 x1 x2 x4 = dgA x0 x1 x2 x4 := by
  funext i; idx_vars i
  pointwise [val_main_v59, val_main_v41, val_main_v38, val_main_v37, val_main_v36, ds_at, xh_at,
    val_main_cst_9, val_main_cst_10, dgA, sum_two]
  rw [Fin.sum_univ_one, Fin.sum_univ_one]
  exact Finset.sum_congr rfl fun b _ => Finset.sum_congr rfl fun r _ => mul_comm _ _

theorem p_at (b : Fin 4) (r : Fin 2048) (k : Fin 1024) :
    val_main_v40 (F := Ideal) x0 x1 x3 x4 (ix3 b r k) = pAt x0 x1 x3 x4 b r k := by
  pointwise [val_main_v40, val_main_v39, val_main_v14, ds_at, pAt]

/-- The part of the row's gradient that the mean square passes on. -/
def cAt (b : Fin 4) (r : Fin 2048) : EReal :=
  Ideal.div ((∑ k : Fin 1024, x2 (ix3 b r k) * pAt x0 x1 x3 x4 b r k)
    * (Ideal.ofBits .f32 0xBF000000#32 * Ideal.div (rsAt x2 b r) (msAt x2 b r))) (Ideal.ofBits .f32 0x44800000#32)

theorem c_at (b : Fin 4) (r : Fin 2048) :
    val_main_v51 (F := Ideal) x0 x1 x2 x3 x4 (ix2 b r) = cAt x0 x1 x2 x3 x4 b r := by
  pointwise [val_main_v51, val_main_v50, val_main_v49, val_main_v48, val_main_v44, val_main_v43, val_main_v42, p_at,
    val_main_v11, val_main_v10, val_main_v9, rs_at, ms_at, val_main_cst_3, val_main_cst_11, val_main_cst_12, val_main_cst_13, cAt]
  rw [Fin.sum_univ_one]
  rw [rs_at, ms_at]

theorem dx_at (b : Fin 4) (r : Fin 2048) (k : Fin 1024) :
    val_main_v56 (F := Ideal) x0 x1 x2 x3 x4 x5 (ix3 b r k) = x5 (ix3 b r k) + pAt x0 x1 x3 x4 b r k * rsAt x2 b r
      + x2 (ix3 b r k) * cAt x0 x1 x2 x3 x4 b r + cAt x0 x1 x2 x3 x4 b r * x2 (ix3 b r k) := by
  pointwise [val_main_v56, val_main_v55, val_main_v54, val_main_v53, val_main_v52, val_main_v47, val_main_v46, val_main_v45,
    p_at, rs_at, c_at]

/-- The reference's run, its results by name. -/
theorem run_r (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      (r.2.mem ((c.tc : Thread nD τ).loc main_v56) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v57) = val_main_v57 (F := Ideal) (m ((c.tc : Thread nD τ).loc main_arg0)) (m ((c.tc : Thread nD τ).loc main_arg1))
      ∧ r.2.mem ((c.tc : Thread nD τ).loc main_v58) = val_main_v58 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v59) = val_main_v59 (F := Ideal) (m ((c.tc : Thread nD τ).loc main_arg0)) (m ((c.tc : Thread nD τ).loc main_arg1)) (m ((c.tc : Thread nD τ).loc main_arg2)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨⟨(h c).1.trans (val_main_v56_eq ..), (h c).2.1.trans (val_main_v57_eq ..),
    (h c).2.2.1.trans (val_main_v58_eq ..), (h c).2.2.2.1.trans (val_main_v59_eq ..)⟩, (h c).2.2.2.2⟩)
    (Cert.Reference4Ideal.Value.run (F := Ideal) m g)

end Cert.Norm
-- ==== Proof.NormEq.lean ====
module

public import proofs.«01_k».proof.Proof.NormRef

@[expose] public section

set_option maxRecDepth 16384

noncomputable section

namespace Cert.Norm

open Idealize.ShloMosaic Idealize.ShloMosaic.TcCoe Idealize.SL.Sem
open Cert.Reference4Ideal Cert.Reference4Ideal.Read Cert.Finite
open Cert.Kernel4Ideal.Value (dhAt msAt rsAt pAt dxA dshA dscA dgA)

/-! The row's gradient: the norm's backward as the kernel writes it and as the derivative writes it. -/

theorem width_bits : Ideal.ofBits .f32 0x44800000#32 = ((1024 : ℝ) : EReal) := by
  simp [Ideal.ofBits, Ideal.ieee]; norm_num
  rw [← EReal.coe_mul]; norm_num

theorem half_bits : Ideal.ofBits .f32 0xBF000000#32 = ((-(1 / 2) : ℝ) : EReal) := by
  simp [Ideal.ofBits, Ideal.ieee]; norm_num
  rw [← EReal.coe_mul]; norm_num

theorem eps_bits : ∃ e : ℝ, 0 < e ∧ Ideal.ofBits .f32 0x358637BD#32 = (e : EReal) := by
  refine ⟨_, ?_, by simp [Ideal.ofBits, Ideal.ieee]; rfl⟩
  positivity

theorem add_self (t : EReal) : t + t = t * ((2 : ℝ) : EReal) := by
  induction t with
  | bot => rw [EReal.bot_mul_coe_of_pos (by norm_num)]; rfl
  | coe t => rw [← EReal.coe_add, ← EReal.coe_mul]; congr 1; ring
  | top => rw [EReal.top_mul_coe_of_pos (by norm_num)]; rfl

/-- A positive factor goes out of a sum, whatever its terms. -/
theorem sum_mul {n : Nat} (f : Fin n → EReal) (ρ : ℝ) (h : 0 < ρ) : ∑ i, f i * (ρ : EReal) = (∑ i, f i) * (ρ : EReal) := by
  classical
  have key : ∀ s : Finset (Fin n), ∑ i ∈ s, f i * (ρ : EReal) = (∑ i ∈ s, f i) * (ρ : EReal) := fun s => by
    induction s using Finset.induction_on with
    | empty => simp
    | insert a s ha ih =>
      rw [Finset.sum_insert ha, Finset.sum_insert ha, ih,
        EReal.right_distrib_of_nonneg_of_ne_top (EReal.coe_nonneg.mpr h.le) (EReal.coe_ne_top ρ)]
  exact key _

theorem sq_nonneg' (x : EReal) : 0 ≤ x * x := by
  induction x with
  | bot => simp
  | coe x => rw [← EReal.coe_mul]; exact EReal.coe_nonneg.mpr (mul_self_nonneg x)
  | top => simp

/-- One entry of a row's gradient: both forms agree, for every row of extended reals. At a row with an infinite entry the
    factor of the norm is zero on both sides. -/
theorem row_eq (x p : Fin 1024 → EReal) (d u r C H ε : EReal) (hC : C = ((1024 : ℝ) : EReal)) (hH : H = ((-(1 / 2) : ℝ) : EReal))
    (hε : ∃ e : ℝ, 0 < e ∧ ε = (e : EReal)) (hu : u = Ideal.div (∑ i, x i * x i) C + ε) (hr : r = Ideal.rsqrt u) (k : Fin 1024) :
    d + r * (p k - x k * r * Ideal.div (∑ i, p i * (x i * r)) C)
      = d + p k * r + x k * Ideal.div ((∑ i, x i * p i) * (H * Ideal.div r u)) C
        + Ideal.div ((∑ i, x i * p i) * (H * Ideal.div r u)) C * x k := by
  obtain ⟨e, he, rfl⟩ := hε
  subst hC hH
  rw [Ideal.div_coe (by norm_num)] at hu
  rw [Ideal.div_coe (by norm_num), Ideal.div_coe (by norm_num)]
  by_cases hx : ∀ i, IsR (x i)
  · obtain ⟨s, hs⟩ := IsR.sum Finset.univ fun i => (hx i).mul (hx i)
    have hs0 : 0 ≤ s := by
      have h0 : (0 : EReal) ≤ ∑ i, x i * x i := Finset.sum_nonneg fun i _ => sq_nonneg' (x i)
      rw [hs] at h0; exact EReal.coe_nonneg.mp h0
    have hv : 0 < s * (1 / 1024) + e := by positivity
    have hu' : u = ((s * (1 / 1024) + e : ℝ) : EReal) := by rw [hu, hs, EReal.coe_add, EReal.coe_mul]
    generalize s * (1 / 1024) + e = v at hv hu'
    have hq : 0 < Real.sqrt v := Real.sqrt_pos.mpr hv
    have hr' : r = (((Real.sqrt v)⁻¹ : ℝ) : EReal) := by
      rw [hr, hu']
      show (if v < 0 then ⊥ else if v = 0 then ⊤ else (((Real.sqrt v)⁻¹ : ℝ) : EReal)) = _
      rw [if_neg hv.not_gt, if_neg hv.ne']
    have hρ : 0 < (Real.sqrt v)⁻¹ := inv_pos.mpr hq
    have hρv : (Real.sqrt v)⁻¹ * (Real.sqrt v)⁻¹ = 1 / v := by
      rw [← mul_inv, Real.mul_self_sqrt hv.le, one_div]
    generalize (Real.sqrt v)⁻¹ = ρ at hr' hρ hρv
    rw [hu', hr', Ideal.div_coe hv.ne', ← hρv]
    obtain ⟨ξ, hξ⟩ := hx k
    have e1 : ∑ i, p i * (x i * (ρ : EReal)) = (∑ i, x i * p i) * (ρ : EReal) := by
      rw [← sum_mul _ _ hρ]
      exact Finset.sum_congr rfl fun i _ => by rw [← mul_assoc, mul_comm (p i)]
    rw [e1, hξ]
    generalize ∑ i, x i * p i = S
    have e2 : (ξ : EReal) * (ρ : EReal) * (S * (ρ : EReal) * ((1 / 1024 : ℝ) : EReal)) = S * ((ξ * ρ * ρ * (1 / 1024) : ℝ) : EReal) := by
      rw [EReal.coe_mul, EReal.coe_mul, EReal.coe_mul]; ac_rfl
    have e3 : S * (((-(1 / 2) : ℝ) : EReal) * ((ρ : EReal) * ((ρ * ρ : ℝ) : EReal))) * ((1 / 1024 : ℝ) : EReal)
        = S * ((-(1 / 2) * (ρ * (ρ * ρ)) * (1 / 1024) : ℝ) : EReal) := by
      rw [EReal.coe_mul (-(1 / 2) * (ρ * (ρ * ρ))), EReal.coe_mul (-(1 / 2)), EReal.coe_mul ρ (ρ * ρ)]; ac_rfl
    rw [e2, e3, mul_comm (ξ : EReal), add_assoc, add_self, mul_assoc S, ← EReal.coe_mul, mul_assoc S, ← EReal.coe_mul, add_assoc,
      sub_eq_add_neg, EReal.left_distrib_of_nonneg_of_ne_top (EReal.coe_nonneg.mpr hρ.le) (EReal.coe_ne_top ρ), mul_comm (ρ : EReal) (p k)]
    congr 2
    rw [← mul_neg, ← EReal.coe_neg, mul_comm (ρ : EReal), mul_assoc, ← EReal.coe_mul]
    congr 2
    ring
  · obtain ⟨i, hi⟩ := not_forall.mp hx
    have hsq : x i * x i = ⊤ := by
      generalize x i = z at hi
      induction z with
      | bot => simp
      | coe z => exact absurd ⟨z, rfl⟩ hi
      | top => simp
    have hs : ∑ i, x i * x i = ⊤ := top_le_iff.mp (hsq ▸ Finset.single_le_sum (fun j _ => sq_nonneg' (x j)) (Finset.mem_univ i))
    have hu' : u = ⊤ := by
      rw [hu, hs, EReal.top_mul_coe_of_pos (by norm_num)]; exact EReal.top_add_coe e
    have hr' : r = 0 := by rw [hr, hu']; rfl
    have hd : Ideal.div 0 ⊤ = 0 := by simp [Ideal.div]
    rw [hr', hu', hd]
    simp

variable (x0 : FVec Ideal S4x2048x2048 .f32) (x1 : FVec Ideal S1024x2048 .f32) (x2 : FVec Ideal S4x2048x1024 .f32)
  (x3 : FVec Ideal S1024 .f32) (x4 : FVec Ideal S4x1024 .f32) (x5 : FVec Ideal S4x2048x1024 .f32)

theorem dx_ref : val_main_v56 (F := Ideal) x0 x1 x2 x3 x4 x5 = dxA x0 x1 x2 x3 x4 x5 := by
  funext i; idx_vars i
  rw [dx_at]
  exact (row_eq (fun k => x2 (ix3 i0 i1 k)) (fun k => pAt x0 x1 x3 x4 i0 i1 k) (x5 (ix3 i0 i1 i2)) (msAt x2 i0 i1) (rsAt x2 i0 i1)
    _ _ _ width_bits half_bits eps_bits rfl rfl i2).symm

end Cert.Norm
-- ==== Proof.AdaEq.lean ====
module

public import proofs.«01_k».proof.Proof.Gen.Kernel5Ideal.Value
public import proofs.«01_k».proof.Proof.Gen.Reference5Ideal.Read
public import proofs.«01_k».proof.Proof.Gen.Reference5Ideal.Run
public import Idealize.ShloMosaic.Lib.Pipeline.ValueKit
public import Idealize.ShloMosaic.Lib.Pointwise
public import Idealize.ShloMosaic.Lib.Claim

@[expose] public section

set_option maxRecDepth 16384

noncomputable section

namespace Cert.Ada

open Idealize.ShloMosaic Idealize.ShloMosaic.TcCoe Idealize.SL.Sem
open Cert.Kernel5Ideal Cert.Kernel5Ideal.Gen Cert.Kernel5Ideal.Value

/-! The modulation's backward: both results of the kernel and of the derivative as formulas of the arguments. -/

variable (x0 : FVec Ideal S32x1024 .f32) (x1 : FVec Ideal S2x32x768 .f32) (x2 : FVec Ideal S32x6144 .f32)

/-- The activation `c · σ(c)`. -/
def actAt (r : Fin 32) (k : Fin 1024) : EReal := x0 (ix2 r k) * Ideal.div 1 (1 + Ideal.exp (-x0 (ix2 r k)))

/-- The weight's gradient, one layer after the other. -/
def gwA : FVec Ideal S2x1024x768 .f32 := fun i => ∑ r : Fin 32, actAt x0 r (i 1) * x1 (ix3 (i 0) r (i 2))
/-- The bias's gradient. -/
def gbA : FVec Ideal S1x6144 .f32 := fun i => ∑ r : Fin 32, x2 (ix2 r (i 1))

theorem act_k (v : FVec Ideal S32x1024 .f32) (r : Fin 32) (k : Fin 1024) : k0_pay1 (F := Ideal) v (ix2 r k) = actAt v r k := by
  pointwise [k0_pay1, actAt]
  rw [zero_sub]

theorem gw_k : G3 (F := Ideal) x0 x1 x2 = gwA x0 x1 := by
  funext i
  canon_tiles z h using cover0_3 ..
  all_goals
    pointwise [k0_pay2, k0_pay3, act_k, gwA]
  · refine Finset.sum_congr rfl fun r _ => ?_
    have e0 : i 0 = (1 : Fin 2) := Fin.ext (by show (i 0).val = 1; omega)
    have e1 : i 1 = z 1 := Fin.ext h1
    have e2 : i 2 = z 2 := Fin.ext h2
    rw [e0, e1, e2]
  · refine Finset.sum_congr rfl fun r _ => ?_
    have e0 : i 0 = (0 : Fin 2) := Fin.ext (by show (i 0).val = 0; omega)
    have e1 : i 1 = z 1 := Fin.ext h1
    have e2 : i 2 = z 2 := Fin.ext h2
    rw [e0, e1, e2]

theorem gb_k : G4 (F := Ideal) x0 x1 x2 = gbA x2 := by
  funext i; idx_vars i
  obtain rfl : i0 = 0 := Subsingleton.elim _ _
  show k0_pay4 (F := Ideal) x2 _ = _
  pointwise [k0_pay4, gbA]

theorem act_r (r : Fin 32) (k : Fin 1024) : Cert.Reference5Ideal.Read.val_main_v0 (F := Ideal) x0 (ix2 r k) = actAt x0 r k := by
  pointwise [Cert.Reference5Ideal.Read.val_main_v0, Cert.Reference5Ideal.Read.val_main_call0_v5, Cert.Reference5Ideal.Read.val_main_call0_v4,
    Cert.Reference5Ideal.Read.val_main_call0_v3, Cert.Reference5Ideal.Read.val_main_call0_v2, Cert.Reference5Ideal.Read.val_main_call0_v1,
    Cert.Reference5Ideal.Read.val_main_call0_v0, Cert.Reference5Ideal.Read.val_main_call0_cst, Cert.Reference5Ideal.Read.val_main_call0_cst_0, actAt]

theorem gw_r : Cert.Reference5Ideal.Read.val_main_v6 (F := Ideal) x0 x1 = gwA x0 x1 := by
  funext i; idx_vars i
  pointwise [Cert.Reference5Ideal.Read.val_main_v6, Cert.Reference5Ideal.Read.val_main_v5, Cert.Reference5Ideal.Read.val_main_v4, act_r, gwA]
  exact Finset.sum_congr rfl fun r _ => mul_comm _ _

theorem gb_r : Cert.Reference5Ideal.Read.val_main_v12 (F := Ideal) x2 = gbA x2 := by
  funext i; idx_vars i
  obtain rfl : i0 = 0 := Subsingleton.elim _ _
  pointwise [Cert.Reference5Ideal.Read.val_main_v12, Cert.Reference5Ideal.Read.val_main_v11, Cert.Reference5Ideal.Read.val_main_v10,
    Cert.Reference5Ideal.Read.val_main_cst_1, gbA]

open Cert.Reference5Ideal in
/-- The reference's run, its results by name. -/
theorem run_r (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ fun r => ∀ c : Dev Cert.Reference5Ideal.nD,
      (r.2.mem ((c.tc : Thread Cert.Reference5Ideal.nD Cert.Reference5Ideal.τ).loc Cert.Reference5Ideal.main_v6) = Cert.Reference5Ideal.Read.val_main_v6 (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))
      ∧ r.2.mem ((c.tc : Thread Cert.Reference5Ideal.nD Cert.Reference5Ideal.τ).loc Cert.Reference5Ideal.main_v12) = Cert.Reference5Ideal.Read.val_main_v12 (F := Ideal) (m ((c.tc : Thread Cert.Reference5Ideal.nD Cert.Reference5Ideal.τ).loc Cert.Reference5Ideal.main_arg2)))
      ∧ r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2) :=
  (θ_run Cert.Reference5Ideal.defs _ _).mono (fun r h c => ⟨⟨(h c).1.trans (Cert.Reference5Ideal.Read.val_main_v6_eq ..), (h c).2.1.trans (Cert.Reference5Ideal.Read.val_main_v12_eq ..)⟩, (h c).2.2⟩)
    (Cert.Reference5Ideal.Value.run (F := Ideal) m g)

end Cert.Ada
-- ==== Proof.LossOut.lean ====
module

public import proofs.«01_k».proof.Proof.Gen.Kernel6Ideal.Value
public import Idealize.ShloMosaic.Lib.Pipeline.ValueKit
public import Idealize.ShloMosaic.Lib.Pointwise
public import Idealize.ShloMosaic.Lib.Claim

@[expose] public section

set_option maxRecDepth 16384

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)

/-! The last exit and the loss: what each of the four result arrays holds, as formulas of the argument arrays. -/

section Spec

variable (mx : FVec Ideal S4x2048x1024 .f32) (pr : FVec Ideal S4x2048x2048 .f32) (wo : FVec Ideal S1024x1024 .f32)
  (x : FVec Ideal S4x2048x1024 .f32) (gm : FVec Ideal S4x1024 .f32) (gn : FVec Ideal S1024 .f32) (tg : FVec Ideal S4x2048x1024 .f32)

/-- The gate times its logistic function, at one entry of the projection. -/
def gAt (b : Fin 4) (r : Fin 2048) (k : Fin 1024) : EReal :=
  pr (ix3 b r ⟨1024 + k.val, by omega⟩) * Ideal.div 1 (1 + Ideal.exp (0 - pr (ix3 b r ⟨1024 + k.val, by omega⟩)))
/-- The block's output. -/
def oAt (b : Fin 4) (r : Fin 2048) (k : Fin 1024) : EReal := ∑ j : Fin 1024, mx (ix3 b r j) * gAt pr b r j * wo (ix2 j k)
/-- The row after the residual. -/
def zAt (b : Fin 4) (r : Fin 2048) (k : Fin 1024) : EReal := x (ix3 b r k) + gm (ix2 b k) * oAt mx pr wo b r k
def msAt (b : Fin 4) (r : Fin 2048) : EReal :=
  Ideal.div (∑ k : Fin 1024, zAt mx pr wo x gm b r k * zAt mx pr wo x gm b r k) (Ideal.ofBits .f32 0x44800000#32)
    + Ideal.ofBits .f32 0x358637BD#32
def rsAt (b : Fin 4) (r : Fin 2048) : EReal := Ideal.rsqrt (msAt mx pr wo x gm b r)
/-- The normed row without its weight. -/
def hAt (b : Fin 4) (r : Fin 2048) (k : Fin 1024) : EReal := zAt mx pr wo x gm b r k * rsAt mx pr wo x gm b r
/-- The error against the target. -/
def eAt (b : Fin 4) (r : Fin 2048) (k : Fin 1024) : EReal := hAt mx pr wo x gm b r k * gn (ix1 k) - tg (ix3 b r k)
/-- One row's mean squared error. -/
def qAt (b : Fin 4) (r : Fin 2048) : EReal :=
  Ideal.div (∑ k : Fin 1024, eAt mx pr wo x gm gn tg b r k * eAt mx pr wo x gm gn tg b r k) (Ideal.ofBits .f32 0x44800000#32)
/-- The loss's gradient with respect to the normed row with its weight. -/
def dAt (b : Fin 4) (r : Fin 2048) (k : Fin 1024) : EReal := eAt mx pr wo x gm gn tg b r k * Ideal.ofBits .f32 0x3A800000#32

def oA : FVec Ideal S4x2048x1024 .bf16 := fun i => oAt mx pr wo (i 0) (i 1) (i 2)
def lossA : FVec Ideal S1x128 .f32 := fun _ =>
  Ideal.ofBits .f32 0x3F000000#32 * ∑ b : Fin 4, ∑ r : Fin 2048, qAt mx pr wo x gm gn tg b r
def dxA : FVec Ideal S4x2048x1024 .f32 := fun i =>
  rsAt mx pr wo x gm (i 0) (i 1) * (dAt mx pr wo x gm gn tg (i 0) (i 1) (i 2) * gn (ix1 (i 2))
    - hAt mx pr wo x gm (i 0) (i 1) (i 2) * Ideal.div (∑ k : Fin 1024, dAt mx pr wo x gm gn tg (i 0) (i 1) k * gn (ix1 k)
        * hAt mx pr wo x gm (i 0) (i 1) k) (Ideal.ofBits .f32 0x44800000#32))
def dgA : FVec Ideal S1x1024 .f32 := fun i =>
  ∑ b : Fin 4, ∑ r : Fin 2048, dAt mx pr wo x gm gn tg b r (i 1) * hAt mx pr wo x gm b r (i 1)

end Spec

variable (m : (ℓ : Loc nD τ sig) → Buf (Elt Ideal) ℓ)

/-- The arguments at their types. -/
abbrev MX (c : Dev nD) : FVec Ideal S4x2048x1024 .f32 := m ((c : Thread nD τ).loc main_arg0)
abbrev PR (c : Dev nD) : FVec Ideal S4x2048x2048 .f32 := m ((c : Thread nD τ).loc main_arg1)
abbrev WO (c : Dev nD) : FVec Ideal S1024x1024 .f32 := m ((c : Thread nD τ).loc main_arg2)
abbrev XX (c : Dev nD) : FVec Ideal S4x2048x1024 .f32 := m ((c : Thread nD τ).loc main_arg3)
abbrev GM (c : Dev nD) : FVec Ideal S4x1024 .f32 := m ((c : Thread nD τ).loc main_arg4)
abbrev GN (c : Dev nD) : FVec Ideal S1024 .f32 := m ((c : Thread nD τ).loc main_arg5)
abbrev TG (c : Dev nD) : FVec Ideal S4x2048x1024 .f32 := m ((c : Thread nD τ).loc main_arg6)

/-- The grid point's batch and its row of the array. -/
def bOf (t : Fin cfg0.N) : Fin 4 := ⟨t.val / 4, by have : t.val < 16 := t.isLt; omega⟩
def rOf (t : Fin cfg0.N) (r : Fin 512) : Fin 2048 := ⟨t.val % 4 * 512 + r.val, by omega⟩

theorem idx_val : ∀ t : Fin cfg0.N, win0_0.index t = ![t.val / 4, t.val % 4, 0] ∧ win0_1.index t = ![t.val / 4, t.val % 4, 1]
    ∧ win0_2.index t = ![0, 0] ∧ win0_3.index t = ![t.val / 4, t.val % 4, 0]
    ∧ win0_4.index t = ![t.val / 4, 0, 0] ∧ win0_5.index t = ![0, 0]
    ∧ win0_6.index t = ![t.val / 4, t.val % 4, 0] ∧ win0_7.index t = ![t.val / 4, t.val % 4, 0]
    ∧ win0_8.index t = ![0, 0] ∧ win0_9.index t = ![t.val / 4, t.val % 4, 0]
    ∧ win0_10.index t = ![0, 0] :=
  (by decide +kernel : ∀ t : Fin grid0.N, _)

/-! What the host's lines before the call leave in the call's arrays. -/

theorem p_read (c : Dev nD) (b : Fin 4) (r k : Fin 2048) : V m c main_v0 (ix3 b r k) = PR m c (ix3 b r k) := by
  unfold V
  simp only [hostOps0, StableHlo.TRef.binary, StableHlo.TRef.nullary, StableHlo.TRef.unary, StableHlo.TRef.toBuf,
    StableHlo.TRef.ofBuf, cast_eq]
  after_results_simp
  pointwise

theorem w_read (c : Dev nD) (k j : Fin 1024) : V m c main_v1 (ix2 k j) = WO m c (ix2 k j) := by
  unfold V
  simp only [hostOps0, StableHlo.TRef.binary, StableHlo.TRef.nullary, StableHlo.TRef.unary, StableHlo.TRef.toBuf,
    StableHlo.TRef.ofBuf, cast_eq]
  after_results_simp
  pointwise

theorem gm_read (c : Dev nD) (b : Fin 4) (k : Fin 1024) : V m c main_v2 (ix3 b (0 : Fin 1) k) = GM m c (ix2 b k) := by
  unfold V
  simp only [hostOps0, StableHlo.TRef.binary, StableHlo.TRef.nullary, StableHlo.TRef.unary, StableHlo.TRef.toBuf,
    StableHlo.TRef.ofBuf, cast_eq]
  after_results_simp
  pointwise

theorem gn_read (c : Dev nD) (k : Fin 1024) : V m c main_v3 (ix2 (0 : Fin 1) k) = GN m c (ix1 k) := by
  unfold V
  simp only [hostOps0, StableHlo.TRef.binary, StableHlo.TRef.nullary, StableHlo.TRef.unary, StableHlo.TRef.toBuf,
    StableHlo.TRef.ofBuf, cast_eq]
  after_results_simp
  pointwise

/-! The blocks a grid point reads, as entries of the arguments. -/

theorem blk0 (c : Dev nD) (t : Fin cfg0.N) (r : Fin 512) (k : Fin 1024) :
    iblk m c 0 t (ix3 (0 : Fin 1) r k) = MX m c (ix3 (bOf t) (rOf t r) k) := by
  blk_point [iblk, V, idx_val t, bOf, rOf]

theorem blk1 (c : Dev nD) (t : Fin cfg0.N) (r : Fin 512) (k : Fin 1024) :
    iblk m c 1 t (ix3 (0 : Fin 1) r k) = PR m c (ix3 (bOf t) (rOf t r) ⟨1024 + k.val, by omega⟩) := by
  rw [← p_read]
  blk_point [iblk, idx_val t, bOf, rOf]

theorem blk2 (c : Dev nD) (t : Fin cfg0.N) (k j : Fin 1024) : iblk m c 2 t (ix2 k j) = WO m c (ix2 k j) := by
  rw [← w_read]
  blk_point [iblk, idx_val t]

theorem blk3 (c : Dev nD) (t : Fin cfg0.N) (r : Fin 512) (k : Fin 1024) :
    iblk m c 3 t (ix3 (0 : Fin 1) r k) = XX m c (ix3 (bOf t) (rOf t r) k) := by
  blk_point [iblk, V, idx_val t, bOf, rOf]

theorem blk4 (c : Dev nD) (t : Fin cfg0.N) (k : Fin 1024) :
    iblk m c 4 t (ix3 (0 : Fin 1) (0 : Fin 1) k) = GM m c (ix2 (bOf t) k) := by
  rw [← gm_read]
  blk_point [iblk, idx_val t, bOf]

theorem blk5 (c : Dev nD) (t : Fin cfg0.N) (k : Fin 1024) :
    iblk m c 5 t (ix2 (0 : Fin 1) k) = GN m c (ix1 k) := by
  rw [← gn_read]
  blk_point [iblk, idx_val t]

theorem blk6 (c : Dev nD) (t : Fin cfg0.N) (r : Fin 512) (k : Fin 1024) :
    iblk m c 6 t (ix3 (0 : Fin 1) r k) = TG m c (ix3 (bOf t) (rOf t r) k) := by
  blk_point [iblk, V, idx_val t, bOf, rOf]

/-! The values the body works with, as the formulas. -/

section Terms

variable (c : Dev nD) (t : Fin cfg0.N)

abbrev vO : FVec Ideal S512x1024 .f32 := k0_pay5 (iblk m c 1 t) (iblk m c 0 t) (iblk m c 2 t)
abbrev vX : FVec Ideal S512x1024 .f32 := k0_pay7 (iblk m c 3 t)
abbrev vM : FVec Ideal S512x1024 .f32 := k0_pay8 (iblk m c 4 t)

theorem o_at (r : Fin 512) (k : Fin 1024) : vO m c t (ix2 r k) = oAt (MX m c) (PR m c) (WO m c) (bOf t) (rOf t r) k := by
  pointwise [k0_pay5, blk0, blk1, blk2, oAt, gAt]

theorem z_at (r : Fin 512) (k : Fin 1024) : k0_pay9 (F := Ideal) (vO m c t) (vX m c t) (vM m c t) (ix2 r k)
    = zAt (MX m c) (PR m c) (WO m c) (XX m c) (GM m c) (bOf t) (rOf t r) k := by
  pointwise [k0_pay9, k0_pay7, k0_pay8, o_at, blk3, blk4, zAt]

theorem r_at (r : Fin 512) : k0_pay11 (F := Ideal) (vO m c t) (vX m c t) (vM m c t) (ix2 r (0 : Fin 1))
    = rsAt (MX m c) (PR m c) (WO m c) (XX m c) (GM m c) (bOf t) (rOf t r) := by
  pointwise [k0_pay11, z_at, rsAt, msAt]

theorem h_at (r : Fin 512) (k : Fin 1024) : k0_pay12 (F := Ideal) (vO m c t) (vX m c t) (vM m c t) (ix2 r k)
    = hAt (MX m c) (PR m c) (WO m c) (XX m c) (GM m c) (bOf t) (rOf t r) k := by
  pointwise [k0_pay12, z_at, r_at, hAt]

theorem g_at (k : Fin 1024) : k0_pay10 (F := Ideal) (iblk m c 5 t) (ix2 (0 : Fin 1) k) = GN m c (ix1 k) := by
  rw [← blk5 m c t]; pointwise [k0_pay10]

theorem e_at (r : Fin 512) (k : Fin 1024) :
    k0_pay13 (F := Ideal) (vO m c t) (vX m c t) (vM m c t) (iblk m c 5 t) (iblk m c 6 t) (ix2 r k)
    = eAt (MX m c) (PR m c) (WO m c) (XX m c) (GM m c) (GN m c) (TG m c) (bOf t) (rOf t r) k := by
  pointwise [k0_pay13, h_at, g_at, blk6, eAt]

theorem d_at (r : Fin 512) (k : Fin 1024) :
    k0_pay15 (F := Ideal) (vO m c t) (vX m c t) (vM m c t) (iblk m c 5 t) (iblk m c 6 t) (ix2 r k)
    = dAt (MX m c) (PR m c) (WO m c) (XX m c) (GM m c) (GN m c) (TG m c) (bOf t) (rOf t r) k := by
  pointwise [k0_pay15, e_at, dAt]

end Terms

end Cert.Kernel6Ideal.Value
-- ==== Proof.LossSum.lean ====
module

public import proofs.«01_k».proof.Proof.LossOut
public import proofs.«01_k».proof.Proof.NormEq
public import Idealize.ShloMosaic.Lib.Pipeline.ValueKit
public import Idealize.ShloMosaic.Lib.Pointwise
public import Idealize.ShloMosaic.Lib.Claim

@[expose] public section

set_option maxRecDepth 16384

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-! The four result arrays are the formulas: two stores a tile, and two running sums over all tiles. -/

section Terms

variable (c : Dev nD) (t : Fin cfg0.N)

theorem store7 : (outsAt0 m c t.val t.isLt).1 = k0_pay6 (iblk m c 1 t) (iblk m c 0 t) (iblk m c 2 t) := by
  funext y
  by_cases h0 : t.val % 16 = 0
  · rw [outsAt0_A m c t h0]; frame_out
  · rw [outsAt0_B m c t h0]; frame_out

theorem store9 : (outsAt0 m c t.val t.isLt).2.2.1 = k0_pay2 (k0_pay10 (iblk m c 5 t)) (k0_pay11 (vO m c t) (vX m c t) (vM m c t))
    (k0_pay12 (vO m c t) (vX m c t) (vM m c t))
    (k0_pay15 (vO m c t) (vX m c t) (vM m c t) (iblk m c 5 t) (iblk m c 6 t)) := by
  funext y
  by_cases h0 : t.val % 16 = 0
  · rw [outsAt0_A m c t h0]; frame_out
  · rw [outsAt0_B m c t h0]; frame_out

/-- One tile's part of the two sums. -/
def qSum : EReal := ∑ r : Fin 512, qAt (MX m c) (PR m c) (WO m c) (XX m c) (GM m c) (GN m c) (TG m c) (bOf t) (rOf t r)
def gSum (k : Fin 1024) : EReal := ∑ r : Fin 512, dAt (MX m c) (PR m c) (WO m c) (XX m c) (GM m c) (GN m c) (TG m c) (bOf t) (rOf t r) k
  * hAt (MX m c) (PR m c) (WO m c) (XX m c) (GM m c) (bOf t) (rOf t r) k

theorem zero3 (j : S1x128.Idx) : k0_pay3 (F := Ideal) j = (0 : EReal) := by pointwise [k0_pay3]
theorem zero4 (j : S1x1024.Idx) : k0_pay4 (F := Ideal) j = (0 : EReal) := by pointwise [k0_pay4]

theorem pay14 (acc : FVec Ideal S1x128 .f32) (j : S1x128.Idx) :
    k0_pay14 (F := Ideal) (vO m c t) (vX m c t) (vM m c t) (iblk m c 5 t) (iblk m c 6 t) acc j
      = acc j + Ideal.ofBits .f32 0x3F000000#32 * qSum m c t := by
  idx_vars j
  obtain rfl : j0 = 0 := Subsingleton.elim _ _
  pointwise [k0_pay14, e_at, qSum, qAt]

theorem pay1 (acc : FVec Ideal S1x1024 .f32) (j : S1x1024.Idx) :
    k0_pay1 (F := Ideal) (k0_pay16 acc) (k0_pay17 (vO m c t) (vX m c t) (vM m c t) (iblk m c 5 t) (iblk m c 6 t)) j
      = acc j + gSum m c t (j 1) := by
  idx_vars j
  obtain rfl : j0 = 0 := Subsingleton.elim _ _
  pointwise [k0_pay1, k0_pay16, k0_pay17, d_at, h_at, gSum]

end Terms

/-- Four batches of 2048 rows summed in sixteen tiles of 512. -/
theorem sum_all (g : Fin 16 → EReal) (f : Fin 4 → Fin 2048 → EReal)
    (h : ∀ s : Fin 16, g s = ∑ r : Fin 512, f ⟨s.val / 4, by omega⟩ ⟨s.val % 4 * 512 + r.val, by omega⟩) :
    ∑ s, g s = ∑ b, ∑ r, f b r := by
  rw [Fin.sum_univ_tiles 4 4 rfl]
  refine Fin.sum_fin_congr fun b => ?_
  rw [Fin.sum_univ_tiles 4 512 rfl]
  refine Fin.sum_fin_congr fun s => ?_
  refine (h _).trans (Fin.sum_fin_congr fun r => ?_)
  refine congrArg₂ f (Fin.ext ?_) (Fin.ext ?_)
  · show (b.val * 4 + s.val) / 4 = b.val
    omega
  · show (b.val * 4 + s.val) % 4 * 512 + r.val = s.val * 512 + r.val
    omega

theorem bOf_flush (t : Fin cfg0.N) (hf : t.val % 16 = 15) (s : Fin 16) :
    bOf ⟨16 * (t.val / 16) + s.val, Pipeline.run_point_lt_of_flush t hf s⟩ = ⟨s.val / 4, by omega⟩ := by
  have ht : t.val < 16 := t.isLt
  refine Fin.ext ?_
  show (16 * (t.val / 16) + s.val) / 4 = s.val / 4
  omega

theorem rOf_flush (t : Fin cfg0.N) (hf : t.val % 16 = 15) (s : Fin 16) (r : Fin 512) :
    rOf ⟨16 * (t.val / 16) + s.val, Pipeline.run_point_lt_of_flush t hf s⟩ r = ⟨s.val % 4 * 512 + r.val, by omega⟩ := by
  have ht : t.val < 16 := t.isLt
  refine Fin.ext ?_
  show (16 * (t.val / 16) + s.val) % 4 * 512 + r.val = s.val % 4 * 512 + r.val
  omega

theorem pos_half_bits : Ideal.ofBits .f32 0x3F000000#32 = ((1 / 2 : ℝ) : EReal) := by
  simp [Ideal.ofBits, Ideal.ieee]; norm_num
  rw [← EReal.coe_mul]; norm_num

theorem final7 (c : Dev nD) : (dats m 0 c).arrAt 7 cfg0.N = oA (MX m c) (PR m c) (WO m c) := by
  refine (dats m 0 c).arrAt_eq_of_covers 7 _ (by decide +kernel) fun t _ y => ?_
  blk_simp
  rw [after0_7, store7 m c t]
  pointwise [k0_pay6, o_at, oA]
  blk_point [idx_val t, bOf, rOf]

theorem final8 (c : Dev nD) : (dats m 0 c).arrAt 8 cfg0.N = lossA (MX m c) (PR m c) (WO m c) (XX m c) (GM m c) (GN m c) (TG m c) := by
  refine (dats m 0 c).arrAt_eq_of_covers 8 _ (by decide +kernel) fun t hf y => ?_
  blk_simp
  rw [after0_8, Pipeline.eq_sum_fin_of_reset_step_apply_of_flush (fun n h => (outsAt0 m c n h).2.1) 16 (fun _ => (0 : EReal))
      (fun t j => Ideal.ofBits .f32 0x3F000000#32 * qSum m c t)
      (fun t h j => by rw [outsAt0_A m c t h]; frame_out; rw [pay14, zero3])
      (fun t h j => by rw [outsAt0_B m c t h]; frame_out; rw [pay14]) t ((flush0_8 t).mp hf) _, zero_add]
  rw [lossA, pos_half_bits]
  refine (Fin.sum_fin_congr fun s => mul_comm _ _).trans ((Cert.Norm.sum_mul _ (1 / 2) (by norm_num)).trans
    ((mul_comm _ _).trans (congrArg (((1 / 2 : ℝ) : EReal) * ·) (sum_all _ _ fun s => Fin.sum_fin_congr fun r => ?_))))
  rw [bOf_flush t ((flush0_8 t).mp hf) s, rOf_flush t ((flush0_8 t).mp hf) s r]

/-- The array entry a grid point's block entry is. -/
theorem emb9 (t : Fin cfg0.N) (y : ((cfg0.win 9).xblock (cfg0.grid.coords t)).Idx) (f : FVec Ideal S4x2048x1024 .f32) :
    f (ix3 (bOf t) (rOf t (y 1)) (y 2)) = f ((win0_9.blk t).view.emb y) := by
  blk_point [idx_val t, bOf, rOf]

theorem emb10 (t : Fin cfg0.N) (y : ((cfg0.win 10).xblock (cfg0.grid.coords t)).Idx) (f : FVec Ideal S1x1024 .f32) :
    f (ix2 (0 : Fin 1) (y 1)) = f ((win0_10.blk t).view.emb y) := by
  blk_point [idx_val t]

theorem final9 (c : Dev nD) : (dats m 0 c).arrAt 9 cfg0.N = dxA (MX m c) (PR m c) (WO m c) (XX m c) (GM m c) (GN m c) (TG m c) := by
  refine (dats m 0 c).arrAt_eq_of_covers 9 _ (by decide +kernel) fun t _ y => ?_
  blk_simp
  rw [after0_9, store9 m c t]
  pointwise [k0_pay2, r_at, h_at, d_at, g_at]
  refine Eq.trans ?_ (emb9 t y _)
  rfl

theorem final10 (c : Dev nD) : (dats m 0 c).arrAt 10 cfg0.N = dgA (MX m c) (PR m c) (WO m c) (XX m c) (GM m c) (GN m c) (TG m c) := by
  refine (dats m 0 c).arrAt_eq_of_covers 10 _ (by decide +kernel) fun t hf y => ?_
  blk_simp
  rw [after0_10, Pipeline.eq_sum_fin_of_reset_step_apply_of_flush (fun n h => (outsAt0 m c n h).2.2.2) 16 (fun _ => (0 : EReal))
      (fun t j => gSum m c t (j 1))
      (fun t h j => by rw [outsAt0_A m c t h]; frame_out; rw [pay1, zero4])
      (fun t h j => by rw [outsAt0_B m c t h]; frame_out; rw [pay1]) t ((flush0_10 t).mp hf) _, zero_add]
  refine Eq.trans ?_ (emb10 t y _)
  refine sum_all _ (fun b r => dAt (MX m c) (PR m c) (WO m c) (XX m c) (GM m c) (GN m c) (TG m c) b r _
    * hAt (MX m c) (PR m c) (WO m c) (XX m c) (GM m c) b r _) fun s => Fin.sum_fin_congr fun r => ?_
  rw [bOf_flush t ((flush0_10 t).mp hf) s, rOf_flush t ((flush0_10 t).mp hf) s r]
  rfl

end Cert.Kernel6Ideal.Value
-- ==== Proof.SmallOut.lean ====
module

public import proofs.«01_k».proof.Proof.Gen.Kernel7Ideal.Value
public import Idealize.ShloMosaic.Lib.Pipeline.ValueKit
public import Idealize.ShloMosaic.Lib.Pointwise
public import Idealize.ShloMosaic.Lib.Claim

@[expose] public section

set_option maxRecDepth 16384

noncomputable section

namespace Cert.Kernel7Ideal.Value

open Cert.Kernel7Ideal Cert.Kernel7Ideal.Gen Idealize.ShloMosaic Idealize.ShloMosaic.TcCoe Idealize.SL.Sem
open Idealize.ShloMosaic.Pipeline (Dat)

/-! The bias table's and the sinks' gradients, as formulas of the argument arrays. -/

section Spec

variable (db : FVec Ideal S4x8x128x256 .f32) (ds : FVec Ideal S4x8x128 .f32) (bk : IVec S128x256 32)

/-- A position's gradient, summed over the sequences. -/
def accAt (h : Fin 8) (q : Fin 128) (k : Fin 256) : EReal := ∑ b : Fin 4, db (ix4 b h q k)

/-- The bias table's gradient: the positions whose bucket is the row's. -/
def gbA : FVec Ideal S8x32x128 .f32 := fun i =>
  ∑ q : Fin 128, ∑ k : Fin 256, if bk (ix2 q k) = BitVec.ofNat 32 (i 1).val then accAt db (i 0) q k else 0
/-- The sinks' gradient. -/
def gsA : FVec Ideal S8x1x128 .f32 := fun i => ∑ b : Fin 4, ds (ix3 b (i 0) (i 2))

end Spec

variable (m : (ℓ : Loc nD τ sig) → Buf (Elt Ideal) ℓ)

/-- The arguments at their types. -/
abbrev DB (c : Dev nD) : FVec Ideal S4x8x128x256 .f32 := m ((c : Thread nD τ).loc main_arg0)
abbrev DS (c : Dev nD) : FVec Ideal S4x8x128 .f32 := m ((c : Thread nD τ).loc main_arg1)
abbrev BK (c : Dev nD) : IVec S128x256 32 := m ((c : Thread nD τ).loc main_arg2)

/-- The grid point's head. -/
def hOf (t : Fin cfg0.N) : Fin 8 := ⟨t.val, t.isLt⟩

theorem idx_val : ∀ t : Fin cfg0.N, win0_0.index t = ![0, t.val, 0, 0] ∧ win0_1.index t = ![0, t.val, 0, 0]
    ∧ win0_2.index t = ![0, 0] ∧ win0_3.index t = ![t.val, 0, 0] ∧ win0_4.index t = ![t.val, 0, 0] :=
  (by decide +kernel : ∀ t : Fin grid0.N, _)

theorem ds_read (c : Dev nD) (b : Fin 4) (h : Fin 8) (l : Fin 128) : V m c main_v0 (ix4 b h (0 : Fin 1) l) = DS m c (ix3 b h l) := by
  unfold V
  simp only [hostOps0, StableHlo.TRef.binary, StableHlo.TRef.nullary, StableHlo.TRef.unary, StableHlo.TRef.toBuf,
    StableHlo.TRef.ofBuf, cast_eq]
  after_results_simp
  pointwise

theorem blk0 (c : Dev nD) (t : Fin cfg0.N) (b : Fin 4) (q : Fin 128) (k : Fin 256) :
    iblk m c 0 t (ix4 b (0 : Fin 1) q k) = DB m c (ix4 b (hOf t) q k) := by
  blk_point [iblk, V, idx_val t, hOf]

theorem blk1 (c : Dev nD) (t : Fin cfg0.N) (b : Fin 4) (l : Fin 128) :
    iblk m c 1 t (ix4 b (0 : Fin 1) (0 : Fin 1) l) = DS m c (ix3 b (hOf t) l) := by
  rw [← ds_read]
  blk_point [iblk, idx_val t, hOf]

theorem blk2 (c : Dev nD) (t : Fin cfg0.N) (q : Fin 128) (k : Fin 256) :
    iblk m c 2 t (ix2 q k) = BK m c (ix2 q k) := by
  blk_point [iblk, V, idx_val t]

theorem acc_at (c : Dev nD) (t : Fin cfg0.N) (q : Fin 128) (k : Fin 256) :
    k0_pay46 (F := Ideal) (iblk m c 0 t) (iblk m c 1 t) (iblk m c 2 t) (ix2 q k) = accAt (DB m c) (hOf t) q k := by
  pointwise [k0_pay46, k0_pay2, accAt]
  rw [Fin.sum_univ_four, blk0, blk0, blk0, blk0]

/-- A choice by an equality of words, as a case distinction. -/
theorem select_eq (a b : BitVec 32) (x y : EReal) :
    Scalar.select (IntOp.cmpi CmpIPredicate.eq a b) x y = if a = b then x else y := by
  by_cases h : a = b
  · simp [Scalar.select, IntOp.cmpi, h]
  · have e : (a == b) = false := by simp [h]
    simp [Scalar.select, IntOp.cmpi, h, e]

/-- The row of one bucket: the products with its indicator, summed over the tile. -/
theorem row_sum (f : FVec Ideal S4x1x128x256 .f32) (g : IVec S128x256 32) (db : FVec Ideal S4x8x128x256 .f32)
    (bk : IVec S128x256 32) (hd : Fin 8)
    (hf : ∀ b q k, f (ix4 b (0 : Fin 1) q k) = db (ix4 b hd q k)) (hg : ∀ q k, g (ix2 q k) = bk (ix2 q k))
    (n k : Nat) (h : k = n) :
    (∑ x : Fin 128, ∑ y : Fin 256, Scalar.select (IntOp.cmpi CmpIPredicate.eq (g (ix2 x y)) (BitVec.ofNat 32 n))
      (f (ix4 (0 : Fin 4) (0 : Fin 1) x y) + f (ix4 (1 : Fin 4) (0 : Fin 1) x y)
        + f (ix4 (2 : Fin 4) (0 : Fin 1) x y) + f (ix4 (3 : Fin 4) (0 : Fin 1) x y)) (0 : EReal))
      = ∑ x : Fin 128, ∑ y : Fin 256, if bk (ix2 x y) = BitVec.ofNat 32 k then accAt db hd x y else 0 := by
  subst h
  refine Finset.sum_congr rfl fun x _ => Finset.sum_congr rfl fun y _ => ?_
  rw [select_eq, hg, accAt, Fin.sum_univ_four, hf, hf, hf, hf]

set_option maxHeartbeats 0 in
theorem out3 (c : Dev nD) (t : Fin cfg0.N) (y : S1x32x128.Idx) :
    out0_3 (F := Ideal) (iblk m c 0 t) (iblk m c 1 t) (iblk m c 2 t) y = gbA (DB m c) (BK m c) (ix3 (hOf t) (y 1) (y 2)) := by
  canon_tiles z h using cover0_3 ..
  all_goals
    open_payloads
    pointwise [gbA]
    refine row_sum (iblk m c 0 t) (iblk m c 2 t) (DB m c) (BK m c) (hOf t) (fun b q k => blk0 m c t b q k) (fun q k => blk2 m c t q k) _ _ ?_
    omega

theorem sink_sum (f : FVec Ideal S4x1x1x128 .f32) (ds : FVec Ideal S4x8x128 .f32) (hd : Fin 8)
    (hf : ∀ b l, f (ix4 b (0 : Fin 1) (0 : Fin 1) l) = ds (ix3 b hd l)) (l k : Fin 128) (h : k = l) :
    f (ix4 (0 : Fin 4) (0 : Fin 1) (0 : Fin 1) l) + f (ix4 (1 : Fin 4) (0 : Fin 1) (0 : Fin 1) l)
      + f (ix4 (2 : Fin 4) (0 : Fin 1) (0 : Fin 1) l) + f (ix4 (3 : Fin 4) (0 : Fin 1) (0 : Fin 1) l)
      = ∑ x : Fin 4, ds (ix3 x hd k) := by
  subst h
  rw [Fin.sum_univ_four, hf, hf, hf, hf]

theorem out4 (c : Dev nD) (t : Fin cfg0.N) (y : S1x1x128.Idx) :
    out0_4 (F := Ideal) (iblk m c 0 t) (iblk m c 1 t) (iblk m c 2 t) y = gsA (DS m c) (ix3 (hOf t) (0 : Fin 1) (y 2)) := by
  canon_tiles z h using cover0_4 ..
  pointwise [k0_pay4, k0_pay3, gsA]
  exact sink_sum (iblk m c 1 t) (DS m c) (hOf t) (fun b l => blk1 m c t b l) (z 2) (y 2) (Fin.ext h2)

theorem final3 (c : Dev nD) : (dats m 0 c).arrAt 3 cfg0.N = gbA (DB m c) (BK m c) := by
  refine (dats m 0 c).arrAt_eq_of_covers 3 _ (by decide +kernel) fun t _ y => ?_
  blk_simp
  rw [after0_3, out3]
  blk_point [idx_val t, hOf]

theorem final4 (c : Dev nD) : (dats m 0 c).arrAt 4 cfg0.N = gsA (DS m c) := by
  refine (dats m 0 c).arrAt_eq_of_covers 4 _ (by decide +kernel) fun t _ y => ?_
  blk_simp
  rw [after0_4, out4]
  blk_point [idx_val t, hOf]

end Cert.Kernel7Ideal.Value
-- ==== Proof.SmallEq.lean ====
module

public import proofs.«01_k».proof.Proof.Gen.Reference7Ideal.Read
public import proofs.«01_k».proof.Proof.Gen.Reference7Ideal.Run
public import proofs.«01_k».proof.Proof.SmallOut
public import Idealize.ShloMosaic.Lib.Pointwise

@[expose] public section

set_option maxRecDepth 16384

noncomputable section

namespace Cert.Small

open Idealize.ShloMosaic Idealize.ShloMosaic.TcCoe Idealize.SL.Sem
open Cert.Reference7Ideal Cert.Reference7Ideal.Read
open Cert.Kernel7Ideal.Value (accAt gbA gsA)

/-! The reference's two results, read at an index, are the kernel's formulas. -/

variable (x0 : FVec Ideal S4x8x128x256 .f32) (x1 : FVec Ideal S4x8x128 .f32) (x2 : IVec S128x256 32)

theorem acc_ref (h : Fin 8) (q : Fin 128) (k : Fin 256) : val_main_v10 (F := Ideal) x0 (ix3 h q k) = accAt x0 h q k := by
  pointwise [val_main_v10, val_main_cst_2, accAt]

/-- The flat position of a tile's entry. -/
def flat (q : Fin 128) (k : Fin 256) : Fin 32768 := ⟨q.val * 256 + k.val, by omega⟩

theorem accT_ref (h : Fin 8) (q : Fin 128) (k : Fin 256) :
    val_main_v12 (F := Ideal) x0 (ix2 (flat q k) h) = accAt x0 h q k := by
  rw [← acc_ref]
  pointwise [val_main_v12, val_main_v11, flat]

theorem ind_ref (q : Fin 128) (k : Fin 256) (n : Fin 32) :
    val_main_v3 (F := Ideal) x2 (ix2 (flat q k) n) = if x2 (ix2 q k) = BitVec.ofNat 32 n.val then 1 else 0 := by
  pointwise [val_main_v3, val_main_call0_v4, val_main_call0_v3, val_main_call0_v2, val_main_call0_v1, val_main_call0_v0, val_main_v2, flat]
  by_cases h : x2 (ix2 q k) = BitVec.ofNat 32 n.val
  · simp [FloatOps.uitofp, IntOp.cmpi, h]
  · have e : (x2 (ix2 q k) == BitVec.ofNat 32 n.val) = false := by simp [h]
    simp [FloatOps.uitofp, IntOp.cmpi, h, e]

theorem gb_ref : val_main_v17 (F := Ideal) x0 x2 = gbA x0 x2 := by
  funext i; idx_vars i
  pointwise [val_main_v17, val_main_v16, val_main_v15, val_main_v14, val_main_v13, gbA]
  refine (Fin.sum_univ_tiles 128 256 rfl _).trans (Fin.sum_fin_congr fun q => Fin.sum_fin_congr fun k => ?_)
  refine (congrArg₂ (· * ·) (accT_ref x0 i0 q k) (ind_ref x2 q k i1)).trans ?_
  split
  · exact mul_one _
  · exact mul_zero _

theorem gs_ref : val_main_v18 (F := Ideal) x1 = gsA x1 := by
  funext i; idx_vars i
  pointwise [val_main_v18, val_main_v9, val_main_cst_1, gsA]

/-- The reference's run, its results by name. -/
theorem run_r (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      (r.2.mem ((c.tc : Thread nD τ).loc main_v17) = val_main_v17 (F := Ideal) (m ((c.tc : Thread nD τ).loc main_arg0)) (m ((c.tc : Thread nD τ).loc main_arg2))
      ∧ r.2.mem ((c.tc : Thread nD τ).loc main_v18) = val_main_v18 (F := Ideal) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨⟨(h c).1.trans (val_main_v17_eq ..), (h c).2.1.trans (val_main_v18_eq ..)⟩, (h c).2.2⟩)
    (Cert.Reference7Ideal.Value.run (F := Ideal) m g)

end Cert.Small
-- ==== Proof.ExitOut.lean ====
module

public import proofs.«01_k».proof.Proof.Gen.Kernel8Ideal.Value
public import Idealize.ShloMosaic.Lib.Pipeline.ValueKit
public import Idealize.ShloMosaic.Lib.Pointwise
public import Idealize.ShloMosaic.Lib.Claim

@[expose] public section

set_option maxRecDepth 16384

noncomputable section

namespace Cert.Kernel8Ideal.Value

open Cert.Kernel8Ideal Cert.Kernel8Ideal.Gen Idealize.ShloMosaic Idealize.ShloMosaic.TcCoe Idealize.SL.Sem
open Idealize.ShloMosaic.Pipeline (Dat)

/-! One layer's exit and the next one's entry: what each of the four result arrays holds, as formulas of the argument arrays. -/

section Spec

variable (mx : FVec Ideal S4x2048x1024 .f32) (pr : FVec Ideal S4x2048x3456 .f32) (wo : FVec Ideal S1024x1024 .f32)
  (x : FVec Ideal S4x2048x1024 .f32) (gm : FVec Ideal S4x1024 .f32) (gn : FVec Ideal S1024 .f32) (sc sh : FVec Ideal S4x1024 .f32)
  (wi : FVec Ideal S1024x2048 .f32)

/-- The gate times its logistic function, at one entry of the projection. -/
def gAt (b : Fin 4) (r : Fin 2048) (k : Fin 1024) : EReal :=
  pr (ix3 b r ⟨k.val, by omega⟩) * Ideal.div 1 (1 + Ideal.exp (0 - pr (ix3 b r ⟨k.val, by omega⟩)))
/-- The block's output. -/
def oAt (b : Fin 4) (r : Fin 2048) (k : Fin 1024) : EReal := ∑ j : Fin 1024, mx (ix3 b r j) * gAt pr b r j * wo (ix2 j k)
/-- The row after the residual. -/
def zAt (b : Fin 4) (r : Fin 2048) (k : Fin 1024) : EReal := x (ix3 b r k) + gm (ix2 b k) * oAt mx pr wo b r k
def rsAt (b : Fin 4) (r : Fin 2048) : EReal :=
  Ideal.rsqrt (Ideal.div (∑ k : Fin 1024, zAt mx pr wo x gm b r k * zAt mx pr wo x gm b r k) (Ideal.ofBits .f32 0x44800000#32)
    + Ideal.ofBits .f32 0x358637BD#32)
/-- The normed row, scaled and shifted. -/
def hAt (b : Fin 4) (r : Fin 2048) (k : Fin 1024) : EReal :=
  zAt mx pr wo x gm b r k * rsAt mx pr wo x gm b r * gn (ix1 k) * (1 + sc (ix2 b k)) + sh (ix2 b k)

def oA : FVec Ideal S4x2048x1024 .bf16 := fun i => oAt mx pr wo (i 0) (i 1) (i 2)
def zA : FVec Ideal S4x2048x1024 .f32 := fun i => zAt mx pr wo x gm (i 0) (i 1) (i 2)
def hA : FVec Ideal S4x2048x1024 .bf16 := fun i => hAt mx pr wo x gm gn sc sh (i 0) (i 1) (i 2)
/-- The next layer's projection. -/
def pA : FVec Ideal S4x2048x2048 .bf16 := fun i =>
  ∑ k : Fin 1024, hAt mx pr wo x gm gn sc sh (i 0) (i 1) k * wi (ix2 k (i 2))

end Spec

variable (m : (ℓ : Loc nD τ sig) → Buf (Elt Ideal) ℓ)

/-- The arguments at their types. -/
abbrev MX (c : Dev nD) : FVec Ideal S4x2048x1024 .f32 := m ((c : Thread nD τ).loc main_arg0)
abbrev PR (c : Dev nD) : FVec Ideal S4x2048x3456 .f32 := m ((c : Thread nD τ).loc main_arg1)
abbrev WO (c : Dev nD) : FVec Ideal S1024x1024 .f32 := m ((c : Thread nD τ).loc main_arg2)
abbrev XX (c : Dev nD) : FVec Ideal S4x2048x1024 .f32 := m ((c : Thread nD τ).loc main_arg3)
abbrev GM (c : Dev nD) : FVec Ideal S4x1024 .f32 := m ((c : Thread nD τ).loc main_arg4)
abbrev GN (c : Dev nD) : FVec Ideal S1024 .f32 := m ((c : Thread nD τ).loc main_arg5)
abbrev SC (c : Dev nD) : FVec Ideal S4x1024 .f32 := m ((c : Thread nD τ).loc main_arg6)
abbrev SH (c : Dev nD) : FVec Ideal S4x1024 .f32 := m ((c : Thread nD τ).loc main_arg7)
abbrev WI (c : Dev nD) : FVec Ideal S1024x2048 .f32 := m ((c : Thread nD τ).loc main_arg8)

/-- The grid point's batch and its row of the array. -/
def bOf (t : Fin cfg0.N) : Fin 4 := ⟨t.val / 4, by have : t.val < 16 := t.isLt; omega⟩
def rOf (t : Fin cfg0.N) (r : Fin 512) : Fin 2048 := ⟨t.val % 4 * 512 + r.val, by omega⟩

theorem idx_val : ∀ t : Fin cfg0.N, win0_0.index t = ![t.val / 4, t.val % 4, 0] ∧ win0_1.index t = ![t.val / 4, t.val % 4, 0]
    ∧ win0_2.index t = ![t.val / 4, t.val % 4, 0] ∧ win0_3.index t = ![0, 0]
    ∧ win0_4.index t = ![t.val / 4, t.val % 4, 0] ∧ win0_5.index t = ![t.val / 4, 0, 0] ∧ win0_6.index t = ![0, 0]
    ∧ win0_7.index t = ![t.val / 4, 0, 0] ∧ win0_8.index t = ![t.val / 4, 0, 0] ∧ win0_9.index t = ![0, 0]
    ∧ win0_10.index t = ![t.val / 4, t.val % 4, 0] ∧ win0_11.index t = ![t.val / 4, t.val % 4, 0]
    ∧ win0_12.index t = ![t.val / 4, t.val % 4, 0] ∧ win0_13.index t = ![t.val / 4, t.val % 4, 0] :=
  (by decide +kernel : ∀ t : Fin grid0.N, _)

/-! What the host's lines before the call leave in the call's arrays. -/

theorem m0_read (c : Dev nD) (b : Fin 4) (r : Fin 2048) (k : Fin 512) : V m c main_v1 (ix3 b r k) = MX m c (ix3 b r ⟨k.val, by omega⟩) := by
  unfold V
  simp only [hostOps0, StableHlo.TRef.binary, StableHlo.TRef.nullary, StableHlo.TRef.unary, StableHlo.TRef.toBuf,
    StableHlo.TRef.ofBuf, cast_eq]
  after_results_simp
  pointwise

theorem m1_read (c : Dev nD) (b : Fin 4) (r : Fin 2048) (k : Fin 512) : V m c main_v3 (ix3 b r k) = MX m c (ix3 b r ⟨512 + k.val, by omega⟩) := by
  unfold V
  simp only [hostOps0, StableHlo.TRef.binary, StableHlo.TRef.nullary, StableHlo.TRef.unary, StableHlo.TRef.toBuf,
    StableHlo.TRef.ofBuf, cast_eq]
  after_results_simp
  pointwise

theorem p_read (c : Dev nD) (b : Fin 4) (r : Fin 2048) (k : Fin 3456) : V m c main_v4 (ix3 b r k) = PR m c (ix3 b r k) := by
  unfold V
  simp only [hostOps0, StableHlo.TRef.binary, StableHlo.TRef.nullary, StableHlo.TRef.unary, StableHlo.TRef.toBuf,
    StableHlo.TRef.ofBuf, cast_eq]
  after_results_simp
  pointwise

theorem wo_read (c : Dev nD) (k j : Fin 1024) : V m c main_v5 (ix2 k j) = WO m c (ix2 k j) := by
  unfold V
  simp only [hostOps0, StableHlo.TRef.binary, StableHlo.TRef.nullary, StableHlo.TRef.unary, StableHlo.TRef.toBuf,
    StableHlo.TRef.ofBuf, cast_eq]
  after_results_simp
  pointwise

theorem gm_read (c : Dev nD) (b : Fin 4) (k : Fin 1024) : V m c main_v6 (ix3 b (0 : Fin 1) k) = GM m c (ix2 b k) := by
  unfold V
  simp only [hostOps0, StableHlo.TRef.binary, StableHlo.TRef.nullary, StableHlo.TRef.unary, StableHlo.TRef.toBuf,
    StableHlo.TRef.ofBuf, cast_eq]
  after_results_simp
  pointwise

theorem gn_read (c : Dev nD) (k : Fin 1024) : V m c main_v7 (ix2 (0 : Fin 1) k) = GN m c (ix1 k) := by
  unfold V
  simp only [hostOps0, StableHlo.TRef.binary, StableHlo.TRef.nullary, StableHlo.TRef.unary, StableHlo.TRef.toBuf,
    StableHlo.TRef.ofBuf, cast_eq]
  after_results_simp
  pointwise

theorem sc_read (c : Dev nD) (b : Fin 4) (k : Fin 1024) : V m c main_v8 (ix3 b (0 : Fin 1) k) = SC m c (ix2 b k) := by
  unfold V
  simp only [hostOps0, StableHlo.TRef.binary, StableHlo.TRef.nullary, StableHlo.TRef.unary, StableHlo.TRef.toBuf,
    StableHlo.TRef.ofBuf, cast_eq]
  after_results_simp
  pointwise

theorem sh_read (c : Dev nD) (b : Fin 4) (k : Fin 1024) : V m c main_v9 (ix3 b (0 : Fin 1) k) = SH m c (ix2 b k) := by
  unfold V
  simp only [hostOps0, StableHlo.TRef.binary, StableHlo.TRef.nullary, StableHlo.TRef.unary, StableHlo.TRef.toBuf,
    StableHlo.TRef.ofBuf, cast_eq]
  after_results_simp
  pointwise

theorem wi_read (c : Dev nD) (k : Fin 1024) (j : Fin 2048) : V m c main_v10 (ix2 k j) = WI m c (ix2 k j) := by
  unfold V
  simp only [hostOps0, StableHlo.TRef.binary, StableHlo.TRef.nullary, StableHlo.TRef.unary, StableHlo.TRef.toBuf,
    StableHlo.TRef.ofBuf, cast_eq]
  after_results_simp
  pointwise

/-! The blocks a grid point reads, as entries of the arguments. -/

theorem blk0 (c : Dev nD) (t : Fin cfg0.N) (r : Fin 512) (k : Fin 512) :
    iblk m c 0 t (ix3 (0 : Fin 1) r k) = MX m c (ix3 (bOf t) (rOf t r) ⟨k.val, by omega⟩) := by
  rw [← m0_read]
  blk_point [iblk, idx_val t, bOf, rOf]

theorem blk1 (c : Dev nD) (t : Fin cfg0.N) (r : Fin 512) (k : Fin 512) :
    iblk m c 1 t (ix3 (0 : Fin 1) r k) = MX m c (ix3 (bOf t) (rOf t r) ⟨512 + k.val, by omega⟩) := by
  rw [← m1_read]
  blk_point [iblk, idx_val t, bOf, rOf]

/-- The gate's block: the array's columns end inside the last block of this width, and the block read is the first. -/
abbrev vP (c : Dev nD) (t : Fin cfg0.N) : FVec Ideal S1x512x1024 .bf16 := X0_2 m c t

theorem blk2 (c : Dev nD) (t : Fin cfg0.N) (r : Fin 512) (k : Fin 1024) :
    vP m c t (ix3 (0 : Fin 1) r k) = PR m c (ix3 (bOf t) (rOf t r) ⟨k.val, by omega⟩) := by
  rw [← p_read]
  unfold vP X0_2 Pipeline.Window.fill
  rw [dif_pos (moved0_2 t _)]
  blk_point [iblk, idx_val t, bOf, rOf]

theorem blk3 (c : Dev nD) (t : Fin cfg0.N) (k j : Fin 1024) :
    iblk m c 3 t (ix2 k j) = WO m c (ix2 k j) := by
  rw [← wo_read]
  blk_point [iblk, idx_val t, bOf, rOf]

theorem blk4 (c : Dev nD) (t : Fin cfg0.N) (r : Fin 512) (k : Fin 1024) :
    iblk m c 4 t (ix3 (0 : Fin 1) r k) = XX m c (ix3 (bOf t) (rOf t r) k) := by
  blk_point [iblk, V, idx_val t, bOf, rOf]

theorem blk5 (c : Dev nD) (t : Fin cfg0.N) (k : Fin 1024) :
    iblk m c 5 t (ix3 (0 : Fin 1) (0 : Fin 1) k) = GM m c (ix2 (bOf t) k) := by
  rw [← gm_read]
  blk_point [iblk, idx_val t, bOf, rOf]

theorem blk6 (c : Dev nD) (t : Fin cfg0.N) (k : Fin 1024) :
    iblk m c 6 t (ix2 (0 : Fin 1) k) = GN m c (ix1 k) := by
  rw [← gn_read]
  blk_point [iblk, idx_val t, bOf, rOf]

theorem blk7 (c : Dev nD) (t : Fin cfg0.N) (k : Fin 1024) :
    iblk m c 7 t (ix3 (0 : Fin 1) (0 : Fin 1) k) = SC m c (ix2 (bOf t) k) := by
  rw [← sc_read]
  blk_point [iblk, idx_val t, bOf, rOf]

theorem blk8 (c : Dev nD) (t : Fin cfg0.N) (k : Fin 1024) :
    iblk m c 8 t (ix3 (0 : Fin 1) (0 : Fin 1) k) = SH m c (ix2 (bOf t) k) := by
  rw [← sh_read]
  blk_point [iblk, idx_val t, bOf, rOf]

theorem blk9 (c : Dev nD) (t : Fin cfg0.N) (k : Fin 1024) (j : Fin 2048) :
    iblk m c 9 t (ix2 k j) = WI m c (ix2 k j) := by
  rw [← wi_read]
  blk_point [iblk, idx_val t, bOf, rOf]

/-! The values the body works with, as the formulas. -/

section Terms

variable (c : Dev nD) (t : Fin cfg0.N)

abbrev vZ : FVec Ideal S512x1024 .f32 :=
  k0_pay4 (vP m c t) (iblk m c 0 t) (iblk m c 1 t) (iblk m c 3 t) (iblk m c 4 t) (iblk m c 5 t)

theorem o_at (r : Fin 512) (k : Fin 1024) : k0_pay2 (F := Ideal) (vP m c t) (iblk m c 0 t) (iblk m c 1 t) (iblk m c 3 t) (ix2 r k)
    = oAt (MX m c) (PR m c) (WO m c) (bOf t) (rOf t r) k := by
  pointwise [k0_pay2, blk0, blk1, blk2, blk3, oAt, gAt]
  exact (Fin.sum_univ_two_halves (M := EReal) 512 512 rfl fun j : Fin 1024 =>
    MX m c (ix3 (bOf t) (rOf t r) j) * gAt (PR m c) (bOf t) (rOf t r) j * WO m c (ix2 j k)).symm

theorem z_at (r : Fin 512) (k : Fin 1024) : vZ m c t (ix2 r k)
    = zAt (MX m c) (PR m c) (WO m c) (XX m c) (GM m c) (bOf t) (rOf t r) k := by
  pointwise [k0_pay4, o_at, blk4, blk5, zAt]

theorem h_at (r : Fin 512) (k : Fin 1024) : k0_pay6 (F := Ideal) (vZ m c t) (iblk m c 6 t) (iblk m c 7 t) (iblk m c 8 t) (ix2 r k)
    = hAt (MX m c) (PR m c) (WO m c) (XX m c) (GM m c) (GN m c) (SC m c) (SH m c) (bOf t) (rOf t r) k := by
  pointwise [k0_pay6, z_at, blk6, blk7, blk8, hAt, rsAt]

theorem p_at (r : Fin 512) (k : Fin 2048) :
    k0_pay8 (F := Ideal) (vZ m c t) (iblk m c 6 t) (iblk m c 7 t) (iblk m c 8 t) (iblk m c 9 t) (ix2 r k)
    = pA (MX m c) (PR m c) (WO m c) (XX m c) (GM m c) (GN m c) (SC m c) (SH m c) (WI m c) (ix3 (bOf t) (rOf t r) k) := by
  pointwise [k0_pay8, h_at, blk9, pA]

theorem store10 : (outsAt0 m c t).1 = k0_pay5 (vZ m c t) := by
  funext y
  unfold outsAt0
  frame_out

theorem store11 : (outsAt0 m c t).2.1 = k0_pay3 (vP m c t) (iblk m c 0 t) (iblk m c 1 t) (iblk m c 3 t) := by
  funext y
  unfold outsAt0
  frame_out

theorem store12 : (outsAt0 m c t).2.2.1
    = k0_pay1 (k0_pay8 (vZ m c t) (iblk m c 6 t) (iblk m c 7 t) (iblk m c 8 t) (iblk m c 9 t)) := by
  funext y
  unfold outsAt0
  frame_out

theorem store13 : (outsAt0 m c t).2.2.2 = k0_pay7 (vZ m c t) (iblk m c 6 t) (iblk m c 7 t) (iblk m c 8 t) := by
  funext y
  unfold outsAt0
  frame_out

end Terms

theorem emb10 (t : Fin cfg0.N) (y : ((cfg0.win 10).xblock (cfg0.grid.coords t)).Idx) (f : FVec Ideal S4x2048x1024 .f32) :
    f (ix3 (bOf t) (rOf t (y 1)) (y 2)) = f ((win0_10.blk t).view.emb y) := by
  blk_point [idx_val t, bOf, rOf]

theorem final10 (c : Dev nD) : (dats m 0 c).arrAt 10 cfg0.N
    = zA (MX m c) (PR m c) (WO m c) (XX m c) (GM m c) := by
  refine (dats m 0 c).arrAt_eq_of_covers 10 _ (by decide +kernel) fun t _ y => ?_
  blk_simp
  rw [after0_10, store10 m c t]
  pointwise [k0_pay5, z_at]
  refine Eq.trans ?_ (emb10 t y _)
  rfl

theorem emb11 (t : Fin cfg0.N) (y : ((cfg0.win 11).xblock (cfg0.grid.coords t)).Idx) (f : FVec Ideal S4x2048x1024 .bf16) :
    f (ix3 (bOf t) (rOf t (y 1)) (y 2)) = f ((win0_11.blk t).view.emb y) := by
  blk_point [idx_val t, bOf, rOf]

theorem final11 (c : Dev nD) : (dats m 0 c).arrAt 11 cfg0.N
    = oA (MX m c) (PR m c) (WO m c) := by
  refine (dats m 0 c).arrAt_eq_of_covers 11 _ (by decide +kernel) fun t _ y => ?_
  blk_simp
  rw [after0_11, store11 m c t]
  pointwise [k0_pay3, o_at]
  refine Eq.trans ?_ (emb11 t y _)
  rfl

theorem emb12 (t : Fin cfg0.N) (y : ((cfg0.win 12).xblock (cfg0.grid.coords t)).Idx) (f : FVec Ideal S4x2048x2048 .bf16) :
    f (ix3 (bOf t) (rOf t (y 1)) (y 2)) = f ((win0_12.blk t).view.emb y) := by
  blk_point [idx_val t, bOf, rOf]

theorem final12 (c : Dev nD) : (dats m 0 c).arrAt 12 cfg0.N
    = pA (MX m c) (PR m c) (WO m c) (XX m c) (GM m c) (GN m c) (SC m c) (SH m c) (WI m c) := by
  refine (dats m 0 c).arrAt_eq_of_covers 12 _ (by decide +kernel) fun t _ y => ?_
  blk_simp
  rw [after0_12, store12 m c t]
  pointwise [k0_pay1, p_at]
  refine Eq.trans ?_ (emb12 t y _)
  rfl

theorem emb13 (t : Fin cfg0.N) (y : ((cfg0.win 13).xblock (cfg0.grid.coords t)).Idx) (f : FVec Ideal S4x2048x1024 .bf16) :
    f (ix3 (bOf t) (rOf t (y 1)) (y 2)) = f ((win0_13.blk t).view.emb y) := by
  blk_point [idx_val t, bOf, rOf]

theorem final13 (c : Dev nD) : (dats m 0 c).arrAt 13 cfg0.N
    = hA (MX m c) (PR m c) (WO m c) (XX m c) (GM m c) (GN m c) (SC m c) (SH m c) := by
  refine (dats m 0 c).arrAt_eq_of_covers 13 _ (by decide +kernel) fun t _ y => ?_
  blk_simp
  rw [after0_13, store13 m c t]
  pointwise [k0_pay7, h_at]
  refine Eq.trans ?_ (emb13 t y _)
  rfl

end Cert.Kernel8Ideal.Value
-- ==== Proof.ExitEq.lean ====
module

public import proofs.«01_k».proof.Proof.Gen.Reference8Ideal.Read
public import proofs.«01_k».proof.Proof.Gen.Reference8Ideal.Run
public import proofs.«01_k».proof.Proof.ExitOut
public import Idealize.ShloMosaic.Lib.Pointwise

@[expose] public section

set_option maxRecDepth 16384

noncomputable section

namespace Cert.Exit

open Idealize.ShloMosaic Idealize.ShloMosaic.TcCoe Idealize.SL.Sem
open Cert.Reference8Ideal Cert.Reference8Ideal.Read
open Cert.Kernel8Ideal.Value (gAt oAt zAt rsAt hAt oA zA hA pA)

/-! The reference's four results, read at an index, are the kernel's formulas. -/

variable (x0 : FVec Ideal S4x2048x1024 .f32) (x1 : FVec Ideal S4x2048x3456 .f32) (x2 : FVec Ideal S1024x1024 .f32)
  (x3 : FVec Ideal S4x2048x1024 .f32) (x4 : FVec Ideal S4x1024 .f32) (x5 : FVec Ideal S1024 .f32)
  (x6 x7 : FVec Ideal S4x1024 .f32) (x8 : FVec Ideal S1024x2048 .f32)

theorem g_at (b : Fin 4) (r : Fin 2048) (k : Fin 1024) : val_main_v1 (F := Ideal) x1 (ix3 b r k) = gAt x1 b r k := by
  pointwise [val_main_v1, val_main_v0, val_main_call0_v5, val_main_call0_v4, val_main_call0_v3, val_main_call0_v2,
    val_main_call0_v1, val_main_call0_v0, val_main_call0_cst, val_main_call0_cst_0, gAt]
  simp only [zero_sub]

theorem o_at (b : Fin 4) (r : Fin 2048) (k : Fin 1024) : val_main_v3 (F := Ideal) x0 x1 x2 (ix3 b r k) = oAt x0 x1 x2 b r k := by
  pointwise [val_main_v3, val_main_v2, g_at, oAt]

theorem z_at (b : Fin 4) (r : Fin 2048) (k : Fin 1024) :
    val_main_v7 (F := Ideal) x0 x1 x2 x3 x4 (ix3 b r k) = zAt x0 x1 x2 x3 x4 b r k := by
  pointwise [val_main_v7, val_main_v6, val_main_v5, val_main_v4, o_at, zAt]

theorem rs_at (b : Fin 4) (r : Fin 2048) :
    val_main_v15 (F := Ideal) x0 x1 x2 x3 x4 (ix3 b r (0 : Fin 1)) = rsAt x0 x1 x2 x3 x4 b r := by
  pointwise [val_main_v15, val_main_v14, val_main_v13, val_main_v12, val_main_v11, val_main_v10, val_main_v9, val_main_v8, z_at,
    val_main_cst, val_main_cst_0, val_main_cst_1, rsAt]

theorem h_at (b : Fin 4) (r : Fin 2048) (k : Fin 1024) :
    val_main_v28 (F := Ideal) x0 x1 x2 x3 x4 x5 x6 x7 (ix3 b r k) = hAt x0 x1 x2 x3 x4 x5 x6 x7 b r k := by
  pointwise [val_main_v28, val_main_v27, val_main_v26, val_main_v25, val_main_v24, val_main_v23, val_main_v22, val_main_v21,
    val_main_v20, val_main_v19, val_main_v18, val_main_v17, val_main_v16, val_main_cst_2, z_at, rs_at, hAt]

theorem z_ref : val_main_v7 (F := Ideal) x0 x1 x2 x3 x4 = zA x0 x1 x2 x3 x4 := by
  funext i; idx_vars i
  rw [z_at]
  rfl

theorem o_ref : val_main_v29 (F := Ideal) x0 x1 x2 = oA x0 x1 x2 := by
  funext i; idx_vars i
  pointwise [val_main_v29, o_at, oA]

theorem p_ref : val_main_v31 (F := Ideal) x0 x1 x2 x3 x4 x5 x6 x7 x8 = pA x0 x1 x2 x3 x4 x5 x6 x7 x8 := by
  funext i; idx_vars i
  pointwise [val_main_v31, val_main_v30, h_at, pA]

theorem h_ref : val_main_v32 (F := Ideal) x0 x1 x2 x3 x4 x5 x6 x7 = hA x0 x1 x2 x3 x4 x5 x6 x7 := by
  funext i; idx_vars i
  pointwise [val_main_v32, h_at, hA]

/-- The reference's run, its results by name. -/
theorem run_r (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      (r.2.mem ((c.tc : Thread nD τ).loc main_v7) = val_main_v7 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v29) = val_main_v29 (F := Ideal) (m ((c.tc : Thread nD τ).loc main_arg0)) (m ((c.tc : Thread nD τ).loc main_arg1)) (m ((c.tc : Thread nD τ).loc main_arg2))
      ∧ r.2.mem ((c.tc : Thread nD τ).loc main_v31) = val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v32) = val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨⟨(h c).1.trans (val_main_v7_eq ..), (h c).2.1.trans (val_main_v29_eq ..),
    (h c).2.2.1.trans (val_main_v31_eq ..), (h c).2.2.2.1.trans (val_main_v32_eq ..)⟩, (h c).2.2.2.2⟩)
    (Cert.Reference8Ideal.Value.run (F := Ideal) m g)

end Cert.Exit
-- ==== Proof.EntryOut.lean ====
module

public import proofs.«01_k».proof.Proof.Gen.Kernel9Ideal.Value
public import Idealize.ShloMosaic.Lib.Pipeline.ValueKit
public import Idealize.ShloMosaic.Lib.Pointwise
public import Idealize.ShloMosaic.Lib.Claim

@[expose] public section

set_option maxRecDepth 16384

noncomputable section

namespace Cert.Kernel9Ideal.Value

open Cert.Kernel9Ideal Cert.Kernel9Ideal.Gen Idealize.ShloMosaic Idealize.ShloMosaic.TcCoe Idealize.SL.Sem
open Idealize.ShloMosaic.Pipeline (Dat)

/-! The first layer's entry: what each of the three result arrays holds, as formulas of the argument arrays. -/

section Spec

variable (x : FVec Ideal S4x2048x1024 .f32) (gn : FVec Ideal S1024 .f32) (sc sh : FVec Ideal S4x1024 .f32)
  (wi : FVec Ideal S1024x3336 .f32)

def rsAt (b : Fin 4) (r : Fin 2048) : EReal :=
  Ideal.rsqrt (Ideal.div (∑ k : Fin 1024, x (ix3 b r k) * x (ix3 b r k)) (Ideal.ofBits .f32 0x44800000#32)
    + Ideal.ofBits .f32 0x358637BD#32)
/-- The normed row, scaled and shifted. -/
def hAt (b : Fin 4) (r : Fin 2048) (k : Fin 1024) : EReal :=
  x (ix3 b r k) * rsAt x b r * gn (ix1 k) * (1 + sc (ix2 b k)) + sh (ix2 b k)
/-- The weight's columns in the order of the result, zeros after the last. -/
def wAt (k : Fin 1024) (j : Fin 3456) : EReal :=
  if h : j.val < 1024 then wi (ix2 k ⟨2312 + j.val, by omega⟩)
  else if h' : j.val - 1024 < 2312 then wi (ix2 k ⟨j.val - 1024, by omega⟩) else 0
/-- The projection at one column of the result. -/
def pAt (b : Fin 4) (r : Fin 2048) (j : Fin 3456) : EReal := ∑ k : Fin 1024, hAt x gn sc sh b r k * wAt wi k j

def pA : FVec Ideal S4x2048x3456 .bf16 := fun i => pAt x gn sc sh wi (i 0) (i 1) (i 2)
def hA : FVec Ideal S4x2048x1024 .bf16 := fun i => hAt x gn sc sh (i 0) (i 1) (i 2)
/-- The last 128 columns, not rounded. -/
def qA : FVec Ideal S4x2048x128 .f32 := fun i => pAt x gn sc sh wi (i 0) (i 1) ⟨3328 + (i 2).val, by have : (i 2).val < 128 := (i 2).isLt; omega⟩

end Spec

variable (m : (ℓ : Loc nD τ sig) → Buf (Elt Ideal) ℓ)

/-- The arguments at their types. -/
abbrev XX (c : Dev nD) : FVec Ideal S4x2048x1024 .f32 := m ((c : Thread nD τ).loc main_arg0)
abbrev GN (c : Dev nD) : FVec Ideal S1024 .f32 := m ((c : Thread nD τ).loc main_arg1)
abbrev SC (c : Dev nD) : FVec Ideal S4x1024 .f32 := m ((c : Thread nD τ).loc main_arg2)
abbrev SH (c : Dev nD) : FVec Ideal S4x1024 .f32 := m ((c : Thread nD τ).loc main_arg3)
abbrev WI (c : Dev nD) : FVec Ideal S1024x3336 .f32 := m ((c : Thread nD τ).loc main_arg4)

/-- The grid point's batch and its row of the array. -/
def bOf (t : Fin cfg0.N) : Fin 4 := ⟨t.val / 2, by have : t.val < 8 := t.isLt; omega⟩
def rOf (t : Fin cfg0.N) (r : Fin 1024) : Fin 2048 := ⟨t.val % 2 * 1024 + r.val, by omega⟩

theorem idx_val : ∀ t : Fin cfg0.N, win0_0.index t = ![t.val / 2, t.val % 2, 0] ∧ win0_1.index t = ![0, 0]
    ∧ win0_2.index t = ![t.val / 2, 0, 0] ∧ win0_3.index t = ![t.val / 2, 0, 0] ∧ win0_4.index t = ![0, 0]
    ∧ win0_5.index t = ![t.val / 2, t.val % 2, 0] ∧ win0_6.index t = ![t.val / 2, t.val % 2, 0]
    ∧ win0_7.index t = ![t.val / 2, t.val % 2, 0] :=
  (by decide +kernel : ∀ t : Fin grid0.N, _)

/-! What the host's lines before the call leave in the call's arrays. -/

theorem w_read (c : Dev nD) (k : Fin 1024) (j : Fin 3456) : V m c main_v4 (ix2 k j) = wAt (WI m c) k j := by
  unfold V
  simp only [hostOps0, StableHlo.TRef.binary, StableHlo.TRef.nullary, StableHlo.TRef.unary, StableHlo.TRef.toBuf,
    StableHlo.TRef.ofBuf, cast_eq]
  after_results_simp
  pointwise [wAt]
  split
  · after_results_simp
    pointwise
  split
  · after_results_simp
    pointwise
  · after_results_simp
    pointwise

theorem gn_read (c : Dev nD) (k : Fin 1024) : V m c main_v5 (ix2 (0 : Fin 1) k) = GN m c (ix1 k) := by
  unfold V
  simp only [hostOps0, StableHlo.TRef.binary, StableHlo.TRef.nullary, StableHlo.TRef.unary, StableHlo.TRef.toBuf,
    StableHlo.TRef.ofBuf, cast_eq]
  after_results_simp
  pointwise

theorem sc_read (c : Dev nD) (b : Fin 4) (k : Fin 1024) : V m c main_v6 (ix3 b (0 : Fin 1) k) = SC m c (ix2 b k) := by
  unfold V
  simp only [hostOps0, StableHlo.TRef.binary, StableHlo.TRef.nullary, StableHlo.TRef.unary, StableHlo.TRef.toBuf,
    StableHlo.TRef.ofBuf, cast_eq]
  after_results_simp
  pointwise

theorem sh_read (c : Dev nD) (b : Fin 4) (k : Fin 1024) : V m c main_v7 (ix3 b (0 : Fin 1) k) = SH m c (ix2 b k) := by
  unfold V
  simp only [hostOps0, StableHlo.TRef.binary, StableHlo.TRef.nullary, StableHlo.TRef.unary, StableHlo.TRef.toBuf,
    StableHlo.TRef.ofBuf, cast_eq]
  after_results_simp
  pointwise

/-! The blocks a grid point reads, as entries of the arguments. -/

theorem blk0 (c : Dev nD) (t : Fin cfg0.N) (r k : Fin 1024) :
    iblk m c 0 t (ix3 (0 : Fin 1) r k) = XX m c (ix3 (bOf t) (rOf t r) k) := by
  blk_point [iblk, V, idx_val t, bOf, rOf]

theorem blk1 (c : Dev nD) (t : Fin cfg0.N) (k : Fin 1024) :
    iblk m c 1 t (ix2 (0 : Fin 1) k) = GN m c (ix1 k) := by
  rw [← gn_read]
  blk_point [iblk, idx_val t, bOf, rOf]

theorem blk2 (c : Dev nD) (t : Fin cfg0.N) (k : Fin 1024) :
    iblk m c 2 t (ix3 (0 : Fin 1) (0 : Fin 1) k) = SC m c (ix2 (bOf t) k) := by
  rw [← sc_read]
  blk_point [iblk, idx_val t, bOf, rOf]

theorem blk3 (c : Dev nD) (t : Fin cfg0.N) (k : Fin 1024) :
    iblk m c 3 t (ix3 (0 : Fin 1) (0 : Fin 1) k) = SH m c (ix2 (bOf t) k) := by
  rw [← sh_read]
  blk_point [iblk, idx_val t, bOf, rOf]

theorem blk4 (c : Dev nD) (t : Fin cfg0.N) (k : Fin 1024) (j : Fin 3456) :
    iblk m c 4 t (ix2 k j) = wAt (WI m c) k j := by
  rw [← w_read]
  blk_point [iblk, idx_val t, bOf, rOf]

/-! The values the body works with, as the formulas. -/

section Terms

variable (c : Dev nD) (t : Fin cfg0.N)

theorem h_at (r k : Fin 1024) : k0_pay3 (F := Ideal) (iblk m c 0 t) (iblk m c 1 t) (iblk m c 2 t) (iblk m c 3 t) (ix2 r k)
    = hAt (XX m c) (GN m c) (SC m c) (SH m c) (bOf t) (rOf t r) k := by
  pointwise [k0_pay3, blk0, blk1, blk2, blk3, hAt, rsAt]

theorem p_at (r : Fin 1024) (j : Fin 3456) : k0_pay5 (F := Ideal) (iblk m c 0 t) (iblk m c 1 t) (iblk m c 2 t) (iblk m c 3 t) (iblk m c 4 t) (ix2 r j)
    = pAt (XX m c) (GN m c) (SC m c) (SH m c) (WI m c) (bOf t) (rOf t r) j := by
  pointwise [k0_pay5, h_at, blk4, pAt]

theorem store5 : out0_5 (F := Ideal) (iblk m c 0 t) (iblk m c 1 t) (iblk m c 2 t) (iblk m c 3 t) (iblk m c 4 t)
    = k0_pay1 (k0_pay6 (iblk m c 0 t) (iblk m c 1 t) (iblk m c 2 t) (iblk m c 3 t) (iblk m c 4 t)) := by
  funext y
  canon_tiles z h using cover0_5 ..
  have e : y = z := funext fun a => by fin_cases a <;> exact Fin.ext (by assumption)
  subst e
  open_payloads

theorem store6 : out0_6 (F := Ideal) (iblk m c 0 t) (iblk m c 1 t) (iblk m c 2 t) (iblk m c 3 t) (iblk m c 4 t)
    = k0_pay4 (iblk m c 0 t) (iblk m c 1 t) (iblk m c 2 t) (iblk m c 3 t) := by
  funext y
  canon_tiles z h using cover0_6 ..
  have e : y = z := funext fun a => by fin_cases a <;> exact Fin.ext (by assumption)
  subst e
  open_payloads

theorem store7 : out0_7 (F := Ideal) (iblk m c 0 t) (iblk m c 1 t) (iblk m c 2 t) (iblk m c 3 t) (iblk m c 4 t)
    = k0_pay2 (k0_pay5 (iblk m c 0 t) (iblk m c 1 t) (iblk m c 2 t) (iblk m c 3 t) (iblk m c 4 t)) := by
  funext y
  canon_tiles z h using cover0_7 ..
  have e : y = z := funext fun a => by fin_cases a <;> exact Fin.ext (by assumption)
  subst e
  open_payloads

end Terms

theorem emb5 (t : Fin cfg0.N) (y : ((cfg0.win 5).xblock (cfg0.grid.coords t)).Idx) (f : FVec Ideal S4x2048x3456 .bf16) :
    f (ix3 (bOf t) (rOf t (y 1)) (y 2)) = f ((win0_5.blk t).view.emb y) := by
  blk_point [idx_val t, bOf, rOf]

theorem final5 (c : Dev nD) : (dats m 0 c).arrAt 5 cfg0.N
    = pA (XX m c) (GN m c) (SC m c) (SH m c) (WI m c) := by
  refine (dats m 0 c).arrAt_eq_of_covers 5 _ (by decide +kernel) fun t _ y => ?_
  blk_simp
  rw [after0_5, store5 m c t]
  pointwise [k0_pay1, k0_pay6, p_at]
  refine Eq.trans ?_ (emb5 t y _)
  rfl

theorem emb6 (t : Fin cfg0.N) (y : ((cfg0.win 6).xblock (cfg0.grid.coords t)).Idx) (f : FVec Ideal S4x2048x1024 .bf16) :
    f (ix3 (bOf t) (rOf t (y 1)) (y 2)) = f ((win0_6.blk t).view.emb y) := by
  blk_point [idx_val t, bOf, rOf]

theorem final6 (c : Dev nD) : (dats m 0 c).arrAt 6 cfg0.N
    = hA (XX m c) (GN m c) (SC m c) (SH m c) := by
  refine (dats m 0 c).arrAt_eq_of_covers 6 _ (by decide +kernel) fun t _ y => ?_
  blk_simp
  rw [after0_6, store6 m c t]
  pointwise [k0_pay4, h_at]
  refine Eq.trans ?_ (emb6 t y _)
  rfl

theorem emb7 (t : Fin cfg0.N) (y : ((cfg0.win 7).xblock (cfg0.grid.coords t)).Idx) (f : FVec Ideal S4x2048x128 .f32) :
    f (ix3 (bOf t) (rOf t (y 1)) (y 2)) = f ((win0_7.blk t).view.emb y) := by
  blk_point [idx_val t, bOf, rOf]

theorem final7 (c : Dev nD) : (dats m 0 c).arrAt 7 cfg0.N
    = qA (XX m c) (GN m c) (SC m c) (SH m c) (WI m c) := by
  refine (dats m 0 c).arrAt_eq_of_covers 7 _ (by decide +kernel) fun t _ y => ?_
  blk_simp
  rw [after0_7, store7 m c t]
  pointwise [k0_pay2, p_at]
  refine Eq.trans ?_ (emb7 t y _)
  rfl

end Cert.Kernel9Ideal.Value
-- ==== Proof.EntryEq.lean ====
module

public import proofs.«01_k».proof.Proof.Gen.Reference9Ideal.Read
public import proofs.«01_k».proof.Proof.Gen.Reference9Ideal.Run
public import proofs.«01_k».proof.Proof.EntryOut
public import Idealize.ShloMosaic.Lib.Pointwise

@[expose] public section

set_option maxRecDepth 16384

noncomputable section

namespace Cert.Entry

open Idealize.ShloMosaic Idealize.ShloMosaic.TcCoe Idealize.SL.Sem
open Cert.Reference9Ideal Cert.Reference9Ideal.Read
open Cert.Kernel9Ideal.Value (rsAt hAt wAt pAt pA hA qA)

/-! The reference's three results, read at an index, are the kernel's formulas. -/

variable (x0 : FVec Ideal S4x2048x1024 .f32) (x1 : FVec Ideal S1024 .f32) (x2 x3 : FVec Ideal S4x1024 .f32)
  (x4 : FVec Ideal S1024x3336 .f32)

theorem rs_at (b : Fin 4) (r : Fin 2048) : val_main_v7 (F := Ideal) x0 (ix3 b r (0 : Fin 1)) = rsAt x0 b r := by
  pointwise [val_main_v7, val_main_v6, val_main_v5, val_main_v4, val_main_v3, val_main_v2, val_main_v1, val_main_v0,
    val_main_cst, val_main_cst_0, val_main_cst_1, rsAt]

theorem h_at (b : Fin 4) (r : Fin 2048) (k : Fin 1024) :
    val_main_v20 (F := Ideal) x0 x1 x2 x3 (ix3 b r k) = hAt x0 x1 x2 x3 b r k := by
  pointwise [val_main_v20, val_main_v19, val_main_v18, val_main_v17, val_main_v16, val_main_v15, val_main_v14, val_main_v13,
    val_main_v12, val_main_v11, val_main_v10, val_main_v9, val_main_v8, val_main_cst_2, rs_at, hAt]

theorem d_at (b : Fin 4) (r : Fin 2048) (j : Fin 3336) :
    val_main_v21 (F := Ideal) x0 x1 x2 x3 x4 (ix3 b r j) = ∑ k : Fin 1024, hAt x0 x1 x2 x3 b r k * x4 (ix2 k j) := by
  pointwise [val_main_v21, h_at]

theorem p_at (b : Fin 4) (r : Fin 2048) (j : Fin 3456) :
    val_main_v25 (F := Ideal) x0 x1 x2 x3 x4 (ix3 b r j) = pAt x0 x1 x2 x3 x4 b r j := by
  pointwise [val_main_v25, val_main_v24, val_main_v23, val_main_v22, val_main_cst_3, d_at, pAt, wAt]
  split
  · rfl
  split
  · rfl
  · exact (Finset.sum_eq_zero fun k _ => mul_zero _).symm

theorem p_ref : val_main_v26 (F := Ideal) x0 x1 x2 x3 x4 = pA x0 x1 x2 x3 x4 := by
  funext i; idx_vars i
  pointwise [val_main_v26, p_at, pA]

theorem h_ref : val_main_v27 (F := Ideal) x0 x1 x2 x3 = hA x0 x1 x2 x3 := by
  funext i; idx_vars i
  pointwise [val_main_v27, h_at, hA]

theorem q_ref : val_main_v29 (F := Ideal) x0 x1 x2 x3 x4 = qA x0 x1 x2 x3 x4 := by
  funext i; idx_vars i
  pointwise [val_main_v29, val_main_v28, val_main_v22, val_main_cst_3, d_at, qA, pAt, wAt]
  split
  · refine Finset.sum_congr rfl fun k _ => congrArg (hAt x0 x1 x2 x3 i0 i1 k * ·) ?_
    rw [dif_neg (by omega), dif_pos (by omega)]
    refine congrArg (fun j => x4 (ix2 k j)) (Fin.ext ?_)
    show 2304 + i2.val = 3328 + i2.val - 1024
    omega
  · refine (Finset.sum_eq_zero fun k _ => ?_).symm
    rw [dif_neg (by omega), dif_neg (by omega), mul_zero]

/-- The reference's run, its results by name. -/
theorem run_r (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      (r.2.mem ((c.tc : Thread nD τ).loc main_v26) = val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v27) = val_main_v27 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v29) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨⟨(h c).1.trans (val_main_v26_eq ..), (h c).2.1.trans (val_main_v27_eq ..),
    (h c).2.2.1.trans (val_main_v29_eq ..)⟩, (h c).2.2.2⟩)
    (Cert.Reference9Ideal.Value.run (F := Ideal) m g)

end Cert.Entry
-- ==== Proof.LossEq.lean ====
module

public import proofs.«01_k».proof.Proof.Gen.Reference6Ideal.Read
public import proofs.«01_k».proof.Proof.Gen.Reference6Ideal.Run
public import proofs.«01_k».proof.Proof.LossSum
public import Idealize.ShloMosaic.Lib.Pointwise

@[expose] public section

set_option maxRecDepth 16384

noncomputable section

namespace Cert.Loss

open Idealize.ShloMosaic Idealize.ShloMosaic.TcCoe Idealize.SL.Sem
open Cert.Reference6Ideal Cert.Reference6Ideal.Read
open Cert.Kernel6Ideal.Value (gAt oAt zAt msAt rsAt hAt eAt qAt dAt oA lossA dxA dgA)

/-! The reference's four results, read at an index, are the kernel's formulas. -/

variable (x0 : FVec Ideal S4x2048x1024 .f32) (x1 : FVec Ideal S4x2048x2048 .f32) (x2 : FVec Ideal S1024x1024 .f32)
  (x3 : FVec Ideal S4x2048x1024 .f32) (x4 : FVec Ideal S4x1024 .f32) (x5 : FVec Ideal S1024 .f32) (x6 : FVec Ideal S4x2048x1024 .f32)

/-- A sum over both axes of two. -/
theorem sum_both {n0 n1 : Nat} (h : (⟨2, ![n0, n1]⟩ : Shape).ReducesTo [0, 1] ⟨0, ![]⟩)
    (v : (⟨2, ![n0, n1]⟩ : Shape).Idx → EReal) (init : EReal) (i : (⟨0, ![]⟩ : Shape).Idx) :
    Ideal.hostReduceAdd h v init i = init + ∑ a : Fin n0, ∑ b : Fin n1, v (ix2 a b) := by
  have hk : ∀ j : (⟨2, ![n0, n1]⟩ : Shape).Idx, ix2 (j 0) (j 1) = j := fun j => by
    funext z
    refine Fin.ext ?_
    fin_cases z <;> rfl
  refine congrArg (init + ·) ?_
  rw [← Fintype.sum_prod_type']
  exact Finset.sum_nbij' (fun j => (j 0, j 1)) (fun q => ix2 q.1 q.2) (fun j _ => Finset.mem_univ _)
    (fun q _ => Finset.mem_filter.mpr ⟨Finset.mem_univ _, funext fun z => z.elim0⟩) (fun j _ => hk j)
    (fun q _ => rfl) (fun j _ => congrArg v (hk j).symm)

theorem g_at (b : Fin 4) (r : Fin 2048) (k : Fin 1024) : val_main_v1 (F := Ideal) x1 (ix3 b r k) = gAt x1 b r k := by
  pointwise [val_main_v1, val_main_v0, val_main_call0_v5, val_main_call0_v4, val_main_call0_v3, val_main_call0_v2,
    val_main_call0_v1, val_main_call0_v0, val_main_call0_cst, val_main_call0_cst_0, gAt]
  simp only [zero_sub]

theorem o_at (b : Fin 4) (r : Fin 2048) (k : Fin 1024) : val_main_v3 (F := Ideal) x0 x1 x2 (ix3 b r k) = oAt x0 x1 x2 b r k := by
  pointwise [val_main_v3, val_main_v2, g_at, oAt]

theorem z_at (b : Fin 4) (r : Fin 2048) (k : Fin 1024) :
    val_main_v7 (F := Ideal) x0 x1 x2 x3 x4 (ix3 b r k) = zAt x0 x1 x2 x3 x4 b r k := by
  pointwise [val_main_v7, val_main_v6, val_main_v5, val_main_v4, o_at, zAt]

theorem ms_at (b : Fin 4) (r : Fin 2048) :
    val_main_v14 (F := Ideal) x0 x1 x2 x3 x4 (ix3 b r (0 : Fin 1)) = msAt x0 x1 x2 x3 x4 b r := by
  pointwise [val_main_v14, val_main_v13, val_main_v12, val_main_v11, val_main_v10, val_main_v9, val_main_v8, z_at,
    val_main_cst, val_main_cst_0, val_main_cst_1, msAt]

theorem rs_at (b : Fin 4) (r : Fin 2048) :
    val_main_v15 (F := Ideal) x0 x1 x2 x3 x4 (ix3 b r (0 : Fin 1)) = rsAt x0 x1 x2 x3 x4 b r := by
  pointwise [val_main_v15, ms_at, rsAt]

theorem h_at (b : Fin 4) (r : Fin 2048) (k : Fin 1024) :
    val_main_v20 (F := Ideal) x0 x1 x2 x3 x4 (ix3 b r k) = hAt x0 x1 x2 x3 x4 b r k := by
  pointwise [val_main_v20, val_main_v19, z_at, rs_at, hAt]

theorem e_at (b : Fin 4) (r : Fin 2048) (k : Fin 1024) :
    val_main_v24 (F := Ideal) x0 x1 x2 x3 x4 x5 x6 (ix3 b r k) = eAt x0 x1 x2 x3 x4 x5 x6 b r k := by
  pointwise [val_main_v24, val_main_v23, val_main_v22, val_main_v21, h_at, eAt]

theorem q_at (b : Fin 4) (r : Fin 2048) :
    val_main_v30 (F := Ideal) x0 x1 x2 x3 x4 x5 x6 (ix2 b r) = qAt x0 x1 x2 x3 x4 x5 x6 b r := by
  pointwise [val_main_v30, val_main_v29, val_main_v28, val_main_v25, e_at, val_main_cst_4, val_main_cst_5, qAt]

theorem two_bits : Ideal.ofBits .f32 0x40000000#32 = ((2 : ℝ) : EReal) := by
  simp [Ideal.ofBits, Ideal.ieee]; norm_num
  try rw [← EReal.coe_mul]; norm_num

theorem inv_width_bits : Ideal.ofBits .f32 0x3A800000#32 = ((1 / 1024 : ℝ) : EReal) := by
  simp [Ideal.ofBits, Ideal.ieee]; norm_num
  rw [← EReal.coe_mul]; norm_num

/-- The gradient's constant: half of twice the error, over the row's width. -/
theorem const_eq (e : EReal) : Ideal.div (Ideal.ofBits .f32 0x3F000000#32) (Ideal.ofBits .f32 0x44800000#32)
    * (Ideal.ofBits .f32 0x40000000#32 * e) = e * Ideal.ofBits .f32 0x3A800000#32 := by
  rw [Cert.Kernel6Ideal.Value.pos_half_bits, Cert.Norm.width_bits, two_bits, inv_width_bits, Ideal.div_coe (by norm_num),
    ← EReal.coe_mul, ← mul_assoc, ← EReal.coe_mul, mul_comm]
  norm_num

theorem d_at (b : Fin 4) (r : Fin 2048) (k : Fin 1024) :
    val_main_v38 (F := Ideal) x0 x1 x2 x3 x4 x5 x6 (ix3 b r k) = dAt x0 x1 x2 x3 x4 x5 x6 b r k := by
  pointwise [val_main_v38, val_main_v37, val_main_v36, val_main_v35, val_main_v34, val_main_v33, val_main_v27, val_main_v26, e_at,
    val_main_cst_3, val_main_cst_8, val_main_cst_9, val_main_cst_10, dAt]
  exact const_eq _

theorem o_ref : val_main_v59 (F := Ideal) x0 x1 x2 = oA x0 x1 x2 := by
  funext i; idx_vars i
  pointwise [val_main_v59, o_at, oA]

theorem loss_ref : val_main_v60 (F := Ideal) x0 x1 x2 x3 x4 x5 x6 = lossA x0 x1 x2 x3 x4 x5 x6 := by
  funext i; idx_vars i
  pointwise [val_main_v60, val_main_v32, val_main_v31, q_at, val_main_cst_6, val_main_cst_7, lossA, sum_both]

theorem dg_ref : val_main_v61 (F := Ideal) x0 x1 x2 x3 x4 x5 x6 = dgA x0 x1 x2 x3 x4 x5 x6 := by
  funext i; idx_vars i
  pointwise [val_main_v61, val_main_v44, val_main_v41, val_main_v40, val_main_v39, h_at, d_at, val_main_cst_11, val_main_cst_12,
    dgA, Cert.Norm.sum_two]
  rw [Fin.sum_univ_one, Fin.sum_univ_one]
  exact Finset.sum_congr rfl fun b _ => Finset.sum_congr rfl fun r _ => mul_comm _ _

theorem p_at (b : Fin 4) (r : Fin 2048) (k : Fin 1024) :
    val_main_v43 (F := Ideal) x0 x1 x2 x3 x4 x5 x6 (ix3 b r k) = dAt x0 x1 x2 x3 x4 x5 x6 b r k * x5 (ix1 k) := by
  pointwise [val_main_v43, val_main_v42, val_main_v21, d_at]

/-- The part of the row's gradient that the mean square passes on. -/
def cAt (b : Fin 4) (r : Fin 2048) : EReal :=
  Ideal.div ((∑ k : Fin 1024, zAt x0 x1 x2 x3 x4 b r k * (dAt x0 x1 x2 x3 x4 x5 x6 b r k * x5 (ix1 k)))
    * (Ideal.ofBits .f32 0xBF000000#32 * Ideal.div (rsAt x0 x1 x2 x3 x4 b r) (msAt x0 x1 x2 x3 x4 b r))) (Ideal.ofBits .f32 0x44800000#32)

theorem c_at (b : Fin 4) (r : Fin 2048) :
    val_main_v53 (F := Ideal) x0 x1 x2 x3 x4 x5 x6 (ix2 b r) = cAt x0 x1 x2 x3 x4 x5 x6 b r := by
  pointwise [val_main_v53, val_main_v52, val_main_v51, val_main_v50, val_main_v47, val_main_v46, val_main_v45, p_at, z_at,
    val_main_v18, val_main_v17, val_main_v16, rs_at, ms_at, val_main_cst_2, val_main_cst_13, val_main_cst_14, val_main_cst_15, cAt]
  rw [Fin.sum_univ_one]
  rw [rs_at, ms_at]

theorem dx_at (b : Fin 4) (r : Fin 2048) (k : Fin 1024) :
    val_main_v58 (F := Ideal) x0 x1 x2 x3 x4 x5 x6 (ix3 b r k) = dAt x0 x1 x2 x3 x4 x5 x6 b r k * x5 (ix1 k) * rsAt x0 x1 x2 x3 x4 b r
      + zAt x0 x1 x2 x3 x4 b r k * cAt x0 x1 x2 x3 x4 x5 x6 b r + cAt x0 x1 x2 x3 x4 x5 x6 b r * zAt x0 x1 x2 x3 x4 b r k := by
  pointwise [val_main_v58, val_main_v57, val_main_v56, val_main_v55, val_main_v54, val_main_v49, val_main_v48,
    p_at, rs_at, c_at, z_at]

theorem dx_ref : val_main_v58 (F := Ideal) x0 x1 x2 x3 x4 x5 x6 = dxA x0 x1 x2 x3 x4 x5 x6 := by
  funext i; idx_vars i
  rw [dx_at]
  have h := Cert.Norm.row_eq (fun k => zAt x0 x1 x2 x3 x4 i0 i1 k) (fun k => dAt x0 x1 x2 x3 x4 x5 x6 i0 i1 k * x5 (ix1 k)) 0
    (msAt x0 x1 x2 x3 x4 i0 i1) (rsAt x0 x1 x2 x3 x4 i0 i1) _ _ _ Cert.Norm.width_bits Cert.Norm.half_bits Cert.Norm.eps_bits rfl rfl i2
  rw [zero_add, zero_add] at h
  exact h.symm

/-- The reference's run, its results by name. -/
theorem run_r (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      (r.2.mem ((c.tc : Thread nD τ).loc main_v59) = val_main_v59 (F := Ideal) (m ((c.tc : Thread nD τ).loc main_arg0)) (m ((c.tc : Thread nD τ).loc main_arg1)) (m ((c.tc : Thread nD τ).loc main_arg2))
      ∧ r.2.mem ((c.tc : Thread nD τ).loc main_v60) = val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v58) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v61) = val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨⟨(h c).1.trans (val_main_v59_eq ..), (h c).2.1.trans (val_main_v60_eq ..),
    (h c).2.2.1.trans (val_main_v58_eq ..), (h c).2.2.2.1.trans (val_main_v61_eq ..)⟩, (h c).2.2.2.2⟩)
    (Cert.Reference6Ideal.Value.run (F := Ideal) m g)

end Cert.Loss
-- ==== Proof.NormSum.lean ====
module

public import proofs.«01_k».proof.Proof.NormOut
public import Idealize.ShloMosaic.Lib.Pipeline.ValueKit
public import Idealize.ShloMosaic.Lib.Pointwise
public import Idealize.ShloMosaic.Lib.Claim

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-! The four result arrays are the formulas: one store a tile, and three running sums. -/

section Terms

variable (c : Dev nD) (t : Fin cfg0.N)

/-- The body's values at a grid point. -/
abbrev vH : FVec Ideal S1024x1024 .f32 := k0_pay5 (iblk m c 0 t) (iblk m c 1 t) (iblk m c 2 t)
abbrev vX : FVec Ideal S1024x1024 .f32 := k0_pay6 (iblk m c 3 t)
abbrev vG : FVec Ideal S1x1024 .f32 := k0_pay7 (iblk m c 4 t)
abbrev vS : FVec Ideal S1x1024 .f32 := k0_pay8 (iblk m c 5 t)
abbrev vM : FVec Ideal S1024x1 .f32 := k0_pay9 (iblk m c 3 t)
abbrev vE : FVec Ideal S1024x1 .f32 := k0_pay10

theorem store7 : (outsAt0 m c t.val t.isLt).1 = k0_pay1 (k0_pay11 (vM m c t) vE) (k0_pay12 (vX m c t) (vM m c t) vE)
    (k0_pay17 (vH m c t) (vG m c t) (vS m c t)) (iblk m c 6 t) := by
  funext y
  by_cases h0 : t.val % 8 = 0
  · rw [outsAt0_A m c t h0 (by omega)]; frame_out
  · by_cases h1 : t.val % 2 = 0
    · rw [outsAt0_C m c t h0 h1]; frame_out
    · rw [outsAt0_B m c t h0 h1]; frame_out

/-- One tile's part of each of the three sums, at a column. -/
def shSum (k : Fin 1024) : EReal := ∑ r : Fin 1024, dhAt (DP m c) (WI m c) (bOf t) (rOf t r) k
def scSum (k : Fin 1024) : EReal := ∑ r : Fin 1024, dhAt (DP m c) (WI m c) (bOf t) (rOf t r) k
  * (XX m c (ix3 (bOf t) (rOf t r) k) * rsAt (XX m c) (bOf t) (rOf t r) * GN m c (ix1 k))
def gSum (k : Fin 1024) : EReal := ∑ r : Fin 1024, dhAt (DP m c) (WI m c) (bOf t) (rOf t r) k
  * (1 + SC m c (ix2 (bOf t) k)) * (XX m c (ix3 (bOf t) (rOf t r) k) * rsAt (XX m c) (bOf t) (rOf t r))

theorem zero2 (j : S1x1024.Idx) : k0_pay2 (F := Ideal) j = (0 : EReal) := by pointwise [k0_pay2]
theorem zero3 (j : S1x1x1024.Idx) : k0_pay3 (F := Ideal) j = (0 : EReal) := by pointwise [k0_pay3]
theorem zero4 (j : S1x1x1024.Idx) : k0_pay4 (F := Ideal) j = (0 : EReal) := by pointwise [k0_pay4]

theorem pay13 (acc : FVec Ideal S1x1x1024 .f32) (j : S1x1x1024.Idx) :
    k0_pay13 (F := Ideal) (vH m c t) acc j = acc j + shSum m c t (j 2) := by
  idx_vars j
  obtain rfl : j0 = 0 := Subsingleton.elim _ _
  obtain rfl : j1 = 0 := Subsingleton.elim _ _
  pointwise [k0_pay13, cat_at, shSum]

theorem pay14 (acc : FVec Ideal S1x1x1024 .f32) (j : S1x1x1024.Idx) :
    k0_pay14 (F := Ideal) (vH m c t) (vX m c t) (vG m c t) (vM m c t) vE acc j = acc j + scSum m c t (j 2) := by
  idx_vars j
  obtain rfl : j0 = 0 := Subsingleton.elim _ _
  obtain rfl : j1 = 0 := Subsingleton.elim _ _
  pointwise [k0_pay14, k0_pay12, cat_at, x_at, r_at, g_at, scSum]

theorem pay16 (acc : FVec Ideal S1x1024 .f32) (j : S1x1024.Idx) :
    k0_pay16 (F := Ideal) (vH m c t) (vX m c t) (vS m c t) (vM m c t) vE acc j = acc j + gSum m c t (j 1) := by
  idx_vars j
  obtain rfl : j0 = 0 := Subsingleton.elim _ _
  pointwise [k0_pay16, k0_pay15, k0_pay12, cat_at, x_at, r_at, s_at, gSum]

end Terms

theorem bOf_flush (t : Fin cfg0.N) (hf : t.val % 2 = 1) (s : Fin 2) :
    bOf ⟨2 * (t.val / 2) + s.val, Pipeline.run_point_lt_of_flush t hf s⟩ = bOf t := by
  refine Fin.ext ?_
  show (2 * (t.val / 2) + s.val) / 2 = t.val / 2
  omega

theorem rOf_flush (t : Fin cfg0.N) (hf : t.val % 2 = 1) (s : Fin 2) (r : Fin 1024) :
    rOf ⟨2 * (t.val / 2) + s.val, Pipeline.run_point_lt_of_flush t hf s⟩ r = ⟨s.val * 1024 + r.val, by omega⟩ := by
  refine Fin.ext ?_
  show (2 * (t.val / 2) + s.val) % 2 * 1024 + r.val = s.val * 1024 + r.val
  omega

/-- 2048 rows summed in two tiles of 1024. -/
theorem sum_tiles (g : Fin 2 → EReal) (f : Fin 2048 → EReal)
    (h : ∀ s : Fin 2, g s = ∑ r : Fin 1024, f ⟨s.val * 1024 + r.val, by omega⟩) : ∑ s, g s = ∑ r, f r := by
  rw [Fin.sum_univ_tiles 2 1024 rfl]
  exact Fin.sum_fin_congr h

/-- Four batches of 2048 rows summed in eight tiles of 1024. -/
theorem sum_all (g : Fin 8 → EReal) (f : Fin 4 → Fin 2048 → EReal)
    (h : ∀ s : Fin 8, g s = ∑ r : Fin 1024, f ⟨s.val / 2, by omega⟩ ⟨s.val % 2 * 1024 + r.val, by omega⟩) :
    ∑ s, g s = ∑ b, ∑ r, f b r := by
  rw [Fin.sum_univ_tiles 4 2 rfl]
  refine Fin.sum_fin_congr fun b => ?_
  rw [Fin.sum_univ_tiles 2 1024 rfl]
  refine Fin.sum_fin_congr fun s => ?_
  refine (h _).trans (Fin.sum_fin_congr fun r => ?_)
  refine congrArg₂ f (Fin.ext ?_) (Fin.ext ?_)
  · show (b.val * 2 + s.val) / 2 = b.val
    omega
  · show (b.val * 2 + s.val) % 2 * 1024 + r.val = s.val * 1024 + r.val
    omega

theorem final7 (c : Dev nD) : (dats m 0 c).arrAt 7 cfg0.N = dxA (DP m c) (WI m c) (XX m c) (GN m c) (SC m c) (DO m c) := by
  refine (dats m 0 c).arrAt_eq_of_covers 7 _ (by decide +kernel) fun t _ y => ?_
  blk_simp
  rw [after0_7, store7 m c t]
  pointwise [k0_pay1, k0_pay12, k0_pay17, k0_pay15, cat_at, x_at, r_at, s_at, g_at, blk6, dxA, pAt]
  blk_point [iblk, V, idx_val t, bOf, rOf]

theorem final8 (c : Dev nD) : (dats m 0 c).arrAt 8 cfg0.N = dshA (DP m c) (WI m c) := by
  refine (dats m 0 c).arrAt_eq_of_covers 8 _ (by decide +kernel) fun t hf y => ?_
  blk_simp
  rw [after0_8, Pipeline.eq_sum_fin_of_reset_step_apply_of_flush (fun n h => (outsAt0 m c n h).2.1) 2 (fun _ => (0 : EReal))
      (fun t j => shSum m c t (j 2))
      (fun t h j => by
        by_cases h0 : t.val % 8 = 0
        · rw [outsAt0_A m c t h0 h]; frame_out; rw [pay13, zero3]
        · rw [outsAt0_C m c t h0 h]; frame_out; rw [pay13, zero3])
      (fun t h j => by rw [outsAt0_B m c t (by omega) h]; frame_out; rw [pay13]) t ((flush0_8 t).mp hf) _, zero_add]
  refine sum_tiles _ (fun r => dhAt (DP m c) (WI m c) _ r _) fun s => Fin.sum_fin_congr fun r => ?_
  rw [bOf_flush t ((flush0_8 t).mp hf) s, rOf_flush t ((flush0_8 t).mp hf) s r]
  blk_point [iblk, idx_val t, bOf]

theorem final9 (c : Dev nD) : (dats m 0 c).arrAt 9 cfg0.N = dscA (DP m c) (WI m c) (XX m c) (GN m c) := by
  refine (dats m 0 c).arrAt_eq_of_covers 9 _ (by decide +kernel) fun t hf y => ?_
  blk_simp
  rw [after0_9, Pipeline.eq_sum_fin_of_reset_step_apply_of_flush (fun n h => (outsAt0 m c n h).2.2.1) 2 (fun _ => (0 : EReal))
      (fun t j => scSum m c t (j 2))
      (fun t h j => by
        by_cases h0 : t.val % 8 = 0
        · rw [outsAt0_A m c t h0 h]; frame_out; rw [pay14, zero4]
        · rw [outsAt0_C m c t h0 h]; frame_out; rw [pay14, zero4])
      (fun t h j => by rw [outsAt0_B m c t (by omega) h]; frame_out; rw [pay14]) t ((flush0_9 t).mp hf) _, zero_add]
  refine sum_tiles _ (fun r => dhAt (DP m c) (WI m c) _ r _ * (XX m c (ix3 _ r _) * rsAt (XX m c) _ r * GN m c (ix1 _)))
    fun s => Fin.sum_fin_congr fun r => ?_
  rw [bOf_flush t ((flush0_9 t).mp hf) s, rOf_flush t ((flush0_9 t).mp hf) s r]
  blk_point [iblk, idx_val t, bOf]

theorem final10 (c : Dev nD) : (dats m 0 c).arrAt 10 cfg0.N = dgA (DP m c) (WI m c) (XX m c) (SC m c) := by
  refine (dats m 0 c).arrAt_eq_of_covers 10 _ (by decide +kernel) fun t hf y => ?_
  blk_simp
  rw [after0_10, Pipeline.eq_sum_fin_of_reset_step_apply_of_flush (fun n h => (outsAt0 m c n h).2.2.2) 8 (fun _ => (0 : EReal))
      (fun t j => gSum m c t (j 1))
      (fun t h j => by rw [outsAt0_A m c t h (by omega)]; frame_out; rw [pay16, zero2])
      (fun t h j => by
        by_cases h1 : t.val % 2 = 0
        · rw [outsAt0_C m c t h h1]; frame_out; rw [pay16]
        · rw [outsAt0_B m c t h h1]; frame_out; rw [pay16]) t ((flush0_10 t).mp hf) _, zero_add]
  refine sum_all _ (fun b r => dhAt (DP m c) (WI m c) b r _ * (1 + SC m c (ix2 b _)) * (XX m c (ix3 b r _) * rsAt (XX m c) b r))
    fun s => Fin.sum_fin_congr fun r => ?_
  have ht : t.val < 8 := t.isLt
  have h7 := (flush0_10 t).mp hf
  have hb : bOf ⟨8 * (t.val / 8) + s.val, Pipeline.run_point_lt_of_flush t h7 s⟩ = ⟨s.val / 2, by omega⟩ := by
    refine Fin.ext ?_
    show (8 * (t.val / 8) + s.val) / 2 = s.val / 2
    omega
  have hr : rOf ⟨8 * (t.val / 8) + s.val, Pipeline.run_point_lt_of_flush t h7 s⟩ r = ⟨s.val % 2 * 1024 + r.val, by omega⟩ := by
    refine Fin.ext ?_
    show (8 * (t.val / 8) + s.val) % 2 * 1024 + r.val = s.val % 2 * 1024 + r.val
    omega
  rw [hb, hr]
  blk_point [iblk, idx_val t, bOf]

end Cert.Kernel4Ideal.Value
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite1
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.GateRef
public import proofs.«01_k».proof.Proof.GateSum
public import proofs.«01_k».proof.Proof.FoxEq
public import proofs.«01_k».proof.Proof.FwdEq
public import proofs.«01_k».proof.Proof.NormEq
public import proofs.«01_k».proof.Proof.AdaEq
public import proofs.«01_k».proof.Proof.LossSum
public import proofs.«01_k».proof.Proof.SmallEq
public import proofs.«01_k».proof.Proof.ExitEq
public import proofs.«01_k».proof.Proof.EntryEq
public import proofs.«01_k».proof.Proof.LossEq
public import proofs.«01_k».proof.Proof.NormSum
public import Idealize.ShloMosaic.Adequacy
public import Idealize.ShloMosaic.Init

@[expose] public section

noncomputable section

namespace Cert.Proof

open Idealize.ShloMosaic Idealize.SL.Sem Cert.Kernel Cert.Finite

/-- What the first precondition says: the four arguments it names are real numbers everywhere. -/
theorem pre1 (m : (ℓ : Loc Cert.KernelIdeal.nD Cert.KernelIdeal.τ Cert.KernelIdeal.sig) → Buf (Elt Ideal) ℓ)
    (h : Pre_KernelIdeal_finite1 m) (c : Dev Cert.KernelIdeal.nD) :
    (∀ i, IsR (Cert.KernelIdeal.Value.DX m c i)) ∧ (∀ i, IsR (Cert.KernelIdeal.Value.GM m c i))
    ∧ (∀ i, IsR (Cert.KernelIdeal.Value.MX m c i)) ∧ (∀ i, IsR (Cert.KernelIdeal.Value.WO m c i)) := by
  obtain ⟨h0, h1, h2, h3⟩ := h c
  refine ⟨fun i => isR_of_pre ?_, fun i => isR_of_pre ?_, fun i => isR_of_pre ?_, fun i => isR_of_pre ?_⟩
  · have := congrFun h0 i
    pointwise [Cert.Pre_finite1.fn, inf_bits] at this
    exact this
  · have := congrFun h1 i
    pointwise [Cert.Pre_finite1.fn, inf_bits] at this
    exact this
  · have := congrFun h2 i
    pointwise [Cert.Pre_finite1.fn, inf_bits] at this
    exact this
  · have := congrFun h3 i
    pointwise [Cert.Pre_finite1.fn, inf_bits] at this
    exact this

theorem frame_r : Cert.quiescent_ReferenceIdeal := fun m g _ =>
  (θ_run Cert.ReferenceIdeal.defs _ _).mono (fun r h => ⟨fun c => (h c).2, sem_eq_zero_of_no_sems (by decide) r.2⟩)
    (Cert.Gate.run_r m g)

theorem algebraic1 : Cert.algebraic_KernelIdeal_ReferenceIdeal_pre_finite1 := by
  pair_intro
  · exact Cert.KernelIdeal.Value.run_blocks m g
  · refine (θ_run _ _ _).mono (fun r h c => ?_) (Cert.Gate.run_r m' g')
    obtain ⟨⟨h0, h1, h2, h3, h4⟩, hargs⟩ := h c
    obtain ⟨a0, a1, a2, a3, a4⟩ := hagree c
    obtain ⟨p0, p1, p2, p4⟩ := pre1 m hpre c
    rw [a0, a1, a3, a4, Cert.Gate.dmix_ref] at h0
    rw [a0, a1, a2, a3, a4, Cert.Gate.dgate_ref _ _ _ _ _ p0 p1 p2 p4] at h1
    rw [a0, a1, Cert.Gate.do_ref] at h2
    rw [a2, a3, Cert.Gate.y_ref] at h3
    rw [a0, a2, a3, a4, Cert.Gate.dgm_ref] at h4
    exact ⟨h0.trans (Cert.KernelIdeal.Value.final6 m c).symm, h1.trans (Cert.KernelIdeal.Value.final7 m c).symm,
      h2.trans (Cert.KernelIdeal.Value.final8 m c).symm, h3.trans (Cert.KernelIdeal.Value.final9 m c).symm,
      h4.trans (Cert.KernelIdeal.Value.final10 m c).symm, hargs⟩

/-- What the second precondition says: the entries of the three arguments that the call reads are real numbers. -/
theorem pre2 (m : (ℓ : Loc Cert.Kernel2Ideal.nD Cert.Kernel2Ideal.τ Cert.Kernel2Ideal.sig) → Buf (Elt Ideal) ℓ)
    (h : Pre_Kernel2Ideal_finite2 m) (c : Dev Cert.Kernel2Ideal.nD) :
    (∀ b t (x : Fin 1536), IsR (Cert.Fox.PJ m c (ix3 b t (Cert.Fox.pCol x)))) ∧ (∀ b t k, IsR (Cert.Fox.FF m c (ix3 b t k)))
    ∧ (∀ b t (x : Fin 512), IsR (Cert.Fox.DM m c (ix3 b t (Cert.Fox.gCol x)))) := by
  obtain ⟨h0, h1, h2⟩ := h c
  refine ⟨fun b t x => isR_of_pre ?_, fun b t k => isR_of_pre ?_, fun b t x => isR_of_pre ?_⟩
  · have := congrFun h0 (ix3 b t x)
    pointwise [Cert.Pre_finite2.fn, inf_bits] at this
    exact this
  · have := congrFun h1 (ix3 b t k)
    pointwise [Cert.Pre_finite2.fn, inf_bits] at this
    exact this
  · have := congrFun h2 (ix3 b t x)
    pointwise [Cert.Pre_finite2.fn, inf_bits] at this
    exact this

theorem frame_r2 : Cert.quiescent_Reference2Ideal := fun m g _ =>
  (θ_run Cert.Reference2Ideal.defs _ _).mono (fun r h => ⟨fun c => (h c).2, sem_eq_zero_of_no_sems (by decide) r.2⟩)
    (Cert.FoxRef.run_r m g)

theorem preserves2 : Cert.preserves_Kernel2_Kernel2Ideal :=
  IdealRules.named_const.statement Cert.Kernel2Ideal.κ "mask" .f32 0xF149F2CA#32 ⊥ rfl

theorem algebraic2 : Cert.algebraic_Kernel2Ideal_Reference2Ideal_pre_finite2 := by
  pair_intro
  · exact Cert.Kernel2Ideal.Value.run_blocks m g
  · refine (θ_run _ _ _).mono (fun r h c => ?_) (Cert.FoxRef.run_r m' g')
    obtain ⟨⟨h0, h1, h2, h3⟩, hargs⟩ := h c
    obtain ⟨a0, a1, a2⟩ := hagree c
    obtain ⟨hp, hf, hd⟩ := pre2 m hpre c
    have hl := fun b k t => Cert.Fox.lse_read m c b k t
    rw [a0, a1, a2] at h0 h1 h2 h3
    exact ⟨h0.trans ((Cert.Fox.dq_eq hp hf hd hl).symm.trans (Cert.Fox.final9 m c).symm),
      h1.trans ((Cert.Fox.dk_eq hp hf hd hl).symm.trans (Cert.Fox.final10 m c).symm),
      h2.trans ((Cert.Fox.dv_eq hp hf hd hl).symm.trans (Cert.Fox.final11 m c).symm),
      h3.trans ((Cert.Fox.df_eq hp hf hd hl).symm.trans (Cert.Fox.final12 m c).symm), hargs⟩

/-- What the third precondition says: the queries, the keys and the decays are real numbers. -/
theorem pre3 (m : (ℓ : Loc Cert.Kernel3Ideal.nD Cert.Kernel3Ideal.τ Cert.Kernel3Ideal.sig) → Buf (Elt Ideal) ℓ)
    (h : Pre_Kernel3Ideal_finite3 m) (c : Dev Cert.Kernel3Ideal.nD) :
    (∀ b t (x : Fin 1024), IsR (Cert.FoxFwd.PJ m c (ix3 b t (Cert.FoxFwd.qkCol x)))) ∧ (∀ b t k, IsR (Cert.FoxFwd.FF m c (ix3 b t k))) := by
  obtain ⟨h0, h1⟩ := h c
  refine ⟨fun b t x => isR_of_pre ?_, fun b t k => isR_of_pre ?_⟩
  · have := congrFun h0 (ix3 b t x)
    pointwise [Cert.Pre_finite3.fn, inf_bits] at this
    exact this
  · have := congrFun h1 (ix3 b t k)
    pointwise [Cert.Pre_finite3.fn, inf_bits] at this
    exact this

theorem frame_r3 : Cert.quiescent_Reference3Ideal := fun m g _ =>
  (θ_run Cert.Reference3Ideal.defs _ _).mono (fun r h => ⟨fun c => (h c).2, sem_eq_zero_of_no_sems (by decide) r.2⟩)
    (Cert.FwdRef.run_r m g)

theorem preserves3 : Cert.preserves_Kernel3_Kernel3Ideal :=
  IdealRules.named_const.statement Cert.Kernel3Ideal.κ "mask" .f32 0xF149F2CA#32 ⊥ rfl

theorem algebraic3 : Cert.algebraic_Kernel3Ideal_Reference3Ideal_pre_finite3 := by
  pair_intro
  · exact Cert.Kernel3Ideal.Value.run_blocks m g
  · refine (θ_run _ _ _).mono (fun r h c => ?_) (Cert.FwdRef.run_r m' g')
    obtain ⟨⟨h0, h1⟩, hargs⟩ := h c
    obtain ⟨a0, a1⟩ := hagree c
    obtain ⟨hp, hf⟩ := pre3 m hpre c
    rw [a0, a1] at h0 h1
    exact ⟨h0.trans ((Cert.FoxFwd.o_eq hp hf).symm.trans (Cert.FoxFwd.final5 m c).symm),
      h1.trans ((Cert.FoxFwd.l_eq hp hf).symm.trans (Cert.FoxFwd.final6 m c).symm), hargs⟩

theorem frame_r4 : Cert.quiescent_Reference4Ideal := fun m g _ =>
  (θ_run Cert.Reference4Ideal.defs _ _).mono (fun r h => ⟨fun c => (h c).2, sem_eq_zero_of_no_sems (by decide) r.2⟩)
    (Cert.Norm.run_r m g)

theorem algebraic4 : Cert.algebraic_Kernel4Ideal_Reference4Ideal := by
  pair_intro
  · exact Cert.Kernel4Ideal.Value.run_blocks m g
  · refine (θ_run _ _ _).mono (fun r h c => ?_) (Cert.Norm.run_r m' g')
    obtain ⟨⟨h0, h1, h2, h3⟩, hargs⟩ := h c
    obtain ⟨a0, a1, a2, a3, a4, a5⟩ := hagree c
    rw [a0, a1, a2, a3, a4, a5, Cert.Norm.dx_ref] at h0
    rw [a0, a1, Cert.Norm.dsh_ref] at h1
    rw [a0, a1, a2, a3, Cert.Norm.dsc_ref] at h2
    rw [a0, a1, a2, a4, Cert.Norm.dg_ref] at h3
    exact ⟨h0.trans (Cert.Kernel4Ideal.Value.final7 m c).symm, h1.trans (Cert.Kernel4Ideal.Value.final8 m c).symm,
      h2.trans (Cert.Kernel4Ideal.Value.final9 m c).symm, h3.trans (Cert.Kernel4Ideal.Value.final10 m c).symm, hargs⟩

theorem frame_r5 : Cert.quiescent_Reference5Ideal := fun m g _ =>
  (θ_run Cert.Reference5Ideal.defs _ _).mono (fun r h => ⟨fun c => (h c).2, sem_eq_zero_of_no_sems (by decide) r.2⟩)
    (Cert.Ada.run_r m g)

theorem algebraic5 : Cert.algebraic_Kernel5Ideal_Reference5Ideal := by
  pair_intro
  · exact Cert.Kernel5Ideal.Value.run_blocks m g
  · refine (θ_run _ _ _).mono (fun r h c => ?_) (Cert.Ada.run_r m' g')
    obtain ⟨⟨h0, h1⟩, hargs⟩ := h c
    obtain ⟨a0, a1, a2⟩ := hagree c
    rw [a0, a1, Cert.Ada.gw_r] at h0
    rw [a2, Cert.Ada.gb_r] at h1
    exact ⟨h0.trans ((Cert.Kernel5Ideal.Value.final3 m c).trans (Cert.Ada.gw_k _ _ _)).symm,
      h1.trans ((Cert.Kernel5Ideal.Value.final4 m c).trans (Cert.Ada.gb_k _ _ _)).symm, hargs⟩

theorem frame_r6 : Cert.quiescent_Reference6Ideal := fun m g _ =>
  (θ_run Cert.Reference6Ideal.defs _ _).mono (fun r h => ⟨fun c => (h c).2, sem_eq_zero_of_no_sems (by decide) r.2⟩)
    (Cert.Loss.run_r m g)

theorem algebraic6 : Cert.algebraic_Kernel6Ideal_Reference6Ideal := by
  pair_intro
  · exact Cert.Kernel6Ideal.Value.run_blocks m g
  · refine (θ_run _ _ _).mono (fun r h c => ?_) (Cert.Loss.run_r m' g')
    obtain ⟨⟨h0, h1, h2, h3⟩, hargs⟩ := h c
    obtain ⟨a0, a1, a2, a3, a4, a5, a6⟩ := hagree c
    rw [a0, a1, a2, Cert.Loss.o_ref] at h0
    rw [a0, a1, a2, a3, a4, a5, a6, Cert.Loss.loss_ref] at h1
    rw [a0, a1, a2, a3, a4, a5, a6, Cert.Loss.dx_ref] at h2
    rw [a0, a1, a2, a3, a4, a5, a6, Cert.Loss.dg_ref] at h3
    exact ⟨h0.trans (Cert.Kernel6Ideal.Value.final7 m c).symm, h1.trans (Cert.Kernel6Ideal.Value.final8 m c).symm,
      h2.trans (Cert.Kernel6Ideal.Value.final9 m c).symm, h3.trans (Cert.Kernel6Ideal.Value.final10 m c).symm, hargs⟩

theorem frame_r7 : Cert.quiescent_Reference7Ideal := fun m g _ =>
  (θ_run Cert.Reference7Ideal.defs _ _).mono (fun r h => ⟨fun c => (h c).2, sem_eq_zero_of_no_sems (by decide) r.2⟩)
    (Cert.Small.run_r m g)

theorem algebraic7 : Cert.algebraic_Kernel7Ideal_Reference7Ideal := by
  pair_intro
  · exact Cert.Kernel7Ideal.Value.run_blocks m g
  · refine (θ_run _ _ _).mono (fun r h c => ?_) (Cert.Small.run_r m' g')
    obtain ⟨⟨h0, h1⟩, hargs⟩ := h c
    obtain ⟨a0, a1, a2⟩ := hagree c
    rw [a0, a2, Cert.Small.gb_ref] at h0
    rw [a1, Cert.Small.gs_ref] at h1
    exact ⟨h0.trans (Cert.Kernel7Ideal.Value.final3 m c).symm, h1.trans (Cert.Kernel7Ideal.Value.final4 m c).symm, hargs⟩

theorem frame_r8 : Cert.quiescent_Reference8Ideal := fun m g _ =>
  (θ_run Cert.Reference8Ideal.defs _ _).mono (fun r h => ⟨fun c => (h c).2, sem_eq_zero_of_no_sems (by decide) r.2⟩)
    (Cert.Exit.run_r m g)

theorem algebraic8 : Cert.algebraic_Kernel8Ideal_Reference8Ideal := by
  pair_intro
  · exact Cert.Kernel8Ideal.Value.run_blocks m g
  · refine (θ_run _ _ _).mono (fun r h c => ?_) (Cert.Exit.run_r m' g')
    obtain ⟨⟨h0, h1, h2, h3⟩, hargs⟩ := h c
    obtain ⟨a0, a1, a2, a3, a4, a5, a6, a7, a8⟩ := hagree c
    rw [a0, a1, a2, a3, a4, Cert.Exit.z_ref] at h0
    rw [a0, a1, a2, Cert.Exit.o_ref] at h1
    rw [a0, a1, a2, a3, a4, a5, a6, a7, a8, Cert.Exit.p_ref] at h2
    rw [a0, a1, a2, a3, a4, a5, a6, a7, Cert.Exit.h_ref] at h3
    exact ⟨h0.trans (Cert.Kernel8Ideal.Value.final10 m c).symm, h1.trans (Cert.Kernel8Ideal.Value.final11 m c).symm,
      h2.trans (Cert.Kernel8Ideal.Value.final12 m c).symm, h3.trans (Cert.Kernel8Ideal.Value.final13 m c).symm, hargs⟩

theorem frame_r9 : Cert.quiescent_Reference9Ideal := fun m g _ =>
  (θ_run Cert.Reference9Ideal.defs _ _).mono (fun r h => ⟨fun c => (h c).2, sem_eq_zero_of_no_sems (by decide) r.2⟩)
    (Cert.Entry.run_r m g)

theorem algebraic9 : Cert.algebraic_Kernel9Ideal_Reference9Ideal := by
  pair_intro
  · exact Cert.Kernel9Ideal.Value.run_blocks m g
  · refine (θ_run _ _ _).mono (fun r h c => ?_) (Cert.Entry.run_r m' g')
    obtain ⟨⟨h0, h1, h2⟩, hargs⟩ := h c
    obtain ⟨a0, a1, a2, a3, a4⟩ := hagree c
    rw [a0, a1, a2, a3, a4, Cert.Entry.p_ref] at h0
    rw [a0, a1, a2, a3, Cert.Entry.h_ref] at h1
    rw [a0, a1, a2, a3, a4, Cert.Entry.q_ref] at h2
    exact ⟨h0.trans (Cert.Kernel9Ideal.Value.final5 m c).symm, h1.trans (Cert.Kernel9Ideal.Value.final6 m c).symm,
      h2.trans (Cert.Kernel9Ideal.Value.final7 m c).symm, hargs⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite1.Gen.facts, Cert.Pre_finite2.Gen.facts, Cert.Pre_finite3.Gen.facts,
  fun m ρ _ => Cert.Kernel.Gen.frame m ρ, fun m ρ _ => Cert.KernelIdeal.Gen.frame m ρ, fun m ρ _ => Cert.KernelIdeal.Gen.frame m ρ,
  frame_r, fun m g _ => frame_r m g trivial,
  fun m ρ _ => Cert.Kernel2.Gen.frame m ρ, fun m ρ _ => Cert.Kernel2Ideal.Gen.frame m ρ, fun m ρ _ => Cert.Kernel2Ideal.Gen.frame m ρ,
  frame_r2, fun m g _ => frame_r2 m g trivial,
  fun m ρ _ => Cert.Kernel3.Gen.frame m ρ, fun m ρ _ => Cert.Kernel3Ideal.Gen.frame m ρ, fun m ρ _ => Cert.Kernel3Ideal.Gen.frame m ρ,
  frame_r3, fun m g _ => frame_r3 m g trivial,
  fun m ρ _ => Cert.Kernel4.Gen.frame m ρ, fun m ρ _ => Cert.Kernel4Ideal.Gen.frame m ρ, frame_r4,
  fun m ρ _ => Cert.Kernel5.Gen.frame m ρ, fun m ρ _ => Cert.Kernel5Ideal.Gen.frame m ρ, frame_r5,
  fun m ρ _ => Cert.Kernel6.Gen.frame m ρ, fun m ρ _ => Cert.Kernel6Ideal.Gen.frame m ρ, frame_r6,
  fun m ρ _ => Cert.Kernel7.Gen.frame m ρ, fun m ρ _ => Cert.Kernel7Ideal.Gen.frame m ρ, frame_r7,
  fun m ρ _ => Cert.Kernel8.Gen.frame m ρ, fun m ρ _ => Cert.Kernel8Ideal.Gen.frame m ρ, frame_r8,
  fun m ρ _ => Cert.Kernel9.Gen.frame m ρ, fun m ρ _ => Cert.Kernel9Ideal.Gen.frame m ρ, frame_r9,
  trivial, algebraic1, preserves2, algebraic2, preserves3, algebraic3, trivial, algebraic4,
  trivial, algebraic5, trivial, algebraic6,
  trivial, algebraic7, trivial, algebraic8, trivial, algebraic9⟩

end Cert.Proof

end
